-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 256]⟩ ⟨2, ![8192, 4096]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x256 : Shape := ⟨2, ![8192, 256]⟩
abbrev S2048x8192 : Shape := ⟨2, ![2048, 8192]⟩
abbrev S2x256x8192 : Shape := ⟨3, ![2, 256, 8192]⟩
abbrev S128x8192 : Shape := ⟨2, ![128, 8192]⟩
abbrev S2048x256 : Shape := ⟨2, ![2048, 256]⟩
abbrev S2x1024x256 : Shape := ⟨3, ![2, 1024, 256]⟩
abbrev S3 : Shape := ⟨1, ![3]⟩
abbrev S2x2 : Shape := ⟨2, ![2, 2]⟩
abbrev S_ : Shape := ⟨0, ![]⟩
abbrev S2x3 : Shape := ⟨2, ![2, 3]⟩
abbrev S1 : Shape := ⟨1, ![1]⟩
abbrev S1x1 : Shape := ⟨2, ![1, 1]⟩
abbrev S1x128x8192 : Shape := ⟨3, ![1, 128, 8192]⟩
abbrev S512x256 : Shape := ⟨2, ![512, 256]⟩
abbrev S1x512x256 : Shape := ⟨3, ![1, 512, 256]⟩
abbrev S1x256x8192 : Shape := ⟨3, ![1, 256, 8192]⟩
abbrev S256x8192 : Shape := ⟨2, ![256, 8192]⟩
abbrev S256x256 : Shape := ⟨2, ![256, 256]⟩
abbrev S1x256x256 : Shape := ⟨3, ![1, 256, 256]⟩
abbrev S128x256 : Shape := ⟨2, ![128, 256]⟩
abbrev S1x128x256 : Shape := ⟨3, ![1, 128, 256]⟩

abbrev nBuf : Space → Nat
  | .hbm => 3
  | .vmem => 7
  | .smem => 0
  | _ => 0

abbrev bufTy : (tb : Table) → Fin (tcTables nBuf tb) → BufTy
  | .hbm, ⟨0, _⟩ => ⟨S512x8192, .f32⟩
  | .hbm, ⟨1, _⟩ => ⟨S8192x256, .f32⟩
  | .hbm, ⟨2, _⟩ => ⟨S8192x256, .f32⟩
  | .local _ .vmem, ⟨0, _⟩ => ⟨S2048x8192, .bf16⟩
  | .local _ .vmem, ⟨1, _⟩ => ⟨S2x256x8192, .bf16⟩
  | .local _ .vmem, ⟨2, _⟩ => ⟨S2x256x8192, .bf16⟩
  | .local _ .vmem, ⟨3, _⟩ => ⟨S8192x256, .bf16⟩
  | .local _ .vmem, ⟨4, _⟩ => ⟨S128x8192, .f32⟩
  | .local _ .vmem, ⟨5, _⟩ => ⟨S2048x256, .f32⟩
  | .local _ .vmem, ⟨6, _⟩ => ⟨S2x1024x256, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 3 35 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_32 : BitVec 32 := 1#32
  let v62 : BitVec 32 := Scalar.muli v56 c1_i32_32
  let v63 : BitVec 32 := Scalar.addi c0_i32_33 v62
  v63.toNat
def k0_dev2 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_35 : BitVec 32 := 1#32
  let v64 : BitVec 32 := Scalar.muli v42 c1_i32_35
  let v65 : BitVec 32 := Scalar.addi c0_i32_36 v64
  v65.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v59 : BitVec 1 := Scalar.cmpi .slt v19 c3_i32
  let v66 : BitVec 32 := Scalar.extui v59
  let c0_i32_37 : BitVec 32 := 0#32
  let v67 : BitVec 1 := Scalar.cmpi .ne v66 c0_i32_37
  v67

def k0_dev3 (d0 : Dev nD) : Nat :=
  let c0_i32_2768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.addi v2 c4_i32_28
  let c1_i32_2767 : BitVec 32 := 1#32
  let v2311 : BitVec 32 := Scalar.muli v57 c1_i32_2767
  let v2312 : BitVec 32 := Scalar.addi c0_i32_2768 v2311
  v2312.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_30 : BitVec 32 := 0#32
  let v60 : BitVec 1 := Scalar.cmpi .sgt v19 c0_i32_30
  let v68 : BitVec 32 := Scalar.extui v60
  let c0_i32_38 : BitVec 32 := 0#32
  let v69 : BitVec 1 := Scalar.cmpi .ne v68 c0_i32_38
  v69

def k0_dev4 (d0 : Dev nD) : Nat :=
  let c0_i32_2768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_29 : BitVec 32 := 4#32
  let v58 : BitVec 32 := Scalar.subi v2 c4_i32_29
  let c1_i32_2767 : BitVec 32 := 1#32
  let v2311 : BitVec 32 := Scalar.muli v58 c1_i32_2767
  let v2312 : BitVec 32 := Scalar.addi c0_i32_2768 v2311
  v2312.toNat
def k0_off1 (d0 : Dev nD) (c0_i32_47 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32 : BitVec 32 := 512#32
  let v83 : BitVec 32 := Scalar.muli v19 c512_i32
  let v84 : BitVec 32 := Scalar.addi v83 c0_i32_47
  let v85 : Index := Scalar.indexCast v84
  let c0_48 : Index := 0#32
  ![v85.toNat, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v59 : BitVec 1 := Scalar.cmpi .slt v19 c3_i32
  let v119 : BitVec 32 := Scalar.extui v59
  let c0_i32_73 : BitVec 32 := 0#32
  let v120 : BitVec 1 := Scalar.cmpi .ne v119 c0_i32_73
  v120

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_2768 : BitVec 32 := 512#32
  let v2313 : BitVec 32 := Scalar.muli v19 c512_i32_2768
  let c0_i32_2769 : BitVec 32 := 0#32
  let v2314 : BitVec 32 := Scalar.addi v2313 c0_i32_2769
  let c0_i32_2774 : BitVec 32 := 0#32
  ![v2314.toNat, 0]
def k0_dev5 (d0 : Dev nD) : Nat :=
  let c0_i32_2773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.addi v2 c4_i32_28
  let c1_i32_2772 : BitVec 32 := 1#32
  let v2315 : BitVec 32 := Scalar.muli v57 c1_i32_2772
  let v2316 : BitVec 32 := Scalar.addi c0_i32_2773 v2315
  v2316.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_30 : BitVec 32 := 0#32
  let v60 : BitVec 1 := Scalar.cmpi .sgt v19 c0_i32_30
  let v121 : BitVec 32 := Scalar.extui v60
  let c0_i32_74 : BitVec 32 := 0#32
  let v122 : BitVec 1 := Scalar.cmpi .ne v121 c0_i32_74
  v122

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_2768 : BitVec 32 := 512#32
  let v2313 : BitVec 32 := Scalar.muli v19 c512_i32_2768
  let c0_i32_2769 : BitVec 32 := 0#32
  let v2314 : BitVec 32 := Scalar.addi v2313 c0_i32_2769
  let c0_i32_2774 : BitVec 32 := 0#32
  ![v2314.toNat, 0]
def k0_dev6 (d0 : Dev nD) : Nat :=
  let c0_i32_2773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_29 : BitVec 32 := 4#32
  let v58 : BitVec 32 := Scalar.subi v2 c4_i32_29
  let c1_i32_2772 : BitVec 32 := 1#32
  let v2315 : BitVec 32 := Scalar.muli v58 c1_i32_2772
  let v2316 : BitVec 32 := Scalar.addi c0_i32_2773 v2315
  v2316.toNat
def k0_off4 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_75 : BitVec 32 := 512#32
  let v123 : BitVec 32 := Scalar.muli v19 c512_i32_75
  let v124 : BitVec 32 := Scalar.addi v123 c0_i32_76
  let c0_i32_86 : BitVec 32 := 0#32
  ![v124.toNat, 0]
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_82 : BitVec 32 := 1#32
  let v125 : BitVec 32 := Scalar.muli v42 c1_i32_82
  let v126 : BitVec 32 := Scalar.addi c0_i32_83 v125
  v126.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_94 : BitVec 32 := 1#32
  let v136 : BitVec 32 := Scalar.muli v56 c1_i32_94
  let v137 : BitVec 32 := Scalar.addi c0_i32_95 v136
  v137.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_106 : BitVec 32 := 1#32
  let v147 : BitVec 32 := Scalar.muli v42 c1_i32_106
  let v148 : BitVec 32 := Scalar.addi c0_i32_107 v147
  v148.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_118 : BitVec 32 := 1#32
  let v158 : BitVec 32 := Scalar.muli v56 c1_i32_118
  let v159 : BitVec 32 := Scalar.addi c0_i32_119 v158
  v159.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_150 : BitVec 32 := 512#32
  let v197 : BitVec 32 := Scalar.muli v19 c512_i32_150
  let c0_i32_151 : BitVec 32 := 0#32
  let v198 : BitVec 32 := Scalar.addi v197 c0_i32_151
  let v199 : Index := Scalar.indexCast v198
  let c0_152 : Index := 0#32
  ![v199.toNat, 0]
def k0_off6 (d0 : Dev nD) : Fin 2 → Nat :=
  let c4_i32_149 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v195 : BitVec 32 := Scalar.muli c4_i32_149 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v196 : BitVec 32 := Scalar.addi v195 v29
  let c512_i32_157 : BitVec 32 := 512#32
  let v206 : BitVec 32 := Scalar.muli v196 c512_i32_157
  let c0_i32_161 : BitVec 32 := 0#32
  ![v206.toNat, 0]
def k0_dev11 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_201 : BitVec 32 := 1#32
  let v232 : BitVec 32 := Scalar.muli v56 c1_i32_201
  let v233 : BitVec 32 := Scalar.addi c0_i32_202 v232
  v233.toNat
def k0_dev12 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_204 : BitVec 32 := 1#32
  let v234 : BitVec 32 := Scalar.muli v42 c1_i32_204
  let v235 : BitVec 32 := Scalar.addi c0_i32_205 v234
  v235.toNat
def k0_dev13 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_225 : BitVec 32 := 1#32
  let v243 : BitVec 32 := Scalar.muli v42 c1_i32_225
  let v244 : BitVec 32 := Scalar.addi c0_i32_226 v243
  v244.toNat
def k0_dev14 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_247 : BitVec 32 := 1#32
  let v260 : BitVec 32 := Scalar.muli v56 c1_i32_247
  let v261 : BitVec 32 := Scalar.addi c0_i32_248 v260
  v261.toNat
def k0_dev15 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_269 : BitVec 32 := 1#32
  let v277 : BitVec 32 := Scalar.muli v42 c1_i32_269
  let v278 : BitVec 32 := Scalar.addi c0_i32_270 v277
  v278.toNat
def k0_dev16 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_291 : BitVec 32 := 1#32
  let v294 : BitVec 32 := Scalar.muli v56 c1_i32_291
  let v295 : BitVec 32 := Scalar.addi c0_i32_292 v294
  v295.toNat
def k0_off7 (d0 : Dev nD) (c0_i32_298 : BitVec 32) : Fin 2 → Nat :=
  let c4_i32_297 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v304 : BitVec 32 := Scalar.muli c4_i32_297 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v305 : BitVec 32 := Scalar.subi v29 c0_i32_298
  let c1_i32_299 : BitVec 32 := 1#32
  let v306 : BitVec 32 := Scalar.subi v305 c1_i32_299
  let c4_i32_300 : BitVec 32 := 4#32
  let c0_i32_301 : BitVec 32 := 0#32
  let v307 : BitVec 1 := Scalar.cmpi .eq c4_i32_300 c0_i32_301
  let c1_i32_302 : BitVec 32 := 1#32
  let v308 : BitVec 32 := Scalar.select v307 c1_i32_302 c4_i32_300
  let v309 : BitVec 32 := Scalar.remsi v306 v308
  let c0_i32_304 : BitVec 32 := 0#32
  let v311 : BitVec 1 := Scalar.cmpi .slt v309 c0_i32_304
  let c0_i32_305 : BitVec 32 := 0#32
  let v312 : BitVec 1 := Scalar.cmpi .slt v308 c0_i32_305
  let v313 : BitVec 1 := Scalar.xori v311 v312
  let c0_i32_303 : BitVec 32 := 0#32
  let v310 : BitVec 1 := Scalar.cmpi .ne v309 c0_i32_303
  let v314 : BitVec 1 := Scalar.andi v313 v310
  let v315 : BitVec 32 := Scalar.addi v309 v308
  let v316 : BitVec 32 := Scalar.select v314 v315 v309
  let v317 : BitVec 32 := Scalar.addi v304 v316
  let c512_i32_323 : BitVec 32 := 512#32
  let v339 : BitVec 32 := Scalar.muli v317 c512_i32_323
  let c0_i32_327 : BitVec 32 := 0#32
  ![v339.toNat, 0]
def k0_off8 (d0 : Dev nD) (c0_i32_307 : BitVec 32) : Fin 2 → Nat :=
  let c4_i32_306 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v318 : BitVec 32 := Scalar.muli c4_i32_306 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v319 : BitVec 32 := Scalar.addi v29 c0_i32_307
  let c1_i32_308 : BitVec 32 := 1#32
  let v320 : BitVec 32 := Scalar.addi v319 c1_i32_308
  let c4_i32_309 : BitVec 32 := 4#32
  let c0_i32_310 : BitVec 32 := 0#32
  let v321 : BitVec 1 := Scalar.cmpi .eq c4_i32_309 c0_i32_310
  let c1_i32_311 : BitVec 32 := 1#32
  let v322 : BitVec 32 := Scalar.select v321 c1_i32_311 c4_i32_309
  let v323 : BitVec 32 := Scalar.remsi v320 v322
  let c0_i32_313 : BitVec 32 := 0#32
  let v325 : BitVec 1 := Scalar.cmpi .slt v323 c0_i32_313
  let c0_i32_314 : BitVec 32 := 0#32
  let v326 : BitVec 1 := Scalar.cmpi .slt v322 c0_i32_314
  let v327 : BitVec 1 := Scalar.xori v325 v326
  let c0_i32_312 : BitVec 32 := 0#32
  let v324 : BitVec 1 := Scalar.cmpi .ne v323 c0_i32_312
  let v328 : BitVec 1 := Scalar.andi v327 v324
  let v329 : BitVec 32 := Scalar.addi v323 v322
  let v330 : BitVec 32 := Scalar.select v328 v329 v323
  let v331 : BitVec 32 := Scalar.addi v318 v330
  let c512_i32_338 : BitVec 32 := 512#32
  let v352 : BitVec 32 := Scalar.muli v331 c512_i32_338
  let c256_i32_339 : BitVec 32 := 256#32
  let v353 : BitVec 32 := Scalar.addi v352 c256_i32_339
  let c0_i32_343 : BitVec 32 := 0#32
  ![v353.toNat, 0]
def k0_dev17 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_391 : BitVec 32 := 1#32
  let v383 : BitVec 32 := Scalar.muli v56 c1_i32_391
  let v384 : BitVec 32 := Scalar.addi c0_i32_392 v383
  v384.toNat
def k0_dev18 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_394 : BitVec 32 := 1#32
  let v385 : BitVec 32 := Scalar.muli v42 c1_i32_394
  let v386 : BitVec 32 := Scalar.addi c0_i32_395 v385
  v386.toNat
def k0_dev19 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_418 : BitVec 32 := 1#32
  let v395 : BitVec 32 := Scalar.muli v42 c1_i32_418
  let v396 : BitVec 32 := Scalar.addi c0_i32_419 v395
  v396.toNat
def k0_dev20 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_442 : BitVec 32 := 1#32
  let v413 : BitVec 32 := Scalar.muli v56 c1_i32_442
  let v414 : BitVec 32 := Scalar.addi c0_i32_443 v413
  v414.toNat
def k0_dev21 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_466 : BitVec 32 := 1#32
  let v431 : BitVec 32 := Scalar.muli v42 c1_i32_466
  let v432 : BitVec 32 := Scalar.addi c0_i32_467 v431
  v432.toNat
def k0_dev22 (d0 : Dev nD) : Nat :=
  let c0_i32_491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_490 : BitVec 32 := 1#32
  let v449 : BitVec 32 := Scalar.muli v56 c1_i32_490
  let v450 : BitVec 32 := Scalar.addi c0_i32_491 v449
  v450.toNat
def k0_dev23 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_598 : BitVec 32 := 1#32
  let v543 : BitVec 32 := Scalar.muli v56 c1_i32_598
  let v544 : BitVec 32 := Scalar.addi c0_i32_599 v543
  v544.toNat
def k0_dev24 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_601 : BitVec 32 := 1#32
  let v545 : BitVec 32 := Scalar.muli v42 c1_i32_601
  let v546 : BitVec 32 := Scalar.addi c0_i32_602 v545
  v546.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_30 : BitVec 32 := 0#32
  let v60 : BitVec 1 := Scalar.cmpi .sgt v19 c0_i32_30
  let c1_i32_606 : BitVec 32 := 1#32
  let v550 : BitVec 32 := Scalar.subi v19 c1_i32_606
  let c0_i32_607 : BitVec 32 := 0#32
  let v551 : BitVec 1 := Scalar.cmpi .sge v550 c0_i32_607
  let v552 : BitVec 1 := Scalar.andi v60 v551
  let v553 : BitVec 32 := Scalar.extui v552
  let c0_i32_608 : BitVec 32 := 0#32
  let v554 : BitVec 1 := Scalar.cmpi .ne v553 c0_i32_608
  v554

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2766 : BitVec 32 := 1#32
  let v2311 : BitVec 32 := Scalar.subi v19 c1_i32_2766
  let c512_i32_2769 : BitVec 32 := 512#32
  let v2314 : BitVec 32 := Scalar.muli v2311 c512_i32_2769
  let c0_i32_2770 : BitVec 32 := 0#32
  let v2315 : BitVec 32 := Scalar.addi v2314 c0_i32_2770
  let c0_i32_2775 : BitVec 32 := 0#32
  ![v2315.toNat, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v59 : BitVec 1 := Scalar.cmpi .slt v19 c3_i32
  let c1_i32_609 : BitVec 32 := 1#32
  let v555 : BitVec 32 := Scalar.addi v19 c1_i32_609
  let c3_i32_610 : BitVec 32 := 3#32
  let v556 : BitVec 1 := Scalar.cmpi .sle v555 c3_i32_610
  let v557 : BitVec 1 := Scalar.andi v59 v556
  let v558 : BitVec 32 := Scalar.extui v557
  let c0_i32_611 : BitVec 32 := 0#32
  let v559 : BitVec 1 := Scalar.cmpi .ne v558 c0_i32_611
  v559

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2766 : BitVec 32 := 1#32
  let v2311 : BitVec 32 := Scalar.addi v19 c1_i32_2766
  let c512_i32_2769 : BitVec 32 := 512#32
  let v2314 : BitVec 32 := Scalar.muli v2311 c512_i32_2769
  let c0_i32_2770 : BitVec 32 := 0#32
  let v2315 : BitVec 32 := Scalar.addi v2314 c0_i32_2770
  let c0_i32_2775 : BitVec 32 := 0#32
  ![v2315.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v59 : BitVec 1 := Scalar.cmpi .slt v19 c3_i32
  let c1_i32_612 : BitVec 32 := 1#32
  let v560 : BitVec 32 := Scalar.subi v19 c1_i32_612
  let c0_i32_613 : BitVec 32 := 0#32
  let v561 : BitVec 1 := Scalar.cmpi .sge v560 c0_i32_613
  let v562 : BitVec 1 := Scalar.andi v59 v561
  let v566 : BitVec 32 := Scalar.extui v562
  let c0_i32_616 : BitVec 32 := 0#32
  let v567 : BitVec 1 := Scalar.cmpi .ne v566 c0_i32_616
  v567

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2766 : BitVec 32 := 1#32
  let v2311 : BitVec 32 := Scalar.subi v19 c1_i32_2766
  let c512_i32_2769 : BitVec 32 := 512#32
  let v2314 : BitVec 32 := Scalar.muli v2311 c512_i32_2769
  let c0_i32_2770 : BitVec 32 := 0#32
  let v2315 : BitVec 32 := Scalar.addi v2314 c0_i32_2770
  let c0_i32_2775 : BitVec 32 := 0#32
  ![v2315.toNat, 0]
def k0_dev25 (d0 : Dev nD) : Nat :=
  let c0_i32_2774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.addi v2 c4_i32_28
  let c1_i32_2773 : BitVec 32 := 1#32
  let v2316 : BitVec 32 := Scalar.muli v57 c1_i32_2773
  let v2317 : BitVec 32 := Scalar.addi c0_i32_2774 v2316
  v2317.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_30 : BitVec 32 := 0#32
  let v60 : BitVec 1 := Scalar.cmpi .sgt v19 c0_i32_30
  let c1_i32_614 : BitVec 32 := 1#32
  let v563 : BitVec 32 := Scalar.addi v19 c1_i32_614
  let c3_i32_615 : BitVec 32 := 3#32
  let v564 : BitVec 1 := Scalar.cmpi .sle v563 c3_i32_615
  let v565 : BitVec 1 := Scalar.andi v60 v564
  let v568 : BitVec 32 := Scalar.extui v565
  let c0_i32_617 : BitVec 32 := 0#32
  let v569 : BitVec 1 := Scalar.cmpi .ne v568 c0_i32_617
  v569

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2766 : BitVec 32 := 1#32
  let v2311 : BitVec 32 := Scalar.addi v19 c1_i32_2766
  let c512_i32_2769 : BitVec 32 := 512#32
  let v2314 : BitVec 32 := Scalar.muli v2311 c512_i32_2769
  let c0_i32_2770 : BitVec 32 := 0#32
  let v2315 : BitVec 32 := Scalar.addi v2314 c0_i32_2770
  let c0_i32_2775 : BitVec 32 := 0#32
  ![v2315.toNat, 0]
def k0_dev26 (d0 : Dev nD) : Nat :=
  let c0_i32_2774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_29 : BitVec 32 := 4#32
  let v58 : BitVec 32 := Scalar.subi v2 c4_i32_29
  let c1_i32_2773 : BitVec 32 := 1#32
  let v2316 : BitVec 32 := Scalar.muli v58 c1_i32_2773
  let v2317 : BitVec 32 := Scalar.addi c0_i32_2774 v2316
  v2317.toNat
def k0_off13 (d0 : Dev nD) (c0_i32_623 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_603 : BitVec 32 := 1#32
  let v547 : BitVec 1 := Scalar.cmpi .sge v19 c1_i32_603
  let c1_i32_604 : BitVec 32 := 1#32
  let v548 : BitVec 32 := Scalar.subi v19 c1_i32_604
  let c1_i32_605 : BitVec 32 := 1#32
  let v549 : BitVec 32 := Scalar.select v547 v548 c1_i32_605
  let c512_i32_622 : BitVec 32 := 512#32
  let v570 : BitVec 32 := Scalar.muli v549 c512_i32_622
  let v571 : BitVec 32 := Scalar.addi v570 c0_i32_623
  let c0_i32_633 : BitVec 32 := 0#32
  ![v571.toNat, 0]
def k0_dev27 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_629 : BitVec 32 := 1#32
  let v572 : BitVec 32 := Scalar.muli v42 c1_i32_629
  let v573 : BitVec 32 := Scalar.addi c0_i32_630 v572
  v573.toNat
def k0_dev28 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_641 : BitVec 32 := 1#32
  let v583 : BitVec 32 := Scalar.muli v56 c1_i32_641
  let v584 : BitVec 32 := Scalar.addi c0_i32_642 v583
  v584.toNat
def k0_dev29 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_653 : BitVec 32 := 1#32
  let v594 : BitVec 32 := Scalar.muli v42 c1_i32_653
  let v595 : BitVec 32 := Scalar.addi c0_i32_654 v594
  v595.toNat
def k0_dev30 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_665 : BitVec 32 := 1#32
  let v605 : BitVec 32 := Scalar.muli v56 c1_i32_665
  let v606 : BitVec 32 := Scalar.addi c0_i32_666 v605
  v606.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_603 : BitVec 32 := 1#32
  let v547 : BitVec 1 := Scalar.cmpi .sge v19 c1_i32_603
  let c1_i32_604 : BitVec 32 := 1#32
  let v548 : BitVec 32 := Scalar.subi v19 c1_i32_604
  let c1_i32_605 : BitVec 32 := 1#32
  let v549 : BitVec 32 := Scalar.select v547 v548 c1_i32_605
  let c512_i32_782 : BitVec 32 := 512#32
  let v713 : BitVec 32 := Scalar.muli v549 c512_i32_782
  let c0_i32_783 : BitVec 32 := 0#32
  let v714 : BitVec 32 := Scalar.addi v713 c0_i32_783
  let v715 : Index := Scalar.indexCast v714
  let c0_784 : Index := 0#32
  ![v715.toNat, 0]
def k0_off15 (d0 : Dev nD) : Fin 2 → Nat :=
  let c4_i32_781 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_603 : BitVec 32 := 1#32
  let v547 : BitVec 1 := Scalar.cmpi .sge v19 c1_i32_603
  let c1_i32_604 : BitVec 32 := 1#32
  let v548 : BitVec 32 := Scalar.subi v19 c1_i32_604
  let c1_i32_605 : BitVec 32 := 1#32
  let v549 : BitVec 32 := Scalar.select v547 v548 c1_i32_605
  let v711 : BitVec 32 := Scalar.muli c4_i32_781 v549
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v712 : BitVec 32 := Scalar.addi v711 v29
  let c512_i32_791 : BitVec 32 := 512#32
  let v722 : BitVec 32 := Scalar.muli v712 c512_i32_791
  let c0_i32_795 : BitVec 32 := 0#32
  ![v722.toNat, 0]
def k0_dev31 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_835 : BitVec 32 := 1#32
  let v748 : BitVec 32 := Scalar.muli v56 c1_i32_835
  let v749 : BitVec 32 := Scalar.addi c0_i32_836 v748
  v749.toNat
def k0_dev32 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_838 : BitVec 32 := 1#32
  let v750 : BitVec 32 := Scalar.muli v42 c1_i32_838
  let v751 : BitVec 32 := Scalar.addi c0_i32_839 v750
  v751.toNat
def k0_dev33 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_860 : BitVec 32 := 1#32
  let v759 : BitVec 32 := Scalar.muli v42 c1_i32_860
  let v760 : BitVec 32 := Scalar.addi c0_i32_861 v759
  v760.toNat
def k0_dev34 (d0 : Dev nD) : Nat :=
  let c0_i32_883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_882 : BitVec 32 := 1#32
  let v776 : BitVec 32 := Scalar.muli v56 c1_i32_882
  let v777 : BitVec 32 := Scalar.addi c0_i32_883 v776
  v777.toNat
def k0_dev35 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_904 : BitVec 32 := 1#32
  let v793 : BitVec 32 := Scalar.muli v42 c1_i32_904
  let v794 : BitVec 32 := Scalar.addi c0_i32_905 v793
  v794.toNat
def k0_dev36 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_926 : BitVec 32 := 1#32
  let v810 : BitVec 32 := Scalar.muli v56 c1_i32_926
  let v811 : BitVec 32 := Scalar.addi c0_i32_927 v810
  v811.toNat
def k0_off16 (d0 : Dev nD) (c0_i32_948 : BitVec 32) : Fin 2 → Nat :=
  let c4_i32_947 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_944 : BitVec 32 := 1#32
  let v830 : BitVec 1 := Scalar.cmpi .sge v19 c1_i32_944
  let c1_i32_945 : BitVec 32 := 1#32
  let v831 : BitVec 32 := Scalar.subi v19 c1_i32_945
  let c1_i32_946 : BitVec 32 := 1#32
  let v832 : BitVec 32 := Scalar.select v830 v831 c1_i32_946
  let v833 : BitVec 32 := Scalar.muli c4_i32_947 v832
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v834 : BitVec 32 := Scalar.subi v29 c0_i32_948
  let c1_i32_949 : BitVec 32 := 1#32
  let v835 : BitVec 32 := Scalar.subi v834 c1_i32_949
  let c4_i32_950 : BitVec 32 := 4#32
  let c0_i32_951 : BitVec 32 := 0#32
  let v836 : BitVec 1 := Scalar.cmpi .eq c4_i32_950 c0_i32_951
  let c1_i32_952 : BitVec 32 := 1#32
  let v837 : BitVec 32 := Scalar.select v836 c1_i32_952 c4_i32_950
  let v838 : BitVec 32 := Scalar.remsi v835 v837
  let c0_i32_954 : BitVec 32 := 0#32
  let v840 : BitVec 1 := Scalar.cmpi .slt v838 c0_i32_954
  let c0_i32_955 : BitVec 32 := 0#32
  let v841 : BitVec 1 := Scalar.cmpi .slt v837 c0_i32_955
  let v842 : BitVec 1 := Scalar.xori v840 v841
  let c0_i32_953 : BitVec 32 := 0#32
  let v839 : BitVec 1 := Scalar.cmpi .ne v838 c0_i32_953
  let v843 : BitVec 1 := Scalar.andi v842 v839
  let v844 : BitVec 32 := Scalar.addi v838 v837
  let v845 : BitVec 32 := Scalar.select v843 v844 v838
  let v846 : BitVec 32 := Scalar.addi v833 v845
  let c512_i32_974 : BitVec 32 := 512#32
  let v868 : BitVec 32 := Scalar.muli v846 c512_i32_974
  let c0_i32_978 : BitVec 32 := 0#32
  ![v868.toNat, 0]
def k0_off17 (d0 : Dev nD) (c0_i32_957 : BitVec 32) : Fin 2 → Nat :=
  let c4_i32_956 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_944 : BitVec 32 := 1#32
  let v830 : BitVec 1 := Scalar.cmpi .sge v19 c1_i32_944
  let c1_i32_945 : BitVec 32 := 1#32
  let v831 : BitVec 32 := Scalar.subi v19 c1_i32_945
  let c1_i32_946 : BitVec 32 := 1#32
  let v832 : BitVec 32 := Scalar.select v830 v831 c1_i32_946
  let v847 : BitVec 32 := Scalar.muli c4_i32_956 v832
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v848 : BitVec 32 := Scalar.addi v29 c0_i32_957
  let c1_i32_958 : BitVec 32 := 1#32
  let v849 : BitVec 32 := Scalar.addi v848 c1_i32_958
  let c4_i32_959 : BitVec 32 := 4#32
  let c0_i32_960 : BitVec 32 := 0#32
  let v850 : BitVec 1 := Scalar.cmpi .eq c4_i32_959 c0_i32_960
  let c1_i32_961 : BitVec 32 := 1#32
  let v851 : BitVec 32 := Scalar.select v850 c1_i32_961 c4_i32_959
  let v852 : BitVec 32 := Scalar.remsi v849 v851
  let c0_i32_963 : BitVec 32 := 0#32
  let v854 : BitVec 1 := Scalar.cmpi .slt v852 c0_i32_963
  let c0_i32_964 : BitVec 32 := 0#32
  let v855 : BitVec 1 := Scalar.cmpi .slt v851 c0_i32_964
  let v856 : BitVec 1 := Scalar.xori v854 v855
  let c0_i32_962 : BitVec 32 := 0#32
  let v853 : BitVec 1 := Scalar.cmpi .ne v852 c0_i32_962
  let v857 : BitVec 1 := Scalar.andi v856 v853
  let v858 : BitVec 32 := Scalar.addi v852 v851
  let v859 : BitVec 32 := Scalar.select v857 v858 v852
  let v860 : BitVec 32 := Scalar.addi v847 v859
  let c512_i32_990 : BitVec 32 := 512#32
  let v881 : BitVec 32 := Scalar.muli v860 c512_i32_990
  let c256_i32_991 : BitVec 32 := 256#32
  let v882 : BitVec 32 := Scalar.addi v881 c256_i32_991
  let c0_i32_995 : BitVec 32 := 0#32
  ![v882.toNat, 0]
def k0_dev37 (d0 : Dev nD) : Nat :=
  let c0_i32_1044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1043 : BitVec 32 := 1#32
  let v912 : BitVec 32 := Scalar.muli v56 c1_i32_1043
  let v913 : BitVec 32 := Scalar.addi c0_i32_1044 v912
  v913.toNat
def k0_dev38 (d0 : Dev nD) : Nat :=
  let c0_i32_1047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1046 : BitVec 32 := 1#32
  let v914 : BitVec 32 := Scalar.muli v42 c1_i32_1046
  let v915 : BitVec 32 := Scalar.addi c0_i32_1047 v914
  v915.toNat
def k0_dev39 (d0 : Dev nD) : Nat :=
  let c0_i32_1071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1070 : BitVec 32 := 1#32
  let v924 : BitVec 32 := Scalar.muli v42 c1_i32_1070
  let v925 : BitVec 32 := Scalar.addi c0_i32_1071 v924
  v925.toNat
def k0_dev40 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1094 : BitVec 32 := 1#32
  let v942 : BitVec 32 := Scalar.muli v56 c1_i32_1094
  let v943 : BitVec 32 := Scalar.addi c0_i32_1095 v942
  v943.toNat
def k0_dev41 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1118 : BitVec 32 := 1#32
  let v960 : BitVec 32 := Scalar.muli v42 c1_i32_1118
  let v961 : BitVec 32 := Scalar.addi c0_i32_1119 v960
  v961.toNat
def k0_dev42 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1142 : BitVec 32 := 1#32
  let v978 : BitVec 32 := Scalar.muli v56 c1_i32_1142
  let v979 : BitVec 32 := Scalar.addi c0_i32_1143 v978
  v979.toNat
def k0_dev43 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1265 : BitVec 32 := 1#32
  let v1085 : BitVec 32 := Scalar.muli v56 c1_i32_1265
  let v1086 : BitVec 32 := Scalar.addi c0_i32_1266 v1085
  v1086.toNat
def k0_dev44 (d0 : Dev nD) : Nat :=
  let c0_i32_1269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1268 : BitVec 32 := 1#32
  let v1087 : BitVec 32 := Scalar.muli v42 c1_i32_1268
  let v1088 : BitVec 32 := Scalar.addi c0_i32_1269 v1087
  v1088.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_30 : BitVec 32 := 0#32
  let v60 : BitVec 1 := Scalar.cmpi .sgt v19 c0_i32_30
  let c2_i32_1275 : BitVec 32 := 2#32
  let v1093 : BitVec 32 := Scalar.subi v19 c2_i32_1275
  let c0_i32_1276 : BitVec 32 := 0#32
  let v1094 : BitVec 1 := Scalar.cmpi .sge v1093 c0_i32_1276
  let v1095 : BitVec 1 := Scalar.andi v60 v1094
  let v1096 : BitVec 32 := Scalar.extui v1095
  let c0_i32_1277 : BitVec 32 := 0#32
  let v1097 : BitVec 1 := Scalar.cmpi .ne v1096 c0_i32_1277
  v1097

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2766 : BitVec 32 := 2#32
  let v2311 : BitVec 32 := Scalar.subi v19 c2_i32_2766
  let c512_i32_2769 : BitVec 32 := 512#32
  let v2314 : BitVec 32 := Scalar.muli v2311 c512_i32_2769
  let c0_i32_2770 : BitVec 32 := 0#32
  let v2315 : BitVec 32 := Scalar.addi v2314 c0_i32_2770
  let c0_i32_2775 : BitVec 32 := 0#32
  ![v2315.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v59 : BitVec 1 := Scalar.cmpi .slt v19 c3_i32
  let c2_i32_1278 : BitVec 32 := 2#32
  let v1098 : BitVec 32 := Scalar.addi v19 c2_i32_1278
  let c3_i32_1279 : BitVec 32 := 3#32
  let v1099 : BitVec 1 := Scalar.cmpi .sle v1098 c3_i32_1279
  let v1100 : BitVec 1 := Scalar.andi v59 v1099
  let v1101 : BitVec 32 := Scalar.extui v1100
  let c0_i32_1280 : BitVec 32 := 0#32
  let v1102 : BitVec 1 := Scalar.cmpi .ne v1101 c0_i32_1280
  v1102

def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2766 : BitVec 32 := 2#32
  let v2311 : BitVec 32 := Scalar.addi v19 c2_i32_2766
  let c512_i32_2769 : BitVec 32 := 512#32
  let v2314 : BitVec 32 := Scalar.muli v2311 c512_i32_2769
  let c0_i32_2770 : BitVec 32 := 0#32
  let v2315 : BitVec 32 := Scalar.addi v2314 c0_i32_2770
  let c0_i32_2775 : BitVec 32 := 0#32
  ![v2315.toNat, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v59 : BitVec 1 := Scalar.cmpi .slt v19 c3_i32
  let c2_i32_1281 : BitVec 32 := 2#32
  let v1103 : BitVec 32 := Scalar.subi v19 c2_i32_1281
  let c0_i32_1282 : BitVec 32 := 0#32
  let v1104 : BitVec 1 := Scalar.cmpi .sge v1103 c0_i32_1282
  let v1105 : BitVec 1 := Scalar.andi v59 v1104
  let v1109 : BitVec 32 := Scalar.extui v1105
  let c0_i32_1285 : BitVec 32 := 0#32
  let v1110 : BitVec 1 := Scalar.cmpi .ne v1109 c0_i32_1285
  v1110

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2766 : BitVec 32 := 2#32
  let v2311 : BitVec 32 := Scalar.subi v19 c2_i32_2766
  let c512_i32_2769 : BitVec 32 := 512#32
  let v2314 : BitVec 32 := Scalar.muli v2311 c512_i32_2769
  let c0_i32_2770 : BitVec 32 := 0#32
  let v2315 : BitVec 32 := Scalar.addi v2314 c0_i32_2770
  let c0_i32_2775 : BitVec 32 := 0#32
  ![v2315.toNat, 0]
def k0_dev45 (d0 : Dev nD) : Nat :=
  let c0_i32_2774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.addi v2 c4_i32_28
  let c1_i32_2773 : BitVec 32 := 1#32
  let v2316 : BitVec 32 := Scalar.muli v57 c1_i32_2773
  let v2317 : BitVec 32 := Scalar.addi c0_i32_2774 v2316
  v2317.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_30 : BitVec 32 := 0#32
  let v60 : BitVec 1 := Scalar.cmpi .sgt v19 c0_i32_30
  let c2_i32_1283 : BitVec 32 := 2#32
  let v1106 : BitVec 32 := Scalar.addi v19 c2_i32_1283
  let c3_i32_1284 : BitVec 32 := 3#32
  let v1107 : BitVec 1 := Scalar.cmpi .sle v1106 c3_i32_1284
  let v1108 : BitVec 1 := Scalar.andi v60 v1107
  let v1111 : BitVec 32 := Scalar.extui v1108
  let c0_i32_1286 : BitVec 32 := 0#32
  let v1112 : BitVec 1 := Scalar.cmpi .ne v1111 c0_i32_1286
  v1112

def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2766 : BitVec 32 := 2#32
  let v2311 : BitVec 32 := Scalar.addi v19 c2_i32_2766
  let c512_i32_2769 : BitVec 32 := 512#32
  let v2314 : BitVec 32 := Scalar.muli v2311 c512_i32_2769
  let c0_i32_2770 : BitVec 32 := 0#32
  let v2315 : BitVec 32 := Scalar.addi v2314 c0_i32_2770
  let c0_i32_2775 : BitVec 32 := 0#32
  ![v2315.toNat, 0]
def k0_dev46 (d0 : Dev nD) : Nat :=
  let c0_i32_2774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_29 : BitVec 32 := 4#32
  let v58 : BitVec 32 := Scalar.subi v2 c4_i32_29
  let c1_i32_2773 : BitVec 32 := 1#32
  let v2316 : BitVec 32 := Scalar.muli v58 c1_i32_2773
  let v2317 : BitVec 32 := Scalar.addi c0_i32_2774 v2316
  v2317.toNat
def k0_off22 (d0 : Dev nD) (c0_i32_1292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1270 : BitVec 32 := 1#32
  let v1089 : BitVec 1 := Scalar.cmpi .sle v19 c1_i32_1270
  let c2_i32_1274 : BitVec 32 := 2#32
  let c2_i32_1271 : BitVec 32 := 2#32
  let v1090 : BitVec 1 := Scalar.cmpi .eq v19 c2_i32_1271
  let c3_i32_1272 : BitVec 32 := 3#32
  let c1_i32_1273 : BitVec 32 := 1#32
  let v1091 : BitVec 32 := Scalar.select v1090 c3_i32_1272 c1_i32_1273
  let v1092 : BitVec 32 := Scalar.select v1089 c2_i32_1274 v1091
  let c512_i32_1291 : BitVec 32 := 512#32
  let v1113 : BitVec 32 := Scalar.muli v1092 c512_i32_1291
  let v1114 : BitVec 32 := Scalar.addi v1113 c0_i32_1292
  let c0_i32_1302 : BitVec 32 := 0#32
  ![v1114.toNat, 0]
def k0_dev47 (d0 : Dev nD) : Nat :=
  let c0_i32_1299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1298 : BitVec 32 := 1#32
  let v1115 : BitVec 32 := Scalar.muli v42 c1_i32_1298
  let v1116 : BitVec 32 := Scalar.addi c0_i32_1299 v1115
  v1116.toNat
def k0_dev48 (d0 : Dev nD) : Nat :=
  let c0_i32_1311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1310 : BitVec 32 := 1#32
  let v1126 : BitVec 32 := Scalar.muli v56 c1_i32_1310
  let v1127 : BitVec 32 := Scalar.addi c0_i32_1311 v1126
  v1127.toNat
def k0_dev49 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1322 : BitVec 32 := 1#32
  let v1137 : BitVec 32 := Scalar.muli v42 c1_i32_1322
  let v1138 : BitVec 32 := Scalar.addi c0_i32_1323 v1137
  v1138.toNat
def k0_dev50 (d0 : Dev nD) : Nat :=
  let c0_i32_1335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1334 : BitVec 32 := 1#32
  let v1148 : BitVec 32 := Scalar.muli v56 c1_i32_1334
  let v1149 : BitVec 32 := Scalar.addi c0_i32_1335 v1148
  v1149.toNat
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1270 : BitVec 32 := 1#32
  let v1089 : BitVec 1 := Scalar.cmpi .sle v19 c1_i32_1270
  let c2_i32_1274 : BitVec 32 := 2#32
  let c2_i32_1271 : BitVec 32 := 2#32
  let v1090 : BitVec 1 := Scalar.cmpi .eq v19 c2_i32_1271
  let c3_i32_1272 : BitVec 32 := 3#32
  let c1_i32_1273 : BitVec 32 := 1#32
  let v1091 : BitVec 32 := Scalar.select v1090 c3_i32_1272 c1_i32_1273
  let v1092 : BitVec 32 := Scalar.select v1089 c2_i32_1274 v1091
  let c512_i32_1454 : BitVec 32 := 512#32
  let v1259 : BitVec 32 := Scalar.muli v1092 c512_i32_1454
  let c0_i32_1455 : BitVec 32 := 0#32
  let v1260 : BitVec 32 := Scalar.addi v1259 c0_i32_1455
  let v1261 : Index := Scalar.indexCast v1260
  let c0_1456 : Index := 0#32
  ![v1261.toNat, 0]
def k0_off24 (d0 : Dev nD) : Fin 2 → Nat :=
  let c4_i32_1453 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1270 : BitVec 32 := 1#32
  let v1089 : BitVec 1 := Scalar.cmpi .sle v19 c1_i32_1270
  let c2_i32_1274 : BitVec 32 := 2#32
  let c2_i32_1271 : BitVec 32 := 2#32
  let v1090 : BitVec 1 := Scalar.cmpi .eq v19 c2_i32_1271
  let c3_i32_1272 : BitVec 32 := 3#32
  let c1_i32_1273 : BitVec 32 := 1#32
  let v1091 : BitVec 32 := Scalar.select v1090 c3_i32_1272 c1_i32_1273
  let v1092 : BitVec 32 := Scalar.select v1089 c2_i32_1274 v1091
  let v1257 : BitVec 32 := Scalar.muli c4_i32_1453 v1092
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1258 : BitVec 32 := Scalar.addi v1257 v29
  let c512_i32_1463 : BitVec 32 := 512#32
  let v1268 : BitVec 32 := Scalar.muli v1258 c512_i32_1463
  let c0_i32_1467 : BitVec 32 := 0#32
  ![v1268.toNat, 0]
def k0_dev51 (d0 : Dev nD) : Nat :=
  let c0_i32_1508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1507 : BitVec 32 := 1#32
  let v1294 : BitVec 32 := Scalar.muli v56 c1_i32_1507
  let v1295 : BitVec 32 := Scalar.addi c0_i32_1508 v1294
  v1295.toNat
def k0_dev52 (d0 : Dev nD) : Nat :=
  let c0_i32_1511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1510 : BitVec 32 := 1#32
  let v1296 : BitVec 32 := Scalar.muli v42 c1_i32_1510
  let v1297 : BitVec 32 := Scalar.addi c0_i32_1511 v1296
  v1297.toNat
def k0_dev53 (d0 : Dev nD) : Nat :=
  let c0_i32_1533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1532 : BitVec 32 := 1#32
  let v1305 : BitVec 32 := Scalar.muli v42 c1_i32_1532
  let v1306 : BitVec 32 := Scalar.addi c0_i32_1533 v1305
  v1306.toNat
def k0_dev54 (d0 : Dev nD) : Nat :=
  let c0_i32_1555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1554 : BitVec 32 := 1#32
  let v1322 : BitVec 32 := Scalar.muli v56 c1_i32_1554
  let v1323 : BitVec 32 := Scalar.addi c0_i32_1555 v1322
  v1323.toNat
def k0_dev55 (d0 : Dev nD) : Nat :=
  let c0_i32_1577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1576 : BitVec 32 := 1#32
  let v1339 : BitVec 32 := Scalar.muli v42 c1_i32_1576
  let v1340 : BitVec 32 := Scalar.addi c0_i32_1577 v1339
  v1340.toNat
def k0_dev56 (d0 : Dev nD) : Nat :=
  let c0_i32_1599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1598 : BitVec 32 := 1#32
  let v1356 : BitVec 32 := Scalar.muli v56 c1_i32_1598
  let v1357 : BitVec 32 := Scalar.addi c0_i32_1599 v1356
  v1357.toNat
def k0_off25 (d0 : Dev nD) (c0_i32_1622 : BitVec 32) : Fin 2 → Nat :=
  let c4_i32_1621 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1616 : BitVec 32 := 1#32
  let v1376 : BitVec 1 := Scalar.cmpi .sle v19 c1_i32_1616
  let c2_i32_1620 : BitVec 32 := 2#32
  let c2_i32_1617 : BitVec 32 := 2#32
  let v1377 : BitVec 1 := Scalar.cmpi .eq v19 c2_i32_1617
  let c3_i32_1618 : BitVec 32 := 3#32
  let c1_i32_1619 : BitVec 32 := 1#32
  let v1378 : BitVec 32 := Scalar.select v1377 c3_i32_1618 c1_i32_1619
  let v1379 : BitVec 32 := Scalar.select v1376 c2_i32_1620 v1378
  let v1380 : BitVec 32 := Scalar.muli c4_i32_1621 v1379
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1381 : BitVec 32 := Scalar.subi v29 c0_i32_1622
  let c1_i32_1623 : BitVec 32 := 1#32
  let v1382 : BitVec 32 := Scalar.subi v1381 c1_i32_1623
  let c4_i32_1624 : BitVec 32 := 4#32
  let c0_i32_1625 : BitVec 32 := 0#32
  let v1383 : BitVec 1 := Scalar.cmpi .eq c4_i32_1624 c0_i32_1625
  let c1_i32_1626 : BitVec 32 := 1#32
  let v1384 : BitVec 32 := Scalar.select v1383 c1_i32_1626 c4_i32_1624
  let v1385 : BitVec 32 := Scalar.remsi v1382 v1384
  let c0_i32_1628 : BitVec 32 := 0#32
  let v1387 : BitVec 1 := Scalar.cmpi .slt v1385 c0_i32_1628
  let c0_i32_1629 : BitVec 32 := 0#32
  let v1388 : BitVec 1 := Scalar.cmpi .slt v1384 c0_i32_1629
  let v1389 : BitVec 1 := Scalar.xori v1387 v1388
  let c0_i32_1627 : BitVec 32 := 0#32
  let v1386 : BitVec 1 := Scalar.cmpi .ne v1385 c0_i32_1627
  let v1390 : BitVec 1 := Scalar.andi v1389 v1386
  let v1391 : BitVec 32 := Scalar.addi v1385 v1384
  let v1392 : BitVec 32 := Scalar.select v1390 v1391 v1385
  let v1393 : BitVec 32 := Scalar.addi v1380 v1392
  let c512_i32_1648 : BitVec 32 := 512#32
  let v1415 : BitVec 32 := Scalar.muli v1393 c512_i32_1648
  let c0_i32_1652 : BitVec 32 := 0#32
  ![v1415.toNat, 0]
def k0_off26 (d0 : Dev nD) (c0_i32_1631 : BitVec 32) : Fin 2 → Nat :=
  let c4_i32_1630 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1616 : BitVec 32 := 1#32
  let v1376 : BitVec 1 := Scalar.cmpi .sle v19 c1_i32_1616
  let c2_i32_1620 : BitVec 32 := 2#32
  let c2_i32_1617 : BitVec 32 := 2#32
  let v1377 : BitVec 1 := Scalar.cmpi .eq v19 c2_i32_1617
  let c3_i32_1618 : BitVec 32 := 3#32
  let c1_i32_1619 : BitVec 32 := 1#32
  let v1378 : BitVec 32 := Scalar.select v1377 c3_i32_1618 c1_i32_1619
  let v1379 : BitVec 32 := Scalar.select v1376 c2_i32_1620 v1378
  let v1394 : BitVec 32 := Scalar.muli c4_i32_1630 v1379
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1395 : BitVec 32 := Scalar.addi v29 c0_i32_1631
  let c1_i32_1632 : BitVec 32 := 1#32
  let v1396 : BitVec 32 := Scalar.addi v1395 c1_i32_1632
  let c4_i32_1633 : BitVec 32 := 4#32
  let c0_i32_1634 : BitVec 32 := 0#32
  let v1397 : BitVec 1 := Scalar.cmpi .eq c4_i32_1633 c0_i32_1634
  let c1_i32_1635 : BitVec 32 := 1#32
  let v1398 : BitVec 32 := Scalar.select v1397 c1_i32_1635 c4_i32_1633
  let v1399 : BitVec 32 := Scalar.remsi v1396 v1398
  let c0_i32_1637 : BitVec 32 := 0#32
  let v1401 : BitVec 1 := Scalar.cmpi .slt v1399 c0_i32_1637
  let c0_i32_1638 : BitVec 32 := 0#32
  let v1402 : BitVec 1 := Scalar.cmpi .slt v1398 c0_i32_1638
  let v1403 : BitVec 1 := Scalar.xori v1401 v1402
  let c0_i32_1636 : BitVec 32 := 0#32
  let v1400 : BitVec 1 := Scalar.cmpi .ne v1399 c0_i32_1636
  let v1404 : BitVec 1 := Scalar.andi v1403 v1400
  let v1405 : BitVec 32 := Scalar.addi v1399 v1398
  let v1406 : BitVec 32 := Scalar.select v1404 v1405 v1399
  let v1407 : BitVec 32 := Scalar.addi v1394 v1406
  let c512_i32_1664 : BitVec 32 := 512#32
  let v1428 : BitVec 32 := Scalar.muli v1407 c512_i32_1664
  let c256_i32_1665 : BitVec 32 := 256#32
  let v1429 : BitVec 32 := Scalar.addi v1428 c256_i32_1665
  let c0_i32_1669 : BitVec 32 := 0#32
  ![v1429.toNat, 0]
def k0_dev57 (d0 : Dev nD) : Nat :=
  let c0_i32_1718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1717 : BitVec 32 := 1#32
  let v1459 : BitVec 32 := Scalar.muli v56 c1_i32_1717
  let v1460 : BitVec 32 := Scalar.addi c0_i32_1718 v1459
  v1460.toNat
def k0_dev58 (d0 : Dev nD) : Nat :=
  let c0_i32_1721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1720 : BitVec 32 := 1#32
  let v1461 : BitVec 32 := Scalar.muli v42 c1_i32_1720
  let v1462 : BitVec 32 := Scalar.addi c0_i32_1721 v1461
  v1462.toNat
def k0_dev59 (d0 : Dev nD) : Nat :=
  let c0_i32_1745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1744 : BitVec 32 := 1#32
  let v1471 : BitVec 32 := Scalar.muli v42 c1_i32_1744
  let v1472 : BitVec 32 := Scalar.addi c0_i32_1745 v1471
  v1472.toNat
def k0_dev60 (d0 : Dev nD) : Nat :=
  let c0_i32_1769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1768 : BitVec 32 := 1#32
  let v1489 : BitVec 32 := Scalar.muli v56 c1_i32_1768
  let v1490 : BitVec 32 := Scalar.addi c0_i32_1769 v1489
  v1490.toNat
def k0_dev61 (d0 : Dev nD) : Nat :=
  let c0_i32_1793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1792 : BitVec 32 := 1#32
  let v1507 : BitVec 32 := Scalar.muli v42 c1_i32_1792
  let v1508 : BitVec 32 := Scalar.addi c0_i32_1793 v1507
  v1508.toNat
def k0_dev62 (d0 : Dev nD) : Nat :=
  let c0_i32_1817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1816 : BitVec 32 := 1#32
  let v1525 : BitVec 32 := Scalar.muli v56 c1_i32_1816
  let v1526 : BitVec 32 := Scalar.addi c0_i32_1817 v1525
  v1526.toNat
def k0_dev63 (d0 : Dev nD) : Nat :=
  let c0_i32_1942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1941 : BitVec 32 := 1#32
  let v1633 : BitVec 32 := Scalar.muli v56 c1_i32_1941
  let v1634 : BitVec 32 := Scalar.addi c0_i32_1942 v1633
  v1634.toNat
def k0_dev64 (d0 : Dev nD) : Nat :=
  let c0_i32_1945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1944 : BitVec 32 := 1#32
  let v1635 : BitVec 32 := Scalar.muli v42 c1_i32_1944
  let v1636 : BitVec 32 := Scalar.addi c0_i32_1945 v1635
  v1636.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_30 : BitVec 32 := 0#32
  let v60 : BitVec 1 := Scalar.cmpi .sgt v19 c0_i32_30
  let c3_i32_1949 : BitVec 32 := 3#32
  let v1639 : BitVec 32 := Scalar.subi v19 c3_i32_1949
  let c0_i32_1950 : BitVec 32 := 0#32
  let v1640 : BitVec 1 := Scalar.cmpi .sge v1639 c0_i32_1950
  let v1641 : BitVec 1 := Scalar.andi v60 v1640
  let v1642 : BitVec 32 := Scalar.extui v1641
  let c0_i32_1951 : BitVec 32 := 0#32
  let v1643 : BitVec 1 := Scalar.cmpi .ne v1642 c0_i32_1951
  v1643

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2766 : BitVec 32 := 3#32
  let v2311 : BitVec 32 := Scalar.subi v19 c3_i32_2766
  let c512_i32_2769 : BitVec 32 := 512#32
  let v2314 : BitVec 32 := Scalar.muli v2311 c512_i32_2769
  let c0_i32_2770 : BitVec 32 := 0#32
  let v2315 : BitVec 32 := Scalar.addi v2314 c0_i32_2770
  let c0_i32_2775 : BitVec 32 := 0#32
  ![v2315.toNat, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v59 : BitVec 1 := Scalar.cmpi .slt v19 c3_i32
  let c3_i32_1952 : BitVec 32 := 3#32
  let v1644 : BitVec 32 := Scalar.addi v19 c3_i32_1952
  let c3_i32_1953 : BitVec 32 := 3#32
  let v1645 : BitVec 1 := Scalar.cmpi .sle v1644 c3_i32_1953
  let v1646 : BitVec 1 := Scalar.andi v59 v1645
  let v1647 : BitVec 32 := Scalar.extui v1646
  let c0_i32_1954 : BitVec 32 := 0#32
  let v1648 : BitVec 1 := Scalar.cmpi .ne v1647 c0_i32_1954
  v1648

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2766 : BitVec 32 := 3#32
  let v2311 : BitVec 32 := Scalar.addi v19 c3_i32_2766
  let c512_i32_2769 : BitVec 32 := 512#32
  let v2314 : BitVec 32 := Scalar.muli v2311 c512_i32_2769
  let c0_i32_2770 : BitVec 32 := 0#32
  let v2315 : BitVec 32 := Scalar.addi v2314 c0_i32_2770
  let c0_i32_2775 : BitVec 32 := 0#32
  ![v2315.toNat, 0]
def k0_off29 (d0 : Dev nD) (c0_i32_1960 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1946 : BitVec 32 := 1#32
  let v1637 : BitVec 1 := Scalar.cmpi .sle v19 c1_i32_1946
  let c3_i32_1947 : BitVec 32 := 3#32
  let c0_i32_1948 : BitVec 32 := 0#32
  let v1638 : BitVec 32 := Scalar.select v1637 c3_i32_1947 c0_i32_1948
  let c512_i32_1959 : BitVec 32 := 512#32
  let v1649 : BitVec 32 := Scalar.muli v1638 c512_i32_1959
  let v1650 : BitVec 32 := Scalar.addi v1649 c0_i32_1960
  let c0_i32_1970 : BitVec 32 := 0#32
  ![v1650.toNat, 0]
def k0_dev65 (d0 : Dev nD) : Nat :=
  let c0_i32_1967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1966 : BitVec 32 := 1#32
  let v1651 : BitVec 32 := Scalar.muli v42 c1_i32_1966
  let v1652 : BitVec 32 := Scalar.addi c0_i32_1967 v1651
  v1652.toNat
def k0_dev66 (d0 : Dev nD) : Nat :=
  let c0_i32_1979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_1978 : BitVec 32 := 1#32
  let v1662 : BitVec 32 := Scalar.muli v56 c1_i32_1978
  let v1663 : BitVec 32 := Scalar.addi c0_i32_1979 v1662
  v1663.toNat
def k0_dev67 (d0 : Dev nD) : Nat :=
  let c0_i32_1991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1990 : BitVec 32 := 1#32
  let v1673 : BitVec 32 := Scalar.muli v42 c1_i32_1990
  let v1674 : BitVec 32 := Scalar.addi c0_i32_1991 v1673
  v1674.toNat
def k0_dev68 (d0 : Dev nD) : Nat :=
  let c0_i32_2003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_2002 : BitVec 32 := 1#32
  let v1684 : BitVec 32 := Scalar.muli v56 c1_i32_2002
  let v1685 : BitVec 32 := Scalar.addi c0_i32_2003 v1684
  v1685.toNat
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1946 : BitVec 32 := 1#32
  let v1637 : BitVec 1 := Scalar.cmpi .sle v19 c1_i32_1946
  let c3_i32_1947 : BitVec 32 := 3#32
  let c0_i32_1948 : BitVec 32 := 0#32
  let v1638 : BitVec 32 := Scalar.select v1637 c3_i32_1947 c0_i32_1948
  let c512_i32_2124 : BitVec 32 := 512#32
  let v1796 : BitVec 32 := Scalar.muli v1638 c512_i32_2124
  let c0_i32_2125 : BitVec 32 := 0#32
  let v1797 : BitVec 32 := Scalar.addi v1796 c0_i32_2125
  let v1798 : Index := Scalar.indexCast v1797
  let c0_2126 : Index := 0#32
  ![v1798.toNat, 0]
def k0_off31 (d0 : Dev nD) : Fin 2 → Nat :=
  let c4_i32_2123 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1946 : BitVec 32 := 1#32
  let v1637 : BitVec 1 := Scalar.cmpi .sle v19 c1_i32_1946
  let c3_i32_1947 : BitVec 32 := 3#32
  let c0_i32_1948 : BitVec 32 := 0#32
  let v1638 : BitVec 32 := Scalar.select v1637 c3_i32_1947 c0_i32_1948
  let v1794 : BitVec 32 := Scalar.muli c4_i32_2123 v1638
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1795 : BitVec 32 := Scalar.addi v1794 v29
  let c512_i32_2133 : BitVec 32 := 512#32
  let v1805 : BitVec 32 := Scalar.muli v1795 c512_i32_2133
  let c0_i32_2137 : BitVec 32 := 0#32
  ![v1805.toNat, 0]
def k0_dev69 (d0 : Dev nD) : Nat :=
  let c0_i32_2178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_2177 : BitVec 32 := 1#32
  let v1831 : BitVec 32 := Scalar.muli v56 c1_i32_2177
  let v1832 : BitVec 32 := Scalar.addi c0_i32_2178 v1831
  v1832.toNat
def k0_dev70 (d0 : Dev nD) : Nat :=
  let c0_i32_2181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2180 : BitVec 32 := 1#32
  let v1833 : BitVec 32 := Scalar.muli v42 c1_i32_2180
  let v1834 : BitVec 32 := Scalar.addi c0_i32_2181 v1833
  v1834.toNat
def k0_dev71 (d0 : Dev nD) : Nat :=
  let c0_i32_2203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2202 : BitVec 32 := 1#32
  let v1842 : BitVec 32 := Scalar.muli v42 c1_i32_2202
  let v1843 : BitVec 32 := Scalar.addi c0_i32_2203 v1842
  v1843.toNat
def k0_dev72 (d0 : Dev nD) : Nat :=
  let c0_i32_2225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_2224 : BitVec 32 := 1#32
  let v1859 : BitVec 32 := Scalar.muli v56 c1_i32_2224
  let v1860 : BitVec 32 := Scalar.addi c0_i32_2225 v1859
  v1860.toNat
def k0_dev73 (d0 : Dev nD) : Nat :=
  let c0_i32_2247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2246 : BitVec 32 := 1#32
  let v1876 : BitVec 32 := Scalar.muli v42 c1_i32_2246
  let v1877 : BitVec 32 := Scalar.addi c0_i32_2247 v1876
  v1877.toNat
def k0_dev74 (d0 : Dev nD) : Nat :=
  let c0_i32_2269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_2268 : BitVec 32 := 1#32
  let v1893 : BitVec 32 := Scalar.muli v56 c1_i32_2268
  let v1894 : BitVec 32 := Scalar.addi c0_i32_2269 v1893
  v1894.toNat
def k0_off32 (d0 : Dev nD) (c0_i32_2290 : BitVec 32) : Fin 2 → Nat :=
  let c4_i32_2289 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2286 : BitVec 32 := 1#32
  let v1913 : BitVec 1 := Scalar.cmpi .sle v19 c1_i32_2286
  let c3_i32_2287 : BitVec 32 := 3#32
  let c0_i32_2288 : BitVec 32 := 0#32
  let v1914 : BitVec 32 := Scalar.select v1913 c3_i32_2287 c0_i32_2288
  let v1915 : BitVec 32 := Scalar.muli c4_i32_2289 v1914
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1916 : BitVec 32 := Scalar.subi v29 c0_i32_2290
  let c1_i32_2291 : BitVec 32 := 1#32
  let v1917 : BitVec 32 := Scalar.subi v1916 c1_i32_2291
  let c4_i32_2292 : BitVec 32 := 4#32
  let c0_i32_2293 : BitVec 32 := 0#32
  let v1918 : BitVec 1 := Scalar.cmpi .eq c4_i32_2292 c0_i32_2293
  let c1_i32_2294 : BitVec 32 := 1#32
  let v1919 : BitVec 32 := Scalar.select v1918 c1_i32_2294 c4_i32_2292
  let v1920 : BitVec 32 := Scalar.remsi v1917 v1919
  let c0_i32_2296 : BitVec 32 := 0#32
  let v1922 : BitVec 1 := Scalar.cmpi .slt v1920 c0_i32_2296
  let c0_i32_2297 : BitVec 32 := 0#32
  let v1923 : BitVec 1 := Scalar.cmpi .slt v1919 c0_i32_2297
  let v1924 : BitVec 1 := Scalar.xori v1922 v1923
  let c0_i32_2295 : BitVec 32 := 0#32
  let v1921 : BitVec 1 := Scalar.cmpi .ne v1920 c0_i32_2295
  let v1925 : BitVec 1 := Scalar.andi v1924 v1921
  let v1926 : BitVec 32 := Scalar.addi v1920 v1919
  let v1927 : BitVec 32 := Scalar.select v1925 v1926 v1920
  let v1928 : BitVec 32 := Scalar.addi v1915 v1927
  let c512_i32_2316 : BitVec 32 := 512#32
  let v1950 : BitVec 32 := Scalar.muli v1928 c512_i32_2316
  let c0_i32_2320 : BitVec 32 := 0#32
  ![v1950.toNat, 0]
def k0_off33 (d0 : Dev nD) (c0_i32_2299 : BitVec 32) : Fin 2 → Nat :=
  let c4_i32_2298 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2286 : BitVec 32 := 1#32
  let v1913 : BitVec 1 := Scalar.cmpi .sle v19 c1_i32_2286
  let c3_i32_2287 : BitVec 32 := 3#32
  let c0_i32_2288 : BitVec 32 := 0#32
  let v1914 : BitVec 32 := Scalar.select v1913 c3_i32_2287 c0_i32_2288
  let v1929 : BitVec 32 := Scalar.muli c4_i32_2298 v1914
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1930 : BitVec 32 := Scalar.addi v29 c0_i32_2299
  let c1_i32_2300 : BitVec 32 := 1#32
  let v1931 : BitVec 32 := Scalar.addi v1930 c1_i32_2300
  let c4_i32_2301 : BitVec 32 := 4#32
  let c0_i32_2302 : BitVec 32 := 0#32
  let v1932 : BitVec 1 := Scalar.cmpi .eq c4_i32_2301 c0_i32_2302
  let c1_i32_2303 : BitVec 32 := 1#32
  let v1933 : BitVec 32 := Scalar.select v1932 c1_i32_2303 c4_i32_2301
  let v1934 : BitVec 32 := Scalar.remsi v1931 v1933
  let c0_i32_2305 : BitVec 32 := 0#32
  let v1936 : BitVec 1 := Scalar.cmpi .slt v1934 c0_i32_2305
  let c0_i32_2306 : BitVec 32 := 0#32
  let v1937 : BitVec 1 := Scalar.cmpi .slt v1933 c0_i32_2306
  let v1938 : BitVec 1 := Scalar.xori v1936 v1937
  let c0_i32_2304 : BitVec 32 := 0#32
  let v1935 : BitVec 1 := Scalar.cmpi .ne v1934 c0_i32_2304
  let v1939 : BitVec 1 := Scalar.andi v1938 v1935
  let v1940 : BitVec 32 := Scalar.addi v1934 v1933
  let v1941 : BitVec 32 := Scalar.select v1939 v1940 v1934
  let v1942 : BitVec 32 := Scalar.addi v1929 v1941
  let c512_i32_2332 : BitVec 32 := 512#32
  let v1963 : BitVec 32 := Scalar.muli v1942 c512_i32_2332
  let c256_i32_2333 : BitVec 32 := 256#32
  let v1964 : BitVec 32 := Scalar.addi v1963 c256_i32_2333
  let c0_i32_2337 : BitVec 32 := 0#32
  ![v1964.toNat, 0]
def k0_dev75 (d0 : Dev nD) : Nat :=
  let c0_i32_2386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_2385 : BitVec 32 := 1#32
  let v1994 : BitVec 32 := Scalar.muli v56 c1_i32_2385
  let v1995 : BitVec 32 := Scalar.addi c0_i32_2386 v1994
  v1995.toNat
def k0_dev76 (d0 : Dev nD) : Nat :=
  let c0_i32_2389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2388 : BitVec 32 := 1#32
  let v1996 : BitVec 32 := Scalar.muli v42 c1_i32_2388
  let v1997 : BitVec 32 := Scalar.addi c0_i32_2389 v1996
  v1997.toNat
def k0_dev77 (d0 : Dev nD) : Nat :=
  let c0_i32_2413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2412 : BitVec 32 := 1#32
  let v2006 : BitVec 32 := Scalar.muli v42 c1_i32_2412
  let v2007 : BitVec 32 := Scalar.addi c0_i32_2413 v2006
  v2007.toNat
def k0_dev78 (d0 : Dev nD) : Nat :=
  let c0_i32_2437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_2436 : BitVec 32 := 1#32
  let v2024 : BitVec 32 := Scalar.muli v56 c1_i32_2436
  let v2025 : BitVec 32 := Scalar.addi c0_i32_2437 v2024
  v2025.toNat
def k0_dev79 (d0 : Dev nD) : Nat :=
  let c0_i32_2461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2460 : BitVec 32 := 1#32
  let v2042 : BitVec 32 := Scalar.muli v42 c1_i32_2460
  let v2043 : BitVec 32 := Scalar.addi c0_i32_2461 v2042
  v2043.toNat
def k0_dev80 (d0 : Dev nD) : Nat :=
  let c0_i32_2485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_20 : BitVec 32 := 4#32
  let v44 : BitVec 32 := Scalar.addi v29 c4_i32_20
  let c1_i32_21 : BitVec 32 := 1#32
  let v45 : BitVec 32 := Scalar.subi v44 c1_i32_21
  let c4_i32_22 : BitVec 32 := 4#32
  let c0_i32_23 : BitVec 32 := 0#32
  let v46 : BitVec 1 := Scalar.cmpi .eq c4_i32_22 c0_i32_23
  let c1_i32_24 : BitVec 32 := 1#32
  let v47 : BitVec 32 := Scalar.select v46 c1_i32_24 c4_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let v56 : BitVec 32 := Scalar.addi v43 v55
  let c1_i32_2484 : BitVec 32 := 1#32
  let v2060 : BitVec 32 := Scalar.muli v56 c1_i32_2484
  let v2061 : BitVec 32 := Scalar.addi c0_i32_2485 v2060
  v2061.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v59 : BitVec 1 := Scalar.cmpi .slt v19 c3_i32
  let v2279 : BitVec 32 := Scalar.extui v59
  let c0_i32_2736 : BitVec 32 := 0#32
  let v2280 : BitVec 1 := Scalar.cmpi .ne v2279 c0_i32_2736
  v2280

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_2766 : BitVec 32 := 512#32
  let v2311 : BitVec 32 := Scalar.muli v19 c512_i32_2766
  let c0_i32_2767 : BitVec 32 := 0#32
  let v2312 : BitVec 32 := Scalar.addi v2311 c0_i32_2767
  let c0_i32_2773 : BitVec 32 := 0#32
  ![v2312.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_30 : BitVec 32 := 0#32
  let v60 : BitVec 1 := Scalar.cmpi .sgt v19 c0_i32_30
  let v2281 : BitVec 32 := Scalar.extui v60
  let c0_i32_2737 : BitVec 32 := 0#32
  let v2282 : BitVec 1 := Scalar.cmpi .ne v2281 c0_i32_2737
  v2282

def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_2766 : BitVec 32 := 512#32
  let v2311 : BitVec 32 := Scalar.muli v19 c512_i32_2766
  let c0_i32_2767 : BitVec 32 := 0#32
  let v2312 : BitVec 32 := Scalar.addi v2311 c0_i32_2767
  let c0_i32_2773 : BitVec 32 := 0#32
  ![v2312.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v59 : BitVec 1 := Scalar.cmpi .slt v19 c3_i32
  let c1_i32_612 : BitVec 32 := 1#32
  let v560 : BitVec 32 := Scalar.subi v19 c1_i32_612
  let c0_i32_613 : BitVec 32 := 0#32
  let v561 : BitVec 1 := Scalar.cmpi .sge v560 c0_i32_613
  let v562 : BitVec 1 := Scalar.andi v59 v561
  let v2283 : BitVec 32 := Scalar.extui v562
  let c0_i32_2738 : BitVec 32 := 0#32
  let v2284 : BitVec 1 := Scalar.cmpi .ne v2283 c0_i32_2738
  v2284

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2766 : BitVec 32 := 1#32
  let v2311 : BitVec 32 := Scalar.subi v19 c1_i32_2766
  let c512_i32_2767 : BitVec 32 := 512#32
  let v2312 : BitVec 32 := Scalar.muli v2311 c512_i32_2767
  let c0_i32_2768 : BitVec 32 := 0#32
  let v2313 : BitVec 32 := Scalar.addi v2312 c0_i32_2768
  let c0_i32_2774 : BitVec 32 := 0#32
  ![v2313.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_30 : BitVec 32 := 0#32
  let v60 : BitVec 1 := Scalar.cmpi .sgt v19 c0_i32_30
  let c1_i32_614 : BitVec 32 := 1#32
  let v563 : BitVec 32 := Scalar.addi v19 c1_i32_614
  let c3_i32_615 : BitVec 32 := 3#32
  let v564 : BitVec 1 := Scalar.cmpi .sle v563 c3_i32_615
  let v565 : BitVec 1 := Scalar.andi v60 v564
  let v2285 : BitVec 32 := Scalar.extui v565
  let c0_i32_2739 : BitVec 32 := 0#32
  let v2286 : BitVec 1 := Scalar.cmpi .ne v2285 c0_i32_2739
  v2286

def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2766 : BitVec 32 := 1#32
  let v2311 : BitVec 32 := Scalar.addi v19 c1_i32_2766
  let c512_i32_2767 : BitVec 32 := 512#32
  let v2312 : BitVec 32 := Scalar.muli v2311 c512_i32_2767
  let c0_i32_2768 : BitVec 32 := 0#32
  let v2313 : BitVec 32 := Scalar.addi v2312 c0_i32_2768
  let c0_i32_2774 : BitVec 32 := 0#32
  ![v2313.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v59 : BitVec 1 := Scalar.cmpi .slt v19 c3_i32
  let c2_i32_1281 : BitVec 32 := 2#32
  let v1103 : BitVec 32 := Scalar.subi v19 c2_i32_1281
  let c0_i32_1282 : BitVec 32 := 0#32
  let v1104 : BitVec 1 := Scalar.cmpi .sge v1103 c0_i32_1282
  let v1105 : BitVec 1 := Scalar.andi v59 v1104
  let v2287 : BitVec 32 := Scalar.extui v1105
  let c0_i32_2740 : BitVec 32 := 0#32
  let v2288 : BitVec 1 := Scalar.cmpi .ne v2287 c0_i32_2740
  v2288

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2766 : BitVec 32 := 2#32
  let v2311 : BitVec 32 := Scalar.subi v19 c2_i32_2766
  let c512_i32_2767 : BitVec 32 := 512#32
  let v2312 : BitVec 32 := Scalar.muli v2311 c512_i32_2767
  let c0_i32_2768 : BitVec 32 := 0#32
  let v2313 : BitVec 32 := Scalar.addi v2312 c0_i32_2768
  let c0_i32_2774 : BitVec 32 := 0#32
  ![v2313.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_30 : BitVec 32 := 0#32
  let v60 : BitVec 1 := Scalar.cmpi .sgt v19 c0_i32_30
  let c2_i32_1283 : BitVec 32 := 2#32
  let v1106 : BitVec 32 := Scalar.addi v19 c2_i32_1283
  let c3_i32_1284 : BitVec 32 := 3#32
  let v1107 : BitVec 1 := Scalar.cmpi .sle v1106 c3_i32_1284
  let v1108 : BitVec 1 := Scalar.andi v60 v1107
  let v2289 : BitVec 32 := Scalar.extui v1108
  let c0_i32_2741 : BitVec 32 := 0#32
  let v2290 : BitVec 1 := Scalar.cmpi .ne v2289 c0_i32_2741
  v2290

def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2766 : BitVec 32 := 2#32
  let v2311 : BitVec 32 := Scalar.addi v19 c2_i32_2766
  let c512_i32_2767 : BitVec 32 := 512#32
  let v2312 : BitVec 32 := Scalar.muli v2311 c512_i32_2767
  let c0_i32_2768 : BitVec 32 := 0#32
  let v2313 : BitVec 32 := Scalar.addi v2312 c0_i32_2768
  let c0_i32_2774 : BitVec 32 := 0#32
  ![v2313.toNat, 0]
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Grid.lean ====
/-
  The sixteen devices as a grid of four columns of the z axis by four places of the q axis, the steps at which a device
  pays another one, and what each step pays.

  A device is `4 * z + q`. Along q the devices of one z form a ring; along z those of one q form a line. The kernel's
  thirteen hops pass row blocks around the rings in both directions, and the lines carry each device's own block to the
  other z. A STEP is one payment to another device: four at the entry barrier, then eight per hop (line up, line down,
  the four ring transfers, the two credits). The steps of a device are numbered in the order in which it takes them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Transfers
public import Idealize.ShloMosaic.Lib.Tactic

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The grid of devices -/

set_option backward.proofsInPublic true in
/-- The device at `z`, `q`, both read modulo four. -/
def mk (z q : ℕ) : Dev nD := ⟨(4 * z + q % 4) % 16, Nat.mod_lt _ (by decide)⟩
/-- A device's place on its line. -/
abbrev zc (c : Dev nD) : ℕ := c.val / 4
/-- A device's place on its ring. -/
abbrev qc (c : Dev nD) : ℕ := c.val % 4

def rightD (c : Dev nD) : Dev nD := mk (zc c) (qc c + 1)
def leftD (c : Dev nD) : Dev nD := mk (zc c) (qc c + 3)
def upD (c : Dev nD) : Dev nD := mk (zc c + 1) (qc c)
def downD (c : Dev nD) : Dev nD := mk (zc c + 3) (qc c)

def rightP : Equiv.Perm (Dev nD) := ⟨rightD, leftD, by decide, by decide⟩
def leftP : Equiv.Perm (Dev nD) := ⟨leftD, rightD, by decide, by decide⟩
def upP : Equiv.Perm (Dev nD) := ⟨upD, downD, by decide, by decide⟩
def downP : Equiv.Perm (Dev nD) := ⟨downD, upD, by decide, by decide⟩

/-- Which of the four line blocks a device passes around its ring in the `r`-th group of hops: its own, then the
    others as they come in over the line. -/
def zs (z r : ℕ) : ℕ :=
  match r with
  | 0 => z
  | 1 => if 1 ≤ z then z - 1 else 1
  | 2 => if z ≤ 1 then 2 else if z = 2 then 3 else 1
  | _ => if z ≤ 1 then 3 else 0

/-- The device whose rows arrive at `c` in the landing `j` (`0` to `11`), forward (`false`: from the left) or backward
    (`true`: from the right). -/
def orig (d : Bool) (c : Dev nD) (j : ℕ) : Dev nD :=
  mk (zs (zc c) (j / 3)) (if d then qc c + j % 3 + 1 else qc c + 3 - j % 3)

/-- The neighbour a device sends to: forward to the right, backward to the left. -/
def nbr (d : Bool) (c : Dev nD) : Dev nD := if d then leftD c else rightD c
/-- The neighbour it receives from, and gives credits to. -/
def prb (d : Bool) (c : Dev nD) : Dev nD := if d then rightD c else leftD c

/-! ## The steps -/

/-- The number of steps. -/
abbrev T : ℕ := 100
/-- The step `i` of hop `H`. -/
abbrev st (H i : ℕ) : ℕ := 4 + 8 * H + i

/-- The seventeen semaphores of a device that other devices pay: the entry barrier, the line's three from below and
    three from above, the ring's four forward and four backward (by slot and half), the two credits. -/
def psem (k : Fin 17) : SemLoc sig :=
  match k with
  | 0 => .reg barrier0
  | 1 => .dma 3 | 2 => .dma 4 | 3 => .dma 5
  | 4 => .dma 9 | 5 => .dma 10 | 6 => .dma 11
  | 7 => .dma 16 | 8 => .dma 17 | 9 => .dma 18 | 10 => .dma 19
  | 11 => .dma 24 | 12 => .dma 25 | 13 => .dma 26 | 14 => .dma 27
  | 15 => .reg 0 | _ => .reg 1

abbrev cell (c : Dev nD) (k : Fin 17) : GSem nD τ sig := ((c : Thread nD τ), psem k)

theorem psem_inj : Function.Injective psem := by decide

/-- Which semaphore the step `i` of hop `H` pays. -/
def kxh (H i : ℕ) : Fin 17 :=
  match i with
  | 0 => Fin.ofNat 17 (1 + (H / 3) % 3)
  | 1 => Fin.ofNat 17 (4 + (H / 3) % 3)
  | 2 => Fin.ofNat 17 (7 + 2 * ((H + 1) % 2))
  | 3 => Fin.ofNat 17 (11 + 2 * ((H + 1) % 2))
  | 4 => Fin.ofNat 17 (8 + 2 * ((H + 1) % 2))
  | 5 => Fin.ofNat 17 (12 + 2 * ((H + 1) % 2))
  | 6 => 15
  | _ => 16

def kx (t : ℕ) : Fin 17 := if t < 4 then 0 else kxh ((t - 4) / 8) ((t - 4) % 8)

/-- In which round of that semaphore: the transfers of the ring use each slot again every second hop. -/
def rndh (H i : ℕ) : ℕ :=
  match i with
  | 2 => H / 2 | 3 => H / 2 | 4 => H / 2 | 5 => H / 2
  | _ => 0

def rnd (t : ℕ) : ℕ := if t < 4 then 0 else rndh ((t - 4) / 8) ((t - 4) % 8)

/-- To which device. -/
def pih (i : ℕ) : Equiv.Perm (Dev nD) :=
  match i with
  | 0 => upP | 1 => downP | 2 => rightP | 3 => leftP | 4 => rightP | 5 => leftP | 6 => leftP | _ => rightP

def pi (t : ℕ) : Equiv.Perm (Dev nD) :=
  if t < 4 then (match t with | 0 => leftP | 1 => rightP | 2 => upP | _ => downP) else pih ((t - 4) % 8)

/-- The tag of the step's credit: the four at the barrier are waited for together. -/
def ix (t : ℕ) : ℕ := if t < 4 then 1 else t + 1

/-- The credit of a line transfer (512 rows) and of a ring transfer (128 rows). -/
abbrev NL : ℕ := ((Memref.whole cc0_scratch0 : Memref sig .tc .vmem S2048x8192 .bf16).slice
  (Rect.unit (s := S2048x8192) ![0, 0] S512x8192.size (by decide)) (fun _ => rfl)).view.dmaCredit
abbrev NR : ℕ := ((Memref.whole cc0_scratch0 : Memref sig .tc .vmem S2048x8192 .bf16).slice
  (Rect.unit (s := S2048x8192) ![0, 0] S128x8192.size (by decide)) (fun _ => rfl)).view.dmaCredit

theorem NL_pos : 0 < NL := View.dmaCredit_pos _ (by decide)
theorem NR_pos : 0 < NR := View.dmaCredit_pos _ (by decide)

/-- Whether device `d` passes a block up its line in the group of hops `r`, and down. -/
abbrev upOn (d : Dev nD) (r : ℕ) : Prop := zc d < 3 ∧ r ≤ zc d
abbrev dnOn (d : Dev nD) (r : ℕ) : Prop := 0 < zc d ∧ zc d + r ≤ 3

def amth (H i : ℕ) (d : Dev nD) : ℕ :=
  match i with
  | 0 => if H % 3 = 0 ∧ H < 9 ∧ upOn d (H / 3) then NL else 0
  | 1 => if H % 3 = 0 ∧ H < 9 ∧ dnOn d (H / 3) then NL else 0
  | 2 => NR | 3 => NR | 4 => NR | 5 => NR
  | _ => if H < 11 then 1 else 0

theorem amth_line {H i : ℕ} {d : Dev nD} (hi : i < 2) (h : 0 < amth H i d) : H % 3 = 0 ∧ H < 9 := by
  by_contra hn
  have h0 : amth H i d = 0 := by
    rcases i with _ | _ | i
    · exact if_neg fun hh => hn ⟨hh.1, hh.2.1⟩
    · exact if_neg fun hh => hn ⟨hh.1, hh.2.1⟩
    · omega
  omega

/-- What device `d` pays at the step: nothing at a step it does not take. -/
def amt (t : ℕ) (d : Dev nD) : ℕ :=
  if t < 4 then (match t with | 0 => 1 | 1 => 1 | 2 => if zc d < 3 then 1 else 0 | _ => if 0 < zc d then 1 else 0)
  else amth ((t - 4) / 8) ((t - 4) % 8) d

/-! ### A step by its hop -/

theorem st_not_lt (H i : ℕ) : ¬ st H i < 4 := by unfold st; omega
theorem st_div {H i : ℕ} (h : i < 8) : (st H i - 4) / 8 = H := by unfold st; omega
theorem st_mod {H i : ℕ} (h : i < 8) : (st H i - 4) % 8 = i := by unfold st; omega

theorem kx_st {H i : ℕ} (h : i < 8) : kx (st H i) = kxh H i := by
  unfold kx; rw [if_neg (st_not_lt H i), st_div h, st_mod h]
theorem rnd_st {H i : ℕ} (h : i < 8) : rnd (st H i) = rndh H i := by
  unfold rnd; rw [if_neg (st_not_lt H i), st_div h, st_mod h]
theorem pi_st {H i : ℕ} (h : i < 8) : pi (st H i) = pih i := by
  unfold pi; rw [if_neg (st_not_lt H i), st_mod h]
theorem amt_st {H i : ℕ} (h : i < 8) : amt (st H i) = amth H i := by
  funext d; unfold amt; rw [if_neg (st_not_lt H i), st_div h, st_mod h]
theorem ix_st (H i : ℕ) : ix (st H i) = st H i + 1 := by unfold ix; rw [if_neg (st_not_lt H i)]

/-- A ring semaphore is used again two hops later, in the next round. -/
theorem kxh_next (H i : ℕ) (h : 2 ≤ i) : kxh (H + 2) i = kxh H i := by
  unfold kxh
  have e : (H + 2 + 1) % 2 = (H + 1) % 2 := by omega
  rcases i with _ | _ | i
  · omega
  · omega
  · split <;> first | rfl | (rw [e]) | omega
theorem rndh_next (H i : ℕ) (h : 2 ≤ i ∧ i < 6) : rndh (H + 2) i = rndh H i + 1 := by
  obtain ⟨h1, h2⟩ := h
  unfold rndh
  have e : (H + 2) / 2 = H / 2 + 1 := by omega
  rcases i with _ | _ | _ | _ | _ | _ | i <;> first | exact e | omega

/-- The steps whose semaphore has no other payment in the same round: all but the barrier's and the credits'. -/
abbrev Single (t : ℕ) : Prop := 4 ≤ t ∧ (t - 4) % 8 < 6

/-- At a step of its own round, any step of that semaphore and round is it, unless that other step pays nothing. -/
theorem single_uniq : ∀ t : Fin 100, ∀ s : Fin 100, Single t.val → kx s.val = kx t.val → rnd s.val = rnd t.val →
    s = t ∨ (4 ≤ s.val ∧ (s.val - 4) % 8 < 2 ∧ (t.val - 4) % 8 < 2 ∧ (9 ≤ (s.val - 4) / 8 ∨ (s.val - 4) / 8 % 3 ≠ 0 ∨ 9 ≤ (t.val - 4) / 8 ∨ (t.val - 4) / 8 % 3 ≠ 0)) := by
  decide +kernel

end Cert.KernelIdeal.Gather

end
-- ==== Proof.Sched.lean ====
/-
  What the kernel's buffers hold, and the protocol: at each step what the payer hands over, as a schedule of rounds.
-/
module

public import proofs.«01_k».proof.Proof.Grid

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- A slot of a device's ring buffer (forward or backward), as it is given back for the landing of that number. -/
abbrev Key : Type := Dev nD × Bool × ℕ
abbrev UX : Type := URounds (GSem nD τ sig) ℕ × (Release.USlots Key × Counters)
abbrev UU : Type := UR sig nD τ × UX

local notation "𝕄" => MT nD τ sig ℕ (Elt F) ℕ UU ℕ

abbrev EP : Emb (UR sig nD τ) (MT nD τ sig ℕ (Elt F) ℕ UU ℕ) := embL
abbrev EX : Emb UX (MT nD τ sig ℕ (Elt F) ℕ UU ℕ) := embR
abbrev ER : Emb (URounds (GSem nD τ sig) ℕ) (MT nD τ sig ℕ (Elt F) ℕ UU ℕ) := (Emb.inl : Emb _ UX).trans EX
abbrev ES : Emb (Release.USlots Key) (MT nD τ sig ℕ (Elt F) ℕ UU ℕ) :=
  (Emb.inl : Emb (Release.USlots Key) (Release.USlots Key × Counters)).trans ((Emb.inr : Emb _ UX).trans EX)
abbrev EC : UEmb Counters (MT nD τ sig ℕ (Elt F) ℕ UU ℕ) := countersEmb (U := UU)

variable (m : (ℓ : Loc nD τ sig) → Buf (Elt F) ℓ)

/-! ## Contents -/

/-- The cast of one element the kernel stages its operands with. -/
def tb (a : Elt F .f32) : Elt F .bf16 := FloatOps.truncf .bf16 bitsLt_bf16_f32 a

/-- The element of a 512 × 8192 block at a row and column, each read modulo its extent. -/
def i2 (a b : ℕ) : S512x8192.Idx := fun k =>
  match k with
  | ⟨0, _⟩ => ⟨a % 512, Nat.mod_lt _ (by decide)⟩
  | ⟨1, _⟩ => ⟨b % 8192, Nat.mod_lt _ (by decide)⟩

/-- The element at row `a`, column `b` of the rows of `x` that device `p` starts with, cast. -/
def XB (p : Dev nD) (a b : ℕ) : Elt F .bf16 := tb (m ((p : Thread nD τ).loc main_arg0) (i2 a b))
/-- The columns of `w` that device `c` starts with, cast. -/
def WB (c : Dev nD) : S8192x256.Idx → Elt F .bf16 := fun i => tb (m ((c : Thread nD τ).loc main_arg1) i)
/-- The line buffer of device `c` when every block is in: the rows of the device at each z of its own q. -/
def CB (c : Dev nD) : S2048x8192.Idx → Elt F .bf16 := fun i => XB m (mk ((i 0).val / 512) (qc c)) ((i 0).val % 512) (i 1).val
/-- A slot of the ring buffer at landing `j`: the first (forward) or second (backward) half of the rows that arrive. -/
def SR (d : Bool) (c : Dev nD) (j : ℕ) : S2x256x8192.Idx → Elt F .bf16 :=
  fun i => XB m (orig d c j) ((if d then 256 else 0) + (i 1).val) (i 2).val

/-- Indices of the stored results' shapes, by row and column. -/
def j512 (a b : ℕ) : S1x512x256.Idx := fun k =>
  match k with
  | ⟨0, _⟩ => ⟨0, Nat.one_pos⟩ | ⟨1, _⟩ => ⟨a % 512, Nat.mod_lt _ (by decide)⟩ | ⟨2, _⟩ => ⟨b % 256, Nat.mod_lt _ (by decide)⟩
def j256 (a b : ℕ) : S1x256x256.Idx := fun k =>
  match k with
  | ⟨0, _⟩ => ⟨0, Nat.one_pos⟩ | ⟨1, _⟩ => ⟨a % 256, Nat.mod_lt _ (by decide)⟩ | ⟨2, _⟩ => ⟨b % 256, Nat.mod_lt _ (by decide)⟩
def j128 (a b : ℕ) : S1x128x256.Idx := fun k =>
  match k with
  | ⟨0, _⟩ => ⟨0, Nat.one_pos⟩ | ⟨1, _⟩ => ⟨a % 128, Nat.mod_lt _ (by decide)⟩ | ⟨2, _⟩ => ⟨b % 256, Nat.mod_lt _ (by decide)⟩

/-- The product of the 512 rows of device `p` with the columns of device `c`. -/
def D512 (c p : Dev nD) : FVec F S1x512x256 .f32 := k0_pay10 (fun i => XB m p (i 0).val (i 1).val) (WB m c)
/-- The product of 256 rows of device `p`, from row `o` on. -/
def D256 (c p : Dev nD) (o : ℕ) : FVec F S1x256x256 .f32 := k0_pay11 (fun i => XB m p (o + (i 1).val) (i 2).val) (WB m c)
/-- The product of 128 rows of device `p`, from row `o` on. -/
def D128 (c p : Dev nD) (o : ℕ) : FVec F S1x128x256 .f32 := k0_pay39 (fun i => XB m p (o + (i 1).val) (i 2).val) (WB m c)

/-- Whether the half `h` of the rows of the device at `z'`, `q'` is the one that arrives at `c` last: its product is taken in
    two parts of 128 rows. -/
abbrev Last (c : Dev nD) (z' q' h : ℕ) : Prop :=
  z' = zs (zc c) 3 ∧ ((h = 0 ∧ q' = (qc c + 1) % 4) ∨ (h = 1 ∧ q' = (qc c + 3) % 4))

/-- The kernel's result on device `c`: each row block of `x` times the device's columns of `w`, by the parts in which
    the kernel takes the product. -/
def RES (c : Dev nD) : S8192x256.Idx → Elt F .f32 := fun i =>
  let z' := (i 0).val / 2048
  let q' := (i 0).val / 512 % 4
  let h := (i 0).val % 512 / 256
  if q' = qc c then D512 m c (mk z' q') (j512 ((i 0).val % 512) (i 1).val)
  else if Last c z' q' h then D128 m c (mk z' q') ((i 0).val % 512 / 128 * 128) (j128 ((i 0).val % 128) (i 1).val)
  else D256 m c (mk z' q') (h * 256) (j256 ((i 0).val % 256) (i 1).val)

/-! ## Parts of the buffers -/

/-- Rows `lo` to `lo + n - 1` of the line buffer. -/
def rowsC (lo n : ℕ) : Finset S2048x8192.Idx := Finset.univ.filter fun i => lo ≤ (i 0).val ∧ (i 0).val < lo + n
/-- Its block of 512 rows for place `z` of the line. -/
abbrev blk (z : ℕ) : Finset S2048x8192.Idx := rowsC (512 * z) 512
/-- Rows `lo` to `lo + n - 1` of slot `p` of a ring buffer. -/
def rowsR (p lo n : ℕ) : Finset S2x256x8192.Idx := Finset.univ.filter fun i => (i 0).val = p ∧ lo ≤ (i 1).val ∧ (i 1).val < lo + n
/-- Rows of the staged columns of `w`, -/
def rowsW (lo n : ℕ) : Finset S8192x256.Idx := Finset.univ.filter fun i => lo ≤ (i 0).val ∧ (i 0).val < lo + n
/-- and of a slot of the buffer of products. -/
def rowsB (p lo n : ℕ) : Finset S2x1024x256.Idx := Finset.univ.filter fun i => (i 0).val = p ∧ lo ≤ (i 1).val ∧ (i 1).val < lo + n

def colPts (c : Dev nD) (I : Finset S2048x8192.Idx) (q : PosShare TreeShare) (X : S2048x8192.Idx → Elt F .bf16) : sProp 𝕄 :=
  ((c : Thread nD τ).loc cc0_scratch0) ↦[I]{q} X
def ringPts (d : Bool) (c : Dev nD) (I : Finset S2x256x8192.Idx) (q : PosShare TreeShare) (X : S2x256x8192.Idx → Elt F .bf16) : sProp 𝕄 :=
  match d with
  | false => ((c : Thread nD τ).loc cc0_scratch1) ↦[I]{q} X
  | true => ((c : Thread nD τ).loc cc0_scratch2) ↦[I]{q} X
def wbPts (c : Dev nD) (I : Finset S8192x256.Idx) (X : S8192x256.Idx → Elt F .bf16) : sProp 𝕄 :=
  ((c : Thread nD τ).loc cc0_scratch3) ↦[I]{fullShare} X
def obPts (c : Dev nD) (I : Finset S2x1024x256.Idx) (X : S2x1024x256.Idx → Elt F .f32) : sProp 𝕄 :=
  ((c : Thread nD τ).loc cc0_scratch6) ↦[I]{fullShare} X
def outPts (c : Dev nD) (I : Finset S8192x256.Idx) (X : S8192x256.Idx → Elt F .f32) : sProp 𝕄 :=
  ((c : Thread nD τ).loc main_v1) ↦[I]{fullShare} X

/-- The same at whatever contents. -/
def exC (c : Dev nD) (I : Finset S2048x8192.Idx) : sProp 𝕄 := iprop(∃ X, colPts (F := F) c I fullShare X)
def exR (d : Bool) (c : Dev nD) (I : Finset S2x256x8192.Idx) : sProp 𝕄 := iprop(∃ X, ringPts (F := F) d c I fullShare X)

omit [FloatOps F] in
instance colPts_storable (c : Dev nD) (I q X) : BI.Storable (upEmb : UEmb _ 𝕄) (colPts (F := F) c I q X) := by unfold colPts; infer_instance
omit [FloatOps F] in
instance ringPts_storable (d : Bool) (c : Dev nD) (I q X) : BI.Storable (upEmb : UEmb _ 𝕄) (ringPts (F := F) d c I q X) := by
  cases d <;> (unfold ringPts; infer_instance)
omit [FloatOps F] in
instance obPts_storable (c : Dev nD) (I X) : BI.Storable (upEmb : UEmb _ 𝕄) (obPts (F := F) c I X) := by unfold obPts; infer_instance
omit [FloatOps F] in
instance outPts_storable (c : Dev nD) (I X) : BI.Storable (upEmb : UEmb _ 𝕄) (outPts (F := F) c I X) := by unfold outPts; infer_instance
omit [FloatOps F] in
instance exC_storable (c : Dev nD) (I) : BI.Storable (upEmb : UEmb _ 𝕄) (exC (F := F) c I) := by unfold exC; infer_instance
omit [FloatOps F] in
instance exR_storable (d : Bool) (c : Dev nD) (I) : BI.Storable (upEmb : UEmb _ 𝕄) (exR (F := F) d c I) := by unfold exR; infer_instance

/-! ## The payloads -/

/-- The step, within a hop, of the transfer of half `s` in direction `d`. -/
abbrev si (d : Bool) (s : ℕ) : ℕ := 2 + (if d then 1 else 0) + 2 * s

/-- What device `e` lets the device sending to it know at the end of hop `h`: that the slot of the landing `h + 1` is given
    back, and that both receive semaphores of that landing are at its round. -/
def fact (d : Bool) (e : Dev nD) (h : ℕ) : sProp 𝕄 :=
  iprop(Release.released (ES (F := F)) ((e, d, h + 1) : Key) 1
    ∗ reached (ER (F := F)) (cell e (kx (st (h + 1) (si d 0)))) (rnd (st (h + 1) (si d 0)))
    ∗ reached (ER (F := F)) (cell e (kx (st (h + 1) (si d 1)))) (rnd (st (h + 1) (si d 1))))
/-- All it has let it know up to hop `H`: what a credit carries. -/
def crPay (d : Bool) (e : Dev nD) (H : ℕ) : sProp 𝕄 := bigSep (Finset.range (H + 1)) (fact (F := F) d e)

omit [FloatOps F] in
instance fact_persistent (d : Bool) (e : Dev nD) (h : ℕ) : BI.Persistent (fact (F := F) d e h) := by unfold fact; infer_instance
omit [FloatOps F] in
instance fact_storable (d : Bool) (e : Dev nD) (h : ℕ) : BI.Storable (upEmb : UEmb _ 𝕄) (fact (F := F) d e h) := by unfold fact; infer_instance
omit [FloatOps F] in
instance crPay_persistent (d : Bool) (e : Dev nD) (h : ℕ) : BI.Persistent (crPay (F := F) d e h) := by unfold crPay; infer_instance
omit [FloatOps F] in
instance crPay_storable (d : Bool) (e : Dev nD) (h : ℕ) : BI.Storable (upEmb : UEmb _ 𝕄) (crPay (F := F) d e h) := by unfold crPay; infer_instance

/-- What device `c` is handed at step `i` of hop `H`. -/
def payh (H i : ℕ) (c : Dev nD) : sProp 𝕄 :=
  match i with
  | 0 => colPts c (blk (zc c - 1 - H / 3)) fullShare (CB m c)
  | 1 => colPts c (blk (zc c + 1 + H / 3)) fullShare (CB m c)
  | 2 => ringPts false c (rowsR ((H + 1) % 2) 0 128) fullShare (SR m false c H)
  | 3 => ringPts true c (rowsR ((H + 1) % 2) 0 128) fullShare (SR m true c H)
  | 4 => ringPts false c (rowsR ((H + 1) % 2) 128 128) fullShare (SR m false c H)
  | 5 => ringPts true c (rowsR ((H + 1) % 2) 128 128) fullShare (SR m true c H)
  | 6 => crPay false (rightD c) H
  | _ => crPay true (leftD c) H

/-- What device `c` is handed at its entry barrier: by its right its forward slot 1, by its left its backward slot 1, by the
    device below the blocks of its line buffer that come from above, by the device above those that come from below. -/
def bpay (t : ℕ) (c : Dev nD) : sProp 𝕄 :=
  match t with
  | 0 => exR false (rightD c) (rowsR 1 0 256)
  | 1 => exR true (leftD c) (rowsR 1 0 256)
  | 2 => bigSep (Finset.range (4 - zc c)) fun r => exC (downD c) (blk (zc c + r))
  | _ => bigSep (Finset.range (zc c + 1)) fun r => exC (upD c) (blk (zc c - r))

/-- What device `c` is handed at the step. -/
def Pay (t : ℕ) (c : Dev nD) : sProp 𝕄 := if t < 4 then bpay t c else payh m ((t - 4) / 8) ((t - 4) % 8) c

theorem Pay_st {H i : ℕ} (h : i < 8) (c : Dev nD) : Pay m (st H i) c = payh m H i c := by
  unfold Pay; rw [if_neg (st_not_lt H i), st_div h, st_mod h]

instance Pay_storable (t : ℕ) (c : Dev nD) : BI.Storable (upEmb : UEmb _ 𝕄) (Pay (F := F) m t c) := by
  unfold Pay bpay payh
  (repeat' split) <;> infer_instance

/-! ## The schedule -/

/-- The duties of a semaphore in a round are the steps that pay it in that round. -/
def Rd : Rounds.Schedule (GSem nD τ sig) ℕ 𝕄 where
  duties g r := (Finset.range T).filter fun t => g.1.2 = .tc ∧ psem (kx t) = g.2 ∧ rnd t = r ∧ 0 < amt t ((pi t).symm g.1.1)
  unitless _ := False
  amount g _ t := amt t ((pi t).symm g.1.1)
  payload g _ t := Pay m t g.1.1
  amount_pos g r t h := (Finset.mem_filter.mp h).2.2.2.2

instance Rd_payload_storable (g : GSem nD τ sig) (r : ℕ) (t : ℕ) :
    BI.Storable (upEmb : UEmb _ 𝕄) ((Rd (F := F) m).payload g r t) := by
  show BI.Storable upEmb (Pay m t g.1.1); infer_instance

/-- A payer's step is a duty of the semaphore it pays. -/
theorem duty_mem {t : ℕ} (ht : t < T) {d : Dev nD} (ha : 0 < amt t d) :
    t ∈ (Rd (F := F) m).duties (cell (pi t d) (kx t)) (rnd t) := by
  dsimp only [Rd]
  refine Finset.mem_filter.mpr ⟨Finset.mem_range.mpr ht, rfl, rfl, rfl, ?_⟩
  simpa using ha
theorem duty_amount (t : ℕ) (d : Dev nD) (r : ℕ) : (Rd (F := F) m).amount (cell (pi t d) (kx t)) r t = amt t d := by
  dsimp only [Rd]; simp

/-- What device `c` is owed at the step. -/
abbrev amtI (t : ℕ) (c : Dev nD) : ℕ := amt t ((pi t).symm c)

/-- A step of its own round, taken, is the only duty there. -/
theorem duties_single {t : ℕ} (ht : t < T) (hs : Single t) {c : Dev nD} (ha : 0 < amtI t c) :
    (Rd (F := F) m).duties (cell c (kx t)) (rnd t) = {t} := by
  dsimp only [Rd]
  ext s
  rw [Finset.mem_filter, Finset.mem_range, Finset.mem_singleton]
  refine ⟨fun ⟨h1, _, h3, h4, h5⟩ => ?_, fun h => by subst h; exact ⟨ht, rfl, rfl, rfl, ha⟩⟩
  rcases single_uniq ⟨t, ht⟩ ⟨s, h1⟩ hs (psem_inj h3) h4 with h | ⟨h6, h7, h8, h9⟩
  · exact congrArg Fin.val h
  · exfalso
    dsimp only at h6 h7 h8 h9
    have hz : ∀ (u : ℕ) (e : Dev nD), 4 ≤ u → (u - 4) % 8 < 2 → 0 < amt u e → (u - 4) / 8 % 3 = 0 ∧ (u - 4) / 8 < 9 := by
      intro u e hu hm hp
      unfold amt at hp
      rw [if_neg (by omega)] at hp
      exact amth_line hm hp
    have e1 := hz s _ h6 h7 h5
    have e2 := hz t _ hs.1 h8 ha
    omega

theorem expect_single {t : ℕ} (ht : t < T) (hs : Single t) {c : Dev nD} (ha : 0 < amtI t c) :
    (Rd (F := F) m).expect (cell c (kx t)) (rnd t) = amtI t c := by
  unfold Schedule.expect Schedule.amountOf
  rw [duties_single m ht hs ha, Finset.sum_singleton]; rfl

theorem rest_single {t : ℕ} (ht : t < T) (hs : Single t) {c : Dev nD} (ha : 0 < amtI t c) :
    bigSep ((Rd (F := F) m).duties (cell c (kx t)) (rnd t) \ ∅) (fun d => (Rd (F := F) m).payload (cell c (kx t)) (rnd t) d) = Pay m t c := by
  rw [Finset.sdiff_empty, duties_single m ht hs ha, bigSep_singleton]; rfl

/-! ## What is owed; the levels -/

theorem ico_step {t n : ℕ} (h : t < n) : Finset.Ico t n = insert t (Finset.Ico (t + 1) n) := by
  ext s; rw [Finset.mem_insert, Finset.mem_Ico, Finset.mem_Ico]; omega

/-- What device `c` owes from step `t` on. -/
def OT (c : Dev nD) (t : ℕ) : CellTallies nD τ sig ℕ := ∑ s ∈ Finset.Ico t T, tallyAt (cell (pi s c) (kx s)) (ix s) (amt s c)

/-- The tags in use; the level of a tag is its number. -/
def L (g : GSem nD τ sig) : Finset ℕ := if g.1.2 = .tc then Finset.range 200 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 200 := if_pos rfl

theorem OT_step (c : Dev nD) {t : ℕ} (h : t < T) : OT c t = OT c (t + 1) + tallyAt (cell (pi t c) (kx t)) (ix t) (amt t c) := by
  unfold OT; rw [ico_step h, Finset.sum_insert (by simp), add_comm]
theorem OT_skip (c : Dev nD) {t : ℕ} (h : t < T) (h0 : amt t c = 0) : OT c t = OT c (t + 1) := by
  rw [OT_step c h, h0, tallyAt_zero, add_zero]
theorem OT_last (c : Dev nD) : OT c T = 0 := by unfold OT; rw [Finset.Ico_self, Finset.sum_empty]

theorem OT_pos {c : Dev nD} {t : ℕ} {g : GSem nD τ sig} {u : ℕ} (h : 0 < OT c t g u) :
    ∃ s, t ≤ s ∧ s < T ∧ g = cell (pi s c) (kx s) ∧ u = ix s := by
  unfold OT at h
  rw [Finset.sum_apply, Finsupp.finset_sum_apply] at h
  obtain ⟨s, hs, hne⟩ := Finset.exists_ne_zero_of_sum_ne_zero (Nat.pos_iff_ne_zero.mp h)
  rw [tallyAt_apply] at hne
  by_cases hh : g = cell (pi s c) (kx s) ∧ u = ix s
  · exact ⟨s, (Finset.mem_Ico.mp hs).1, (Finset.mem_Ico.mp hs).2, hh.1, hh.2⟩
  · rw [if_neg hh] at hne; exact absurd rfl hne

omit [FloatOps F] in
/-- A device that owes the steps from `t` on may wait at any tag up to `t`. -/
theorem mayWait (c : Dev nD) (sm : SemLoc sig) {i t : ℕ} (ht : 4 ≤ t) (hi : i ≤ t) (hi' : i < 200) :
    (levAts L lv : sProp 𝕄) ⊢ MayWait (c : Thread nD τ) sm i (OT c t) := by
  refine MayOwe.of_cut (L := L) (lev := lv) i (fun p hp => by rw [Finset.mem_singleton.mp hp, L_tc]; exact Finset.mem_range.mpr hi') ?_ ?_ ?_
  · intro g u hg
    obtain ⟨s, h1, h2, rfl, rfl⟩ := OT_pos hg
    rw [L_tc]; refine Finset.mem_range.mpr ?_
    have hT : T = 100 := rfl
    unfold ix; split <;> omega
  · intro p hp; rw [Finset.mem_singleton.mp hp]; exact le_refl _
  · intro g u hg
    obtain ⟨s, h1, h2, rfl, rfl⟩ := OT_pos hg
    show i < ix s
    unfold ix; rw [if_neg (by omega)]; omega

end Cert.KernelIdeal.Gather

end
-- ==== Proof.Ops.lean ====
/-
  One operation at a time: a transfer to another device, a signal, the waits, the transfers inside a device. Each is stated
  over what the device still has to pay (`fuel`) and the standing facts of the run (`Ctx`).
-/
module

public import proofs.«01_k».proof.Proof.Sched

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

section Big
variable {M : Type} [URA M] {I : Type} [DecidableEq I]
/-- A member of a family. -/
theorem big_at {s : Finset I} {i : I} (h : i ∈ s) {Φ : I → sProp M} : (bigSep s Φ : sProp M) ⊢ Φ i := bigSep_elim h
/-- A family, one member apart. -/
theorem big_insert {s : Finset I} {i : I} (h : i ∉ s) {Φ : I → sProp M} : (bigSep (insert i s) Φ : sProp M) = iprop(Φ i ∗ bigSep s Φ) := bigSep_insert h
theorem big_union {s t : Finset I} (h : Disjoint s t) {Φ : I → sProp M} : (bigSep (s ∪ t) Φ : sProp M) = iprop(bigSep s Φ ∗ bigSep t Φ) := bigSep_union h
theorem big_ico {Φ : ℕ → sProp M} {a b : ℕ} (h : a < b) : (bigSep (Finset.Ico a b) Φ : sProp M) = iprop(Φ a ∗ bigSep (Finset.Ico (a + 1) b) Φ) := by
  rw [ico_step h]; exact bigSep_insert (by simp)
theorem big_range {Φ : ℕ → sProp M} {n : ℕ} : (bigSep (Finset.range (n + 1)) Φ : sProp M) = iprop(Φ n ∗ bigSep (Finset.range n) Φ) := by
  rw [Finset.range_add_one]; exact bigSep_insert (by simp)
end Big

abbrev 𝒱₀ : Variants := Variants.none

/-- Device `c` runs the program `p` to the postcondition `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)
variable (K : Dev nD × Fin 17 → ℕ) (ks : Key → ℕ)

/-! ## The standing facts -/

/-- The ring slots that are given back during the run: those of the landings 1 to 11. -/
def keys : Finset Key := Finset.univ ×ˢ (Finset.univ ×ˢ Finset.Ico 1 12)
/-- The slot itself. -/
def Sl (k : Key) : sProp 𝕄 := exR (F := F) k.2.1 k.1 (rowsR ((k.2.2 + 1) % 2) 0 256)

omit [FloatOps F] in
instance Sl_storable (k : Key) : BI.Storable (upEmb : UEmb _ 𝕄) (Sl (F := F) k) := by unfold Sl; infer_instance

/-- What every device knows: the semaphores' and the slots' invariants, that every semaphore has begun, the levels. -/
def Ctx : sProp 𝕄 :=
  iprop((bigSep Finset.univ fun x : Dev nD × Fin 17 => cellInv (ER (F := F)) (Rd m) (K x) (cell x.1 x.2))
    ∗ (bigSep Finset.univ fun x : Dev nD × Fin 17 => reached (ER (F := F)) (cell x.1 x.2) 0)
    ∗ (bigSep keys fun k => Release.slotInv (ES (F := F)) (ks k) k (Sl k))
    ∗ levAts L lv)

instance Ctx_persistent : BI.Persistent (Ctx (F := F) m K ks) := by unfold Ctx; infer_instance

theorem Ctx_cell (c : Dev nD) (k : Fin 17) : Ctx (F := F) m K ks ⊢ cellInv (ER (F := F)) (Rd m) (K (c, k)) (cell c k) := by
  unfold Ctx; iintro ⟨H, -⟩
  iapply (big_at (Finset.mem_univ (c, k))) $$ H
theorem Ctx_reached (c : Dev nD) (k : Fin 17) : Ctx (F := F) m K ks ⊢ reached (ER (F := F)) (cell c k) 0 := by
  unfold Ctx; iintro ⟨-, H, -⟩
  iapply (big_at (Finset.mem_univ (c, k))) $$ H
theorem mem_keys {d : Dev nD} {b : Bool} {j : ℕ} (h1 : 1 ≤ j) (h2 : j < 12) : ((d, b, j) : Key) ∈ keys :=
  Finset.mem_product.mpr ⟨Finset.mem_univ _, Finset.mem_product.mpr ⟨Finset.mem_univ _, Finset.mem_Ico.mpr ⟨h1, h2⟩⟩⟩
theorem Ctx_slot {k : Key} (h : k ∈ keys) : Ctx (F := F) m K ks ⊢ Release.slotInv (ES (F := F)) (ks k) k (Sl k) := by
  unfold Ctx; iintro ⟨-, -, H, -⟩
  iapply (big_at h) $$ H
theorem Ctx_mayWait (c : Dev nD) (sm : SemLoc sig) {i t : ℕ} (ht : 4 ≤ t) (hi : i ≤ t) (hi' : i < 200) :
    Ctx (F := F) m K ks ⊢ MayWait (c : Thread nD τ) sm i (OT c t) := by
  unfold Ctx; iintro ⟨-, -, -, H⟩
  iapply (mayWait (F := F) c sm ht hi hi') $$ H

/-! ## What a device holds for its steps -/

/-- The right to pay the step. -/
def tokS (c : Dev nD) (t : ℕ) : sProp 𝕄 := dutyTok (ER (F := F)) (cell (pi t c) (kx t)) (rnd t) t
/-- The credit for what the device is paid at the step. -/
def credS (c : Dev nD) (t : ℕ) : sProp 𝕄 := cred (tallyAt (cell c (kx t)) (ix t) (amtI t c))
/-- That the device's semaphore of the step is at the step's round. -/
def posS (c : Dev nD) (t : ℕ) : sProp 𝕄 := atPos (ER (F := F)) (cell c (kx t)) (rnd t) ∅ 0
/-- What the device has still to pay from step `t` on, and the rights to. -/
def fuel (c : Dev nD) (t : ℕ) : sProp 𝕄 := iprop((∃ W, owes (c : Thread nD τ) (OT c t) W) ∗ bigSep (Finset.Ico t T) (tokS (F := F) c))

omit [FloatOps F] in
theorem fuel_take (c : Dev nD) {t : ℕ} (h : t < T) :
    fuel (F := F) c t ⊢ iprop((∃ W, owes (c : Thread nD τ) (OT c t) W) ∗ tokS (F := F) c t ∗ bigSep (Finset.Ico (t + 1) T) (tokS (F := F) c)) := by
  unfold fuel
  rw [ico_step h, bigSep_insert (by simp)]
  exact Entails.rfl

omit [FloatOps F] in
/-- A step that is not taken. -/
theorem fuel_skip (c : Dev nD) {t : ℕ} (h : t < T) (h0 : amt t c = 0) : fuel (F := F) c t ⊢ fuel (F := F) c (t + 1) := by
  refine (fuel_take c h).trans ?_
  iintro ⟨HO, -, HT⟩
  unfold fuel
  rw [← OT_skip c h h0]
  isplitl [HO]; · iexact HO
  iexact HT

/-! ## A transfer to another device -/

variable {α : Type} {sp sp' : Space} {s s' : Shape} {e e' : EltTy}

/-- A transfer to another device at step `t`: the source comes back from its send semaphore, the destination goes to the receiver. -/
theorem pay_dma {Q : α → sProp 𝕄} {c n : Dev nD} {t : ℕ} (ht : t < T) (hn : n = pi t c) {N : ℕ} (hN0 : 0 < N) (ha : amt t c = N)
    {src : Memref sig .tc sp s e} {dst : Memref sig (Dev.tc n : Thread nD τ).2.kind sp' s e} {hsc : dst.view.ref.isScScratch = false}
    {sS sem : DmaSem sig} {hsrc : src.view.WordExact} {hdst : dst.view.WordExact}
    {hsem : DmaTarget.Typed sp (.dma sem) (.remote (Dev.tc n : Thread nD τ) dst (.dma sS) hsc)}
    {k : PUnit → Prog (TpuEff nD τ sig (Elt F) Λ₀ .tc) α} {q : PosShare TreeShare}
    {fs : Buf (Elt F) (src.view.loc (c : Thread nD τ))} {fd : Buf (Elt F) (dst.view.loc (n : Thread nD τ))}
    (hS : SemLoc.dma sem = psem (kx t)) (hN : dst.view.amount (.dma sem) = N)
    (hpay : (dst.view.loc (n : Thread nD τ) ↦[dst.view.set]{fullShare} (dst.view.write (Elt F) fd (src.view.read (Elt F) fs) Finset.univ)) ⊢ Pay m t n) :
    iprop(Ctx m K ks ∗ fuel c t ∗ reached (ER (F := F)) (cell n (kx t)) (rnd t) ∗ semVal ((c : Thread nD τ), .dma sS) 0
        ∗ (src.view.loc (c : Thread nD τ) ↦[src.view.set]{q} fs) ∗ (dst.view.loc (n : Thread nD τ) ↦[dst.view.set]{fullShare} fd))
      ⊢ iprop(((fuel c (t + 1) ∗ Flight EC (c : Thread nD τ) (.dma sS) 0 N (src.view.loc (c : Thread nD τ) ↦[src.view.set]{q} fs)) -∗ WP c (k ⟨⟩) Q)
          -∗ WP c (.op (.enqueueDma src (.remote (Dev.tc n : Thread nD τ) dst (.dma sS) hsc) (.dma sem) hsrc hdst hsem) k) Q) := by
  subst hn
  iintro ⟨#HC, Hf, #Hr, Hv, Hs, Hd⟩ Hk
  ihave Hf := (fuel_take c ht) $$ Hf
  icases Hf with ⟨⟨%W, HO⟩, Ht, HT⟩
  ihave HI := (Ctx_cell m K ks (pi t c) (kx t)) $$ HC
  imod (flight_alloc EC hN0 (iprop(src.view.loc (c : Thread nD τ) ↦[src.view.set]{q} fs)) (g := ((c : Thread nD τ), .dma sS)) (E := Set.univ)) $$ Hv
    with ⟨%γ, %δ, %κ, #Hinv, Hγ, Hδ⟩
  have hO : OT c t = OT c (t + 1) + tallyAt ((Dev.tc (pi t c) : Thread nD τ), SemLoc.dma sem) (ix t) N := by rw [OT_step c ht, ha, hS]
  iapply (wp_enqueueDma_remote_pointsTo 𝒱₀ (c : Thread nD τ) none Set.univ (ix t) 0 (OT c (t + 1)) N hN hO) $$ [Hs Hd HO] [Hγ] [Ht]
  · isplitl [Hs]; · iexact Hs
    isplitl [Hd] <;> iassumption
  · iapply (flight_creditUpdate EC (δ := δ))
    isplitr; · iexact Hinv
    iexact Hγ
  · rw [hS]
    rw [show N = (Rd (F := F) m).amount (cell (pi t c) (kx t)) (rnd t) t from (ha.symm.trans (duty_amount m t c _).symm)]
    iapply (land_credit ER (Rd m) (κ := K (pi t c, kx t)) (duty_mem m ht (by omega)) hpay)
    isplitr; · iexact HI
    isplitl [Ht]; · unfold tokS; iexact Ht
    iexact Hr
  iintro ⟨Hc, HO⟩
  iapply Hk
  isplitl [HO HT]
  · unfold fuel; isplitl [HO]; · iexists W; iexact HO
    iexact HT
  iapply (flight_intro EC (c : Thread nD τ) (κ := κ))
  isplitr; · iexact Hinv
  isplitl [Hδ] <;> iassumption

/-! ## A signal -/

/-- A signal at step `t`: what the step hands over goes with it. -/
theorem pay_signal {Q : α → sProp 𝕄} {c n : Dev nD} {t : ℕ} (ht : t < T) (hn : n = pi t c) (ha : amt t c = 1)
    {sem : Sem sig} {k : PUnit → Prog (TpuEff nD τ sig (Elt F) Λ₀ .tc) α}
    (hS : SemLoc.reg sem = psem (kx t)) (hr0 : rnd t = 0) :
    iprop(Ctx m K ks ∗ fuel c t ∗ Pay m t n)
      ⊢ iprop((fuel c (t + 1) -∗ WP c (k ⟨⟩) Q) -∗ WP c (.op (.semSignal (Dev.tc n : Thread nD τ) sem 1) k) Q) := by
  subst hn
  iintro ⟨#HC, Hf, Hp⟩ Hk
  ihave Hf := (fuel_take c ht) $$ Hf
  icases Hf with ⟨⟨%W, HO⟩, Ht, HT⟩
  have hg : ((Dev.tc (pi t c) : Thread nD τ), SemLoc.reg sem) = cell (pi t c) (kx t) := by rw [hS]
  have hd := duty_mem (F := F) m ht (d := c) (by omega)
  have hA := duty_amount (F := F) m t c (rnd t)
  have hO : OT c t = OT c (t + 1) + tallyAt ((Dev.tc (pi t c) : Thread nD τ), SemLoc.reg sem) (ix t) 1 := by rw [OT_step c ht, ha, hg]
  iapply (Rounds.wp_signal 𝒱₀ ER (Rd m) (c : Thread nD τ) none (dst := (Dev.tc (pi t c) : Thread nD τ)) (sem := sem) (κ := K (pi t c, kx t)) (r := rnd t)
      (d := t) (k' := 1) (by rw [hg]; exact hd) (by rw [hg, hA, ha]) (ix t) (OT c (t + 1)) hO) $$ [HO Ht Hp]
  · rw [hg, show (Rd (F := F) m).payload (cell (pi t c) (kx t)) (rnd t) t = Pay m t (pi t c) from rfl]
    isplitr; · iapply (Ctx_cell m K ks (pi t c) (kx t)) $$ HC
    isplitl [HO]; · iexact HO
    isplitl [Ht]; · unfold tokS; iexact Ht
    isplitl [Hp]; · iexact Hp
    rw [hr0]; iapply (Ctx_reached m K ks (pi t c) (kx t)) $$ HC
  iintro HO
  iapply Hk
  unfold fuel; isplitl [HO]; · iexists W; iexact HO
  iexact HT

/-! ## The waits -/

/-- The wait for what another device transfers at step `t`. -/
theorem recv_wait {Q : α → sProp 𝕄} {c : Dev nD} {t u : ℕ} (ht : t < T) (hs : Single t) (hu : ix t ≤ u) (hu4 : 4 ≤ u) {N : ℕ} (hN0 : 0 < N) (ha : amtI t c = N)
    {sem : DmaSem sig} {srcw : Memref sig .tc sp' s' e'} {dstw : Memref sig .tc sp s e} {hsrc : srcw.view.WordExact} {hdst : dstw.view.WordExact}
    {k : PUnit → Prog (TpuEff nD τ sig (Elt F) Λ₀ .tc) α}
    (hS : SemLoc.dma sem = psem (kx t)) (hN : dstw.view.dmaCredit = N) :
    iprop(Ctx m K ks ∗ fuel c u ∗ credS c t ∗ posS c t)
      ⊢ iprop(((fuel c u ∗ Pay m t c ∗ atPos (ER (F := F)) (cell c (kx t)) (rnd t + 1) ∅ 0 ∗ reached (ER (F := F)) (cell c (kx t)) (rnd t + 1)) -∗ WP c (k ⟨⟩) Q)
          -∗ WP c (.op (.waitDma2 sem srcw dstw hsrc hdst) k) Q) := by
  iintro ⟨#HC, Hf, Hc, Hp⟩ Hk
  unfold fuel credS posS
  icases Hf with ⟨⟨%W, HO⟩, HT⟩
  have hg : ((c : Thread nD τ), SemLoc.dma sem) = cell c (kx t) := by rw [hS]
  have hE := expect_single (F := F) m ht hs (c := c) (by omega)
  have hR := rest_single (F := F) m ht hs (c := c) (by omega)
  have hix : ix t < 200 := by
    have hT : T = 100 := rfl
    unfold ix; split <;> omega
  iapply (Rounds.wp_wait_rest_token 𝒱₀ ER (Rd m) (c : Thread nD τ) none (κ := K (c, kx t))
      (wpE_waitDma2_eq 𝒱₀ (c : Thread nD τ) none Set.univ) (Set.mem_univ _) (ix t) (O := OT c u) (W := W) (R := rnd t) (m := 0) (T := ∅)
      (by rw [hg, hE, hN, ha, Nat.zero_add])) $$ [Hc HO Hp]
  · rw [hg, hN, ← ha]
    isplitr; · iapply (Ctx_cell m K ks c (kx t)) $$ HC
    isplitl [Hc]; · iexact Hc
    isplitl [HO]; · iexact HO
    isplitr
    · iapply (Ctx_mayWait m K ks c (.dma sem) hu4 hu hix) $$ HC
    iexact Hp
  rw [hg]
  iintro ⟨HO, Hat, Hre, Hpay⟩
  iapply Hk
  isplitl [HO HT]
  · isplitl [HO]; · iexists _; iexact HO
    iexact HT
  isplitl [Hpay]; · iapply (Entails.of_eq hR) $$ Hpay
  isplitl [Hat] <;> iassumption

/-- The wait for a transfer the device has issued itself. -/
theorem own_wait {Q : α → sProp 𝕄} {c : Dev nD} {u : ℕ} (hu4 : 4 ≤ u) {N : ℕ}
    {sem : DmaSem sig} {srcw : Memref sig .tc sp' s' e'} {dstw : Memref sig .tc sp s e} {hsrc : srcw.view.WordExact} {hdst : dstw.view.WordExact}
    {k : PUnit → Prog (TpuEff nD τ sig (Elt F) Λ₀ .tc) α} {D : sProp 𝕄} (hN : dstw.view.dmaCredit = N) :
    iprop(Ctx m K ks ∗ fuel c u ∗ Flight EC (c : Thread nD τ) (.dma sem) 0 N D)
      ⊢ iprop(((fuel c u ∗ D ∗ semVal ((c : Thread nD τ), .dma sem) 0) -∗ WP c (k ⟨⟩) Q)
          -∗ WP c (.op (.waitDma2 sem srcw dstw hsrc hdst) k) Q) := by
  iintro ⟨#HC, Hf, HF⟩ Hk
  unfold fuel
  icases Hf with ⟨⟨%W, HO⟩, HT⟩
  iapply (wp_waitLocalO EC 𝒱₀ (c : Thread nD τ) none 0 hN (O := OT c u) (W := W)) $$ [HF HO]
  · isplitl [HF]; · iexact HF
    isplitl [HO]; · iexact HO
    iapply (Ctx_mayWait m K ks c (.dma sem) hu4 (Nat.zero_le u) (by omega)) $$ HC
  iintro ⟨HD, Hv, HO⟩
  iapply Hk
  isplitl [HO HT]
  · isplitl [HO]; · iexists _; iexact HO
    iexact HT
  isplitl [HD] <;> iassumption

/-! ## The credits -/

/-- The semaphore of the credits that device `c` gets for direction `d`, and their step. -/
abbrev kc (d : Bool) : Fin 17 := if d then 16 else 15
abbrev sc (d : Bool) : ℕ := if d then 7 else 6

theorem kxh_sc (d : Bool) (H : ℕ) : kxh H (sc d) = kc d := by cases d <;> rfl
theorem kx_sc (d : Bool) (H : ℕ) : kx (st H (sc d)) = kc d := by rw [kx_st (by cases d <;> decide), kxh_sc]
theorem rnd_sc (d : Bool) (H : ℕ) : rnd (st H (sc d)) = 0 := by rw [rnd_st (by cases d <;> decide)]; cases d <;> rfl
theorem Pay_sc (d : Bool) (H : ℕ) (c : Dev nD) : Pay m (st H (sc d)) c = crPay d (nbr d c) H := by
  rw [Pay_st m (by cases d <;> decide)]; cases d <;> rfl
theorem amtI_sc (d : Bool) {H : ℕ} (h : H < 11) (c : Dev nD) : amtI (st H (sc d)) c = 1 := by
  unfold amtI; rw [amt_st (by cases d <;> decide)]; cases d <;> exact if_pos h

/-- The steps that pay a credit semaphore. -/
abbrev cduties (d : Bool) : Finset ℕ := (Finset.range 11).image fun h => st h (sc d)

theorem kc_of : ∀ t : Fin 100, ∀ d : Bool, kx t.val = kc d → ∃ h : Fin 12, t.val = st h.val (sc d) := by decide +kernel

theorem duties_sc (d : Bool) (c : Dev nD) : (Rd (F := F) m).duties (cell c (kc d)) 0 = cduties d := by
  dsimp only [Rd]
  ext t
  rw [Finset.mem_filter, Finset.mem_range, Finset.mem_image]
  constructor
  · rintro ⟨h1, _, h3, _, h5⟩
    obtain ⟨h, hh⟩ := kc_of ⟨t, h1⟩ d (psem_inj h3)
    dsimp only at hh
    refine ⟨h.val, Finset.mem_range.mpr ?_, hh.symm⟩
    by_contra hn
    rw [hh, amt_st (by cases d <;> decide)] at h5
    cases d <;> (unfold amth at h5; simp only [if_neg hn] at h5; exact absurd h5 (lt_irrefl 0))
  · rintro ⟨h, hh, rfl⟩
    have hh := Finset.mem_range.mp hh
    have hs : sc d < 8 := by cases d <;> decide
    refine ⟨by have hT : T = 100 := rfl; unfold st; omega, rfl, congrArg psem (kx_sc d h), rnd_sc d h, ?_⟩
    have := amtI_sc d hh c
    unfold amtI at this; rw [this]; exact Nat.one_pos

theorem expect_sc (d : Bool) (c : Dev nD) : (Rd (F := F) m).expect (cell c (kc d)) 0 = 11 := by
  unfold Schedule.expect Schedule.amountOf
  rw [duties_sc m d c]
  rw [Finset.sum_congr rfl (g := fun _ => 1)]
  · cases d <;> decide
  · intro t ht
    obtain ⟨h, hh, rfl⟩ := Finset.mem_image.mp ht
    exact amtI_sc d (Finset.mem_range.mp hh) c

/-- Among `n` of them there is one of a hop from `n - 1` on. -/
theorem pigeon {d : Bool} {S : Finset ℕ} {n : ℕ} (hS : S ⊆ cduties d) (hc : n ≤ S.card) (hn : 1 ≤ n) :
    ∃ h, st h (sc d) ∈ S ∧ n - 1 ≤ h ∧ h < 11 := by
  by_contra hne
  have : S ⊆ (Finset.range (n - 1)).image fun h => st h (sc d) := by
    intro t ht
    obtain ⟨h, hh, rfl⟩ := Finset.mem_image.mp (hS ht)
    refine Finset.mem_image.mpr ⟨h, Finset.mem_range.mpr ?_, rfl⟩
    by_contra hlt
    exact hne ⟨h, ht, by omega, Finset.mem_range.mp hh⟩
  have h1 := Finset.card_le_card this
  have h2 := Finset.card_image_le (s := Finset.range (n - 1)) (f := fun h => st h (sc d))
  rw [Finset.card_range] at h2
  omega

/-- What a step that pays a credit semaphore hands over. -/
abbrev crAt (d : Bool) (c : Dev nD) (t : ℕ) : sProp 𝕄 := crPay (F := F) d (nbr d c) ((t - 4) / 8)

theorem payload_sc (d : Bool) (c : Dev nD) {t : ℕ} (ht : t ∈ cduties d) :
    (Rd (F := F) m).payload (cell c (kc d)) 0 t = crAt d c t := by
  obtain ⟨h, hh, rfl⟩ := Finset.mem_image.mp ht
  show Pay m _ c = _
  rw [Pay_sc]; unfold crAt; rw [st_div (by cases d <;> decide)]

omit [FloatOps F] in
theorem fact_of {d : Bool} {c : Dev nD} {S : Finset ℕ} {n : ℕ} (hS : S ⊆ cduties d) (hc : n ≤ S.card) (hn : 1 ≤ n) :
    bigSep S (crAt (F := F) d c) ⊢ fact d (nbr d c) (n - 1) := by
  obtain ⟨h, h1, h2, h3⟩ := pigeon hS hc hn
  iintro H
  ihave H := (big_at (Φ := crAt (F := F) d c) h1) $$ H
  unfold crAt crPay
  rw [st_div (by cases d <;> decide)]
  iapply (big_at (Φ := fact (F := F) d (nbr d c)) (Finset.mem_range.mpr (by omega : n - 1 < h + 1))) $$ H

/-- Device `c` has had `n` credits of direction `d`. -/
def cpos (d : Bool) (c : Dev nD) (n : ℕ) : sProp 𝕄 :=
  if n < 11 then iprop(∃ S : Finset ℕ, ⌜S ⊆ cduties d ∧ n ≤ S.card⌝ ∗ atPos (ER (F := F)) (cell c (kc d)) 0 S n ∗ bigSep S (crAt (F := F) d c))
  else atPos (ER (F := F)) (cell c (kc d)) 1 ∅ 0

omit [FloatOps F] in
theorem cpos_lt {d : Bool} {c : Dev nD} {n : ℕ} (h : n < 11) : cpos (F := F) d c n =
    iprop(∃ S : Finset ℕ, ⌜S ⊆ cduties d ∧ n ≤ S.card⌝ ∗ atPos (ER (F := F)) (cell c (kc d)) 0 S n ∗ bigSep S (crAt (F := F) d c)) := if_pos h

/-- The wait for the credit `n + 1`. -/
theorem cred_wait {Q : α → sProp 𝕄} {d : Bool} {c : Dev nD} {n u : ℕ} (hn : n < 11) (hu : 12 + 8 * n ≤ u)
    {sem : Sem sig} {k : PUnit → Prog (TpuEff nD τ sig (Elt F) Λ₀ .tc) α} (hS : SemLoc.reg sem = psem (kc d)) :
    iprop(Ctx m K ks ∗ fuel c u ∗ credS c (st n (sc d)) ∗ cpos d c n)
      ⊢ iprop(((fuel c u ∗ fact d (nbr d c) n ∗ cpos d c (n + 1)) -∗ WP c (k ⟨⟩) Q) -∗ WP c (.op (.semWait sem 1) k) Q) := by
  have hs : sc d < 8 ∧ 6 ≤ sc d := by cases d <;> decide
  have hg : ((c : Thread nD τ), SemLoc.reg sem) = cell c (kc d) := by rw [hS]
  unfold fuel credS
  rw [kx_sc, amtI_sc d hn, ix_st, cpos_lt hn]
  by_cases hlast : n + 1 < 11
  · rw [cpos_lt hlast]
    iintro ⟨#HC, ⟨⟨%W, HO⟩, HT⟩, Hc, ⟨%S, %hSc, Hat, #Hfa⟩⟩ Hk
    iapply (Rounds.wp_wait 𝒱₀ ER (Rd m) (c : Thread nD τ) none (κ := K (c, kc d)) (wpE_semWait_eq 𝒱₀ (c : Thread nD τ) none Set.univ) (Set.mem_univ _)
      {(SemLoc.reg sem, st n (sc d) + 1)} (cr := Finsupp.single (st n (sc d) + 1) 1) (O := OT c u) (W := W) (R := 0) (m := n) (T := S)
      (Util.total_single _ _) (image_single_subset _ _ _)) $$ [Hc HO Hat]
    · rw [hg]
      isplitr; · iapply (Ctx_cell m K ks c (kc d)) $$ HC
      isplitl [Hc]; · iexact Hc
      isplitl [HO]; · iexact HO
      isplitr
      · iapply (Ctx_mayWait m K ks c (.reg sem) (by omega) (by unfold st; omega) (by unfold st; omega)) $$ HC
      iexact Hat
    rw [hg, duties_sc, expect_sc]
    iintro %S' ⟨%hS', HO, Hat, Hpay⟩
    have hpc : (bigSep (S' \ S) fun t => (Rd (F := F) m).payload (cell c (kc d)) 0 t) = bigSep (S' \ S) (crAt d c) :=
      bigSep_congr fun t ht => payload_sc m d c (hS'.2.1 (Finset.mem_sdiff.mp ht).1)
    have hall : (bigSep S' (crAt (F := F) d c)) = iprop(bigSep S (crAt d c) ∗ bigSep (S' \ S) (crAt d c)) := bigSep_sdiff_split hS'.1
    have hcd : n + 1 ≤ S'.card := by
      have h1 := Finset.card_sdiff_add_card_eq_card hS'.2.1
      have h2 : (cduties d).card = 11 := by cases d <;> decide
      omega
    ihave #Hall : bigSep S' (crAt (F := F) d c) $$ [Hpay]
    · rw [hall]; isplitr; · iexact Hfa
      iapply (Entails.of_eq hpc) $$ Hpay
    iapply Hk
    isplitl [HO HT]
    · isplitl [HO]; · iexists _; iexact HO
      iexact HT
    isplitr
    · iapply (fact_of hS'.2.1 hcd (Nat.succ_le_succ (Nat.zero_le n))) $$ Hall
    iexists S'
    isplitr; · ipureintro; exact ⟨hS'.2.1, hcd⟩
    isplitl [Hat] <;> iassumption
  · have hn10 : n = 10 := by omega
    subst hn10
    rw [show cpos (F := F) d c (10 + 1) = atPos (ER (F := F)) (cell c (kc d)) 1 ∅ 0 from if_neg (by decide)]
    iintro ⟨#HC, ⟨⟨%W, HO⟩, HT⟩, Hc, ⟨%S, %hSc, Hat, #Hfa⟩⟩ Hk
    iapply (Rounds.wp_wait_rest_token 𝒱₀ ER (Rd m) (c : Thread nD τ) none (κ := K (c, kc d)) (wpE_semWait_eq 𝒱₀ (c : Thread nD τ) none Set.univ) (Set.mem_univ _)
      (st 10 (sc d) + 1) (O := OT c u) (W := W) (R := 0) (m := 10) (T := S)
      (by rw [hg, expect_sc])) $$ [Hc HO Hat]
    · rw [hg]
      isplitr; · iapply (Ctx_cell m K ks c (kc d)) $$ HC
      isplitl [Hc]; · iexact Hc
      isplitl [HO]; · iexact HO
      isplitr
      · iapply (Ctx_mayWait m K ks c (.reg sem) (by omega) (by unfold st; omega) (by unfold st; omega)) $$ HC
      iexact Hat
    rw [hg, duties_sc]
    iintro ⟨HO, Hat, -, Hpay⟩
    have hpc : (bigSep (cduties d \ S) fun t => (Rd (F := F) m).payload (cell c (kc d)) 0 t) = bigSep (cduties d \ S) (crAt d c) :=
      bigSep_congr fun t ht => payload_sc m d c (Finset.mem_sdiff.mp ht).1
    have hall : (bigSep (cduties d) (crAt (F := F) d c)) = iprop(bigSep S (crAt d c) ∗ bigSep (cduties d \ S) (crAt d c)) := bigSep_sdiff_split hSc.1
    ihave #Hall : bigSep (cduties d) (crAt (F := F) d c) $$ [Hpay]
    · rw [hall]; isplitr; · iexact Hfa
      iapply (Entails.of_eq hpc) $$ Hpay
    iapply Hk
    isplitl [HO HT]
    · isplitl [HO]; · iexists _; iexact HO
      iexact HT
    isplitr
    · iapply (fact_of (Finset.Subset.refl _) (by cases d <;> decide) (by decide : 1 ≤ 10 + 1)) $$ Hall
    iexact Hat

/-- One operation under a condition. -/
def Opt (b : BitVec 1) (e : b = 1#1 → TpuEff nD τ sig (Elt F) Λ₀ .tc PUnit) : Prog (TpuEff nD τ sig (Elt F) Λ₀ .tc) PUnit :=
  dite (b = 1#1) (fun h => .op (e h) fun _ => .ret ⟨⟩) (fun _ => .ret ⟨⟩)
/-- What follows such an operation may be written once. -/
theorem opt_join {β : Type} (b : BitVec 1) (e : b = 1#1 → TpuEff nD τ sig (Elt F) Λ₀ .tc PUnit) (J : Prog (TpuEff nD τ sig (Elt F) Λ₀ .tc) β) :
    (dite (b = 1#1) (fun h => .op (e h) fun _ => J) (fun _ => J)) = Opt b e >>= fun _ => J := by
  unfold Opt
  by_cases h : b = 1#1
  · rw [dif_pos h, dif_pos h]; rfl
  · rw [dif_neg h, dif_neg h]; rfl

end Cert.KernelIdeal.Gather

end
-- ==== Proof.Views.lean ====
/-
  The parts of the buffers that the kernel's transfers name, and what the transfers leave in them.
-/
module

public import proofs.«01_k».proof.Proof.Ops

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

/-! ## The parts -/

abbrev IbR (p o : ℕ) : Prop := ∀ a, (![p, o, 0] : Fin 3 → ℕ) a + S1x128x8192.size a ≤ S2x256x8192.size a
/-- 128 rows of a slot of the forward ring buffer, -/
abbrev slotF (p o : ℕ) (h : IbR p o) : Memref sig .tc .vmem S128x8192 .bf16 :=
  ((Memref.whole cc0_scratch1 : Memref sig .tc .vmem S2x256x8192 .bf16).slice (Rect.unit (s := S2x256x8192) ![p, o, 0] S1x128x8192.size h)
    (fun _ => rfl)).squeeze S128x8192 squeezes_S1x128x8192_S128x8192
/-- and of the backward one. -/
abbrev slotB (p o : ℕ) (h : IbR p o) : Memref sig .tc .vmem S128x8192 .bf16 :=
  ((Memref.whole cc0_scratch2 : Memref sig .tc .vmem S2x256x8192 .bf16).slice (Rect.unit (s := S2x256x8192) ![p, o, 0] S1x128x8192.size h)
    (fun _ => rfl)).squeeze S128x8192 squeezes_S1x128x8192_S128x8192
abbrev slotM (d : Bool) (p o : ℕ) (h : IbR p o) : Memref sig .tc .vmem S128x8192 .bf16 :=
  match d with | false => slotF p o h | true => slotB p o h

/-- 128 rows of the line buffer, -/
abbrev colM (off : Fin 2 → ℕ) (h : ∀ a, off a + S128x8192.size a ≤ S2048x8192.size a) : Memref sig .tc .vmem S128x8192 .bf16 :=
  (Memref.whole cc0_scratch0 : Memref sig .tc .vmem S2048x8192 .bf16).slice (Rect.unit (s := S2048x8192) off S128x8192.size h) (fun _ => rfl)
/-- and a block of 512. -/
abbrev blkM (off : Fin 2 → ℕ) (h : ∀ a, off a + S512x8192.size a ≤ S2048x8192.size a) : Memref sig .tc .vmem S512x8192 .bf16 :=
  (Memref.whole cc0_scratch0 : Memref sig .tc .vmem S2048x8192 .bf16).slice (Rect.unit (s := S2048x8192) off S512x8192.size h) (fun _ => rfl)

/-- 256 rows of the result, and 512. -/
abbrev o256M (off : Fin 2 → ℕ) (h : ∀ a, off a + S256x256.size a ≤ S8192x256.size a) : Memref sig .tc .hbm S256x256 .f32 :=
  (Memref.whole main_v1 : Memref sig .tc .hbm S8192x256 .f32).slice (Rect.unit (s := S8192x256) off S256x256.size h) (fun _ => rfl)
abbrev o512M (off : Fin 2 → ℕ) (h : ∀ a, off a + S512x256.size a ≤ S8192x256.size a) : Memref sig .tc .hbm S512x256 .f32 :=
  (Memref.whole main_v1 : Memref sig .tc .hbm S8192x256 .f32).slice (Rect.unit (s := S8192x256) off S512x256.size h) (fun _ => rfl)
/-- 256 rows of a slot of the products, and 512. -/
abbrev b256M (p o : ℕ) (h : ∀ a, (![p, o, 0] : Fin 3 → ℕ) a + S1x256x256.size a ≤ S2x1024x256.size a) : Memref sig .tc .vmem S256x256 .f32 :=
  ((Memref.whole cc0_scratch6 : Memref sig .tc .vmem S2x1024x256 .f32).slice (Rect.unit (s := S2x1024x256) ![p, o, 0] S1x256x256.size h)
    (fun _ => rfl)).squeeze S256x256 squeezes_S1x256x256_S256x256
abbrev b512M (p o : ℕ) (h : ∀ a, (![p, o, 0] : Fin 3 → ℕ) a + S1x512x256.size a ≤ S2x1024x256.size a) : Memref sig .tc .vmem S512x256 .f32 :=
  ((Memref.whole cc0_scratch6 : Memref sig .tc .vmem S2x1024x256 .f32).slice (Rect.unit (s := S2x1024x256) ![p, o, 0] S1x512x256.size h)
    (fun _ => rfl)).squeeze S512x256 squeezes_S1x512x256_S512x256

abbrev NO (b : Bool) : ℕ := match b with
  | false => (o256M ![0, 0] (by decide)).view.dmaCredit
  | true => (o512M ![0, 0] (by decide)).view.dmaCredit
theorem NO_pos (b : Bool) : 0 < NO b := by cases b <;> exact View.dmaCredit_pos _ (by decide)

/-! ### Their elements -/

theorem rect_R (p o n : ℕ) (h : ∀ a, (![p, o, 0] : Fin 3 → ℕ) a + (![1, n, 8192] : Fin 3 → ℕ) a ≤ S2x256x8192.size a) :
    (Rect.unit (s := S2x256x8192) ![p, o, 0] ![1, n, 8192] h).set = rowsR p o n := by
  ext i
  rw [Rect.mem_set_unit]
  have h2 : (i 2).val < 8192 := (i 2).isLt
  unfold rowsR
  rw [Finset.mem_filter]
  constructor
  · intro hh
    have e0 : p ≤ (i 0).val ∧ (i 0).val < p + 1 := hh 0
    have e1 : o ≤ (i 1).val ∧ (i 1).val < o + n := hh 1
    exact ⟨Finset.mem_univ _, by omega, e1.1, e1.2⟩
  · rintro ⟨-, e0, e1, e2⟩ a
    match a with
    | 0 => exact ⟨by show p ≤ _; omega, by show _ < p + 1; omega⟩
    | 1 => exact ⟨e1, e2⟩
    | 2 => exact ⟨Nat.zero_le _, by show (i 2).val < 0 + 8192; omega⟩
theorem rect_B (p o n : ℕ) (h : ∀ a, (![p, o, 0] : Fin 3 → ℕ) a + (![1, n, 256] : Fin 3 → ℕ) a ≤ S2x1024x256.size a) :
    (Rect.unit (s := S2x1024x256) ![p, o, 0] ![1, n, 256] h).set = rowsB p o n := by
  ext i
  rw [Rect.mem_set_unit]
  have h2 : (i 2).val < 256 := (i 2).isLt
  unfold rowsB
  rw [Finset.mem_filter]
  constructor
  · intro hh
    have e0 : p ≤ (i 0).val ∧ (i 0).val < p + 1 := hh 0
    have e1 : o ≤ (i 1).val ∧ (i 1).val < o + n := hh 1
    exact ⟨Finset.mem_univ _, by omega, e1.1, e1.2⟩
  · rintro ⟨-, e0, e1, e2⟩ a
    match a with
    | 0 => exact ⟨by show p ≤ _; omega, by show _ < p + 1; omega⟩
    | 1 => exact ⟨e1, e2⟩
    | 2 => exact ⟨Nat.zero_le _, by show (i 2).val < 0 + 256; omega⟩
theorem rect_C {off : Fin 2 → ℕ} (lo n : ℕ) (h : ∀ a, off a + (![n, 8192] : Fin 2 → ℕ) a ≤ S2048x8192.size a) (ho : off = ![lo, 0]) :
    (Rect.unit (s := S2048x8192) off ![n, 8192] h).set = rowsC lo n := by
  subst ho
  ext i
  rw [Rect.mem_set_unit]
  have h2 : (i 1).val < 8192 := (i 1).isLt
  unfold rowsC
  rw [Finset.mem_filter]
  constructor
  · intro hh
    have e1 : lo ≤ (i 0).val ∧ (i 0).val < lo + n := hh 0
    exact ⟨Finset.mem_univ _, e1.1, e1.2⟩
  · rintro ⟨-, e1, e2⟩ a
    match a with
    | 0 => exact ⟨e1, e2⟩
    | 1 => exact ⟨Nat.zero_le _, by show (i 1).val < 0 + 8192; omega⟩
theorem rect_W {off : Fin 2 → ℕ} (lo n : ℕ) (h : ∀ a, off a + (![n, 256] : Fin 2 → ℕ) a ≤ S8192x256.size a) (ho : off = ![lo, 0]) :
    (Rect.unit (s := S8192x256) off ![n, 256] h).set = rowsW lo n := by
  subst ho
  ext i
  rw [Rect.mem_set_unit]
  have h2 : (i 1).val < 256 := (i 1).isLt
  unfold rowsW
  rw [Finset.mem_filter]
  constructor
  · intro hh
    have e1 : lo ≤ (i 0).val ∧ (i 0).val < lo + n := hh 0
    exact ⟨Finset.mem_univ _, e1.1, e1.2⟩
  · rintro ⟨-, e1, e2⟩ a
    match a with
    | 0 => exact ⟨e1, e2⟩
    | 1 => exact ⟨Nat.zero_le _, by show (i 1).val < 0 + 256; omega⟩

theorem set_slotF (p o : ℕ) (h : IbR p o) : (slotF p o h).view.set = rowsR p o 128 :=
  ((View.set_reshape _ _).trans (View.set_slice_whole _ _)).trans (rect_R p o 128 h)
theorem set_slotB (p o : ℕ) (h : IbR p o) : (slotB p o h).view.set = rowsR p o 128 :=
  ((View.set_reshape _ _).trans (View.set_slice_whole _ _)).trans (rect_R p o 128 h)
theorem set_colM {off : Fin 2 → ℕ} {lo : ℕ} (h) (ho : off = ![lo, 0]) : (colM off h).view.set = rowsC lo 128 :=
  (View.set_slice_whole _ _).trans (rect_C lo 128 h ho)
theorem set_blkM {off : Fin 2 → ℕ} {lo : ℕ} (h) (ho : off = ![lo, 0]) : (blkM off h).view.set = rowsC lo 512 :=
  (View.set_slice_whole _ _).trans (rect_C lo 512 h ho)
theorem set_o256M {off : Fin 2 → ℕ} {lo : ℕ} (h) (ho : off = ![lo, 0]) : (o256M off h).view.set = rowsW lo 256 :=
  (View.set_slice_whole _ _).trans (rect_W lo 256 h ho)
theorem set_o512M {off : Fin 2 → ℕ} {lo : ℕ} (h) (ho : off = ![lo, 0]) : (o512M off h).view.set = rowsW lo 512 :=
  (View.set_slice_whole _ _).trans (rect_W lo 512 h ho)
theorem set_b256M (p o : ℕ) (h) : (b256M p o h).view.set = rowsB p o 256 :=
  ((View.set_reshape _ _).trans (View.set_slice_whole _ _)).trans (rect_B p o 256 h)
theorem set_b512M (p o : ℕ) (h) : (b512M p o h).view.set = rowsB p o 512 :=
  ((View.set_reshape _ _).trans (View.set_slice_whole _ _)).trans (rect_B p o 512 h)

/-- Where a part's element lies in its buffer. -/
theorem emb_slotF (p o : ℕ) (h : IbR p o) (x : S128x8192.Idx) :
    (((slotF p o h).view.emb x) 0).val = p ∧ (((slotF p o h).view.emb x) 1).val = o + (x 0).val ∧ (((slotF p o h).view.emb x) 2).val = (x 1).val := by
  have e : (slotF p o h).view.emb x = (Rect.unit (s := S2x256x8192) ![p, o, 0] S1x128x8192.size h).emb (Shape.reshapeEquiv squeezes_S1x128x8192_S128x8192.numel_eq x) := rfl
  rw [e, Shape.reshapeEquiv_cons_one squeezes_S1x128x8192_S128x8192.numel_eq x]
  refine ⟨?_, ?_, ?_⟩
  · show p + 1 * 0 = p; omega
  · show o + 1 * (x 0).val = _; omega
  · show 0 + 1 * (x 1).val = _; omega
theorem emb_slotB (p o : ℕ) (h : IbR p o) (x : S128x8192.Idx) :
    (((slotB p o h).view.emb x) 0).val = p ∧ (((slotB p o h).view.emb x) 1).val = o + (x 0).val ∧ (((slotB p o h).view.emb x) 2).val = (x 1).val :=
  emb_slotF p o h x
theorem emb_colM {off : Fin 2 → ℕ} {lo : ℕ} (h) (ho : off = ![lo, 0]) (x : S128x8192.Idx) :
    (((colM off h).view.emb x) 0).val = lo + (x 0).val ∧ (((colM off h).view.emb x) 1).val = (x 1).val := by
  subst ho
  refine ⟨?_, ?_⟩
  · show lo + 1 * (x 0).val = _; omega
  · show 0 + 1 * (x 1).val = _; omega
theorem emb_o256M {off : Fin 2 → ℕ} {lo : ℕ} (h) (ho : off = ![lo, 0]) (x : S256x256.Idx) :
    (((o256M off h).view.emb x) 0).val = lo + (x 0).val ∧ (((o256M off h).view.emb x) 1).val = (x 1).val := by
  subst ho
  refine ⟨?_, ?_⟩
  · show lo + 1 * (x 0).val = _; omega
  · show 0 + 1 * (x 1).val = _; omega
theorem emb_o512M {off : Fin 2 → ℕ} {lo : ℕ} (h) (ho : off = ![lo, 0]) (x : S512x256.Idx) :
    (((o512M off h).view.emb x) 0).val = lo + (x 0).val ∧ (((o512M off h).view.emb x) 1).val = (x 1).val := by
  subst ho
  refine ⟨?_, ?_⟩
  · show lo + 1 * (x 0).val = _; omega
  · show 0 + 1 * (x 1).val = _; omega
theorem emb_b256M (p o : ℕ) (h) (x : S256x256.Idx) :
    (((b256M p o h).view.emb x) 0).val = p ∧ (((b256M p o h).view.emb x) 1).val = o + (x 0).val ∧ (((b256M p o h).view.emb x) 2).val = (x 1).val := by
  have e : (b256M p o h).view.emb x = (Rect.unit (s := S2x1024x256) ![p, o, 0] S1x256x256.size h).emb (Shape.reshapeEquiv squeezes_S1x256x256_S256x256.numel_eq x) := rfl
  rw [e, Shape.reshapeEquiv_cons_one squeezes_S1x256x256_S256x256.numel_eq x]
  refine ⟨?_, ?_, ?_⟩
  · show p + 1 * 0 = p; omega
  · show o + 1 * (x 0).val = _; omega
  · show 0 + 1 * (x 1).val = _; omega
theorem emb_b512M (p o : ℕ) (h) (x : S512x256.Idx) :
    (((b512M p o h).view.emb x) 0).val = p ∧ (((b512M p o h).view.emb x) 1).val = o + (x 0).val ∧ (((b512M p o h).view.emb x) 2).val = (x 1).val := by
  have e : (b512M p o h).view.emb x = (Rect.unit (s := S2x1024x256) ![p, o, 0] S1x512x256.size h).emb (Shape.reshapeEquiv squeezes_S1x512x256_S512x256.numel_eq x) := rfl
  rw [e, Shape.reshapeEquiv_cons_one squeezes_S1x512x256_S512x256.numel_eq x]
  refine ⟨?_, ?_, ?_⟩
  · show p + 1 * 0 = p; omega
  · show o + 1 * (x 0).val = _; omega
  · show 0 + 1 * (x 1).val = _; omega

/-- What a part holds after a transfer into it. -/
theorem landed {sp sp' : Space} {s : Shape} {e : EltTy} (v : View sig .tc sp s e) (w : View sig .tc sp' s e)
    {fd : v.ty.Contents (Elt F)} {fs : w.ty.Contents (Elt F)} {X : v.ty.Contents (Elt F)}
    (hX : ∀ x, _root_.cast (congrArg (Elt F) v.elt_eq.symm) (w.read (Elt F) fs x) = X (v.emb x)) :
    ∀ i ∈ v.set, v.write (Elt F) fd (w.read (Elt F) fs) Finset.univ i = X i := by
  intro i hi
  obtain ⟨x, -, rfl⟩ := Finset.mem_map.mp hi
  rw [View.write_emb_of_mem _ _ (Finset.mem_univ x)]
  exact hX x

/-! ### The steps of the rings -/

theorem si_lt {d : Bool} {s : ℕ} (hs : s < 2) : si d s < 8 := by cases d <;> (unfold si; split <;> omega)
theorem amt_si {d : Bool} {s : ℕ} (hs : s < 2) (H : ℕ) (c : Dev nD) : amt (st H (si d s)) c = NR := by
  rw [amt_st (si_lt hs)]; rcases s with _ | _ | s
  · cases d <;> rfl
  · cases d <;> rfl
  · omega
theorem pi_si {d : Bool} {s : ℕ} (hs : s < 2) (H : ℕ) (c : Dev nD) : pi (st H (si d s)) c = nbr d c := by
  rw [pi_st (si_lt hs)]; rcases s with _ | _ | s
  · cases d <;> rfl
  · cases d <;> rfl
  · omega
theorem Pay_si {d : Bool} {s : ℕ} (hs : s < 2) (H : ℕ) (c : Dev nD) :
    Pay m (st H (si d s)) c = ringPts d c (rowsR ((H + 1) % 2) (128 * s) 128) fullShare (SR m d c H) := by
  rw [Pay_st m (si_lt hs)]; rcases s with _ | _ | s
  · cases d <;> rfl
  · cases d <;> rfl
  · omega

/-! ### The operations on the rings -/

variable {α : Type}

/-- The neighbour's next landing holds the rows of this one: a ring passes on what it got. -/
theorem orig_next : ∀ d : Bool, ∀ c : Dev nD, ∀ H : Fin 12, H.val % 3 ≠ 0 → orig d (nbr d c) H.val = orig d c (H.val - 1) := by decide +kernel
theorem orig_inj : ∀ d : Bool, ∀ c : Dev nD, ∀ r : Fin 4, orig d (nbr d c) (3 * r.val) = mk (zs (zc c) r.val) (qc c) := by decide +kernel

/-- A slot's part passed on at hop `H`. -/
theorem ring_send {Q : α → sProp 𝕄} (d : Bool) {c n : Dev nD} (H s : ℕ) {p p' o : ℕ} (hH : H < 12) (h3 : H % 3 ≠ 0) (hs : s < 2) (ho : o = 128 * s)
    (hp' : p' = (H + 1) % 2) (hn : n = nbr d c) {h h'} {hsc : (slotM d p' o h').view.ref.isScScratch = false}
    {sS sem : DmaSem sig} {hsrc : (slotM d p o h).view.WordExact} {hdst : (slotM d p' o h').view.WordExact}
    {hsem : DmaTarget.Typed .vmem (.dma sem) (.remote (Dev.tc n : Thread nD τ) (slotM d p' o h') (.dma sS) hsc)}
    {k : PUnit → Prog (TpuEff nD τ sig (Elt F) Λ₀ .tc) α} {q : PosShare TreeShare} (hS : SemLoc.dma sem = psem (kx (st H (si d s)))) :
    iprop(Ctx m K ks ∗ fuel c (st H (si d s)) ∗ reached (ER (F := F)) (cell n (kx (st H (si d s)))) (rnd (st H (si d s))) ∗ semVal ((c : Thread nD τ), .dma sS) 0
        ∗ ringPts d c (rowsR p o 128) q (SR m d c (H - 1)) ∗ exR d n (rowsR p' o 128))
      ⊢ iprop(((fuel c (st H (si d s) + 1) ∗ Flight EC (c : Thread nD τ) (.dma sS) 0 NR (ringPts d c (rowsR p o 128) q (SR m d c (H - 1)))) -∗ WP c (k ⟨⟩) Q)
          -∗ WP c (.op (.enqueueDma (slotM d p o h) (.remote (Dev.tc n : Thread nD τ) (slotM d p' o h') (.dma sS) hsc) (.dma sem) hsrc hdst hsem) k) Q) := by
  have ht : st H (si d s) < T := by have := si_lt (d := d) hs; have hT : T = 100 := rfl; unfold st; omega
  have hpi : n = pi (st H (si d s)) c := hn.trans (pi_si hs H c).symm
  have horig := orig_next d c ⟨H, hH⟩ h3
  have hSR : ∀ i j : S2x256x8192.Idx, (i 1).val = (j 1).val → (i 2).val = (j 2).val → SR m d c (H - 1) i = SR m d n H j := by
    intro i j h1 h2
    unfold SR; rw [hn, horig, h1, h2]
  have hP := Pay_si m (d := d) hs H n
  rw [← ho, ← hp'] at hP
  unfold exR
  iintro ⟨#HC, Hf, #Hr, Hv, Hs, ⟨%fd, Hd⟩⟩ Hk
  cases d
  · unfold ringPts
    rw [← set_slotF p o h, ← set_slotF p' o h']
    iapply (pay_dma m K ks ht hpi NR_pos (amt_si hs H c) (src := slotF p o h) (dst := slotF p' o h') (fs := SR m false c (H - 1)) (fd := fd) hS rfl (by
      rw [hP]; unfold ringPts; rw [← set_slotF p' o h']
      refine Entails.of_eq (pointsTo_congr (landed (slotF p' o h').view (slotF p o h).view fun x => ?_))
      exact hSR _ _ ((emb_slotF p o h x).2.1.trans (emb_slotF p' o h' x).2.1.symm) ((emb_slotF p o h x).2.2.trans (emb_slotF p' o h' x).2.2.symm))) $$ [Hf Hv Hs Hd]
    · isplitr; · iexact HC
      isplitl [Hf]; · iexact Hf
      isplitr; · iexact Hr
      isplitl [Hv]; · iexact Hv
      isplitl [Hs] <;> iassumption
    iexact Hk
  · unfold ringPts
    rw [← set_slotB p o h, ← set_slotB p' o h']
    iapply (pay_dma m K ks ht hpi NR_pos (amt_si hs H c) (src := slotB p o h) (dst := slotB p' o h') (fs := SR m true c (H - 1)) (fd := fd) hS rfl (by
      rw [hP]; unfold ringPts; rw [← set_slotB p' o h']
      refine Entails.of_eq (pointsTo_congr (landed (slotB p' o h').view (slotB p o h).view fun x => ?_))
      exact hSR _ _ ((emb_slotB p o h x).2.1.trans (emb_slotB p' o h' x).2.1.symm) ((emb_slotB p o h x).2.2.trans (emb_slotB p' o h' x).2.2.symm))) $$ [Hf Hv Hs Hd]
    · isplitr; · iexact HC
      isplitl [Hf]; · iexact Hf
      isplitr; · iexact Hr
      isplitl [Hv]; · iexact Hv
      isplitl [Hs] <;> iassumption
    iexact Hk

end Cert.KernelIdeal.Gather

end
-- ==== Proof.Ring.lean ====
/-
  The operations of a hop on the rings: the wait for a landing, the two kinds of sends, the waits for the sends, the credits.
-/
module

public import proofs.«01_k».proof.Proof.Views

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## What a device holds of a ring during a hop -/

/-- The semaphore on which a device's send of half `s` from slot `p` completes. -/
def ssem (d : Bool) (p s : ℕ) : DmaSem sig :=
  match d, p, s with
  | false, 0, 0 => 12 | false, 0, _ => 13 | false, _, 0 => 14 | false, _, _ => 15
  | true, 0, 0 => 20 | true, 0, _ => 21 | true, _, 0 => 22 | true, _, _ => 23

/-- That a device's landing semaphore of hop `H` is at its round, and known to be. -/
def Nx (d : Bool) (c : Dev nD) (H s : ℕ) : sProp 𝕄 :=
  iprop(posS c (st H (si d s)) ∗ reached (ER (F := F)) (cell c (kx (st H (si d s)))) (rnd (st H (si d s))))
/-- Half `s` of the slot used in hop `H`, with the rows of the landing before. -/
def Hf (d : Bool) (c : Dev nD) (H s : ℕ) (q : PosShare TreeShare) : sProp 𝕄 := ringPts d c (rowsR (H % 2) (128 * s) 128) q (SR m d c (H - 1))
/-- What is needed to wait for half `s` of the landing before, -/
def Rc (d : Bool) (c : Dev nD) (H s : ℕ) : sProp 𝕄 := iprop(credS c (st (H - 1) (si d s)) ∗ posS c (st (H - 1) (si d s)))
/-- to send in hop `H`, -/
def Sd (d : Bool) (c : Dev nD) (H s : ℕ) : sProp 𝕄 :=
  iprop(reached (ER (F := F)) (cell (nbr d c) (kx (st H (si d s)))) (rnd (st H (si d s))) ∗ semVal ((c : Thread nD τ), .dma (ssem d (H % 2) s)) 0
    ∗ exR d (nbr d c) (rowsR ((H + 1) % 2) (128 * s) 128))
/-- and the send under way, that gives `D` back. -/
def Fl (d : Bool) (c : Dev nD) (H s : ℕ) (D : sProp 𝕄) : sProp 𝕄 := Flight EC (c : Thread nD τ) (.dma (ssem d (H % 2) s)) 0 NR D

theorem st_lt {H i : ℕ} (hH : H < 12) (hi : i < 8) : st H i < T := by have hT : T = 100 := rfl; unfold st; omega

theorem single_si {d : Bool} {s : ℕ} (hs : s < 2) (H : ℕ) : Single (st H (si d s)) := by
  have h6 : si d s < 6 := by cases d <;> (unfold si; split <;> omega)
  refine ⟨by unfold st; omega, ?_⟩
  rw [st_mod (by omega)]; exact h6
theorem amtI_eq {t : ℕ} {n : ℕ} {c : Dev nD} (h : amt t ((pi t).symm c) = n) : amtI t c = n := h
theorem amtI_si {d : Bool} {s : ℕ} (hs : s < 2) (H : ℕ) (c : Dev nD) : amtI (st H (si d s)) c = NR := amt_si hs H _

theorem kx_next {d : Bool} {s : ℕ} (hs : s < 2) {H : ℕ} (hH : 1 ≤ H) : kx (st (H - 1) (si d s)) = kx (st (H + 1) (si d s)) := by
  obtain ⟨h, rfl⟩ := Nat.exists_eq_add_of_le' hH
  have h2 : 2 ≤ si d s := by cases d <;> (unfold si; split <;> omega)
  rw [kx_st (si_lt hs), kx_st (si_lt hs), Nat.add_sub_cancel]; exact (kxh_next h _ h2).symm
theorem rnd_next {d : Bool} {s : ℕ} (hs : s < 2) {H : ℕ} (hH : 1 ≤ H) : rnd (st (H - 1) (si d s)) + 1 = rnd (st (H + 1) (si d s)) := by
  obtain ⟨h, rfl⟩ := Nat.exists_eq_add_of_le' hH
  have h2 : 2 ≤ si d s ∧ si d s < 6 := by constructor <;> (cases d <;> (unfold si; split <;> omega))
  rw [rnd_st (si_lt hs), rnd_st (si_lt hs), Nat.add_sub_cancel]; exact (rndh_next h _ h2).symm

/-- The wait for half `s` of the landing before hop `H`. -/
theorem recv {Q : α → sProp 𝕄} (d : Bool) (c : Dev nD) (H s : ℕ) {u : ℕ} (hH : 1 ≤ H) (hH' : H ≤ 12) (hs : s < 2) (hu : st H 0 ≤ u) {sp sp' : Space} {sh sh' : Shape} {e e' : EltTy}
    {sem : DmaSem sig} {srcw : Memref sig .tc sp' sh' e'} {dstw : Memref sig .tc sp sh e} {hsrc : srcw.view.WordExact} {hdst : dstw.view.WordExact}
    {k : PUnit → Prog (TpuEff nD τ sig (Elt F) Λ₀ .tc) α} (hS : SemLoc.dma sem = psem (kx (st (H - 1) (si d s)))) (hN : dstw.view.dmaCredit = NR) :
    iprop(Ctx m K ks ∗ fuel c u ∗ Rc d c H s)
      ⊢ iprop(((fuel c u ∗ Hf m d c H s fullShare ∗ Nx d c (H + 1) s) -∗ WP c (k ⟨⟩) Q) -∗ WP c (.op (.waitDma2 sem srcw dstw hsrc hdst) k) Q) := by
  have h8 := si_lt (d := d) hs
  have hP := Pay_si m (d := d) hs (H - 1) c
  have hp : (H - 1 + 1) % 2 = H % 2 := by rw [Nat.sub_add_cancel hH]
  rw [hp] at hP
  unfold Rc Nx Hf
  rw [← hP]
  unfold posS
  rw [← kx_next hs hH, ← rnd_next hs hH]
  iintro ⟨#HC, Hf, Hc, Hp⟩ Hk
  iapply (recv_wait m K ks (t := st (H - 1) (si d s)) (u := u) (st_lt (by omega) h8) (single_si hs _) (by rw [ix_st]; unfold st at hu ⊢; omega) (by unfold st at hu; omega) NR_pos
    (amtI_si hs _ c) hS hN) $$ [Hf Hc Hp]
  · isplitr; · iexact HC
    isplitl [Hf]; · iexact Hf
    isplitl [Hc]; · iexact Hc
    unfold posS
    iexact Hp
  iintro ⟨Hf, HP, Ha, Hr⟩
  iapply Hk
  isplitl [Hf]; · iexact Hf
  isplitl [HP]; · iexact HP
  isplitl [Ha] <;> iassumption

/-- A slot's half passed on. -/
theorem send {Q : α → sProp 𝕄} (d : Bool) (c : Dev nD) (H s : ℕ) {n : Dev nD} {p p' o : ℕ} (hH : H < 12) (h3 : H % 3 ≠ 0) (hs : s < 2) (ho : o = 128 * s) (hp : p = H % 2)
    (hp' : p' = (H + 1) % 2) (hn : n = nbr d c) {h h'} {hsc : (slotM d p' o h').view.ref.isScScratch = false}
    {sS sem : DmaSem sig} {hsrc : (slotM d p o h).view.WordExact} {hdst : (slotM d p' o h').view.WordExact}
    {hsem : DmaTarget.Typed .vmem (.dma sem) (.remote (Dev.tc n : Thread nD τ) (slotM d p' o h') (.dma sS) hsc)}
    {k : PUnit → Prog (TpuEff nD τ sig (Elt F) Λ₀ .tc) α} {q : PosShare TreeShare} (hS : SemLoc.dma sem = psem (kx (st H (si d s)))) (hss : sS = ssem d p s) :
    iprop(Ctx m K ks ∗ fuel c (st H (si d s)) ∗ Hf m d c H s q ∗ Sd d c H s)
      ⊢ iprop(((fuel c (st H (si d s) + 1) ∗ Fl d c H s (Hf m d c H s q)) -∗ WP c (k ⟨⟩) Q)
          -∗ WP c (.op (.enqueueDma (slotM d p o h) (.remote (Dev.tc n : Thread nD τ) (slotM d p' o h') (.dma sS) hsc) (.dma sem) hsrc hdst hsem) k) Q) := by
  unfold Sd Fl Hf
  rw [← hn, ← ho, ← hp, ← hp', ← hss]
  iintro ⟨#HC, Hf, Hr, #Hre, Hv, Hd⟩ Hk
  iapply (ring_send m K ks d H s hH h3 hs ho hp' hn hS) $$ [Hf Hr Hv Hd]
  · isplitr; · iexact HC
    isplitl [Hf]; · iexact Hf
    isplitr; · iexact Hre
    isplitl [Hv]; · iexact Hv
    isplitl [Hr] <;> iassumption
  iexact Hk

/-- A quarter of the line buffer's block of the group, sent into the ring at the start of a group of hops. -/
def Qt (d : Bool) (c : Dev nD) (H s : ℕ) (q : PosShare TreeShare) : sProp 𝕄 :=
  colPts c (rowsC (512 * zs (zc c) (H / 3) + (if d then 256 else 0) + 128 * s) 128) q (CB m c)

theorem inj_val (d : Bool) (c : Dev nD) {H s : ℕ} (hs : s < 2) (hH : H < 12) (h3 : H % 3 = 0) (i : S2048x8192.Idx) (j : S2x256x8192.Idx) {a : ℕ} (ha : a < 128)
    (h0 : (i 0).val = 512 * zs (zc c) (H / 3) + (if d then 256 else 0) + 128 * s + a) (h1 : (j 1).val = 128 * s + a) (h2 : (i 1).val = (j 2).val) :
    CB m c i = SR m d (nbr d c) H j := by
  have horig := orig_inj d c ⟨H / 3, by omega⟩
  rw [show 3 * (H / 3) = H by omega] at horig
  unfold CB SR
  rw [horig, h0, h1, h2]
  have e1 : (512 * zs (zc c) (H / 3) + (if d then 256 else 0) + 128 * s + a) / 512 = zs (zc c) (H / 3) := by cases d <;> simp <;> omega
  have e2 : (512 * zs (zc c) (H / 3) + (if d then 256 else 0) + 128 * s + a) % 512 = (if d then 256 else 0) + (128 * s + a) := by cases d <;> simp <;> omega
  rw [e1, e2]

/-- A quarter of the block sent into the ring. -/
theorem inject {Q : α → sProp 𝕄} (d : Bool) (c : Dev nD) (H s : ℕ) {n : Dev nD} {p' o : ℕ} {off : Fin 2 → ℕ} (hH : H < 12) (h3 : H % 3 = 0) (hs : s < 2) (ho : o = 128 * s)
    (hoff : off = ![512 * zs (zc c) (H / 3) + (if d then 256 else 0) + 128 * s, 0])
    (hp' : p' = (H + 1) % 2) (hn : n = nbr d c) {h h'} {hsc : (slotM d p' o h').view.ref.isScScratch = false}
    {sS sem : DmaSem sig} {hsrc : (colM off h).view.WordExact} {hdst : (slotM d p' o h').view.WordExact}
    {hsem : DmaTarget.Typed .vmem (.dma sem) (.remote (Dev.tc n : Thread nD τ) (slotM d p' o h') (.dma sS) hsc)}
    {k : PUnit → Prog (TpuEff nD τ sig (Elt F) Λ₀ .tc) α} {q : PosShare TreeShare} (hS : SemLoc.dma sem = psem (kx (st H (si d s)))) (hss : sS = ssem d (H % 2) s) :
    iprop(Ctx m K ks ∗ fuel c (st H (si d s)) ∗ Qt m d c H s q ∗ Sd d c H s)
      ⊢ iprop(((fuel c (st H (si d s) + 1) ∗ Fl d c H s (Qt m d c H s q)) -∗ WP c (k ⟨⟩) Q)
          -∗ WP c (.op (.enqueueDma (colM off h) (.remote (Dev.tc n : Thread nD τ) (slotM d p' o h') (.dma sS) hsc) (.dma sem) hsrc hdst hsem) k) Q) := by
  subst ho
  have ht := st_lt hH (si_lt (d := d) hs)
  have hpi : n = pi (st H (si d s)) c := hn.trans (pi_si hs H c).symm
  have hP := Pay_si m (d := d) hs H n
  have hset := set_colM h hoff
  rw [← hp'] at hP
  unfold Sd Fl Qt
  rw [← hn, ← hp', ← hss]
  unfold exR colPts
  rw [← hset]
  iintro ⟨#HC, Hf, Hs, #Hr, Hv, ⟨%fd, Hd⟩⟩ Hk
  cases d
  · unfold ringPts
    rw [← set_slotF p' (128 * s) h']
    iapply (pay_dma m K ks ht hpi NR_pos (amt_si hs H c) (src := colM off h) (dst := slotF p' (128 * s) h') (fs := CB m c) (fd := fd) hS rfl (by
      rw [hP]; unfold ringPts; rw [← set_slotF p' (128 * s) h']
      refine Entails.of_eq (pointsTo_congr (landed (slotF p' (128 * s) h').view (colM off h).view fun x => ?_))
      rw [hn]
      exact inj_val m false c hs hH h3 _ _ (x 0).isLt (emb_colM h hoff x).1 (emb_slotF p' (128 * s) h' x).2.1 ((emb_colM h hoff x).2.trans (emb_slotF p' (128 * s) h' x).2.2.symm))) $$ [Hf Hv Hs Hd]
    · isplitr; · iexact HC
      isplitl [Hf]; · iexact Hf
      isplitr; · iexact Hr
      isplitl [Hv]; · iexact Hv
      isplitl [Hs] <;> iassumption
    iexact Hk
  · unfold ringPts
    rw [← set_slotB p' (128 * s) h']
    iapply (pay_dma m K ks ht hpi NR_pos (amt_si hs H c) (src := colM off h) (dst := slotB p' (128 * s) h') (fs := CB m c) (fd := fd) hS rfl (by
      rw [hP]; unfold ringPts; rw [← set_slotB p' (128 * s) h']
      refine Entails.of_eq (pointsTo_congr (landed (slotB p' (128 * s) h').view (colM off h).view fun x => ?_))
      rw [hn]
      exact inj_val m true c hs hH h3 _ _ (x 0).isLt (emb_colM h hoff x).1 (emb_slotB p' (128 * s) h' x).2.1 ((emb_colM h hoff x).2.trans (emb_slotB p' (128 * s) h' x).2.2.symm))) $$ [Hf Hv Hs Hd]
    · isplitr; · iexact HC
      isplitl [Hf]; · iexact Hf
      isplitr; · iexact Hr
      isplitl [Hv]; · iexact Hv
      isplitl [Hs] <;> iassumption
    iexact Hk

/-- The wait for a send. -/
theorem sent {Q : α → sProp 𝕄} (d : Bool) (c : Dev nD) (H s : ℕ) {u : ℕ} (hu4 : 4 ≤ u) {D : sProp 𝕄} {sp sp' : Space} {sh sh' : Shape} {e e' : EltTy}
    {sem : DmaSem sig} {srcw : Memref sig .tc sp' sh' e'} {dstw : Memref sig .tc sp sh e} {hsrc : srcw.view.WordExact} {hdst : dstw.view.WordExact}
    {k : PUnit → Prog (TpuEff nD τ sig (Elt F) Λ₀ .tc) α} (hss : sem = ssem d (H % 2) s) (hN : dstw.view.dmaCredit = NR) :
    iprop(Ctx m K ks ∗ fuel c u ∗ Fl d c H s D)
      ⊢ iprop(((fuel c u ∗ D ∗ semVal ((c : Thread nD τ), .dma (ssem d (H % 2) s)) 0) -∗ WP c (k ⟨⟩) Q) -∗ WP c (.op (.waitDma2 sem srcw dstw hsrc hdst) k) Q) := by
  subst hss
  unfold Fl
  exact own_wait m K ks hu4 hN

/-! ## A slot and its halves -/

theorem rowsR_split (p lo a b n : ℕ) (hn : n = a + b) : rowsR p lo n = rowsR p lo a ∪ rowsR p (lo + a) b := by
  subst hn; ext i; simp only [rowsR, Finset.mem_filter, Finset.mem_union, Finset.mem_univ, true_and]; omega
theorem rowsR_disj (p lo a b : ℕ) : Disjoint (rowsR p lo a) (rowsR p (lo + a) b) := by
  rw [Finset.disjoint_left]; intro i; simp only [rowsR, Finset.mem_filter, Finset.mem_univ, true_and]; omega

theorem ringPts_split (d : Bool) (c : Dev nD) (p lo a b n : ℕ) (hn : n = a + b) (q : PosShare TreeShare) (X : S2x256x8192.Idx → Elt F .bf16) :
    ringPts d c (rowsR p lo n) q X ⊣⊢ iprop(ringPts d c (rowsR p lo a) q X ∗ ringPts d c (rowsR p (lo + a) b) q X) := by
  rw [rowsR_split p lo a b n hn]
  cases d
  · exact pointsTo_union (rowsR_disj p lo a b)
  · exact pointsTo_union (rowsR_disj p lo a b)
theorem exR_split (d : Bool) (c : Dev nD) (p : ℕ) : exR (F := F) d c (rowsR p 0 256) ⊢ iprop(exR d c (rowsR p (128 * 0) 128) ∗ exR d c (rowsR p (128 * 1) 128)) := by
  unfold exR
  iintro ⟨%X, H⟩
  ihave H := (ringPts_split d c p 0 128 128 256 rfl fullShare X).1 $$ H
  icases H with ⟨H0, H1⟩
  isplitl [H0]
  · iexists X; iexact H0
  · iexists X; iexact H1
theorem ringPts_share (d : Bool) (c : Dev nD) (I : Finset S2x256x8192.Idx) (X : S2x256x8192.Idx → Elt F .bf16) (q : PosShare TreeShare) :
    ringPts d c I q X ⊣⊢ iprop(ringPts d c I q.left X ∗ ringPts d c I q.right X) := by
  cases d
  · exact pointsTo_share (PosShare.mem_left_op_right q)
  · exact pointsTo_share (PosShare.mem_left_op_right q)
theorem colPts_share (c : Dev nD) (I : Finset S2048x8192.Idx) (X : S2048x8192.Idx → Elt F .bf16) (q : PosShare TreeShare) :
    colPts c I q X ⊣⊢ iprop(colPts c I q.left X ∗ colPts c I q.right X) := pointsTo_share (PosShare.mem_left_op_right q)

/-- The halves of the slot of hop `H` together. -/
theorem Hf_join (d : Bool) (c : Dev nD) (H : ℕ) (q : PosShare TreeShare) :
    iprop(Hf m d c H 0 q ∗ Hf m d c H 1 q) ⊢ ringPts d c (rowsR (H % 2) 0 256) q (SR m d c (H - 1)) :=
  (ringPts_split d c (H % 2) 0 128 128 256 rfl q (SR m d c (H - 1))).2
theorem Hf_split (d : Bool) (c : Dev nD) (H : ℕ) (q : PosShare TreeShare) :
    ringPts d c (rowsR (H % 2) 0 256) q (SR m d c (H - 1)) ⊢ iprop(Hf m d c H 0 q ∗ Hf m d c H 1 q) :=
  (ringPts_split d c (H % 2) 0 128 128 256 rfl q (SR m d c (H - 1))).1

theorem rowsR_some (p : ℕ) : ∃ i, i ∈ rowsR (p % 2) 0 256 :=
  ⟨fun a => match a with | 0 => ⟨p % 2, Nat.mod_lt _ (by decide)⟩ | 1 => ⟨0, by decide⟩ | 2 => ⟨0, by decide⟩,
    Finset.mem_filter.mpr ⟨Finset.mem_univ _, rfl, Nat.zero_le _, Nat.zero_lt_succ _⟩⟩

theorem Sl_Sl (k : Key) : iprop(Sl (F := F) k ∗ Sl k) ⊢ (False : sProp 𝕄) := by
  obtain ⟨c, d, j⟩ := k
  obtain ⟨i, hi⟩ := rowsR_some (j + 1)
  unfold Sl exR
  iintro ⟨⟨%f, Hf⟩, ⟨%g, Hg⟩⟩
  cases d
  · iapply (pointsTo_overlap_false (ℓ := (c : Thread nD τ).loc cc0_scratch1) (I := rowsR ((j + 1) % 2) 0 256) (J := rowsR ((j + 1) % 2) 0 256) (q := fullShare) (f := f) (g := g) hi hi)
    unfold ringPts
    isplitl [Hf] <;> iassumption
  · iapply (pointsTo_overlap_false (ℓ := (c : Thread nD τ).loc cc0_scratch2) (I := rowsR ((j + 1) % 2) 0 256) (J := rowsR ((j + 1) % 2) 0 256) (q := fullShare) (f := f) (g := g) hi hi)
    unfold ringPts
    isplitl [Hf] <;> iassumption

/-! ## What a device holds of a ring -/

theorem nbr_prb (d : Bool) (c : Dev nD) : nbr d (prb d c) = c := by revert d c; decide

/-- During hop `H`, after its credit: all but what the hop itself uses. -/
def Rest (d : Bool) (c : Dev nD) (H : ℕ) : sProp 𝕄 :=
  iprop(cpos d c H ∗ (bigSep (Finset.Ico H 11) fun h => credS (F := F) c (st h (sc d)))
    ∗ (bigSep (Finset.Ico H 12) fun h => iprop(credS (F := F) c (st h (si d 0)) ∗ credS c (st h (si d 1))))
    ∗ (posS c (st H (si d 0)) ∗ posS c (st H (si d 1)))
    ∗ (bigSep (Finset.Ico (H + 1) 12) fun j => Release.readerAt (ES (F := F)) ((c, d, j) : Key) 0)
    ∗ (bigSep (Finset.Ico (H + 1) 12) fun j => Release.writeTok (ES (F := F)) ((nbr d c, d, j) : Key) 1)
    ∗ (bigSep (Finset.range H) (fact d c))
    ∗ semVal ((c : Thread nD τ), .dma (ssem d ((H + 1) % 2) 0)) 0 ∗ semVal ((c : Thread nD τ), .dma (ssem d ((H + 1) % 2) 1)) 0)

/-- At the start of hop `H`. -/
def Dr (d : Bool) (c : Dev nD) (H : ℕ) : sProp 𝕄 :=
  iprop(cpos d c (H - 1) ∗ (bigSep (Finset.Ico (H - 1) 11) fun h => credS (F := F) c (st h (sc d)))
    ∗ (bigSep (Finset.Ico (H - 1) 12) fun h => iprop(credS (F := F) c (st h (si d 0)) ∗ credS c (st h (si d 1))))
    ∗ (posS c (st (H - 1) (si d 0)) ∗ posS c (st (H - 1) (si d 1)))
    ∗ (posS c (st H (si d 0)) ∗ posS c (st H (si d 1)))
    ∗ (bigSep (Finset.Ico (H + 1) 12) fun j => Release.readerAt (ES (F := F)) ((c, d, j) : Key) 0)
    ∗ (bigSep (Finset.Ico H 12) fun j => Release.writeTok (ES (F := F)) ((nbr d c, d, j) : Key) 1)
    ∗ (bigSep (Finset.range H) (fact d c))
    ∗ (semVal ((c : Thread nD τ), .dma (ssem d (H % 2) 0)) 0 ∗ semVal ((c : Thread nD τ), .dma (ssem d (H % 2) 1)) 0)
    ∗ semVal ((c : Thread nD τ), .dma (ssem d ((H + 1) % 2) 0)) 0 ∗ semVal ((c : Thread nD τ), .dma (ssem d ((H + 1) % 2) 1)) 0)

/-- The wait for the credit of hop `H`: the neighbour's slot is free. -/
theorem credit {Q : α → sProp 𝕄} (d : Bool) (c : Dev nD) (H : ℕ) {u : ℕ} (hH : 1 ≤ H) (hH' : H < 12) (hu : st H 0 ≤ u)
    {sem : Sem sig} {k : PUnit → Prog (TpuEff nD τ sig (Elt F) Λ₀ .tc) α} (hS : SemLoc.reg sem = psem (kc d)) :
    iprop(Ctx m K ks ∗ fuel c u ∗ Dr d c H)
      ⊢ iprop(((fuel c u ∗ Rest d c H ∗ (Rc d c H 0 ∗ Rc d c H 1) ∗ (Sd d c H 0 ∗ Sd d c H 1)) -∗ WP c (k ⟨⟩) Q) -∗ WP c (.op (.semWait sem 1) k) Q) := by
  obtain ⟨h, rfl⟩ := Nat.exists_eq_add_of_le' hH
  unfold Dr Rest Rc Sd
  rw [Nat.add_sub_cancel, big_ico (a := h) (b := 11) (by omega), big_ico (a := h) (b := 12) (by omega), big_ico (a := h + 1) (b := 12) (Φ := fun j => Release.writeTok (ES (F := F)) ((nbr d c, d, j) : Key) 1) (by omega)]
  iintro ⟨#HC, Hf, Hcp, ⟨Hc, Hcs⟩, ⟨⟨Hr0, Hr1⟩, Hrs⟩, ⟨Hp0, Hp1⟩, Hq, Hrd, ⟨Hw, Hws⟩, Hfa, ⟨Hs0, Hs1⟩, Ht⟩ Hk
  iapply (cred_wait m K ks (d := d) (n := h) (u := u) (by omega) (by unfold st at hu; omega) hS) $$ [Hf Hc Hcp]
  · isplitr; · iexact HC
    isplitl [Hf]; · iexact Hf
    isplitl [Hc] <;> iassumption
  iintro ⟨Hf, Hfact, Hcp⟩
  unfold fact
  icases Hfact with ⟨Hrel, Hre0, Hre1⟩
  ihave HI := (Ctx_slot m K ks (k := (nbr d c, d, h + 1)) (mem_keys (by omega) hH')) $$ HC
  imod (Release.slot_take (ES (F := F)) (Set.mem_univ _) 1) $$ [HI Hrel Hw] with HS
  · isplitl [HI]; · iexact HI
    isplitl [Hrel] <;> iassumption
  unfold Sl
  ihave HS := (exR_split d (nbr d c) ((h + 1 + 1) % 2)) $$ HS
  icases HS with ⟨HS0, HS1⟩
  iapply Hk
  isplitl [Hf]; · iexact Hf
  isplitl [Hcp Hcs Hrs Hq Hrd Hws Hfa Ht]
  · isplitl [Hcp]; · iexact Hcp
    isplitl [Hcs]; · iexact Hcs
    isplitl [Hrs]; · iexact Hrs
    isplitl [Hq]; · iexact Hq
    isplitl [Hrd]; · iexact Hrd
    isplitl [Hws]; · iexact Hws
    isplitl [Hfa] <;> iassumption
  isplitl [Hr0 Hr1 Hp0 Hp1]
  · isplitl [Hr0 Hp0]
    · isplitl [Hr0] <;> iassumption
    · isplitl [Hr1] <;> iassumption
  isplitl [Hre0 Hs0 HS0]
  · isplitl [Hre0]; · iexact Hre0
    isplitl [Hs0] <;> iassumption
  · isplitl [Hre1]; · iexact Hre1
    isplitl [Hs1] <;> iassumption

theorem amt_sc {d : Bool} {H : ℕ} (hH : H < 11) (c : Dev nD) : amt (st H (sc d)) c = 1 := by
  rw [amt_st (by cases d <;> decide)]
  cases d <;> exact if_pos hH
theorem pi_sc {d : Bool} {H : ℕ} (c : Dev nD) : pi (st H (sc d)) c = prb d c := by
  rw [pi_st (by cases d <;> decide)]; cases d <;> rfl

/-- The credit given at the end of hop `H`. -/
theorem give {Q : α → sProp 𝕄} (d : Bool) (c : Dev nD) (H : ℕ) {n : Dev nD} (hH : H < 11) (hn : n = prb d c)
    {sem : Sem sig} {k : PUnit → Prog (TpuEff nD τ sig (Elt F) Λ₀ .tc) α} (hS : SemLoc.reg sem = psem (kx (st H (sc d)))) :
    iprop(Ctx m K ks ∗ fuel c (st H (sc d)) ∗ Rest d c H ∗ (Nx d c (H + 1) 0 ∗ Nx d c (H + 1) 1) ∗ exR d c (rowsR (H % 2) 0 256)
        ∗ semVal ((c : Thread nD τ), .dma (ssem d (H % 2) 0)) 0 ∗ semVal ((c : Thread nD τ), .dma (ssem d (H % 2) 1)) 0)
      ⊢ iprop(((fuel c (st H (sc d) + 1) ∗ Dr d c (H + 1)) -∗ WP c (k ⟨⟩) Q) -∗ WP c (.op (.semSignal (Dev.tc n : Thread nD τ) sem 1) k) Q) := by
  have hs : sc d < 8 ∧ 6 ≤ sc d := by cases d <;> decide
  have h2 : (H + 1 + 1) % 2 = H % 2 := by omega
  have hP : Pay m (st H (sc d)) n = crPay d c H := by
    rw [Pay_st m hs.1, hn]
    have h := nbr_prb d c
    cases d
    · show crPay false (rightD (prb false c)) H = _; rw [show rightD (prb false c) = c from h]
    · show crPay true (leftD (prb true c)) H = _; rw [show leftD (prb true c) = c from h]
  have hr0 : rnd (st H (sc d)) = 0 := by
    rw [rnd_st hs.1]; cases d <;> rfl
  have hsl : iprop(exR (F := F) d c (rowsR (H % 2) 0 256)) = Sl ((c, d, H + 1) : Key) := by
    unfold Sl; rw [h2]
  rw [hsl]
  unfold Rest Nx Dr
  rw [Nat.add_sub_cancel, h2, big_ico (a := H + 1) (b := 12) (Φ := fun j => Release.readerAt (ES (F := F)) ((c, d, j) : Key) 0) (by omega), big_range (n := H)]
  iintro ⟨#HC, Hf, ⟨Hcp, Hcs, Hrs, Hq, ⟨Hrd, Hrds⟩, Hws, #Hfa, Ht0, Ht1⟩, ⟨⟨Hp0, #Hre0⟩, Hp1, #Hre1⟩, HS, Hs0, Hs1⟩ Hk
  ihave HI := (Ctx_slot m K ks (k := (c, d, H + 1)) (mem_keys (by omega) (by omega))) $$ HC
  imod (Release.slot_release (ES (F := F)) (Set.mem_univ _) (Sl_Sl _) 0) $$ [HI Hrd HS] with ⟨-, #Hrel⟩
  · isplitl [HI]; · iexact HI
    isplitl [Hrd] <;> iassumption
  iapply (pay_signal m K ks (t := st H (sc d)) (st_lt (by omega) hs.1) (hn.trans (pi_sc c).symm) (amt_sc hH c) hS hr0) $$ [Hf]
  · isplitr; · iexact HC
    isplitl [Hf]; · iexact Hf
    rw [hP]; unfold crPay; rw [big_range]
    isplitr
    · unfold fact
      isplitr; · iexact Hrel
      isplitr <;> iassumption
    · iexact Hfa
  iintro Hf
  iapply Hk
  isplitl [Hf]; · iexact Hf
  isplitl [Hcp]; · iexact Hcp
  isplitl [Hcs]; · iexact Hcs
  isplitl [Hrs]; · iexact Hrs
  isplitl [Hq]; · iexact Hq
  isplitl [Hp0 Hp1]; · isplitl [Hp0] <;> iassumption
  isplitl [Hrds]; · iexact Hrds
  isplitl [Hws]; · iexact Hws
  isplitr
  · isplitr
    · unfold fact
      isplitr; · iexact Hrel
      isplitr <;> iassumption
    · iexact Hfa
  isplitl [Ht0 Ht1]; · isplitl [Ht0] <;> iassumption
  isplitl [Hs0] <;> iassumption

end Cert.KernelIdeal.Gather
-- ==== Proof.Segs.lean ====
/-
  The stretches at the start and at the end of a hop.
-/
module

public import proofs.«01_k».proof.Proof.Ring

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## The end of a hop -/

/-- The waits for a hop's four sends. -/
theorem sents {Q : α → sProp 𝕄} (c : Dev nD) (H : ℕ) {u : ℕ} (hu4 : 4 ≤ u) (D : Bool → ℕ → sProp 𝕄)
    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    {sa1 sb1 : Space} {sha1 shb1 : Shape} {ea1 eb1 : EltTy}
    {r1 : DmaSem sig} {wa1 : Memref sig .tc sa1 sha1 ea1} {wb1 : Memref sig .tc sb1 shb1 eb1} {hwa1 : wa1.view.WordExact} {hwb1 : wb1.view.WordExact}
    {sa2 sb2 : Space} {sha2 shb2 : Shape} {ea2 eb2 : EltTy}
    {r2 : DmaSem sig} {wa2 : Memref sig .tc sa2 sha2 ea2} {wb2 : Memref sig .tc sb2 shb2 eb2} {hwa2 : wa2.view.WordExact} {hwb2 : wb2.view.WordExact}
    {sa3 sb3 : Space} {sha3 shb3 : Shape} {ea3 eb3 : EltTy}
    {r3 : DmaSem sig} {wa3 : Memref sig .tc sa3 sha3 ea3} {wb3 : Memref sig .tc sb3 shb3 eb3} {hwa3 : wa3.view.WordExact} {hwb3 : wb3.view.WordExact}
    (hs0 : r0 = ssem false (H % 2) 0) (hN0 : wb0.view.dmaCredit = NR) (hs1 : r1 = ssem true (H % 2) 0) (hN1 : wb1.view.dmaCredit = NR) (hs2 : r2 = ssem false (H % 2) 1) (hN2 : wb2.view.dmaCredit = NR) (hs3 : r3 = ssem true (H % 2) 1) (hN3 : wb3.view.dmaCredit = NR)
    {k : PUnit → Prog (TpuEff nD τ sig (Elt F) Λ₀ .tc) α} :
    iprop(Ctx m K ks ∗ fuel c u ∗ (Fl false c H 0 (D false 0) ∗ Fl true c H 0 (D true 0) ∗ Fl false c H 1 (D false 1) ∗ Fl true c H 1 (D true 1)))
      ⊢ iprop(((fuel c u ∗ (D false 0 ∗ D true 0 ∗ D false 1 ∗ D true 1) ∗ (semVal ((c : Thread nD τ), .dma (ssem false (H % 2) 0)) 0 ∗ semVal ((c : Thread nD τ), .dma (ssem false (H % 2) 1)) 0) ∗ semVal ((c : Thread nD τ), .dma (ssem true (H % 2) 0)) 0 ∗ semVal ((c : Thread nD τ), .dma (ssem true (H % 2) 1)) 0) -∗ WP c (k ⟨⟩) Q)
          -∗ WP c (.op (.waitDma2 r0 wa0 wb0 hwa0 hwb0) fun _ =>
            .op (.waitDma2 r1 wa1 wb1 hwa1 hwb1) fun _ =>
            .op (.waitDma2 r2 wa2 wb2 hwa2 hwb2) fun _ =>
            .op (.waitDma2 r3 wa3 wb3 hwa3 hwb3) k) Q) := by
  iintro ⟨#HC, Hf, H0, H1, H2, H3⟩ Hk
  iapply (sent m K ks false c H 0 (u := u) hu4 hs0 hN0) $$ [Hf H0]
  · isplitr; · iexact HC
    isplitl [Hf]; · iexact Hf
    iexact H0
  iintro ⟨Hf, HD0, HV0⟩
  iapply (sent m K ks true c H 0 (u := u) hu4 hs1 hN1) $$ [Hf H1]
  · isplitr; · iexact HC
    isplitl [Hf]; · iexact Hf
    iexact H1
  iintro ⟨Hf, HD1, HV1⟩
  iapply (sent m K ks false c H 1 (u := u) hu4 hs2 hN2) $$ [Hf H2]
  · isplitr; · iexact HC
    isplitl [Hf]; · iexact Hf
    iexact H2
  iintro ⟨Hf, HD2, HV2⟩
  iapply (sent m K ks true c H 1 (u := u) hu4 hs3 hN3) $$ [Hf H3]
  · isplitr; · iexact HC
    isplitl [Hf]; · iexact Hf
    iexact H3
  iintro ⟨Hf, HD3, HV3⟩
  iapply Hk
  isplitl [Hf]; · iexact Hf
  isplitl [HD0 HD1 HD2 HD3]
  · isplitl [HD0]; · iexact HD0
    isplitl [HD1]; · iexact HD1
    isplitl [HD2]; · iexact HD2
    iexact HD3
  isplitl [HV0 HV2]; · isplitl [HV0] <;> iassumption
  isplitl [HV1] <;> iassumption

/-- The end of a hop: the sends are waited for, the slot of each ring is given back. -/
theorem ends {Q : α → sProp 𝕄} (c : Dev nD) (H : ℕ) (hH : H < 11) (D : Bool → ℕ → sProp 𝕄) (R E : Bool → sProp 𝕄)
    (hcl : ∀ d, iprop(R d ∗ D d 0 ∗ D d 1) ⊢ iprop(exR (F := F) d c (rowsR (H % 2) 0 256) ∗ E d))
    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    {sa1 sb1 : Space} {sha1 shb1 : Shape} {ea1 eb1 : EltTy}
    {r1 : DmaSem sig} {wa1 : Memref sig .tc sa1 sha1 ea1} {wb1 : Memref sig .tc sb1 shb1 eb1} {hwa1 : wa1.view.WordExact} {hwb1 : wb1.view.WordExact}
    {sa2 sb2 : Space} {sha2 shb2 : Shape} {ea2 eb2 : EltTy}
    {r2 : DmaSem sig} {wa2 : Memref sig .tc sa2 sha2 ea2} {wb2 : Memref sig .tc sb2 shb2 eb2} {hwa2 : wa2.view.WordExact} {hwb2 : wb2.view.WordExact}
    {sa3 sb3 : Space} {sha3 shb3 : Shape} {ea3 eb3 : EltTy}
    {r3 : DmaSem sig} {wa3 : Memref sig .tc sa3 sha3 ea3} {wb3 : Memref sig .tc sb3 shb3 eb3} {hwa3 : wa3.view.WordExact} {hwb3 : wb3.view.WordExact}
    (hs0 : r0 = ssem false (H % 2) 0) (hN0 : wb0.view.dmaCredit = NR) (hs1 : r1 = ssem true (H % 2) 0) (hN1 : wb1.view.dmaCredit = NR) (hs2 : r2 = ssem false (H % 2) 1) (hN2 : wb2.view.dmaCredit = NR) (hs3 : r3 = ssem true (H % 2) 1) (hN3 : wb3.view.dmaCredit = NR)
    {nf nb : Dev nD} {cf cb : Sem sig} (hnf : nf = prb false c) (hnb : nb = prb true c) (hcf : SemLoc.reg cf = psem (kx (st H (sc false)))) (hcb : SemLoc.reg cb = psem (kx (st H (sc true))))
    {k : PUnit → Prog (TpuEff nD τ sig (Elt F) Λ₀ .tc) α} :
    iprop(Ctx m K ks ∗ fuel c (st H 6) ∗ (Rest false c H ∗ Rest true c H) ∗ ((Nx false c (H + 1) 0 ∗ Nx false c (H + 1) 1) ∗ Nx true c (H + 1) 0 ∗ Nx true c (H + 1) 1)
        ∗ (Fl false c H 0 (D false 0) ∗ Fl true c H 0 (D true 0) ∗ Fl false c H 1 (D false 1) ∗ Fl true c H 1 (D true 1)) ∗ R false ∗ R true)
      ⊢ iprop(((fuel c (st (H + 1) 0) ∗ Dr false c (H + 1) ∗ Dr true c (H + 1) ∗ E false ∗ E true) -∗ WP c (k ⟨⟩) Q)
          -∗ WP c (.op (.waitDma2 r0 wa0 wb0 hwa0 hwb0) fun _ =>
            .op (.waitDma2 r1 wa1 wb1 hwa1 hwb1) fun _ =>
            .op (.waitDma2 r2 wa2 wb2 hwa2 hwb2) fun _ =>
            .op (.waitDma2 r3 wa3 wb3 hwa3 hwb3) fun _ =>
            .op (.semSignal (Dev.tc nf : Thread nD τ) cf 1) fun _ => .op (.semSignal (Dev.tc nb : Thread nD τ) cb 1) k) Q) := by
  have e6 : st H 6 = st H (sc false) := rfl
  have e7 : st H (sc false) + 1 = st H (sc true) := rfl
  have e8 : st H (sc true) + 1 = st (H + 1) 0 := by unfold st; show 4 + 8 * H + 7 + 1 = _; omega
  iintro ⟨#HC, Hf, ⟨HRf, HRb⟩, ⟨HNf, HNb⟩, HF, HF0, HB0⟩ Hk
  iapply (sents m K ks c H (u := st H 6) (by unfold st; omega) D hs0 hN0 hs1 hN1 hs2 hN2 hs3 hN3) $$ [Hf HF]
  · isplitr; · iexact HC
    isplitl [Hf] <;> iassumption
  iintro ⟨Hf, ⟨HD0, HD1, HD2, HD3⟩, ⟨HV0, HV2⟩, HV1, HV3⟩
  ihave HF := (hcl false) $$ [HF0 HD0 HD2]
  · isplitl [HF0]; · iexact HF0
    isplitl [HD0] <;> iassumption
  icases HF with ⟨HSf, HEf⟩
  ihave HB := (hcl true) $$ [HB0 HD1 HD3]
  · isplitl [HB0]; · iexact HB0
    isplitl [HD1] <;> iassumption
  icases HB with ⟨HSb, HEb⟩
  rw [e6]
  iapply (give m K ks false c H hH hnf hcf) $$ [Hf HRf HNf HSf HV0 HV2]
  · isplitr; · iexact HC
    isplitl [Hf]; · iexact Hf
    isplitl [HRf]; · iexact HRf
    isplitl [HNf]; · iexact HNf
    isplitl [HSf]; · iexact HSf
    isplitl [HV0] <;> iassumption
  iintro ⟨Hf, HDf⟩
  rw [e7]
  iapply (give m K ks true c H hH hnb hcb) $$ [Hf HRb HNb HSb HV1 HV3]
  · isplitr; · iexact HC
    isplitl [Hf]; · iexact Hf
    isplitl [HRb]; · iexact HRb
    isplitl [HNb]; · iexact HNb
    isplitl [HSb]; · iexact HSb
    isplitl [HV1] <;> iassumption
  iintro ⟨Hf, HDb⟩
  rw [e8]
  iapply Hk
  isplitl [Hf]; · iexact Hf
  isplitl [HDf]; · iexact HDf
  isplitl [HDb]; · iexact HDb
  isplitl [HEf]; · iexact HEf
  iexact HEb

theorem empI : ⊢ (emp : sProp 𝕄) := Entails.rfl
/-- What comes back at the end of a hop that passes on what landed: the slot is whole again. -/
theorem whole_mid (c : Dev nD) (H : ℕ) (d : Bool) :
    iprop(ringPts d c (rowsR (H % 2) 0 256) fullShare.right (SR m d c (H - 1)) ∗ Hf m d c H 0 fullShare.left ∗ Hf m d c H 1 fullShare.left)
      ⊢ iprop(exR (F := F) d c (rowsR (H % 2) 0 256) ∗ emp) := by
  iintro ⟨Hr, H0, H1⟩
  ihave Hl := (Hf_join m d c H fullShare.left) $$ [H0 H1]
  · isplitl [H0] <;> iassumption
  isplitl [Hr Hl]
  · unfold exR
    iexists (SR m d c (H - 1))
    iapply (ringPts_share d c (rowsR (H % 2) 0 256) (SR m d c (H - 1)) fullShare).2
    isplitl [Hl] <;> iassumption
  · iapply empI
/-- And of a hop that sends the quarters of a block: they come back. -/
theorem whole_inj (c : Dev nD) (H : ℕ) (q : PosShare TreeShare) (d : Bool) :
    iprop(ringPts d c (rowsR (H % 2) 0 256) fullShare (SR m d c (H - 1)) ∗ Qt m d c H 0 q ∗ Qt m d c H 1 q)
      ⊢ iprop(exR (F := F) d c (rowsR (H % 2) 0 256) ∗ Qt m d c H 0 q ∗ Qt m d c H 1 q) := by
  iintro ⟨Hr, H0, H1⟩
  isplitl [Hr]
  · unfold exR; iexists (SR m d c (H - 1)); iexact Hr
  isplitl [H0] <;> iassumption

/-! ## A hop that starts a group -/

theorem rowsC_split (lo a b n : ℕ) (hn : n = a + b) : rowsC lo n = rowsC lo a ∪ rowsC (lo + a) b := by
  subst hn; ext i; simp only [rowsC, Finset.mem_filter, Finset.mem_union, Finset.mem_univ, true_and]; omega
theorem rowsC_disj (lo a b : ℕ) : Disjoint (rowsC lo a) (rowsC (lo + a) b) := by
  rw [Finset.disjoint_left]; intro i; simp only [rowsC, Finset.mem_filter, Finset.mem_univ, true_and]; omega
theorem colPts_split (c : Dev nD) (lo a b n : ℕ) (hn : n = a + b) (q : PosShare TreeShare) (X : S2048x8192.Idx → Elt F .bf16) :
    colPts c (rowsC lo n) q X ⊣⊢ iprop(colPts c (rowsC lo a) q X ∗ colPts c (rowsC (lo + a) b) q X) := by
  rw [rowsC_split lo a b n hn]; exact pointsTo_union (rowsC_disj lo a b)

/-- A block's four quarters. -/
def Qts (c : Dev nD) (H : ℕ) (q : PosShare TreeShare) : sProp 𝕄 := iprop((Qt m false c H 0 q ∗ Qt m true c H 0 q) ∗ Qt m false c H 1 q ∗ Qt m true c H 1 q)
theorem Qt_split (c : Dev nD) (H : ℕ) (q : PosShare TreeShare) : colPts c (blk (zs (zc c) (H / 3))) q (CB m c) ⊣⊢ Qts m c H q := by
  unfold Qts
  have h1 := colPts_split (F := F) c (512 * zs (zc c) (H / 3)) 256 256 512 rfl q (CB m c)
  have h2 : colPts c (rowsC (512 * zs (zc c) (H / 3)) 256) q (CB m c) ⊣⊢ iprop(Qt m false c H 0 q ∗ Qt m false c H 1 q) := colPts_split (F := F) c (512 * zs (zc c) (H / 3)) 128 128 256 rfl q (CB m c)
  have h3 : colPts c (rowsC (512 * zs (zc c) (H / 3) + 256) 256) q (CB m c) ⊣⊢ iprop(Qt m true c H 0 q ∗ Qt m true c H 1 q) := colPts_split (F := F) c (512 * zs (zc c) (H / 3) + 256) 128 128 256 rfl q (CB m c)
  constructor
  · iintro HH
    ihave HH := h1.1 $$ HH
    icases HH with ⟨HA, HB⟩
    ihave HA := h2.1 $$ HA
    ihave HB := h3.1 $$ HB
    icases HA with ⟨H0, H2⟩
    icases HB with ⟨H1, H3⟩
    isplitl [H0 H1]; · isplitl [H0] <;> iassumption
    isplitl [H2] <;> iassumption
  · iintro ⟨⟨H0, H1⟩, H2, H3⟩
    iapply h1.2
    isplitl [H0 H2]
    · iapply h2.2; isplitl [H0] <;> iassumption
    · iapply h3.2; isplitl [H1] <;> iassumption

/-- The four sends of a block into the rings. -/
theorem inj4 {Q : α → sProp 𝕄} (c : Dev nD) (H : ℕ) {p' : ℕ} (hH : H < 12) (h3 : H % 3 = 0) (hp' : p' = (H + 1) % 2)
    {n0 : Dev nD} {of0 : Fin 2 → ℕ} {ha0 hb0} {hc0 : (slotF p' 0 hb0).view.ref.isScScratch = false} {u0 v0 : DmaSem sig} {xa0 : (colM of0 ha0).view.WordExact} {xb0 : (slotF p' 0 hb0).view.WordExact}
    {xt0 : DmaTarget.Typed .vmem (.dma v0) (.remote (Dev.tc n0 : Thread nD τ) (slotF p' 0 hb0) (.dma u0) hc0)}
    {n1 : Dev nD} {of1 : Fin 2 → ℕ} {ha1 hb1} {hc1 : (slotB p' 0 hb1).view.ref.isScScratch = false} {u1 v1 : DmaSem sig} {xa1 : (colM of1 ha1).view.WordExact} {xb1 : (slotB p' 0 hb1).view.WordExact}
    {xt1 : DmaTarget.Typed .vmem (.dma v1) (.remote (Dev.tc n1 : Thread nD τ) (slotB p' 0 hb1) (.dma u1) hc1)}
    {n2 : Dev nD} {of2 : Fin 2 → ℕ} {ha2 hb2} {hc2 : (slotF p' 128 hb2).view.ref.isScScratch = false} {u2 v2 : DmaSem sig} {xa2 : (colM of2 ha2).view.WordExact} {xb2 : (slotF p' 128 hb2).view.WordExact}
    {xt2 : DmaTarget.Typed .vmem (.dma v2) (.remote (Dev.tc n2 : Thread nD τ) (slotF p' 128 hb2) (.dma u2) hc2)}
    {n3 : Dev nD} {of3 : Fin 2 → ℕ} {ha3 hb3} {hc3 : (slotB p' 128 hb3).view.ref.isScScratch = false} {u3 v3 : DmaSem sig} {xa3 : (colM of3 ha3).view.WordExact} {xb3 : (slotB p' 128 hb3).view.WordExact}
    {xt3 : DmaTarget.Typed .vmem (.dma v3) (.remote (Dev.tc n3 : Thread nD τ) (slotB p' 128 hb3) (.dma u3) hc3)}
    (hn0 : n0 = nbr false c) (hof0 : of0 = ![512 * zs (zc c) (H / 3) + 0 + 0, 0]) (hS0 : SemLoc.dma v0 = psem (kx (st H (si false 0)))) (hU0 : u0 = ssem false (H % 2) 0)
    (hn1 : n1 = nbr true c) (hof1 : of1 = ![512 * zs (zc c) (H / 3) + 256 + 0, 0]) (hS1 : SemLoc.dma v1 = psem (kx (st H (si true 0)))) (hU1 : u1 = ssem true (H % 2) 0)
    (hn2 : n2 = nbr false c) (hof2 : of2 = ![512 * zs (zc c) (H / 3) + 0 + 128, 0]) (hS2 : SemLoc.dma v2 = psem (kx (st H (si false 1)))) (hU2 : u2 = ssem false (H % 2) 1)
    (hn3 : n3 = nbr true c) (hof3 : of3 = ![512 * zs (zc c) (H / 3) + 256 + 128, 0]) (hS3 : SemLoc.dma v3 = psem (kx (st H (si true 1)))) (hU3 : u3 = ssem true (H % 2) 1)
    {k : PUnit → Prog (TpuEff nD τ sig (Elt F) Λ₀ .tc) α} {q : PosShare TreeShare} :
    iprop(Ctx m K ks ∗ fuel c (st H 2) ∗ Qts m c H q ∗ (Sd false c H 0 ∗ Sd false c H 1) ∗ Sd true c H 0 ∗ Sd true c H 1)
      ⊢ iprop(((fuel c (st H 6) ∗ Fl false c H 0 (Qt m false c H 0 q) ∗ Fl true c H 0 (Qt m true c H 0 q) ∗ Fl false c H 1 (Qt m false c H 1 q) ∗ Fl true c H 1 (Qt m true c H 1 q)) -∗ WP c (k ⟨⟩) Q)
          -∗ WP c (.op (.enqueueDma (colM of0 ha0) (.remote (Dev.tc n0 : Thread nD τ) (slotF p' 0 hb0) (.dma u0) hc0) (.dma v0) xa0 xb0 xt0) fun _ =>
            .op (.enqueueDma (colM of1 ha1) (.remote (Dev.tc n1 : Thread nD τ) (slotB p' 0 hb1) (.dma u1) hc1) (.dma v1) xa1 xb1 xt1) fun _ =>
            .op (.enqueueDma (colM of2 ha2) (.remote (Dev.tc n2 : Thread nD τ) (slotF p' 128 hb2) (.dma u2) hc2) (.dma v2) xa2 xb2 xt2) fun _ =>
            .op (.enqueueDma (colM of3 ha3) (.remote (Dev.tc n3 : Thread nD τ) (slotB p' 128 hb3) (.dma u3) hc3) (.dma v3) xa3 xb3 xt3) k) Q) := by
  unfold Qts
  iintro ⟨#HC, Hf, ⟨⟨HQ0, HQ1⟩, HQ2, HQ3⟩, ⟨HS0, HS2⟩, HS1, HS3⟩ Hk
  iapply (inject m K ks false c H 0 hH h3 (by decide) rfl hof0 hp' hn0 hS0 hU0) $$ [Hf HQ0 HS0]
  · isplitr; · iexact HC
    isplitl [Hf]; · iexact Hf
    isplitl [HQ0]; · iexact HQ0
    iexact HS0
  iintro ⟨Hf, HL0⟩
  iapply (inject m K ks true c H 0 hH h3 (by decide) rfl hof1 hp' hn1 hS1 hU1) $$ [Hf HQ1 HS1]
  · isplitr; · iexact HC
    isplitl [Hf]; · iexact Hf
    isplitl [HQ1]; · iexact HQ1
    iexact HS1
  iintro ⟨Hf, HL1⟩
  iapply (inject m K ks false c H 1 hH h3 (by decide) rfl hof2 hp' hn2 hS2 hU2) $$ [Hf HQ2 HS2]
  · isplitr; · iexact HC
    isplitl [Hf]; · iexact Hf
    isplitl [HQ2]; · iexact HQ2
    iexact HS2
  iintro ⟨Hf, HL2⟩
  iapply (inject m K ks true c H 1 hH h3 (by decide) rfl hof3 hp' hn3 hS3 hU3) $$ [Hf HQ3 HS3]
  · isplitr; · iexact HC
    isplitl [Hf]; · iexact Hf
    isplitl [HQ3]; · iexact HQ3
    iexact HS3
  iintro ⟨Hf, HL3⟩
  iapply Hk
  isplitl [Hf]; · iexact Hf
  isplitl [HL0]; · iexact HL0
  isplitl [HL1]; · iexact HL1
  isplitl [HL2]; · iexact HL2
  iexact HL3

/-- The waits for the four halves that landed before. -/
theorem recvs {Q : α → sProp 𝕄} (c : Dev nD) (H : ℕ) {u : ℕ} (hH : 1 ≤ H) (hH' : H ≤ 12) (hu : st H 0 ≤ u)
    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    {sa1 sb1 : Space} {sha1 shb1 : Shape} {ea1 eb1 : EltTy}
    {r1 : DmaSem sig} {wa1 : Memref sig .tc sa1 sha1 ea1} {wb1 : Memref sig .tc sb1 shb1 eb1} {hwa1 : wa1.view.WordExact} {hwb1 : wb1.view.WordExact}
    {sa2 sb2 : Space} {sha2 shb2 : Shape} {ea2 eb2 : EltTy}
    {r2 : DmaSem sig} {wa2 : Memref sig .tc sa2 sha2 ea2} {wb2 : Memref sig .tc sb2 shb2 eb2} {hwa2 : wa2.view.WordExact} {hwb2 : wb2.view.WordExact}
    {sa3 sb3 : Space} {sha3 shb3 : Shape} {ea3 eb3 : EltTy}
    {r3 : DmaSem sig} {wa3 : Memref sig .tc sa3 sha3 ea3} {wb3 : Memref sig .tc sb3 shb3 eb3} {hwa3 : wa3.view.WordExact} {hwb3 : wb3.view.WordExact}
    (hR0 : SemLoc.dma r0 = psem (kx (st (H - 1) (si false 0)))) (hN0 : wb0.view.dmaCredit = NR)
    (hR1 : SemLoc.dma r1 = psem (kx (st (H - 1) (si true 0)))) (hN1 : wb1.view.dmaCredit = NR)
    (hR2 : SemLoc.dma r2 = psem (kx (st (H - 1) (si false 1)))) (hN2 : wb2.view.dmaCredit = NR)
    (hR3 : SemLoc.dma r3 = psem (kx (st (H - 1) (si true 1)))) (hN3 : wb3.view.dmaCredit = NR)
    {k : PUnit → Prog (TpuEff nD τ sig (Elt F) Λ₀ .tc) α} :
    iprop(Ctx m K ks ∗ fuel c u ∗ (Rc false c H 0 ∗ Rc false c H 1) ∗ Rc true c H 0 ∗ Rc true c H 1)
      ⊢ iprop(((fuel c u ∗ (ringPts false c (rowsR (H % 2) 0 256) fullShare (SR m false c (H - 1)) ∗ ringPts true c (rowsR (H % 2) 0 256) fullShare (SR m true c (H - 1)))
              ∗ (Nx false c (H + 1) 0 ∗ Nx false c (H + 1) 1) ∗ Nx true c (H + 1) 0 ∗ Nx true c (H + 1) 1) -∗ WP c (k ⟨⟩) Q)
          -∗ WP c (.op (.waitDma2 r0 wa0 wb0 hwa0 hwb0) fun _ =>
            .op (.waitDma2 r1 wa1 wb1 hwa1 hwb1) fun _ =>
            .op (.waitDma2 r2 wa2 wb2 hwa2 hwb2) fun _ =>
            .op (.waitDma2 r3 wa3 wb3 hwa3 hwb3) k) Q) := by
  iintro ⟨#HC, Hf, ⟨HS0, HS2⟩, HS1, HS3⟩ Hk
  iapply (recv m K ks false c H 0 (u := u) hH hH' (by decide) hu hR0 hN0) $$ [Hf HS0]
  · isplitr; · iexact HC
    isplitl [Hf]; · iexact Hf
    iexact HS0
  iintro ⟨Hf, HL0, HN0⟩
  iapply (recv m K ks true c H 0 (u := u) hH hH' (by decide) hu hR1 hN1) $$ [Hf HS1]
  · isplitr; · iexact HC
    isplitl [Hf]; · iexact Hf
    iexact HS1
  iintro ⟨Hf, HL1, HN1⟩
  iapply (recv m K ks false c H 1 (u := u) hH hH' (by decide) hu hR2 hN2) $$ [Hf HS2]
  · isplitr; · iexact HC
    isplitl [Hf]; · iexact Hf
    iexact HS2
  iintro ⟨Hf, HL2, HN2⟩
  iapply (recv m K ks true c H 1 (u := u) hH hH' (by decide) hu hR3 hN3) $$ [Hf HS3]
  · isplitr; · iexact HC
    isplitl [Hf]; · iexact Hf
    iexact HS3
  iintro ⟨Hf, HL3, HN3⟩
  ihave HF := (Hf_join m false c H fullShare) $$ [HL0 HL2]
  · isplitl [HL0] <;> iassumption
  ihave HB := (Hf_join m true c H fullShare) $$ [HL1 HL3]
  · isplitl [HL1] <;> iassumption
  iapply Hk
  isplitl [Hf]; · iexact Hf
  isplitl [HF HB]; · isplitl [HF] <;> iassumption
  isplitl [HN0 HN2]; · isplitl [HN0] <;> iassumption
  isplitl [HN1] <;> iassumption

end Cert.KernelIdeal.Gather
-- ==== Proof.Line.lean ====
/-
  The blocks passed along the lines: the sends, the waits, and what of the line buffer is at hand.
-/
module

public import proofs.«01_k».proof.Proof.Segs

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## The line -/

/-- How many blocks device `c` gets along its line, its own counted, from below (`false`) or from above (`true`). -/
abbrev lb (d : Bool) (c : Dev nD) : ℕ := if d then 4 - zc c else zc c + 1
/-- Whether it has a neighbour to pass them on to, upwards or downwards. -/
abbrev lg (d : Bool) (c : Dev nD) : Prop := if d then 0 < zc c else zc c < 3
/-- The `r`-th of these blocks. -/
abbrev ln (d : Bool) (c : Dev nD) (r : ℕ) : ℕ := if d then zc c + r else zc c - r
def lnb (d : Bool) (c : Dev nD) : Dev nD := if d then downD c else upD c
abbrev li (d : Bool) : ℕ := if d then 1 else 0
/-- Whether it passes the `r`-th on. -/
abbrev lsOn (d : Bool) (c : Dev nD) (r : ℕ) : Prop := lg d c ∧ r < lb d c
/-- The semaphore on which that completes. -/
def lsem (d : Bool) (r : ℕ) : DmaSem sig :=
  match d, r with
  | false, 0 => 0 | false, 1 => 1 | false, _ => 2 | true, 0 => 6 | true, 1 => 7 | true, _ => 8

/-- The `r`-th block, if there is one. -/
def Bl (d : Bool) (c : Dev nD) (r : ℕ) (q : PosShare TreeShare) : sProp 𝕄 := if r < lb d c then colPts c (blk (ln d c r)) q (CB m c) else iprop(emp)
/-- The blocks of the neighbour's buffer still to be filled. -/
def tg (d : Bool) (c : Dev nD) (r : ℕ) : sProp 𝕄 :=
  if lg d c then bigSep (Finset.Ico r (lb d c)) fun r => exC (F := F) (lnb d c) (blk (ln d c r)) else iprop(emp)
/-- The passing on of the `r`-th block under way, if it is passed on. -/
def HL (d : Bool) (c : Dev nD) (r : ℕ) (q : PosShare TreeShare) : sProp 𝕄 :=
  if lsOn d c r then Flight EC (c : Thread nD τ) (.dma (lsem d r)) 0 NL (colPts c (blk (ln d c r)) q (CB m c))
  else iprop(semVal ((c : Thread nD τ), .dma (lsem d r)) 0 ∗ Bl m d c r q)

theorem li_lt (d : Bool) : li d < 8 := by cases d <;> decide
theorem pi_li (d : Bool) (H : ℕ) (c : Dev nD) : pi (st H (li d)) c = lnb d c := by
  rw [pi_st (li_lt d)]; cases d <;> rfl
theorem rnd_li (d : Bool) (H : ℕ) : rnd (st H (li d)) = 0 := by rw [rnd_st (li_lt d)]; cases d <;> rfl
theorem amt_li (d : Bool) (c : Dev nD) {r : ℕ} (hr : r < 3) : amt (st (3 * r) (li d)) c = if lsOn d c r then NL else 0 := by
  have hz : zc c ≤ 3 := by have : c.val < 16 := c.isLt; unfold zc; omega
  have e0 : 3 * r % 3 = 0 := Nat.mul_mod_right 3 r
  have e1 : 3 * r / 3 = r := Nat.mul_div_cancel_left r (by decide)
  have e2 : 3 * r < 9 := by omega
  rw [amt_st (li_lt d)]
  cases d
  · show (if 3 * r % 3 = 0 ∧ 3 * r < 9 ∧ upOn c (3 * r / 3) then NL else 0) = _
    rw [e0, e1]
    exact if_congr ⟨fun h => ⟨h.2.2.1, Nat.lt_succ_of_le h.2.2.2⟩, fun h => ⟨rfl, e2, h.1, Nat.le_of_lt_succ h.2⟩⟩ rfl rfl
  · show (if 3 * r % 3 = 0 ∧ 3 * r < 9 ∧ dnOn c (3 * r / 3) then NL else 0) = _
    rw [e0, e1]
    refine if_congr ⟨fun h => ⟨h.2.2.1, ?_⟩, fun h => ⟨rfl, e2, h.1, ?_⟩⟩ rfl rfl
    · have := h.2.2.2; show r < 4 - zc c; omega
    · have : r < 4 - zc c := h.2; omega
/-- A hop that passes nothing along the line. -/
theorem amt_none {H i : ℕ} (hi : i < 2) (h : H % 3 ≠ 0 ∨ 9 ≤ H) (c : Dev nD) : amt (st H i) c = 0 := by
  by_contra hn
  have h0 : 0 < amth H i c := by rw [amt_st (by omega)] at hn; omega
  have := amth_line hi h0
  omega
theorem skip2 (c : Dev nD) {H : ℕ} (hH : H < 12) (h : H % 3 ≠ 0 ∨ 9 ≤ H) : fuel (F := F) c (st H 0) ⊢ fuel c (st H 2) :=
  (fuel_skip c (st_lt hH (by decide)) (amt_none (by decide) h c)).trans (fuel_skip c (t := st H 1) (st_lt hH (by decide)) (amt_none (by decide) h c))

theorem qc_lnb : ∀ d : Bool, ∀ c : Dev nD, qc (lnb d c) = qc c := by decide
theorem zc_lnb : ∀ d : Bool, ∀ c : Dev nD, lg d c → zc (lnb d c) = if d then zc c - 1 else zc c + 1 := by decide
theorem CB_lnb (d : Bool) (c : Dev nD) : CB m (lnb d c) = CB m c := by unfold CB; rw [qc_lnb d c]
theorem Pay_li (d : Bool) (c : Dev nD) {r : ℕ} (h : lsOn d c r) : Pay m (st (3 * r) (li d)) (lnb d c) = colPts (lnb d c) (blk (ln d c r)) fullShare (CB m c) := by
  rw [Pay_st m (li_lt d), ← CB_lnb m d c]
  have hz := zc_lnb d c h.1
  have e1 : 3 * r / 3 = r := Nat.mul_div_cancel_left r (by decide)
  cases d
  · show colPts _ (blk (zc (lnb false c) - 1 - 3 * r / 3)) _ _ = _
    rw [hz, e1]; rfl
  · show colPts _ (blk (zc (lnb true c) + 1 + 3 * r / 3)) _ _ = _
    have h1 : 0 < zc c := h.1
    rw [hz, e1, if_pos rfl, Nat.sub_add_cancel h1]; rfl
/-- The neighbour a block comes from passes it on exactly if the device gets it. -/
theorem amtI_li' : ∀ d : Bool, ∀ c : Dev nD, ∀ r : Fin 3, lsOn d ((pi (st (3 * r.val) (li d))).symm c) r.val ↔ r.val + 1 < lb d c := by decide +kernel
theorem amtI_li (d : Bool) (c : Dev nD) {r : ℕ} (hr : r < 3) : amtI (st (3 * r) (li d)) c = if r + 1 < lb d c then NL else 0 := by
  unfold amtI; rw [amt_li d _ hr]
  exact if_congr (amtI_li' d c ⟨r, hr⟩) rfl rfl
theorem Pay_li' (d : Bool) (c : Dev nD) {r : ℕ} : Pay m (st (3 * r) (li d)) c = colPts c (blk (ln d c (r + 1))) fullShare (CB m c) := by
  rw [Pay_st m (li_lt d)]
  have e1 : 3 * r / 3 = r := Nat.mul_div_cancel_left r (by decide)
  cases d
  · show colPts _ (blk (zc c - 1 - 3 * r / 3)) _ _ = colPts _ (blk (zc c - (r + 1))) _ _
    rw [e1, Nat.sub_sub, Nat.add_comm 1 r]
  · show colPts _ (blk (zc c + 1 + 3 * r / 3)) _ _ = colPts _ (blk (zc c + (r + 1))) _ _
    rw [e1, Nat.add_assoc, Nat.add_comm 1 r]

/-! ### Passing a block on -/

/-- A block passed on at the start of the group `r`, if it is. -/
theorem lineSend {Q : α → sProp 𝕄} (d : Bool) (c : Dev nD) (r : ℕ) (hr : r < 3) {b : BitVec 1} (hb : b = 1#1 ↔ lsOn d c r)
    {n : b = 1#1 → Dev nD} (hn : ∀ h, n h = lnb d c) {off : Fin 2 → ℕ} (hoff : lsOn d c r → off = ![512 * ln d c r, 0])
    {h1 h2 : b = 1#1 → ∀ a, off a + S512x8192.size a ≤ S2048x8192.size a} {hsc : ∀ h, (blkM off (h2 h)).view.ref.isScScratch = false} {sS sem : DmaSem sig}
    {ha : ∀ h, (blkM off (h1 h)).view.WordExact} {hc : ∀ h, (blkM off (h2 h)).view.WordExact}
    {ht : ∀ h, DmaTarget.Typed .vmem (.dma sem) (.remote (Dev.tc (n h) : Thread nD τ) (blkM off (h2 h)) (.dma sS) (hsc h))}
    (hsS : sS = lsem d r) (hsem : SemLoc.dma sem = psem (kx (st (3 * r) (li d)))) {k : PUnit → Prog (TpuEff nD τ sig (Elt F) Λ₀ .tc) α} {q : PosShare TreeShare} :
    iprop(Ctx m K ks ∗ fuel c (st (3 * r) (li d)) ∗ semVal ((c : Thread nD τ), .dma (lsem d r)) 0 ∗ Bl m d c r q ∗ tg d c r)
      ⊢ iprop(((fuel c (st (3 * r) (li d) + 1) ∗ HL m d c r q ∗ tg d c (r + 1)) -∗ WP c (k ⟨⟩) Q)
          -∗ WP c ((Opt b (fun h => (.enqueueDma (blkM off (h1 h)) (.remote (Dev.tc (n h) : Thread nD τ) (blkM off (h2 h)) (.dma sS) (hsc h)) (.dma sem) (ha h) (hc h) (ht h))) >>= k)) Q) := by
  have htT : st (3 * r) (li d) < T := st_lt (by omega) (li_lt d)
  have hamt := amt_li d c hr
  by_cases h : b = 1#1
  · have hl := hb.mp h
    have hP := Pay_li m d c hl
    have hset := fun hh => set_blkM (off := off) hh (hoff hl)
    have hpi : n h = pi (st (3 * r) (li d)) c := (hn h).trans (pi_li d _ c).symm
    unfold Opt
    rw [dif_pos h]
    simp only [Prog.bind_op, Prog.bind_ret]
    unfold tg HL Bl exC colPts
    rw [if_pos hl.1, if_pos hl.1, if_pos hl, if_pos hl.2, big_ico hl.2, ← hsS, ← hn h]
    iintro ⟨#HC, Hf, Hv, Hs, ⟨⟨%fd, Hd⟩, Ht⟩⟩ Hk
    unfold blk
    rw [← hset (h1 h)]
    iapply (pay_dma m K ks htT hpi NL_pos (by rw [hamt, if_pos hl]) (src := blkM off (h1 h)) (dst := blkM off (h2 h)) (fs := CB m c) (fd := fd) hsem rfl (by
        rw [hn h, hP]; unfold colPts blk; rw [← hset (h2 h)]
        exact Entails.of_eq (pointsTo_congr (landed (blkM off (h2 h)).view (blkM off (h1 h)).view (X := CB m c) fun x => rfl)))) $$ [Hf Hv Hs Hd]
    · isplitr; · iexact HC
      isplitl [Hf]; · iexact Hf
      isplitr; · rw [rnd_li]; iapply (Ctx_reached m K ks (n h) (kx (st (3 * r) (li d)))) $$ HC
      isplitl [Hv]; · iexact Hv
      isplitl [Hs] <;> iassumption
    iintro ⟨Hf, HF⟩
    iapply Hk
    isplitl [Hf]; · iexact Hf
    isplitl [HF] <;> iassumption
  · have hl : ¬ lsOn d c r := fun hh => h (hb.mpr hh)
    unfold Opt
    rw [dif_neg h]
    simp only [Prog.bind_ret]
    have htg : tg (F := F) d c r ⊢ tg d c (r + 1) := by
      unfold tg
      by_cases hg : lg d c
      · rw [if_pos hg, if_pos hg, Finset.Ico_eq_empty (by intro h'; exact hl ⟨hg, h'⟩), Finset.Ico_eq_empty (by intro h'; exact hl ⟨hg, by omega⟩)]
      · rw [if_neg hg, if_neg hg]
    unfold HL
    rw [if_neg hl]
    iintro ⟨#HC, Hf, Hv, Hs, Ht⟩ Hk
    ihave Hf := (fuel_skip c htT (by rw [hamt, if_neg hl])) $$ Hf
    ihave Ht := htg $$ Ht
    iapply Hk
    isplitl [Hf]; · iexact Hf
    isplitl [Hv Hs]
    · isplitl [Hv] <;> iassumption
    iexact Ht

/-- The wait, at the end, for a block passed on. -/
theorem lineSent {Q : α → sProp 𝕄} (d : Bool) (c : Dev nD) (r : ℕ) {u : ℕ} (hu4 : 4 ≤ u) {b : BitVec 1} (hb : b = 1#1 ↔ lsOn d c r)
    {sp sp' : Space} {s s' : Shape} {e e' : EltTy} {sem : DmaSem sig} {srcw : b = 1#1 → Memref sig .tc sp' s' e'} {dstw : b = 1#1 → Memref sig .tc sp s e} {ha : ∀ h, (srcw h).view.WordExact} {hc : ∀ h, (dstw h).view.WordExact}
    (hS : sem = lsem d r) (hN : ∀ h, (dstw h).view.dmaCredit = NL) {k : PUnit → Prog (TpuEff nD τ sig (Elt F) Λ₀ .tc) α} {q : PosShare TreeShare} :
    iprop(Ctx m K ks ∗ fuel c u ∗ HL m d c r q)
      ⊢ iprop(((fuel c u ∗ Bl m d c r q ∗ semVal ((c : Thread nD τ), .dma (lsem d r)) 0) -∗ WP c (k ⟨⟩) Q)
          -∗ WP c ((Opt b (fun h => (.waitDma2 sem (srcw h) (dstw h) (ha h) (hc h))) >>= k)) Q) := by
  subst hS
  by_cases h : b = 1#1
  · have hl := hb.mp h
    unfold Opt
    rw [dif_pos h]
    simp only [Prog.bind_op, Prog.bind_ret]
    unfold HL Bl
    rw [if_pos hl, if_pos hl.2]
    exact own_wait m K ks hu4 (hN h)
  · have hl : ¬ lsOn d c r := fun hh => h (hb.mpr hh)
    unfold Opt
    rw [dif_neg h]
    simp only [Prog.bind_ret]
    unfold HL
    rw [if_neg hl]
    iintro ⟨-, Hf, Hv, Hs⟩ Hk
    iapply Hk
    isplitl [Hf]; · iexact Hf
    isplitl [Hs] <;> iassumption

/-! ### The end of a semaphore -/

theorem closeCell (c : Dev nD) (k : Fin 17) (R : ℕ) (hR : ∀ r, R ≤ r → (Rd (F := F) m).duties (cell c k) r = ∅) :
    iprop(Ctx m K ks ∗ atPos (ER (F := F)) (cell c k) R ∅ 0) ⊢ iprop(|={Set.univ}=> semVal (cell c k) 0) := by
  iintro ⟨#HC, Ha⟩
  ihave HI := (Ctx_cell m K ks c k) $$ HC
  iapply (Rounds.cell_close ER (Rd m) (κ := K (c, k)) (Set.mem_univ _) (fun h => h) hR) $$ [HI Ha]
  isplitl [HI] <;> iassumption

theorem kx_line : ∀ t t0 : Fin 100, 4 ≤ t0.val → (t0.val - 4) % 8 < 2 → (t0.val - 4) / 8 % 3 = 0 → (t0.val - 4) / 8 < 9 → kx t.val = kx t0.val →
    t = t0 ∨ (4 ≤ t.val ∧ (t.val - 4) % 8 < 2 ∧ ((t.val - 4) / 8 % 3 ≠ 0 ∨ 9 ≤ (t.val - 4) / 8)) := by decide +kernel
theorem duties_li (d : Bool) (c : Dev nD) {r : ℕ} (hr : r < 3) {R : ℕ} (h : 1 ≤ R ∨ ¬ r + 1 < lb d c) :
    (Rd (F := F) m).duties (cell c (kx (st (3 * r) (li d)))) R = ∅ := by
  have h1 : li d < 2 := by cases d <;> decide
  dsimp only [Rd]
  rw [Finset.filter_eq_empty_iff]
  intro t ht
  rw [Finset.mem_range] at ht
  rintro ⟨-, h3, h4, h5⟩
  have hA := amtI_li d c hr
  have hx := kx_line ⟨t, ht⟩ ⟨st (3 * r) (li d), st_lt (by omega) (li_lt d)⟩ (by show 4 ≤ st (3 * r) (li d); unfold st; omega)
    (by show (st (3 * r) (li d) - 4) % 8 < 2; rw [st_mod (li_lt d)]; exact h1) (by show (st (3 * r) (li d) - 4) / 8 % 3 = 0; rw [st_div (li_lt d)]; omega)
    (by show (st (3 * r) (li d) - 4) / 8 < 9; rw [st_div (li_lt d)]; omega) (psem_inj h3)
  rcases hx with hx | ⟨a1, a2, a3⟩
  · have hx : t = st (3 * r) (li d) := congrArg Fin.val hx
    subst hx
    rcases h with h | h
    · rw [rnd_li] at h4; omega
    · unfold amtI at hA; rw [hA, if_neg h] at h5; exact absurd h5 (lt_irrefl 0)
  · dsimp only at a1 a2 a3
    unfold amt at h5
    rw [if_neg (by omega)] at h5
    have := amth_line a2 h5
    omega

theorem single_li (d : Bool) (H : ℕ) : Single (st H (li d)) := by
  refine ⟨by unfold st; omega, ?_⟩
  rw [st_mod (li_lt d)]; cases d <;> decide

/-- The wait for the next block along the line, if one comes. -/
theorem lineWait {Q : α → sProp 𝕄} (d : Bool) (c : Dev nD) (r : ℕ) (hr : r < 3) {u : ℕ} (hu : st (3 * r + 3) 0 ≤ u) {b : BitVec 1} (hb : b = 1#1 ↔ r + 1 < lb d c)
    {sp sp' : Space} {s s' : Shape} {e e' : EltTy} {sem : DmaSem sig} {srcw : b = 1#1 → Memref sig .tc sp' s' e'} {dstw : b = 1#1 → Memref sig .tc sp s e} {ha : ∀ h, (srcw h).view.WordExact} {hc : ∀ h, (dstw h).view.WordExact}
    (hS : SemLoc.dma sem = psem (kx (st (3 * r) (li d)))) (hN : ∀ h, (dstw h).view.dmaCredit = NL) {k : PUnit → Prog (TpuEff nD τ sig (Elt F) Λ₀ .tc) α} :
    iprop(Ctx m K ks ∗ fuel c u ∗ credS c (st (3 * r) (li d)) ∗ posS c (st (3 * r) (li d)))
      ⊢ iprop(((fuel c u ∗ Bl m d c (r + 1) fullShare ∗ semVal (cell c (kx (st (3 * r) (li d)))) 0) -∗ WP c (k ⟨⟩) Q)
          -∗ WP c ((Opt b (fun h => (.waitDma2 sem (srcw h) (dstw h) (ha h) (hc h))) >>= k)) Q) := by
  have htT : st (3 * r) (li d) < T := st_lt (by omega) (li_lt d)
  have hA := amtI_li d c hr
  have hP := Pay_li' m d c (r := r)
  by_cases h : b = 1#1
  · have hl := hb.mp h
    unfold Opt
    rw [dif_pos h]
    simp only [Prog.bind_op, Prog.bind_ret]
    unfold Bl
    rw [if_pos hl, ← hP]
    iintro ⟨#HC, Hf, Hc, Hp⟩ Hk
    iapply (recv_wait m K ks (t := st (3 * r) (li d)) (u := u) htT (single_li d _) (by have := li_lt d; rw [ix_st]; unfold st at hu ⊢; omega) (by unfold st at hu; omega) NL_pos (by rw [hA, if_pos hl]) hS (hN h)) $$ [Hf Hc Hp]
    · isplitr; · iexact HC
      isplitl [Hf]; · iexact Hf
      isplitl [Hc] <;> iassumption
    iintro ⟨Hf, HP, Ha, -⟩
    imod (closeCell m K ks c (kx (st (3 * r) (li d))) (rnd (st (3 * r) (li d)) + 1) (fun R hR => duties_li m d c hr (.inl (by omega)))) $$ [Ha] with Hv
    · isplitr; · iexact HC
      iexact Ha
    iapply Hk
    isplitl [Hf]; · iexact Hf
    isplitl [HP] <;> iassumption
  · have hl : ¬ r + 1 < lb d c := fun hh => h (hb.mpr hh)
    unfold Opt
    rw [dif_neg h]
    simp only [Prog.bind_ret]
    unfold Bl posS
    rw [if_neg hl]
    iintro ⟨#HC, Hf, -, Ha⟩ Hk
    imod (closeCell m K ks c (kx (st (3 * r) (li d))) (rnd (st (3 * r) (li d))) (fun R hR => duties_li m d c hr (.inr hl))) $$ [Ha] with Hv
    · isplitr; · iexact HC
      iexact Ha
    iapply Hk
    isplitl [Hf]; · iexact Hf
    isplitr; · iapply empI
    iexact Hv

/-! ### The blocks at hand -/

/-- The places whose blocks a device has in group `r`. -/
def At (c : Dev nD) (r : ℕ) : Finset ℕ := (Finset.range 4).filter fun z => z ≤ zc c + r ∧ zc c ≤ z + r
/-- A share of the blocks at hand in group `r`. -/
def Sh (q : PosShare TreeShare) (c : Dev nD) (r : ℕ) : sProp 𝕄 := bigSep (At c r) fun z => colPts c (blk z) q (CB m c)

theorem zs_At : ∀ c : Dev nD, ∀ r : Fin 4, zs (zc c) r.val ∈ At c r.val := by decide
theorem At_zero : ∀ c : Dev nD, At c 0 = {zc c} := by decide
theorem At_three : ∀ c : Dev nD, At c 3 = Finset.range 4 := by decide
/-- The blocks that come in for group `r + 1`. -/
theorem At_succ : ∀ c : Dev nD, ∀ r : Fin 3, (∀ d, r.val + 1 < lb d c → ln d c (r.val + 1) ∉ At c r.val) ∧
    (r.val + 1 < lb false c → r.val + 1 < lb true c → ln false c (r.val + 1) ∉ insert (ln true c (r.val + 1)) (At c r.val)) ∧
    At c (r.val + 1) = (if r.val + 1 < lb false c then {ln false c (r.val + 1)} else ∅) ∪ ((if r.val + 1 < lb true c then {ln true c (r.val + 1)} else ∅) ∪ At c r.val) := by decide
theorem Sh_zero (c : Dev nD) (q : PosShare TreeShare) : Sh m q c 0 = colPts c (blk (zc c)) q (CB m c) := by
  unfold Sh; rw [At_zero c, bigSep_singleton]
theorem Bl_zero (d : Bool) (c : Dev nD) (q : PosShare TreeShare) : Bl m d c 0 q = colPts c (blk (zc c)) q (CB m c) := by
  have hz : zc c ≤ 3 := by have : c.val < 16 := c.isLt; unfold zc; omega
  unfold Bl
  cases d
  · exact if_pos (by show 0 < zc c + 1; omega)
  · exact if_pos (by show 0 < 4 - zc c; omega)
theorem Bl_share (d : Bool) (c : Dev nD) (r : ℕ) (q : PosShare TreeShare) : Bl m d c r q ⊣⊢ iprop(Bl m d c r q.left ∗ Bl m d c r q.right) := by
  unfold Bl; split
  · exact colPts_share c _ _ q
  · constructor
    · iintro -; isplitl <;> iapply empI
    · iintro -; iapply empI

theorem Sh_succ (c : Dev nD) (q : PosShare TreeShare) {r : ℕ} (hr : r < 3) : iprop(Sh m q c r ∗ Bl m false c (r + 1) q ∗ Bl m true c (r + 1) q) ⊢ Sh m q c (r + 1) := by
  obtain ⟨h1, h2, h3⟩ := At_succ c ⟨r, hr⟩
  dsimp only at h1 h2 h3
  unfold Sh Bl
  rw [h3]
  by_cases hu : r + 1 < lb false c <;> by_cases hd : r + 1 < lb true c
  · rw [if_pos hu, if_pos hd, if_pos hu, if_pos hd, ← Finset.insert_eq, ← Finset.insert_eq, big_insert (h2 hu hd), big_insert (h1 true hd)]
    iintro ⟨H, Hu, Hd⟩
    isplitl [Hu]; · iexact Hu
    isplitl [Hd] <;> iassumption
  · rw [if_pos hu, if_neg hd, if_pos hu, if_neg hd, Finset.empty_union, ← Finset.insert_eq, big_insert (h1 false hu)]
    iintro ⟨H, Hu, -⟩
    isplitl [Hu] <;> iassumption
  · rw [if_neg hu, if_pos hd, if_neg hu, if_pos hd, Finset.empty_union, ← Finset.insert_eq, big_insert (h1 true hd)]
    iintro ⟨H, -, Hd⟩
    isplitl [Hd] <;> iassumption
  · rw [if_neg hu, if_neg hd, if_neg hu, if_neg hd, Finset.empty_union, Finset.empty_union]
    iintro ⟨H, -, -⟩
    iexact H
/-- The block that a group passes around the ring, taken out. -/
theorem Sh_take (c : Dev nD) (q : PosShare TreeShare) {r : ℕ} (hr : r < 4) :
    Sh m q c r = iprop(colPts c (blk (zs (zc c) r)) q (CB m c) ∗ bigSep ((At c r).erase (zs (zc c) r)) fun z => colPts c (blk z) q (CB m c)) := by
  unfold Sh; exact bigSep_erase (zs_At c ⟨r, hr⟩)

theorem col_blocks (c : Dev nD) (q : PosShare TreeShare) (X : S2048x8192.Idx → Elt F .bf16) :
    colPts c Finset.univ q X = bigSep (Finset.range 4) fun z => colPts c (blk z) q X := by
  have hd : ∀ a ∈ Finset.range 4, ∀ b ∈ Finset.range 4, a ≠ b → Disjoint (blk a) (blk b) := by
    intro a ha b hb hab
    rw [Finset.disjoint_left]
    intro i h1 h2
    have h1 := (Finset.mem_filter.mp h1).2
    have h2 := (Finset.mem_filter.mp h2).2
    omega
  have h : (_ : sProp 𝕄) = _ := pointsTo_biUnion (ℓ := (c : Thread nD τ).loc cc0_scratch0) (q := q) (f := X) (Finset.range 4) blk hd
  unfold colPts
  rw [← h]
  refine congrArg (fun I => (((c : Thread nD τ).loc cc0_scratch0 ↦[I]{q} X) : sProp 𝕄)) ?_
  ext i
  have hi : (i 0).val < 2048 := (i 0).isLt
  simp only [Finset.mem_univ, Finset.mem_biUnion, Finset.mem_range, true_iff]
  exact ⟨(i 0).val / 512, by omega, Finset.mem_filter.mpr ⟨Finset.mem_univ _, by omega, by omega⟩⟩
/-- All the blocks together. -/
theorem Sh_three (c : Dev nD) (q : PosShare TreeShare) : Sh m q c 3 = colPts c Finset.univ q (CB m c) := by
  unfold Sh; rw [At_three c, col_blocks]

end Cert.KernelIdeal.Gather
-- ==== Proof.Dots.lean ====
/-
  The products and the copies of the results: what they read, and what they leave.
-/
module

public import proofs.«01_k».proof.Proof.Ring

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## Reading and writing a window of a buffer -/

abbrev rMem (d : Bool) : Memref sig .tc .vmem S2x256x8192 .bf16 := match d with | false => Memref.whole cc0_scratch1 | true => Memref.whole cc0_scratch2
abbrev cMem : Memref sig .tc .vmem S2048x8192 .bf16 := Memref.whole cc0_scratch0
abbrev wMem : Memref sig .tc .vmem S8192x256 .bf16 := Memref.whole cc0_scratch3
abbrev bMem : Memref sig .tc .vmem S2x1024x256 .f32 := Memref.whole cc0_scratch6

/-- The rows of a product in a slot of the buffer of products. -/
def P256 (c p : Dev nD) (o : ℕ) : S2x1024x256.Idx → Elt F .f32 := fun i => D256 m c p o (j256 (i 1).val (i 2).val)
def P512 (c p : Dev nD) : S2x1024x256.Idx → Elt F .f32 := fun i => D512 m c p (j512 (i 1).val (i 2).val)
/-- The rows of the product taken in parts of 128. -/
def P128 (c p : Dev nD) : S2x1024x256.Idx → Elt F .f32 := fun i => D128 m c p ((i 1).val / 128 * 128) (j128 (i 1).val (i 2).val)

/-- A window of the buffer of products, and a part of the result, at whatever contents. -/
def exB (c : Dev nD) (I : Finset S2x1024x256.Idx) : sProp 𝕄 := iprop(∃ X, obPts (F := F) c I X)
def exO (c : Dev nD) (I : Finset S8192x256.Idx) : sProp 𝕄 := iprop(∃ X, outPts (F := F) c I X)

theorem acc_set (b : Ref sig .tc) (r : Rect b.ty.shape) : (((Memref.whole b).view.slice r)).set = r.set := View.set_slice_whole _ _

/-- A store into a window leaves there what is stored. -/
theorem stored_at {sp : CoreSpace} {s : Shape} {e : EltTy} (mm : Memref sig .tc sp s e) (r : Rect s) {f : (mm.access r).ty.Contents (Elt F)} {w : r.shape.Idx → Elt F e}
    {X : (mm.access r).ty.Contents (Elt F)} (hX : ∀ x, _root_.cast (congrArg (Elt F) (mm.access r).elt_eq.symm) (w x) = X ((mm.access r).emb x)) :
    ∀ i ∈ (mm.access r).set, (mm.access r).write (Elt F) f w Finset.univ i = X i := by
  intro i hi
  obtain ⟨x, -, rfl⟩ := Finset.mem_map.mp hi
  rw [View.write_emb_of_mem _ _ (Finset.mem_univ x)]
  exact hX x

theorem w_read (c : Dev nD) (h) : (wMem.access (Rect.unit (s := S8192x256) ![0, 0] S8192x256.size h)).read (Elt F) (WB m c) = WB m c := by
  funext x
  show WB m c ((Rect.unit (s := S8192x256) ![0, 0] S8192x256.size h).emb x) = WB m c x
  congr 1
  funext a
  match a with
  | 0 => exact Fin.ext (by show 0 + 1 * (x 0).val = _; omega)
  | 1 => exact Fin.ext (by show 0 + 1 * (x 1).val = _; omega)

/-- A product: rows of a buffer by the staged columns, into a window of the buffer of products. -/
theorem dot {Q : α → sProp 𝕄} (c : Dev nD) {s : Shape} (M : Memref sig .tc .vmem s .bf16) (r : Rect s) (ro : Rect S2x1024x256) {hw}
    {hl : M.view.LoadsAt r.toLoadRect} {hl2 : wMem.view.LoadsAt (Rect.unit (s := S8192x256) ![0, 0] S8192x256.size hw).toLoadRect} {hl3 : bMem.view.LoadsAt ro.toLoadRect}
    {pay : (r.shape.Idx → Elt F .bf16) → (S8192x256.Idx → Elt F .bf16) → (ro.shape.Idx → Elt F .f32)} {hx : (bMem.access ro).Stores Finset.univ} {hm}
    {k : PUnit → Prog (TpuEff nD τ sig (Elt F) Λ₀ .tc) α} {S : Finset (Idx ((M.access r).loc (c : Thread nD τ)))} {q : PosShare TreeShare}
    {fs : Buf (Elt F) ((M.access r).loc (c : Thread nD τ))} (hS : (M.access r).set ⊆ S) {J : Finset S2x1024x256.Idx} (hJ : ro.set = J) (Y : S2x1024x256.Idx → Elt F .f32)
    (hY : ∀ x, pay ((M.access r).read (Elt F) fs) (WB m c) x = Y (ro.emb x)) :
    iprop(((M.access r).loc (c : Thread nD τ) ↦[S]{q} fs) ∗ wbPts c Finset.univ (WB m c) ∗ exB c J)
      ⊢ iprop(((((M.access r).loc (c : Thread nD τ) ↦[S]{q} fs) ∗ wbPts c Finset.univ (WB m c) ∗ obPts c J Y) -∗ WP c (k ⟨⟩) Q)
          -∗ WP c (.op (.load M r.toLoadRect hl) fun a => .op (.load wMem (Rect.unit (s := S8192x256) ![0, 0] S8192x256.size hw).toLoadRect hl2) fun b =>
              .op (.load bMem ro.toLoadRect hl3) fun _ => .op (.store bMem ro (pay a b) Finset.univ hx hm) k) Q) := by
  have hset : (bMem.access ro).set = J := (acc_set cc0_scratch6 ro).trans hJ
  unfold exB wbPts obPts
  iintro ⟨Hs, Hw, ⟨%X, Ho⟩⟩ Hk
  iapply (wp_load_rect 𝒱₀ (c : Thread nD τ) none Set.univ hS) $$ Hs
  iintro Hs
  iapply (wp_load_rect 𝒱₀ (c : Thread nD τ) none Set.univ (m := wMem) (r := Rect.unit (s := S8192x256) ![0, 0] S8192x256.size hw) (f := WB m c) (Finset.subset_univ _)) $$ Hw
  iintro Hw
  iapply (wp_load_rect 𝒱₀ (c : Thread nD τ) none Set.univ (m := bMem) (r := ro) (S := J) (f := X) (by rw [hset])) $$ Ho
  iintro Ho
  iapply (wp_store 𝒱₀ (c : Thread nD τ) none Set.univ (m := bMem) (r := ro) (S := J) (f := X) (by rw [← hset]; exact Finset.Subset.refl _)) $$ Ho
  iintro Ho
  iapply Hk
  isplitl [Hs]; · iexact Hs
  isplitl [Hw]; · iexact Hw
  rw [w_read]
  iapply (Entails.of_eq (pointsTo_congr (f := (bMem.access ro).write (Elt F) X (pay ((M.access r).read (Elt F) fs) (WB m c)) Finset.univ) (g := Y) (fun i hi => stored_at bMem ro (X := Y) (fun x => hY x) i (by rw [hset]; exact hi)))) $$ Ho

/-! ## The three kinds of products -/

/-- The product of the 256 rows in a slot of a ring. -/
theorem dot256 {Q : α → sProp 𝕄} (d : Bool) (c : Dev nD) (H : ℕ) {p o : ℕ} (hp : p = H % 2) (ho : o = if d then 256 else 0) {hw h1 h2}
    {hl : (rMem d).view.LoadsAt (Rect.unit (s := S2x256x8192) ![p, 0, 0] S1x256x8192.size h1).toLoadRect} {hl2 : wMem.view.LoadsAt (Rect.unit (s := S8192x256) ![0, 0] S8192x256.size hw).toLoadRect}
    {hl3 : bMem.view.LoadsAt (Rect.unit (s := S2x1024x256) ![p, o, 0] S1x256x256.size h2).toLoadRect}
    {pay : (S1x256x8192.Idx → Elt F .bf16) → (S8192x256.Idx → Elt F .bf16) → (S1x256x256.Idx → Elt F .f32)} {hx : (bMem.access (Rect.unit (s := S2x1024x256) ![p, o, 0] S1x256x256.size h2)).Stores Finset.univ} {hm}
    {k : PUnit → Prog (TpuEff nD τ sig (Elt F) Λ₀ .tc) α} {q : PosShare TreeShare} (hpay : ∀ a b, pay a b = k0_pay11 a b) :
    iprop(ringPts d c (rowsR (H % 2) 0 256) q (SR m d c (H - 1)) ∗ wbPts c Finset.univ (WB m c) ∗ exB c (rowsB p o 256))
      ⊢ iprop(((ringPts d c (rowsR (H % 2) 0 256) q (SR m d c (H - 1)) ∗ wbPts c Finset.univ (WB m c) ∗ obPts c (rowsB p o 256) (P256 m c (orig d c (H - 1)) o)) -∗ WP c (k ⟨⟩) Q)
          -∗ WP c (.op (.load (rMem d) (Rect.unit (s := S2x256x8192) ![p, 0, 0] S1x256x8192.size h1).toLoadRect hl) fun a =>
              .op (.load wMem (Rect.unit (s := S8192x256) ![0, 0] S8192x256.size hw).toLoadRect hl2) fun b =>
              .op (.load bMem (Rect.unit (s := S2x1024x256) ![p, o, 0] S1x256x256.size h2).toLoadRect hl3) fun _ =>
              .op (.store bMem (Rect.unit (s := S2x1024x256) ![p, o, 0] S1x256x256.size h2) (pay a b) Finset.univ hx hm) k) Q) := by
  subst hp
  have hY : ∀ (A : S1x256x8192.Idx → Elt F .bf16), (∀ x, A x = XB m (orig d c (H - 1)) (o + (x 1).val) (x 2).val) →
      ∀ x : S1x256x256.Idx, pay A (WB m c) x = P256 m c (orig d c (H - 1)) o ((Rect.unit (s := S2x1024x256) ![H % 2, o, 0] S1x256x256.size h2).emb x) := by
    intro A hA x
    rw [hpay, funext hA]
    unfold P256 D256
    congr 1
    funext a
    match a with
    | 0 => exact Fin.ext (by have : (x 0).val < 1 := (x 0).isLt; show (x 0).val = 0; omega)
    | 1 => exact Fin.ext (by have : (x 1).val < 256 := (x 1).isLt; show (x 1).val = (o + 1 * (x 1).val) % 256; rw [ho]; split <;> omega)
    | 2 => exact Fin.ext (by have : (x 2).val < 256 := (x 2).isLt; show (x 2).val = (0 + 1 * (x 2).val) % 256; omega)
  have hA : ∀ x : S1x256x8192.Idx, SR m d c (H - 1) ((Rect.unit (s := S2x256x8192) ![H % 2, 0, 0] S1x256x8192.size h1).emb x) = XB m (orig d c (H - 1)) (o + (x 1).val) (x 2).val := by
    intro x
    show XB m _ ((if d then 256 else 0) + (0 + 1 * (x 1).val)) (0 + 1 * (x 2).val) = _
    rw [ho, Nat.zero_add, Nat.zero_add, Nat.one_mul, Nat.one_mul]
  have hR := rect_R (H % 2) 0 256 h1
  cases d
  · exact dot m c (s := S2x256x8192) (rMem false) (Rect.unit (s := S2x256x8192) ![H % 2, 0, 0] S1x256x8192.size h1) (Rect.unit (s := S2x1024x256) ![H % 2, o, 0] S1x256x256.size h2) (S := rowsR (H % 2) 0 256) (q := q) (fs := SR m false c (H - 1)) (by rw [← hR]; exact (acc_set cc0_scratch1 _).subset) (rect_B (H % 2) o 256 h2) _ (hY _ hA)
  · exact dot m c (s := S2x256x8192) (rMem true) (Rect.unit (s := S2x256x8192) ![H % 2, 0, 0] S1x256x8192.size h1) (Rect.unit (s := S2x1024x256) ![H % 2, o, 0] S1x256x256.size h2) (S := rowsR (H % 2) 0 256) (q := q) (fs := SR m true c (H - 1)) (by rw [← hR]; exact (acc_set cc0_scratch2 _).subset) (rect_B (H % 2) o 256 h2) _ (hY _ hA)

/-- The product of a half of 128 rows of the last landing. -/
theorem dot128 {Q : α → sProp 𝕄} (d : Bool) (c : Dev nD) (H s : ℕ) {p o w : ℕ} (hs : s < 2) (hp : p = H % 2) (ho : o = 128 * s) (hwo : w = (if d then 256 else 0) + 128 * s) {hw h1 h2}
    {hl : (rMem d).view.LoadsAt (Rect.unit (s := S2x256x8192) ![p, o, 0] S1x128x8192.size h1).toLoadRect} {hl2 : wMem.view.LoadsAt (Rect.unit (s := S8192x256) ![0, 0] S8192x256.size hw).toLoadRect}
    {hl3 : bMem.view.LoadsAt (Rect.unit (s := S2x1024x256) ![p, w, 0] S1x128x256.size h2).toLoadRect}
    {pay : (S1x128x8192.Idx → Elt F .bf16) → (S8192x256.Idx → Elt F .bf16) → (S1x128x256.Idx → Elt F .f32)} {hx : (bMem.access (Rect.unit (s := S2x1024x256) ![p, w, 0] S1x128x256.size h2)).Stores Finset.univ} {hm}
    {k : PUnit → Prog (TpuEff nD τ sig (Elt F) Λ₀ .tc) α} {q : PosShare TreeShare} (hpay : ∀ a b, pay a b = k0_pay39 a b) :
    iprop(Hf m d c H s q ∗ wbPts c Finset.univ (WB m c) ∗ exB c (rowsB p w 128))
      ⊢ iprop(((Hf m d c H s q ∗ wbPts c Finset.univ (WB m c) ∗ obPts c (rowsB p w 128) (P128 m c (orig d c (H - 1)))) -∗ WP c (k ⟨⟩) Q)
          -∗ WP c (.op (.load (rMem d) (Rect.unit (s := S2x256x8192) ![p, o, 0] S1x128x8192.size h1).toLoadRect hl) fun a =>
              .op (.load wMem (Rect.unit (s := S8192x256) ![0, 0] S8192x256.size hw).toLoadRect hl2) fun b =>
              .op (.load bMem (Rect.unit (s := S2x1024x256) ![p, w, 0] S1x128x256.size h2).toLoadRect hl3) fun _ =>
              .op (.store bMem (Rect.unit (s := S2x1024x256) ![p, w, 0] S1x128x256.size h2) (pay a b) Finset.univ hx hm) k) Q) := by
  subst hp
  have hY : ∀ (A : S1x128x8192.Idx → Elt F .bf16), (∀ x, A x = XB m (orig d c (H - 1)) (w + (x 1).val) (x 2).val) →
      ∀ x : S1x128x256.Idx, pay A (WB m c) x = P128 m c (orig d c (H - 1)) ((Rect.unit (s := S2x1024x256) ![H % 2, w, 0] S1x128x256.size h2).emb x) := by
    intro A hA x
    have hx1 : (x 1).val < 128 := (x 1).isLt
    rw [hpay, funext hA]
    unfold P128 D128
    have e : (((Rect.unit (s := S2x1024x256) ![H % 2, w, 0] S1x128x256.size h2).emb x) 1).val / 128 * 128 = w := by
      show (w + 1 * (x 1).val) / 128 * 128 = w
      rw [hwo]; split <;> omega
    rw [e]
    congr 1
    funext a
    match a with
    | 0 => exact Fin.ext (by have : (x 0).val < 1 := (x 0).isLt; show (x 0).val = 0; omega)
    | 1 => exact Fin.ext (by show (x 1).val = (w + 1 * (x 1).val) % 128; rw [hwo]; split <;> omega)
    | 2 => exact Fin.ext (by have : (x 2).val < 256 := (x 2).isLt; show (x 2).val = (0 + 1 * (x 2).val) % 256; omega)
  have hA : ∀ x : S1x128x8192.Idx, SR m d c (H - 1) ((Rect.unit (s := S2x256x8192) ![H % 2, o, 0] S1x128x8192.size h1).emb x) = XB m (orig d c (H - 1)) (w + (x 1).val) (x 2).val := by
    intro x
    show XB m _ ((if d then 256 else 0) + (o + 1 * (x 1).val)) (0 + 1 * (x 2).val) = _
    rw [ho, hwo, Nat.zero_add, Nat.one_mul, Nat.one_mul, Nat.add_assoc]
  have hR := rect_R (H % 2) o 128 h1
  unfold Hf
  rw [← ho]
  cases d
  · exact dot m c (s := S2x256x8192) (rMem false) (Rect.unit (s := S2x256x8192) ![H % 2, o, 0] S1x128x8192.size h1) (Rect.unit (s := S2x1024x256) ![H % 2, w, 0] S1x128x256.size h2) (S := rowsR (H % 2) o 128) (q := q) (fs := SR m false c (H - 1)) (by rw [← hR]; exact (acc_set cc0_scratch1 _).subset) (rect_B (H % 2) w 128 h2) _ (hY _ hA)
  · exact dot m c (s := S2x256x8192) (rMem true) (Rect.unit (s := S2x256x8192) ![H % 2, o, 0] S1x128x8192.size h1) (Rect.unit (s := S2x1024x256) ![H % 2, w, 0] S1x128x256.size h2) (S := rowsR (H % 2) o 128) (q := q) (fs := SR m true c (H - 1)) (by rw [← hR]; exact (acc_set cc0_scratch2 _).subset) (rect_B (H % 2) w 128 h2) _ (hY _ hA)

/-- The product of a block of the line buffer. -/
theorem dot512 {Q : α → sProp 𝕄} (c : Dev nD) {p z : ℕ} {off : Fin 2 → ℕ} (hz : z < 4) (hoff : off = ![512 * z, 0]) {hw h1 h2}
    {hl : cMem.view.LoadsAt (Rect.unit (s := S2048x8192) off S512x8192.size h1).toLoadRect} {hl2 : wMem.view.LoadsAt (Rect.unit (s := S8192x256) ![0, 0] S8192x256.size hw).toLoadRect}
    {hl3 : bMem.view.LoadsAt (Rect.unit (s := S2x1024x256) ![p, 512, 0] S1x512x256.size h2).toLoadRect}
    {pay : (S512x8192.Idx → Elt F .bf16) → (S8192x256.Idx → Elt F .bf16) → (S1x512x256.Idx → Elt F .f32)} {hx : (bMem.access (Rect.unit (s := S2x1024x256) ![p, 512, 0] S1x512x256.size h2)).Stores Finset.univ} {hm}
    {k : PUnit → Prog (TpuEff nD τ sig (Elt F) Λ₀ .tc) α} {q : PosShare TreeShare} (hpay : ∀ a b, pay a b = k0_pay10 a b) :
    iprop(colPts c (blk z) q (CB m c) ∗ wbPts c Finset.univ (WB m c) ∗ exB c (rowsB p 512 512))
      ⊢ iprop(((colPts c (blk z) q (CB m c) ∗ wbPts c Finset.univ (WB m c) ∗ obPts c (rowsB p 512 512) (P512 m c (mk z (qc c)))) -∗ WP c (k ⟨⟩) Q)
          -∗ WP c (.op (.load cMem (Rect.unit (s := S2048x8192) off S512x8192.size h1).toLoadRect hl) fun a =>
              .op (.load wMem (Rect.unit (s := S8192x256) ![0, 0] S8192x256.size hw).toLoadRect hl2) fun b =>
              .op (.load bMem (Rect.unit (s := S2x1024x256) ![p, 512, 0] S1x512x256.size h2).toLoadRect hl3) fun _ =>
              .op (.store bMem (Rect.unit (s := S2x1024x256) ![p, 512, 0] S1x512x256.size h2) (pay a b) Finset.univ hx hm) k) Q) := by
  subst hoff
  have hY : ∀ (A : S512x8192.Idx → Elt F .bf16), (∀ x, A x = XB m (mk z (qc c)) (x 0).val (x 1).val) →
      ∀ x : S1x512x256.Idx, pay A (WB m c) x = P512 m c (mk z (qc c)) ((Rect.unit (s := S2x1024x256) ![p, 512, 0] S1x512x256.size h2).emb x) := by
    intro A hA x
    rw [hpay, funext hA]
    unfold P512 D512
    congr 1
    funext a
    match a with
    | 0 => exact Fin.ext (by have : (x 0).val < 1 := (x 0).isLt; show (x 0).val = 0; omega)
    | 1 => exact Fin.ext (by have : (x 1).val < 512 := (x 1).isLt; show (x 1).val = (512 + 1 * (x 1).val) % 512; omega)
    | 2 => exact Fin.ext (by have : (x 2).val < 256 := (x 2).isLt; show (x 2).val = (0 + 1 * (x 2).val) % 256; omega)
  have hA : ∀ x : S512x8192.Idx, CB m c ((Rect.unit (s := S2048x8192) ![512 * z, 0] S512x8192.size h1).emb x) = XB m (mk z (qc c)) (x 0).val (x 1).val := by
    intro x
    have hx0 : (x 0).val < 512 := (x 0).isLt
    show XB m (mk ((512 * z + 1 * (x 0).val) / 512) (qc c)) ((512 * z + 1 * (x 0).val) % 512) (0 + 1 * (x 1).val) = _
    rw [show (512 * z + 1 * (x 0).val) / 512 = z by omega, show (512 * z + 1 * (x 0).val) % 512 = (x 0).val by omega, Nat.zero_add, Nat.one_mul]
  have hR := rect_C (512 * z) 512 h1 rfl
  exact dot m c (s := S2048x8192) cMem (Rect.unit (s := S2048x8192) ![512 * z, 0] S512x8192.size h1) (Rect.unit (s := S2x1024x256) ![p, 512, 0] S1x512x256.size h2) (S := blk z) (q := q) (fs := CB m c) (by unfold blk; rw [← hR]; exact (acc_set cc0_scratch0 _).subset) (rect_B p 512 512 h2) _ (hY _ hA)

/-! ## The copies of the results -/

/-- The semaphore of the copy of window `j` of slot `p`. -/
def osem (p j : ℕ) : DmaSem sig :=
  match p, j with
  | 0, 0 => 29 | 0, 1 => 30 | 0, _ => 31 | _, 0 => 32 | _, 1 => 33 | _, _ => 34
/-- The copy of a window to a part of the result under way. -/
def OF (c : Dev nD) (p j N : ℕ) (I : Finset S8192x256.Idx) (J : Finset S2x1024x256.Idx) : sProp 𝕄 :=
  Flight EC (c : Thread nD τ) (.dma (osem p j)) 0 N iprop(outPts c I (RES m c) ∗ exB c J)

theorem copy256 {Q : α → sProp 𝕄} (c : Dev nD) {p o lo j : ℕ} {off : Fin 2 → ℕ} (hoff : off = ![lo, 0]) {hb ho}
    {sem : DmaSem sig} {hsrc : (b256M p o hb).view.WordExact} {hdst : (o256M off ho).view.WordExact} {hsem : (DmaTarget.here (o256M off ho) : DmaTarget nD τ sig .tc .hbm S256x256 .f32).Typed .vmem (.dma sem)}
    {k : PUnit → Prog (TpuEff nD τ sig (Elt F) Λ₀ .tc) α} (hs : sem = osem p j) (Y : S2x1024x256.Idx → Elt F .f32)
    (hY : ∀ (i : S8192x256.Idx) (y : S2x1024x256.Idx) (a : ℕ), a < 256 → (i 0).val = lo + a → (y 1).val = o + a → (i 1).val = (y 2).val → Y y = RES m c i) :
    iprop(obPts c (rowsB p o 256) Y ∗ exO c (rowsW lo 256) ∗ semVal ((c : Thread nD τ), .dma (osem p j)) 0)
      ⊢ iprop((OF m c p j (NO false) (rowsW lo 256) (rowsB p o 256) -∗ WP c (k ⟨⟩) Q)
          -∗ WP c (.op (.enqueueDma (b256M p o hb) (.here (o256M off ho)) (.dma sem) hsrc hdst hsem) k) Q) := by
  subst hs
  have h1 := set_b256M p o hb
  have h2 := set_o256M ho hoff
  unfold OF exO exB obPts outPts
  rw [← h1, ← h2]
  iintro ⟨Hb, ⟨%fd, Ho⟩, Hv⟩ Hk
  iapply (wp_dmaLocal EC 𝒱₀ (c : Thread nD τ) none (src := b256M p o hb) (dst := o256M off ho) (via := .same) (fs := Y) (fd := fd) 0 (NO false) rfl (NO_pos false) (Finset.Subset.refl _)) $$ [Hb Ho Hv]
  · isplitl [Hb]; · iexact Hb
    isplitl [Ho] <;> iassumption
  iintro HF
  iapply Hk
  iapply (Flight_mono EC _) $$ HF
  iintro ⟨Ho, Hb⟩
  isplitl [Ho]
  · iapply (Entails.of_eq (pointsTo_congr (landed (o256M off ho).view (b256M p o hb).view (X := RES m c) fun x =>
      hY _ _ _ (x 0).isLt (emb_o256M ho hoff x).1 (emb_b256M p o hb x).2.1 ((emb_o256M ho hoff x).2.trans (emb_b256M p o hb x).2.2.symm)))) $$ Ho
  · iexists Y; iexact Hb

theorem copy512 {Q : α → sProp 𝕄} (c : Dev nD) {p o lo j : ℕ} {off : Fin 2 → ℕ} (hoff : off = ![lo, 0]) {hb ho}
    {sem : DmaSem sig} {hsrc : (b512M p o hb).view.WordExact} {hdst : (o512M off ho).view.WordExact} {hsem : (DmaTarget.here (o512M off ho) : DmaTarget nD τ sig .tc .hbm S512x256 .f32).Typed .vmem (.dma sem)}
    {k : PUnit → Prog (TpuEff nD τ sig (Elt F) Λ₀ .tc) α} (hs : sem = osem p j) (Y : S2x1024x256.Idx → Elt F .f32)
    (hY : ∀ (i : S8192x256.Idx) (y : S2x1024x256.Idx) (a : ℕ), a < 512 → (i 0).val = lo + a → (y 1).val = o + a → (i 1).val = (y 2).val → Y y = RES m c i) :
    iprop(obPts c (rowsB p o 512) Y ∗ exO c (rowsW lo 512) ∗ semVal ((c : Thread nD τ), .dma (osem p j)) 0)
      ⊢ iprop((OF m c p j (NO true) (rowsW lo 512) (rowsB p o 512) -∗ WP c (k ⟨⟩) Q)
          -∗ WP c (.op (.enqueueDma (b512M p o hb) (.here (o512M off ho)) (.dma sem) hsrc hdst hsem) k) Q) := by
  subst hs
  have h1 := set_b512M p o hb
  have h2 := set_o512M ho hoff
  unfold OF exO exB obPts outPts
  rw [← h1, ← h2]
  iintro ⟨Hb, ⟨%fd, Ho⟩, Hv⟩ Hk
  iapply (wp_dmaLocal EC 𝒱₀ (c : Thread nD τ) none (src := b512M p o hb) (dst := o512M off ho) (via := .same) (fs := Y) (fd := fd) 0 (NO true) rfl (NO_pos true) (Finset.Subset.refl _)) $$ [Hb Ho Hv]
  · isplitl [Hb]; · iexact Hb
    isplitl [Ho] <;> iassumption
  iintro HF
  iapply Hk
  iapply (Flight_mono EC _) $$ HF
  iintro ⟨Ho, Hb⟩
  isplitl [Ho]
  · iapply (Entails.of_eq (pointsTo_congr (landed (o512M off ho).view (b512M p o hb).view (X := RES m c) fun x =>
      hY _ _ _ (x 0).isLt (emb_o512M ho hoff x).1 (emb_b512M p o hb x).2.1 ((emb_o512M ho hoff x).2.trans (emb_b512M p o hb x).2.2.symm)))) $$ Ho
  · iexists Y; iexact Hb

/-- The wait for a copy of results. -/
theorem copied {Q : α → sProp 𝕄} (c : Dev nD) (p j N : ℕ) (I : Finset S8192x256.Idx) (J : Finset S2x1024x256.Idx) {u : ℕ} (hu4 : 4 ≤ u) {sp sp' : Space} {sh sh' : Shape} {e e' : EltTy}
    {sem : DmaSem sig} {srcw : Memref sig .tc sp' sh' e'} {dstw : Memref sig .tc sp sh e} {hsrc : srcw.view.WordExact} {hdst : dstw.view.WordExact}
    {k : PUnit → Prog (TpuEff nD τ sig (Elt F) Λ₀ .tc) α} (hs : sem = osem p j) (hN : dstw.view.dmaCredit = N) :
    iprop(Ctx m K ks ∗ fuel c u ∗ OF m c p j N I J)
      ⊢ iprop(((fuel c u ∗ outPts c I (RES m c) ∗ exB c J ∗ semVal ((c : Thread nD τ), .dma (osem p j)) 0) -∗ WP c (k ⟨⟩) Q) -∗ WP c (.op (.waitDma2 sem srcw dstw hsrc hdst) k) Q) := by
  subst hs
  unfold OF
  iintro H Hk
  iapply (own_wait m K ks hu4 hN) $$ H
  iintro ⟨Hf, ⟨Ho, Hb⟩, Hv⟩
  iapply Hk
  isplitl [Hf]; · iexact Hf
  isplitl [Ho]; · iexact Ho
  isplitl [Hb] <;> iassumption

end Cert.KernelIdeal.Gather
-- ==== Proof.Out.lean ====
/-
  The parts of the result: which hop writes which rows, and that the products are those rows.
-/
module

public import proofs.«01_k».proof.Proof.Dots

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## The parts of the result -/

/-- A half's place among the 512 rows of a device, and its number. -/
abbrev oD (d : Bool) : ℕ := if d then 256 else 0
abbrev jD (d : Bool) : ℕ := if d then 1 else 0

/-- The rows of the result that hop `e - 2` writes: from the ring, -/
def pR (d : Bool) (c : Dev nD) (e : ℕ) : Finset S8192x256.Idx := if 3 ≤ e ∧ e ≤ 14 then rowsW (512 * (orig d c (e - 3)).val + oD d) 256 else ∅
/-- and from the line. -/
def pL (c : Dev nD) (e : ℕ) : Finset S8192x256.Idx := if e % 3 = 2 ∧ e ≤ 11 then rowsW (512 * (mk (zs (zc c) (e / 3)) (qc c)).val) 512 else ∅

/-- A window of the buffer of products free for a new product. -/
def FrR (d : Bool) (c : Dev nD) (p : ℕ) : sProp 𝕄 := iprop(semVal ((c : Thread nD τ), .dma (osem p (jD d))) 0 ∗ exB (F := F) c (rowsB p (oD d) 256))
def FrL (c : Dev nD) (p : ℕ) : sProp 𝕄 := iprop(semVal ((c : Thread nD τ), .dma (osem p 2)) 0 ∗ exB (F := F) c (rowsB p 512 512))
/-- The copies of hop `e - 2` under way, if that hop makes them. -/
def OR (d : Bool) (c : Dev nD) (e : ℕ) : sProp 𝕄 := if 3 ≤ e ∧ e ≤ 14 then OF m c (e % 2) (jD d) (NO false) (pR d c e) (rowsB (e % 2) (oD d) 256) else FrR d c (e % 2)
def OL (c : Dev nD) (e : ℕ) : sProp 𝕄 := if e % 3 = 2 ∧ e ≤ 11 then OF m c (e % 2) 2 (NO true) (pL c e) (rowsB (e % 2) 512 512) else FrL c (e % 2)
/-- The rows of hop `e - 2` still to be written, and written. -/
def Tp (c : Dev nD) (e : ℕ) : sProp 𝕄 := iprop(exO (F := F) c (pR false c e) ∗ exO c (pR true c e) ∗ exO c (pL c e))
def Dn (c : Dev nD) (e : ℕ) : sProp 𝕄 := iprop(outPts c (pR false c e) (RES m c) ∗ outPts c (pR true c e) (RES m c) ∗ outPts c (pL c e) (RES m c))

theorem out_none (c : Dev nD) (X : S8192x256.Idx → Elt F .f32) : ⊢ outPts c ∅ X := by
  unfold outPts; rw [pointsTo_empty]; exact Entails.rfl

theorem idleR (d : Bool) (c : Dev nD) {e : ℕ} (h : ¬ (3 ≤ e ∧ e ≤ 14)) : OR m d c e ⊢ iprop(outPts c (pR d c e) (RES m c) ∗ FrR d c (e % 2)) := by
  unfold OR pR; rw [if_neg h, if_neg h]
  iintro H
  isplitr; · iapply (out_none c (RES m c))
  iexact H
theorem idleL (c : Dev nD) {e : ℕ} (h : ¬ (e % 3 = 2 ∧ e ≤ 11)) : OL m c e ⊢ iprop(outPts c (pL c e) (RES m c) ∗ FrL c (e % 2)) := by
  unfold OL pL; rw [if_neg h, if_neg h]
  iintro H
  isplitr; · iapply (out_none c (RES m c))
  iexact H
theorem noL (c : Dev nD) {e : ℕ} (h : ¬ (e % 3 = 2 ∧ e ≤ 11)) : FrL (F := F) c (e % 2) ⊢ OL m c e := by
  unfold OL; rw [if_neg h]

/-- The wait for the copy of a half. -/
theorem waitR {Q : α → sProp 𝕄} (d : Bool) (c : Dev nD) (e : ℕ) {u : ℕ} (hv : 3 ≤ e ∧ e ≤ 14) (hu4 : 4 ≤ u) {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    (hs : r0 = osem (e % 2) (jD d)) (hN : wb0.view.dmaCredit = NO false) {k : PUnit → Prog (TpuEff nD τ sig (Elt F) Λ₀ .tc) α} :
    iprop(Ctx m K ks ∗ fuel c u ∗ OR m d c e)
      ⊢ iprop(((fuel c u ∗ outPts c (pR d c e) (RES m c) ∗ FrR d c (e % 2)) -∗ WP c (k ⟨⟩) Q) -∗ WP c (.op (.waitDma2 r0 wa0 wb0 hwa0 hwb0) k) Q) := by
  unfold OR; rw [if_pos hv]
  iintro H Hk
  iapply (copied m K ks c (e % 2) (jD d) (NO false) (pR d c e) (rowsB (e % 2) (oD d) 256) hu4 hs hN) $$ H
  iintro ⟨Hf, Ho, Hb, Hv⟩
  iapply Hk
  unfold FrR
  isplitl [Hf]; · iexact Hf
  isplitl [Ho]; · iexact Ho
  isplitl [Hv] <;> iassumption
theorem waitL {Q : α → sProp 𝕄} (c : Dev nD) (e : ℕ) {u : ℕ} (hv : e % 3 = 2 ∧ e ≤ 11) (hu4 : 4 ≤ u) {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    (hs : r0 = osem (e % 2) 2) (hN : wb0.view.dmaCredit = NO true) {k : PUnit → Prog (TpuEff nD τ sig (Elt F) Λ₀ .tc) α} :
    iprop(Ctx m K ks ∗ fuel c u ∗ OL m c e)
      ⊢ iprop(((fuel c u ∗ outPts c (pL c e) (RES m c) ∗ FrL c (e % 2)) -∗ WP c (k ⟨⟩) Q) -∗ WP c (.op (.waitDma2 r0 wa0 wb0 hwa0 hwb0) k) Q) := by
  unfold OL; rw [if_pos hv]
  iintro H Hk
  iapply (copied m K ks c (e % 2) 2 (NO true) (pL c e) (rowsB (e % 2) 512 512) hu4 hs hN) $$ H
  iintro ⟨Hf, Ho, Hb, Hv⟩
  iapply Hk
  unfold FrL
  isplitl [Hf]; · iexact Hf
  isplitl [Ho]; · iexact Ho
  isplitl [Hv] <;> iassumption

/-! ## The products are the rows of the result -/

theorem orig_place : ∀ d : Bool, ∀ c : Dev nD, ∀ h : Fin 12, (orig d c h.val).val % 4 ≠ qc c
    ∧ (Last c ((orig d c h.val).val / 4) ((orig d c h.val).val % 4) (jD d) ↔ h.val = 11) := by decide +kernel
theorem mk_self : ∀ p : Dev nD, mk (p.val / 4) (p.val % 4) = p := by decide
theorem mk_place : ∀ c : Dev nD, ∀ r : Fin 4, (mk (zs (zc c) r.val) (qc c)).val % 4 = qc c := by decide +kernel

theorem j256_mod {a a' b b' : ℕ} (h : a % 256 = a' % 256) (h' : b % 256 = b' % 256) : j256 a b = j256 a' b' := by
  funext k
  match k with
  | ⟨0, _⟩ => rfl
  | ⟨1, _⟩ => exact Fin.ext h
  | ⟨2, _⟩ => exact Fin.ext h'
theorem j128_mod {a a' b b' : ℕ} (h : a % 128 = a' % 128) (h' : b % 256 = b' % 256) : j128 a b = j128 a' b' := by
  funext k
  match k with
  | ⟨0, _⟩ => rfl
  | ⟨1, _⟩ => exact Fin.ext h
  | ⟨2, _⟩ => exact Fin.ext h'
theorem j512_mod {a a' b b' : ℕ} (h : a % 512 = a' % 512) (h' : b % 256 = b' % 256) : j512 a b = j512 a' b' := by
  funext k
  match k with
  | ⟨0, _⟩ => rfl
  | ⟨1, _⟩ => exact Fin.ext h
  | ⟨2, _⟩ => exact Fin.ext h'

theorem val256 (d : Bool) (c : Dev nD) {h : ℕ} (hh : h < 11) (i : S8192x256.Idx) (y : S2x1024x256.Idx) (a : ℕ) (ha : a < 256)
    (hi : (i 0).val = 512 * (orig d c h).val + oD d + a) (hy : (y 1).val = oD d + a) (hc : (i 1).val = (y 2).val) :
    P256 m c (orig d c h) (oD d) y = RES m c i := by
  obtain ⟨h1, h2⟩ := orig_place d c ⟨h, by omega⟩
  dsimp only at h1 h2
  have h3 : ¬ Last c ((orig d c h).val / 4) ((orig d c h).val % 4) (jD d) := fun hl => absurd (h2.mp hl) (by omega)
  have hs := mk_self (orig d c h)
  have e1 : (i 0).val / 2048 = (orig d c h).val / 4 := by cases d <;> (unfold oD at hi; simp at hi; omega)
  have e2 : (i 0).val / 512 % 4 = (orig d c h).val % 4 := by cases d <;> (unfold oD at hi; simp at hi; omega)
  have e3 : (i 0).val % 512 / 256 = jD d := by cases d <;> (unfold oD at hi; unfold jD; simp at hi ⊢; omega)
  have e4 : jD d * 256 = oD d := by cases d <;> rfl
  unfold RES P256
  dsimp only
  rw [e1, e2, e3, if_neg h1, if_neg h3, hs, e4]
  congr 1
  refine j256_mod ?_ (by rw [hc])
  cases d <;> (unfold oD at hi hy; simp at hi hy; omega)

theorem val128 (d : Bool) (c : Dev nD) (i : S8192x256.Idx) (y : S2x1024x256.Idx) (a : ℕ) (ha : a < 256)
    (hi : (i 0).val = 512 * (orig d c 11).val + oD d + a) (hy : (y 1).val = oD d + a) (hc : (i 1).val = (y 2).val) :
    P128 m c (orig d c 11) y = RES m c i := by
  obtain ⟨h1, h2⟩ := orig_place d c ⟨11, by omega⟩
  dsimp only at h1 h2
  have h3 : Last c ((orig d c 11).val / 4) ((orig d c 11).val % 4) (jD d) := h2.mpr rfl
  have hs := mk_self (orig d c 11)
  have e1 : (i 0).val / 2048 = (orig d c 11).val / 4 := by cases d <;> (unfold oD at hi; simp at hi; omega)
  have e2 : (i 0).val / 512 % 4 = (orig d c 11).val % 4 := by cases d <;> (unfold oD at hi; simp at hi; omega)
  have e3 : (i 0).val % 512 / 256 = jD d := by cases d <;> (unfold oD at hi; unfold jD; simp at hi ⊢; omega)
  have e4 : (i 0).val % 512 / 128 * 128 = (y 1).val / 128 * 128 := by cases d <;> (unfold oD at hi hy; simp at hi hy; omega)
  unfold RES P128
  dsimp only
  rw [e1, e2, e3, if_neg h1, if_pos h3, hs, e4]
  congr 1
  refine j128_mod ?_ (by rw [hc])
  cases d <;> (unfold oD at hi hy; simp at hi hy; omega)

theorem val512 (c : Dev nD) {r : ℕ} (hr : r < 4) (i : S8192x256.Idx) (y : S2x1024x256.Idx) (a : ℕ) (ha : a < 512)
    (hi : (i 0).val = 512 * (mk (zs (zc c) r) (qc c)).val + a) (hy : (y 1).val = 512 + a) (hc : (i 1).val = (y 2).val) :
    P512 m c (mk (zs (zc c) r) (qc c)) y = RES m c i := by
  have h1 := mk_place c ⟨r, hr⟩
  dsimp only at h1
  have hs := mk_self (mk (zs (zc c) r) (qc c))
  have e1 : (i 0).val / 2048 = (mk (zs (zc c) r) (qc c)).val / 4 := by omega
  have e2 : (i 0).val / 512 % 4 = (mk (zs (zc c) r) (qc c)).val % 4 := by omega
  unfold RES P512
  dsimp only
  rw [e1, e2, if_pos h1, hs]
  congr 1
  exact j512_mod (by omega) (by rw [hc])

/-! ## The products of a hop and their copies -/

/-- The product of the rows landed before hop `H`, one direction, and its copy. -/
theorem prodR {Q : α → sProp 𝕄} (d : Bool) (c : Dev nD) (H : ℕ) {p o : ℕ} (hH : 1 ≤ H) (hH' : H ≤ 11) (hp : p = H % 2) (ho : o = oD d) {hw h1 h2}
    {hl : (rMem d).view.LoadsAt (Rect.unit (s := S2x256x8192) ![p, 0, 0] S1x256x8192.size h1).toLoadRect} {hl2 : wMem.view.LoadsAt (Rect.unit (s := S8192x256) ![0, 0] S8192x256.size hw).toLoadRect}
    {hl3 : bMem.view.LoadsAt (Rect.unit (s := S2x1024x256) ![p, o, 0] S1x256x256.size h2).toLoadRect}
    {pay : (S1x256x8192.Idx → Elt F .bf16) → (S8192x256.Idx → Elt F .bf16) → (S1x256x256.Idx → Elt F .f32)} {hx : (bMem.access (Rect.unit (s := S2x1024x256) ![p, o, 0] S1x256x256.size h2)).Stores Finset.univ} {hm}
    {off : Fin 2 → ℕ} (hoff : off = ![512 * (orig d c (H - 1)).val + oD d, 0]) {hb hho}
    {sem : DmaSem sig} {hsrc : (b256M p o hb).view.WordExact} {hdst : (o256M off hho).view.WordExact} {hsem : (DmaTarget.here (o256M off hho) : DmaTarget nD τ sig .tc .hbm S256x256 .f32).Typed .vmem (.dma sem)}
    {k : PUnit → Prog (TpuEff nD τ sig (Elt F) Λ₀ .tc) α} {q : PosShare TreeShare} (hpay : ∀ a b, pay a b = k0_pay11 a b) (hs : sem = osem p (jD d)) :
    iprop(ringPts d c (rowsR (H % 2) 0 256) q (SR m d c (H - 1)) ∗ wbPts c Finset.univ (WB m c) ∗ FrR d c (H % 2) ∗ exO c (pR d c (H + 2)))
      ⊢ iprop(((ringPts d c (rowsR (H % 2) 0 256) q (SR m d c (H - 1)) ∗ wbPts c Finset.univ (WB m c) ∗ OR m d c (H + 2)) -∗ WP c (k ⟨⟩) Q)
          -∗ WP c (.op (.load (rMem d) (Rect.unit (s := S2x256x8192) ![p, 0, 0] S1x256x8192.size h1).toLoadRect hl) fun a =>
              .op (.load wMem (Rect.unit (s := S8192x256) ![0, 0] S8192x256.size hw).toLoadRect hl2) fun b =>
              .op (.load bMem (Rect.unit (s := S2x1024x256) ![p, o, 0] S1x256x256.size h2).toLoadRect hl3) fun _ =>
              .op (.store bMem (Rect.unit (s := S2x1024x256) ![p, o, 0] S1x256x256.size h2) (pay a b) Finset.univ hx hm) fun _ =>
              .op (.enqueueDma (b256M p o hb) (.here (o256M off hho)) (.dma sem) hsrc hdst hsem) k) Q) := by
  have hpr : pR d c (H + 2) = rowsW (512 * (orig d c (H - 1)).val + oD d) 256 := by
    unfold pR; rw [if_pos (by omega), show H + 2 - 3 = H - 1 by omega]
  unfold OR
  rw [if_pos (by omega), hpr, show (H + 2) % 2 = p by omega]
  unfold FrR
  rw [← hp, ← ho]
  iintro ⟨Hr, Hw, ⟨Hv, Hb⟩, Ho⟩ Hk
  iapply (dot256 m d c H hp ho hpay) $$ [Hr Hw Hb]
  · rw [← hp]
    isplitl [Hr]; · iexact Hr
    isplitl [Hw] <;> iassumption
  iintro ⟨Hr, Hw, Hb⟩
  iapply (copy256 m c (p := p) (o := o) (lo := 512 * (orig d c (H - 1)).val + o) (j := jD d) (by rw [hoff, ho]) hs (P256 m c (orig d c (H - 1)) o) (by
      rw [ho]; exact val256 m d c (h := H - 1) (by omega))) $$ [Hb Ho Hv]
  · isplitl [Hb]; · iexact Hb
    isplitl [Ho] <;> iassumption
  iintro HF
  iapply Hk
  isplitl [Hr]; · rw [hp]; iexact Hr
  isplitl [Hw] <;> iassumption

/-- The product of a block of the line buffer and its copy. -/
theorem prodL {Q : α → sProp 𝕄} (c : Dev nD) (H : ℕ) {p : ℕ} (hH : H % 3 = 0) (hH' : H ≤ 9) (hp : p = H % 2) {offC : Fin 2 → ℕ} (hoffC : offC = ![512 * zs (zc c) (H / 3), 0]) {hw h1 h2}
    {hl : cMem.view.LoadsAt (Rect.unit (s := S2048x8192) offC S512x8192.size h1).toLoadRect} {hl2 : wMem.view.LoadsAt (Rect.unit (s := S8192x256) ![0, 0] S8192x256.size hw).toLoadRect}
    {hl3 : bMem.view.LoadsAt (Rect.unit (s := S2x1024x256) ![p, 512, 0] S1x512x256.size h2).toLoadRect}
    {pay : (S512x8192.Idx → Elt F .bf16) → (S8192x256.Idx → Elt F .bf16) → (S1x512x256.Idx → Elt F .f32)} {hx : (bMem.access (Rect.unit (s := S2x1024x256) ![p, 512, 0] S1x512x256.size h2)).Stores Finset.univ} {hm}
    {off : Fin 2 → ℕ} (hoff : off = ![512 * (mk (zs (zc c) (H / 3)) (qc c)).val, 0]) {hb hho}
    {sem : DmaSem sig} {hsrc : (b512M p 512 hb).view.WordExact} {hdst : (o512M off hho).view.WordExact} {hsem : (DmaTarget.here (o512M off hho) : DmaTarget nD τ sig .tc .hbm S512x256 .f32).Typed .vmem (.dma sem)}
    {k : PUnit → Prog (TpuEff nD τ sig (Elt F) Λ₀ .tc) α} {q : PosShare TreeShare} (hpay : ∀ a b, pay a b = k0_pay10 a b) (hs : sem = osem p 2) :
    iprop(colPts c (blk (zs (zc c) (H / 3))) q (CB m c) ∗ wbPts c Finset.univ (WB m c) ∗ FrL c (H % 2) ∗ exO c (pL c (H + 2)))
      ⊢ iprop(((colPts c (blk (zs (zc c) (H / 3))) q (CB m c) ∗ wbPts c Finset.univ (WB m c) ∗ OL m c (H + 2)) -∗ WP c (k ⟨⟩) Q)
          -∗ WP c (.op (.load cMem (Rect.unit (s := S2048x8192) offC S512x8192.size h1).toLoadRect hl) fun a =>
              .op (.load wMem (Rect.unit (s := S8192x256) ![0, 0] S8192x256.size hw).toLoadRect hl2) fun b =>
              .op (.load bMem (Rect.unit (s := S2x1024x256) ![p, 512, 0] S1x512x256.size h2).toLoadRect hl3) fun _ =>
              .op (.store bMem (Rect.unit (s := S2x1024x256) ![p, 512, 0] S1x512x256.size h2) (pay a b) Finset.univ hx hm) fun _ =>
              .op (.enqueueDma (b512M p 512 hb) (.here (o512M off hho)) (.dma sem) hsrc hdst hsem) k) Q) := by
  have hpr : pL c (H + 2) = rowsW (512 * (mk (zs (zc c) (H / 3)) (qc c)).val) 512 := by
    unfold pL; rw [if_pos (by omega), show (H + 2) / 3 = H / 3 by omega]
  have hz : zs (zc c) (H / 3) < 4 := by
    have h4 : ∀ (x : Dev nD) (r : Fin 4), zs (zc x) r.val < 4 := by decide +kernel
    exact h4 c ⟨H / 3, by omega⟩
  unfold OL
  rw [if_pos (by omega), hpr, show (H + 2) % 2 = p by omega]
  unfold FrL
  rw [← hp]
  iintro ⟨Hr, Hw, ⟨Hv, Hb⟩, Ho⟩ Hk
  iapply (dot512 m c (z := zs (zc c) (H / 3)) hz hoffC hpay) $$ [Hr Hw Hb]
  · isplitl [Hr]; · iexact Hr
    isplitl [Hw] <;> iassumption
  iintro ⟨Hr, Hw, Hb⟩
  iapply (copy512 m c (p := p) (o := 512) (lo := 512 * (mk (zs (zc c) (H / 3)) (qc c)).val) (j := 2) hoff hs (P512 m c (mk (zs (zc c) (H / 3)) (qc c))) (val512 m c (r := H / 3) (by omega))) $$ [Hb Ho Hv]
  · isplitl [Hb]; · iexact Hb
    isplitl [Ho] <;> iassumption
  iintro HF
  iapply Hk
  isplitl [Hr]; · iexact Hr
  isplitl [Hw] <;> iassumption

end Cert.KernelIdeal.Gather
-- ==== Proof.Stage.lean ====
/-
  The start of a run: the barrier with the neighbours, and the staging of the rows of `x` and the columns of `w`.
-/
module

public import proofs.«01_k».proof.Proof.Line
public import proofs.«01_k».proof.Proof.Out

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## The barrier at the start -/

theorem kx_bar : ∀ t : Fin 100, kx t.val = 0 → t.val < 4 := by decide +kernel

/-- The steps that pay the barrier of device `c`. -/
abbrev bduties (c : Dev nD) : Finset ℕ := (Finset.range 4).filter fun t => 0 < amtI t c
theorem duties_bar (c : Dev nD) : (Rd (F := F) m).duties (cell c 0) 0 = bduties c := by
  dsimp only [Rd]
  ext t
  rw [Finset.mem_filter, Finset.mem_filter, Finset.mem_range, Finset.mem_range]
  constructor
  · rintro ⟨h1, _, h3, _, h5⟩
    exact ⟨kx_bar ⟨t, h1⟩ (psem_inj h3), h5⟩
  · rintro ⟨h1, h2⟩
    have hT : T = 100 := rfl
    refine ⟨by omega, rfl, congrArg psem (if_pos h1), if_pos h1, h2⟩
theorem duties_bar' (c : Dev nD) {R : ℕ} (h : 1 ≤ R) : (Rd (F := F) m).duties (cell c 0) R = ∅ := by
  dsimp only [Rd]
  rw [Finset.filter_eq_empty_iff]
  intro t ht
  rintro ⟨-, h3, h4, h5⟩
  have h1 := kx_bar ⟨t, Finset.mem_range.mp ht⟩ (psem_inj h3)
  dsimp only at h1
  have : rnd t = 0 := if_pos h1
  omega

theorem dn_symm : ∀ c : Dev nD, (zc (upP.symm c) < 3 ↔ 0 < zc c) ∧ (0 < zc (downP.symm c) ↔ zc c < 3) := by decide
theorem amtI_bar (c : Dev nD) : amtI 0 c = 1 ∧ amtI 1 c = 1 ∧ amtI 2 c = (if 0 < zc c then 1 else 0) ∧ amtI 3 c = (if zc c < 3 then 1 else 0) :=
  ⟨rfl, rfl, (if_pos (by decide)).trans (if_congr (dn_symm c).1 rfl rfl), (if_pos (by decide)).trans (if_congr (dn_symm c).2 rfl rfl)⟩

/-- How many signals a device gets at the barrier. -/
def nbar (c : Dev nD) : ℕ := 2 + (if 0 < zc c then 1 else 0) + (if zc c < 3 then 1 else 0)

theorem bduties_eq (c : Dev nD) : bduties c = insert 0 (insert 1 ((if 0 < zc c then {2} else ∅) ∪ (if zc c < 3 then {3} else ∅))) := by
  obtain ⟨h0, h1, h2, h3⟩ := amtI_bar c
  ext t
  rw [Finset.mem_filter, Finset.mem_range]
  have hc : t < 4 → t = 0 ∨ t = 1 ∨ t = 2 ∨ t = 3 := by omega
  constructor
  · rintro ⟨h, hp⟩
    rcases hc h with rfl | rfl | rfl | rfl
    · simp
    · simp
    · rw [h2] at hp
      by_cases hz : 0 < zc c
      · simp [hz]
      · rw [if_neg hz] at hp; exact absurd hp (lt_irrefl 0)
    · rw [h3] at hp
      by_cases hz : zc c < 3
      · simp [hz]
      · rw [if_neg hz] at hp; exact absurd hp (lt_irrefl 0)
  · intro h
    rw [Finset.mem_insert, Finset.mem_insert, Finset.mem_union] at h
    rcases h with rfl | rfl | h | h
    · exact ⟨by decide, by rw [h0]; exact Nat.one_pos⟩
    · exact ⟨by decide, by rw [h1]; exact Nat.one_pos⟩
    · by_cases hz : 0 < zc c
      · rw [if_pos hz, Finset.mem_singleton] at h; subst h
        exact ⟨by decide, by rw [h2, if_pos hz]; exact Nat.one_pos⟩
      · rw [if_neg hz] at h; exact absurd h (Finset.notMem_empty _)
    · by_cases hz : zc c < 3
      · rw [if_pos hz, Finset.mem_singleton] at h; subst h
        exact ⟨by decide, by rw [h3, if_pos hz]; exact Nat.one_pos⟩
      · rw [if_neg hz] at h; exact absurd h (Finset.notMem_empty _)

theorem expect_bar (c : Dev nD) : (Rd (F := F) m).expect (cell c 0) 0 = nbar c := by
  obtain ⟨h0, h1, h2, h3⟩ := amtI_bar c
  have hA : ∀ t, (Rd (F := F) m).amount (cell c 0) 0 t = amtI t c := fun t => rfl
  unfold Schedule.expect Schedule.amountOf nbar
  rw [duties_bar, bduties_eq]
  by_cases hz : 0 < zc c <;> by_cases hz' : zc c < 3
  · rw [if_pos hz, if_pos hz', if_pos hz, if_pos hz', Finset.sum_insert (by decide), Finset.sum_insert (by decide), Finset.sum_union (by decide), Finset.sum_singleton, Finset.sum_singleton, hA, hA, hA, hA, h0, h1, h2, h3, if_pos hz, if_pos hz']; rfl
  · rw [if_pos hz, if_neg hz', if_pos hz, if_neg hz', Finset.sum_insert (by decide), Finset.sum_insert (by decide), Finset.union_empty, Finset.sum_singleton, hA, hA, hA, h0, h1, h2, if_pos hz]; rfl
  · rw [if_neg hz, if_pos hz', if_neg hz, if_pos hz', Finset.sum_insert (by decide), Finset.sum_insert (by decide), Finset.empty_union, Finset.sum_singleton, hA, hA, hA, h0, h1, h3, if_pos hz']; rfl
  · exfalso; omega

/-- What device `c` gets at the barrier. -/
theorem pay_bar (c : Dev nD) : (bigSep (bduties c) fun t => Pay m t c) ⊢ iprop(exR false (rightD c) (rowsR 1 0 256) ∗ exR true (leftD c) (rowsR 1 0 256) ∗ tg false c 0 ∗ tg true c 0) := by
  rw [bduties_eq]
  have e2 : (if 0 < zc c then Pay m 2 c else iprop(emp)) ⊢ tg true c 0 := by
    unfold tg; rw [← Finset.range_eq_Ico]; exact Entails.rfl
  have e3 : (if zc c < 3 then Pay m 3 c else iprop(emp)) ⊢ tg false c 0 := by
    unfold tg; rw [← Finset.range_eq_Ico]; exact Entails.rfl
  have e0 : Pay m 0 c = exR false (rightD c) (rowsR 1 0 256) := rfl
  have e1 : Pay m 1 c = exR true (leftD c) (rowsR 1 0 256) := rfl
  by_cases hz : 0 < zc c <;> by_cases hz' : zc c < 3
  · rw [if_pos hz] at e2; rw [if_pos hz'] at e3
    rw [if_pos hz, if_pos hz', big_insert (by decide), big_insert (by decide), big_union (by decide), bigSep_singleton, bigSep_singleton, e0, e1]
    iintro ⟨H0, H1, H2, H3⟩
    isplitl [H0]; · iexact H0
    isplitl [H1]; · iexact H1
    isplitl [H3]; · iapply e3 $$ H3
    iapply e2 $$ H2
  · rw [if_pos hz] at e2; rw [if_neg hz'] at e3
    rw [if_pos hz, if_neg hz', big_insert (by decide), big_insert (by decide), Finset.union_empty, bigSep_singleton, e0, e1]
    iintro ⟨H0, H1, H2⟩
    isplitl [H0]; · iexact H0
    isplitl [H1]; · iexact H1
    isplitr
    · iapply e3; iapply empI
    iapply e2 $$ H2
  · rw [if_neg hz] at e2; rw [if_pos hz'] at e3
    rw [if_neg hz, if_pos hz', big_insert (by decide), big_insert (by decide), Finset.empty_union, bigSep_singleton, e0, e1]
    iintro ⟨H0, H1, H3⟩
    isplitl [H0]; · iexact H0
    isplitl [H1]; · iexact H1
    isplitl [H3]; · iapply e3 $$ H3
    iapply e2; iapply empI
  · exfalso; omega

/-- The units of credit for the barrier. -/
theorem cred_bar (c : Dev nD) : iprop(credS (F := F) c 0 ∗ credS c 1 ∗ credS c 2 ∗ credS c 3) ⊢ cred (tallyAt (cell c 0) 1 (nbar c)) := by
  obtain ⟨h0, h1, h2, h3⟩ := amtI_bar c
  unfold credS
  rw [h0, h1, h2, h3]
  show iprop(cred (tallyAt (cell c 0) 1 1) ∗ cred (tallyAt (cell c 0) 1 1) ∗ cred (tallyAt (cell c 0) 1 (if 0 < zc c then 1 else 0)) ∗ cred (tallyAt (cell c 0) 1 (if zc c < 3 then 1 else 0))) ⊢ _
  have e : tallyAt (cell c 0) 1 (nbar c) = tallyAt (cell c 0) 1 1 + (tallyAt (cell c 0) 1 1 + (tallyAt (cell c 0) 1 (if 0 < zc c then 1 else 0) + tallyAt (cell c 0) 1 (if zc c < 3 then 1 else 0))) := by
    rw [tallyAt_add, tallyAt_add, tallyAt_add]; congr 1; unfold nbar; omega
  rw [e]
  iintro ⟨H0, H1, H2, H3⟩
  iapply (cred_add _ _).2
  isplitl [H0]; · iexact H0
  iapply (cred_add _ _).2
  isplitl [H1]; · iexact H1
  iapply (cred_add _ _).2
  isplitl [H2] <;> iassumption

/-- The wait at the barrier. -/
theorem barWait {Q : α → sProp 𝕄} (c : Dev nD) {n : ℤ} {sem : Sem sig} {k : PUnit → Prog (TpuEff nD τ sig (Elt F) Λ₀ .tc) α} (hS : SemLoc.reg sem = psem 0) {N : ℕ} (hn : n = N) (hN : nbar c = N) :
    iprop(Ctx m K ks ∗ fuel c 4 ∗ (credS c 0 ∗ credS c 1 ∗ credS c 2 ∗ credS c 3) ∗ posS c 0)
      ⊢ iprop(((fuel c 4 ∗ (exR false (rightD c) (rowsR 1 0 256) ∗ exR true (leftD c) (rowsR 1 0 256) ∗ tg false c 0 ∗ tg true c 0) ∗ semVal (cell c 0) 0) -∗ WP c (k ⟨⟩) Q)
        -∗ WP c (.op (.semWait sem n) k) Q) := by
  subst hn
  have hg : ((c : Thread nD τ), SemLoc.reg sem) = cell c 0 := by rw [hS]
  iintro ⟨#HC, Hf, Hc, Ha⟩ Hk
  ihave Hc := (cred_bar c) $$ Hc
  unfold fuel posS
  icases Hf with ⟨⟨%W, HO⟩, HT⟩
  iapply (Rounds.wp_wait_rest_token 𝒱₀ ER (Rd m) (c : Thread nD τ) none (κ := K (c, 0)) (wpE_semWait_eq 𝒱₀ (c : Thread nD τ) none Set.univ) (Set.mem_univ _)
      1 (O := OT c 4) (W := W) (R := 0) (m := 0) (T := ∅) (k' := N)
      (by rw [hg, expect_bar, hN, Nat.zero_add])) $$ [Hc HO Ha]
  · rw [hg, ← hN]
    isplitr; · iapply (Ctx_cell m K ks c 0) $$ HC
    isplitl [Hc]; · iexact Hc
    isplitl [HO]; · iexact HO
    isplitr
    · iapply (Ctx_mayWait m K ks c (.reg sem) (by omega) (by omega) (by omega)) $$ HC
    iexact Ha
  rw [hg, duties_bar, Finset.sdiff_empty, show (bigSep (bduties c) fun d => (Rd (F := F) m).payload (cell c 0) 0 d) = bigSep (bduties c) fun t => Pay m t c from rfl]
  iintro ⟨HO, Hat, -, Hpay⟩
  ihave Hpay := (pay_bar m c) $$ Hpay
  imod (closeCell m K ks c 0 1 (fun R hR => duties_bar' m c hR)) $$ [Hat] with Hv
  · isplitr; · iexact HC
    iexact Hat
  iapply Hk
  isplitl [HO HT]
  · isplitl [HO]; · iexists _; iexact HO
    iexact HT
  isplitl [Hpay] <;> iassumption

/-- The two forms of that wait, of which one is taken. -/
theorem barWaits {Q : α → sProp 𝕄} (c : Dev nD) {b3 b4 : BitVec 1} (h3 : b3 = 1#1 ↔ nbar c = 3) (h4 : b4 = 1#1 ↔ nbar c = 4) {sem3 sem4 : Sem sig} (hS3 : SemLoc.reg sem3 = psem 0) (hS4 : SemLoc.reg sem4 = psem 0)
    {n3 n4 : ℤ} (hn3 : n3 = (3 : ℕ)) (hn4 : n4 = (4 : ℕ)) {k : PUnit → Prog (TpuEff nD τ sig (Elt F) Λ₀ .tc) α} :
    iprop(Ctx m K ks ∗ fuel c 4 ∗ (credS c 0 ∗ credS c 1 ∗ credS c 2 ∗ credS c 3) ∗ posS c 0)
      ⊢ iprop(((fuel c 4 ∗ (exR false (rightD c) (rowsR 1 0 256) ∗ exR true (leftD c) (rowsR 1 0 256) ∗ tg false c 0 ∗ tg true c 0) ∗ semVal (cell c 0) 0) -∗ WP c (k ⟨⟩) Q)
        -∗ WP c (Opt b3 (fun _ => .semWait sem3 n3) >>= fun _ => Opt b4 (fun _ => .semWait sem4 n4) >>= k) Q) := by
  have hN : nbar c = 3 ∨ nbar c = 4 := (by decide +kernel : ∀ c : Dev nD, nbar c = 3 ∨ nbar c = 4) c
  unfold Opt
  rcases hN with hN | hN
  · rw [dif_pos (h3.mpr hN), dif_neg (fun h => by have := h4.mp h; omega)]
    simp only [Prog.bind_op, Prog.bind_ret]
    exact barWait m K ks c hS3 hn3 hN
  · rw [dif_neg (fun h => by have := h3.mp h; omega), dif_pos (h4.mpr hN)]
    simp only [Prog.bind_op, Prog.bind_ret]
    exact barWait m K ks c hS4 hn4 hN

/-- A signal at the barrier that is given only where there is a neighbour. -/
theorem barSignal {Q : α → sProp 𝕄} (c : Dev nD) (t : ℕ) (ht : t = 2 ∨ t = 3) {b : BitVec 1} (hb : b = 1#1 ↔ amt t c = 1) (hb' : b ≠ 1#1 → amt t c = 0)
    {n : b = 1#1 → Dev nD} (hn : ∀ h, n h = pi t c) {v : ℤ} (hv : v = 1) {sem : Sem sig} (hS : SemLoc.reg sem = psem 0) {k : PUnit → Prog (TpuEff nD τ sig (Elt F) Λ₀ .tc) α} :
    iprop(Ctx m K ks ∗ fuel c t ∗ (if amt t c = 1 then Pay m t (pi t c) else iprop(emp)))
      ⊢ iprop((fuel c (t + 1) -∗ WP c (k ⟨⟩) Q)
        -∗ WP c ((Opt b (fun h => (.semSignal (Dev.tc (n h) : Thread nD τ) sem v)) >>= k)) Q) := by
  subst hv
  have htT : t < T := by have hT : T = 100 := rfl; omega
  have hk : kx t = 0 := if_pos (by omega)
  by_cases h : b = 1#1
  · unfold Opt; rw [dif_pos h, if_pos (hb.mp h), ← hn h]
    simp only [Prog.bind_op, Prog.bind_ret]
    exact pay_signal m K ks htT (hn h) (hb.mp h) (by rw [hk]; exact hS) (if_pos (by omega))
  · unfold Opt; rw [dif_neg h]
    simp only [Prog.bind_ret]
    iintro ⟨-, Hf, -⟩ Hk
    ihave Hf := (fuel_skip c htT (hb' h)) $$ Hf
    iapply Hk
    iexact Hf

/-! ## The staging of `x` and `w` -/

abbrev xMem : Memref sig .tc .hbm S512x8192 .f32 := Memref.whole main_arg0
abbrev wgMem : Memref sig .tc .hbm S8192x256 .f32 := Memref.whole main_arg1
abbrev xsMem : Memref sig .tc .vmem S128x8192 .f32 := Memref.whole cc0_scratch4
abbrev wsMem : Memref sig .tc .vmem S2048x256 .f32 := Memref.whole cc0_scratch5

/-- A part of an input copied in, cast and stored. -/
theorem stage {Q : α → sProp 𝕄} (c : Dev nD) {s t : Shape} (src : Memref sig .tc .hbm s .f32) (M : Memref sig .tc .vmem s .f32) (D : Memref sig .tc .vmem t .bf16) (ro : Rect s) (r : Rect t)
    {sem : DmaSem sig} {srcw : Memref sig .tc .hbm s .f32} {ha : src.view.WordExact} {hc : M.view.WordExact} {ha' : srcw.view.WordExact} {hc' : M.view.WordExact} {ht : (DmaTarget.here M : DmaTarget nD τ sig .tc .vmem s .f32).Typed .hbm (.dma sem)}
    {hl : M.view.LoadsAt ro.toLoadRect} {hl2 : D.view.LoadsAt r.toLoadRect} {pay : (ro.shape.Idx → Elt F .f32) → (r.shape.Idx → Elt F .bf16)} {hx : (D.access r).Stores Finset.univ} {hm}
    {k : PUnit → Prog (TpuEff nD τ sig (Elt F) Λ₀ .tc) α} {u N : ℕ} (hu4 : 4 ≤ u) (hN : M.view.amount (.dma sem) = N) (hN' : M.view.dmaCredit = N) (hN0 : 0 < N) {q : PosShare TreeShare} {f0 : Buf (Elt F) (src.view.loc (c : Thread nD τ))}
    {X : Buf (Elt F) ((D.access r).loc (c : Thread nD τ))} {S : Finset (Idx ((D.access r).loc (c : Thread nD τ)))} (hS : (D.access r).set ⊆ S) (Y : Buf (Elt F) ((D.access r).loc (c : Thread nD τ)))
    (hY : ∀ fd x, _root_.cast (congrArg (Elt F) (D.access r).elt_eq.symm) (pay ((M.access ro).read (Elt F) (M.view.write (Elt F) fd (src.view.read (Elt F) f0) Finset.univ)) x) = Y ((D.access r).emb x)) :
    iprop(Ctx m K ks ∗ fuel c u ∗ (src.view.loc (c : Thread nD τ) ↦[Finset.univ]{q} f0) ∗ (∃ fd, M.view.loc (c : Thread nD τ) ↦[Finset.univ]{fullShare} fd) ∗ semVal ((c : Thread nD τ), .dma sem) 0
        ∗ ((D.access r).loc (c : Thread nD τ) ↦[S]{fullShare} X))
      ⊢ iprop(((fuel c u ∗ (src.view.loc (c : Thread nD τ) ↦[Finset.univ]{q} f0) ∗ (∃ fd, M.view.loc (c : Thread nD τ) ↦[Finset.univ]{fullShare} fd) ∗ semVal ((c : Thread nD τ), .dma sem) 0
            ∗ (∃ X', ⌜∀ i, (i ∈ (D.access r).set → X' i = Y i) ∧ (i ∉ (D.access r).set → X' i = X i)⌝ ∗ ((D.access r).loc (c : Thread nD τ) ↦[S]{fullShare} X'))) -∗ WP c (k ⟨⟩) Q)
          -∗ WP c (.op (.enqueueDma src (.here M) (.dma sem) ha hc ht) fun _ => .op (.waitDma2 sem srcw M ha' hc') fun _ => .op (.load M ro.toLoadRect hl) fun a => .op (.load D r.toLoadRect hl2) fun _ =>
              .op (.store D r (pay a) Finset.univ hx hm) k) Q) := by
  iintro ⟨#HC, Hf, Hs, ⟨%fd, Hd⟩, Hv, HD⟩ Hk
  ihave Hs := (pointsTo_split_subset (ℓ := src.view.loc (c : Thread nD τ)) (I := src.view.set) (S := Finset.univ) (q := q) (f := f0) (Finset.subset_univ _)).1 $$ Hs
  icases Hs with ⟨Hs, Hs'⟩
  iapply (wp_dmaLocal EC 𝒱₀ (c : Thread nD τ) none (src := src) (dst := M) (via := .same) (fs := f0) (fd := fd) 0 N hN hN0 (Finset.subset_univ _)) $$ [Hs Hd Hv]
  · isplitl [Hs]; · iexact Hs
    isplitl [Hd] <;> iassumption
  iintro HF
  iapply (own_wait m K ks hu4 hN') $$ [Hf HF]
  · isplitr; · iexact HC
    isplitl [Hf] <;> iassumption
  iintro ⟨Hf, ⟨Hd, Hs⟩, Hv⟩
  ihave Hs := (pointsTo_split_subset (ℓ := src.view.loc (c : Thread nD τ)) (I := src.view.set) (S := Finset.univ) (q := q) (f := f0) (Finset.subset_univ _)).2 $$ [Hs Hs']
  · isplitl [Hs] <;> iassumption
  iapply (wp_load_rect 𝒱₀ (c : Thread nD τ) none Set.univ (m := M) (r := ro) (Finset.subset_univ _)) $$ Hd
  iintro Hd
  iapply (wp_load_rect 𝒱₀ (c : Thread nD τ) none Set.univ (m := D) (r := r) (S := S) (f := X) hS) $$ HD
  iintro HD
  iapply (wp_store 𝒱₀ (c : Thread nD τ) none Set.univ (m := D) (r := r) (S := S) (f := X) hS) $$ HD
  iintro HD
  iapply Hk
  isplitl [Hf]; · iexact Hf
  isplitl [Hs]; · iexact Hs
  isplitl [Hd]; · iexists _; iexact Hd
  isplitl [Hv]; · iexact Hv
  iexists _
  isplitr
  · ipureintro
    intro i
    exact ⟨fun hi => stored_at D r (X := Y) (hY fd) i hi, fun hi => View.write_of_not_mem _ _ _ hi⟩
  iexact HD

/-- The device's own block of the line buffer with its first `n` parts of 128 rows staged. -/
def colN (c : Dev nD) (n : ℕ) : sProp 𝕄 :=
  iprop(∃ X, ⌜∀ i ∈ blk (zc c), (i 0).val < 512 * zc c + 128 * n → X i = CB m c i⌝ ∗ colPts c (blk (zc c)) fullShare X)
/-- The staged columns, with the first `n` parts of 2048 rows. -/
def wbN (c : Dev nD) (n : ℕ) : sProp 𝕄 := iprop(∃ X, ⌜∀ i, (i 0).val < 2048 * n → X i = WB m c i⌝ ∗ wbPts c Finset.univ X)
theorem colN_all (c : Dev nD) : colN m c 4 ⊢ colPts c (blk (zc c)) fullShare (CB m c) := by
  unfold colN colPts
  iintro ⟨%X, %h, H⟩
  iapply (Entails.of_eq (pointsTo_congr fun i hi => h i hi (by have := (Finset.mem_filter.mp hi).2; omega))) $$ H
theorem wbN_all (c : Dev nD) : wbN m c 4 ⊢ wbPts c Finset.univ (WB m c) := by
  unfold wbN
  iintro ⟨%X, %h, H⟩
  have e : X = WB m c := funext fun i => h i (by have : (i 0).val < 8192 := (i 0).isLt; omega)
  rw [e]
  iexact H

/-- The inputs, the staging buffers and the semaphore of the copies. -/
def StX (c : Dev nD) : sProp 𝕄 :=
  iprop((((c : Thread nD τ).loc main_arg0) ↦[Finset.univ]{fullShare} m ((c : Thread nD τ).loc main_arg0)) ∗ (∃ fd, ((c : Thread nD τ).loc cc0_scratch4) ↦[Finset.univ]{fullShare} fd))
def StW (c : Dev nD) : sProp 𝕄 :=
  iprop((((c : Thread nD τ).loc main_arg1) ↦[Finset.univ]{fullShare} m ((c : Thread nD τ).loc main_arg1)) ∗ (∃ fd, ((c : Thread nD τ).loc cc0_scratch5) ↦[Finset.univ]{fullShare} fd))

theorem read_xs (c : Dev nD) (fd : S128x8192.Idx → Elt F .f32) (g : S128x8192.Idx → Elt F .f32) (h) (y : S128x8192.Idx) :
    (xsMem.access (Rect.unit (s := S128x8192) ![0, 0] S128x8192.size h)).read (Elt F) (xsMem.view.write (Elt F) fd g Finset.univ) y = g y := by
  refine (congrFun (Memref.read_access_unit_zero (Elt F) cc0_scratch4 (funext fun a => by match a with | 0 => rfl | 1 => rfl) h (View.write (Elt F) (View.whole cc0_scratch4) fd g Finset.univ)) y).trans ?_
  exact congrFun (View.write_whole_univ (Val := Elt F) cc0_scratch4 fd g) y
theorem read_ws (c : Dev nD) (fd : S2048x256.Idx → Elt F .f32) (g : S2048x256.Idx → Elt F .f32) (h) (y : S2048x256.Idx) :
    (wsMem.access (Rect.unit (s := S2048x256) ![0, 0] S2048x256.size h)).read (Elt F) (wsMem.view.write (Elt F) fd g Finset.univ) y = g y := by
  refine (congrFun (Memref.read_access_unit_zero (Elt F) cc0_scratch5 (funext fun a => by match a with | 0 => rfl | 1 => rfl) h (View.write (Elt F) (View.whole cc0_scratch5) fd g Finset.univ)) y).trans ?_
  exact congrFun (View.write_whole_univ (Val := Elt F) cc0_scratch5 fd g) y

theorem mk_own : ∀ c : Dev nD, mk (zc c) (qc c) = c := by decide
theorem zc_lt (c : Dev nD) : zc c < 4 := by have : c.val < 16 := c.isLt; unfold zc; omega

/-- The part `n` of the rows of `x`, staged. -/
theorem stageX {Q : α → sProp 𝕄} (c : Dev nD) (n : ℕ) (hn : n < 4) {o : ℕ} (ho : o = 128 * n) {off : Fin 2 → ℕ} (hoff : off = ![512 * zc c + 128 * n, 0]) {h0 h1 h2 h3}
    {sem : DmaSem sig} {srcw : Memref sig .tc .hbm S128x8192 .f32} {ha : (xMem.slice (Rect.unit (s := S512x8192) ![o, 0] S128x8192.size h0) h1).view.WordExact} {hc : xsMem.view.WordExact} {ha' : srcw.view.WordExact} {hc' : xsMem.view.WordExact}
    {ht : (DmaTarget.here xsMem : DmaTarget nD τ sig .tc .vmem S128x8192 .f32).Typed .hbm (.dma sem)}
    {hl : xsMem.view.LoadsAt (Rect.unit (s := S128x8192) ![0, 0] S128x8192.size h2).toLoadRect} {hl2 : cMem.view.LoadsAt (Rect.unit (s := S2048x8192) off S128x8192.size h3).toLoadRect}
    {pay : (S128x8192.Idx → Elt F .f32) → (S128x8192.Idx → Elt F .bf16)} {hx : (cMem.access (Rect.unit (s := S2048x8192) off S128x8192.size h3)).Stores Finset.univ} {hm}
    {k : PUnit → Prog (TpuEff nD τ sig (Elt F) Λ₀ .tc) α} {u : ℕ} (hu4 : 4 ≤ u) (hs : sem = 28) (hpay : ∀ v x, pay v x = tb (v x)) :
    iprop(Ctx m K ks ∗ fuel c u ∗ StX m c ∗ semVal ((c : Thread nD τ), .dma 28) 0 ∗ colN m c n)
      ⊢ iprop(((fuel c u ∗ StX m c ∗ semVal ((c : Thread nD τ), .dma 28) 0 ∗ colN m c (n + 1)) -∗ WP c (k ⟨⟩) Q)
          -∗ WP c (.op (.enqueueDma (xMem.slice (Rect.unit (s := S512x8192) ![o, 0] S128x8192.size h0) h1) (.here xsMem) (.dma sem) ha hc ht) fun _ => .op (.waitDma2 sem srcw xsMem ha' hc') fun _ =>
              .op (.load xsMem (Rect.unit (s := S128x8192) ![0, 0] S128x8192.size h2).toLoadRect hl) fun a => .op (.load cMem (Rect.unit (s := S2048x8192) off S128x8192.size h3).toLoadRect hl2) fun _ =>
              .op (.store cMem (Rect.unit (s := S2048x8192) off S128x8192.size h3) (pay a) Finset.univ hx hm) k) Q) := by
  subst hs hoff ho
  have hset : (cMem.access (Rect.unit (s := S2048x8192) ![512 * zc c + 128 * n, 0] S128x8192.size h3)).set = rowsC (512 * zc c + 128 * n) 128 := (acc_set cc0_scratch0 _).trans (rect_C _ 128 h3 rfl)
  have hsub : rowsC (512 * zc c + 128 * n) 128 ⊆ blk (zc c) := by
    intro i hi
    have hi := (Finset.mem_filter.mp hi).2
    exact Finset.mem_filter.mpr ⟨Finset.mem_univ _, by omega, by omega⟩
  unfold StX colN colPts
  iintro ⟨#HC, Hf, ⟨Hx, Hst⟩, Hv, ⟨%X, %hX, Hc⟩⟩ Hk
  iapply (stage m K ks c (xMem.slice (Rect.unit (s := S512x8192) ![128 * n, 0] S128x8192.size h0) h1) xsMem cMem (Rect.unit (s := S128x8192) ![0, 0] S128x8192.size h2)
    (Rect.unit (s := S2048x8192) ![512 * zc c + 128 * n, 0] S128x8192.size h3) (N := xsMem.view.dmaCredit) hu4 rfl rfl (View.dmaCredit_pos _ (by decide)) (f0 := m ((c : Thread nD τ).loc main_arg0)) (S := blk (zc c)) (by rw [hset]; exact hsub) (CB m c) (by
      intro fd x
      have hx0 : (x 0).val < 128 := (x 0).isLt
      have hx1 : (x 1).val < 8192 := (x 1).isLt
      have hz := zc_lt c
      show pay _ x = XB m (mk ((512 * zc c + 128 * n + 1 * (x 0).val) / 512) (qc c)) ((512 * zc c + 128 * n + 1 * (x 0).val) % 512) (0 + 1 * (x 1).val)
      rw [hpay, read_xs c, show (512 * zc c + 128 * n + 1 * (x 0).val) / 512 = zc c by omega, mk_own, show (512 * zc c + 128 * n + 1 * (x 0).val) % 512 = 128 * n + (x 0).val by omega]
      unfold XB
      show tb (m ((c : Thread nD τ).loc main_arg0) ((Rect.unit (s := S512x8192) ![128 * n, 0] S128x8192.size h0).emb x)) = _
      congr 2
      funext a
      match a with
      | 0 => exact Fin.ext (by show 128 * n + 1 * (x 0).val = (128 * n + (x 0).val) % 512; omega)
      | 1 => exact Fin.ext (by show 0 + 1 * (x 1).val = (0 + 1 * (x 1).val) % 8192; omega))) $$ [Hf Hx Hst Hv Hc]
  · isplitr; · iexact HC
    isplitl [Hf]; · iexact Hf
    isplitl [Hx]; · iexact Hx
    isplitl [Hst]; · iexact Hst
    isplitl [Hv] <;> iassumption
  iintro ⟨Hf, Hx, Hst, Hv, ⟨%X', %hX', Hc⟩⟩
  iapply Hk
  isplitl [Hf]; · iexact Hf
  isplitl [Hx Hst]; · isplitl [Hx] <;> iassumption
  isplitl [Hv]; · iexact Hv
  iexists X'
  isplitr
  · ipureintro
    intro i hi hlt
    rw [hset] at hX'
    by_cases hm : i ∈ rowsC (512 * zc c + 128 * n) 128
    · exact (hX' i).1 hm
    · rw [(hX' i).2 hm]
      refine hX i hi ?_
      by_contra hge
      exact hm (Finset.mem_filter.mpr ⟨Finset.mem_univ _, by omega, by omega⟩)
  iexact Hc

/-- The part `n` of the columns of `w`, staged. -/
theorem stageW {Q : α → sProp 𝕄} (c : Dev nD) (n : ℕ) (hn : n < 4) {o : ℕ} (ho : o = 2048 * n) {h0 h1 h2}
    {sem : DmaSem sig} {srcw : Memref sig .tc .hbm S2048x256 .f32} {ha : (wgMem.slice (Rect.unit (s := S8192x256) ![o, 0] S2048x256.size h0) h1).view.WordExact} {hc : wsMem.view.WordExact} {ha' : srcw.view.WordExact} {hc' : wsMem.view.WordExact}
    {ht : (DmaTarget.here wsMem : DmaTarget nD τ sig .tc .vmem S2048x256 .f32).Typed .hbm (.dma sem)}
    {hl : wsMem.view.LoadsAt (Rect.unit (s := S2048x256) ![0, 0] S2048x256.size h2).toLoadRect} {hl2 : wMem.view.LoadsAt (Rect.unit (s := S8192x256) ![o, 0] S2048x256.size h0).toLoadRect}
    {pay : (S2048x256.Idx → Elt F .f32) → (S2048x256.Idx → Elt F .bf16)} {hx : (wMem.access (Rect.unit (s := S8192x256) ![o, 0] S2048x256.size h0)).Stores Finset.univ} {hm}
    {k : PUnit → Prog (TpuEff nD τ sig (Elt F) Λ₀ .tc) α} {u : ℕ} (hu4 : 4 ≤ u) (hs : sem = 28) (hpay : ∀ v x, pay v x = tb (v x)) :
    iprop(Ctx m K ks ∗ fuel c u ∗ StW m c ∗ semVal ((c : Thread nD τ), .dma 28) 0 ∗ wbN m c n)
      ⊢ iprop(((fuel c u ∗ StW m c ∗ semVal ((c : Thread nD τ), .dma 28) 0 ∗ wbN m c (n + 1)) -∗ WP c (k ⟨⟩) Q)
          -∗ WP c (.op (.enqueueDma (wgMem.slice (Rect.unit (s := S8192x256) ![o, 0] S2048x256.size h0) h1) (.here wsMem) (.dma sem) ha hc ht) fun _ => .op (.waitDma2 sem srcw wsMem ha' hc') fun _ =>
              .op (.load wsMem (Rect.unit (s := S2048x256) ![0, 0] S2048x256.size h2).toLoadRect hl) fun a => .op (.load wMem (Rect.unit (s := S8192x256) ![o, 0] S2048x256.size h0).toLoadRect hl2) fun _ =>
              .op (.store wMem (Rect.unit (s := S8192x256) ![o, 0] S2048x256.size h0) (pay a) Finset.univ hx hm) k) Q) := by
  subst hs ho
  have hset : (wMem.access (Rect.unit (s := S8192x256) ![2048 * n, 0] S2048x256.size h0)).set = rowsW (2048 * n) 2048 := (acc_set cc0_scratch3 _).trans (rect_W _ 2048 h0 rfl)
  unfold StW wbN wbPts
  iintro ⟨#HC, Hf, ⟨Hx, Hst⟩, Hv, ⟨%X, %hX, Hc⟩⟩ Hk
  iapply (stage m K ks c (wgMem.slice (Rect.unit (s := S8192x256) ![2048 * n, 0] S2048x256.size h0) h1) wsMem wMem (Rect.unit (s := S2048x256) ![0, 0] S2048x256.size h2)
    (Rect.unit (s := S8192x256) ![2048 * n, 0] S2048x256.size h0) (N := wsMem.view.dmaCredit) hu4 rfl rfl (View.dmaCredit_pos _ (by decide)) (f0 := m ((c : Thread nD τ).loc main_arg1)) (S := Finset.univ) (Finset.subset_univ _) (WB m c) (by
      intro fd x
      show pay _ x = tb (m ((c : Thread nD τ).loc main_arg1) ((Rect.unit (s := S8192x256) ![2048 * n, 0] S2048x256.size h0).emb x))
      rw [hpay, read_ws c]
      rfl)) $$ [Hf Hx Hst Hv Hc]
  · isplitr; · iexact HC
    isplitl [Hf]; · iexact Hf
    isplitl [Hx]; · iexact Hx
    isplitl [Hst]; · iexact Hst
    isplitl [Hv] <;> iassumption
  iintro ⟨Hf, Hx, Hst, Hv, ⟨%X', %hX', Hc⟩⟩
  iapply Hk
  isplitl [Hf]; · iexact Hf
  isplitl [Hx Hst]; · isplitl [Hx] <;> iassumption
  isplitl [Hv]; · iexact Hv
  iexists X'
  isplitr
  · ipureintro
    intro i hlt
    rw [hset] at hX'
    by_cases hm : i ∈ rowsW (2048 * n) 2048
    · exact (hX' i).1 hm
    · rw [(hX' i).2 hm]
      refine hX i ?_
      by_contra hge
      exact hm (Finset.mem_filter.mpr ⟨Finset.mem_univ _, by omega, by omega⟩)
  iexact Hc

end Cert.KernelIdeal.Gather
-- ==== Proof.Words.lean ====
/-
  Closed forms of the words of the body.
-/
module

public import proofs.«01_k».proof.Proof.Stage
public import proofs.«01_k».proof.Proof.Gen.KernelIdeal.Points

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## Closed forms of the words that name devices, rows and conditions -/

theorem dev_L (c : Dev nD) (h) : (⟨k0_dev1 c, h⟩ : Dev nD) = leftD c := Fin.ext ((by decide +kernel : ∀ c : Dev nD, k0_dev1 c = (leftD c).val) c)
theorem dev_R (c : Dev nD) (h) : (⟨k0_dev2 c, h⟩ : Dev nD) = rightD c := Fin.ext ((by decide +kernel : ∀ c : Dev nD, k0_dev2 c = (rightD c).val) c)
theorem dev_U (c : Dev nD) (hz : zc c < 3) (h) : (⟨k0_dev3 c, h⟩ : Dev nD) = upD c := Fin.ext ((by decide +kernel : ∀ c : Dev nD, zc c < 3 → k0_dev3 c = (upD c).val) c hz)
theorem dev_D (c : Dev nD) (hz : 0 < zc c) (h) : (⟨k0_dev4 c, h⟩ : Dev nD) = downD c := Fin.ext ((by decide +kernel : ∀ c : Dev nD, 0 < zc c → k0_dev4 c = (downD c).val) c hz)
theorem cond_U (c : Dev nD) : k0_cond1 c = 1#1 ↔ zc c < 3 := (by decide +kernel : ∀ c : Dev nD, k0_cond1 c = 1#1 ↔ zc c < 3) c
theorem cond_D (c : Dev nD) : k0_cond2 c = 1#1 ↔ 0 < zc c := (by decide +kernel : ∀ c : Dev nD, k0_cond2 c = 1#1 ↔ 0 < zc c) c
theorem amt2 (c : Dev nD) : amt 2 c = 1 ↔ zc c < 3 := (by decide +kernel : ∀ c : Dev nD, amt 2 c = 1 ↔ zc c < 3) c
theorem amt2' (c : Dev nD) : ¬ zc c < 3 → amt 2 c = 0 := (by decide +kernel : ∀ c : Dev nD, ¬ zc c < 3 → amt 2 c = 0) c
theorem amt3 (c : Dev nD) : amt 3 c = 1 ↔ 0 < zc c := (by decide +kernel : ∀ c : Dev nD, amt 3 c = 1 ↔ 0 < zc c) c
theorem amt3' (c : Dev nD) : ¬ 0 < zc c → amt 3 c = 0 := (by decide +kernel : ∀ c : Dev nD, ¬ 0 < zc c → amt 3 c = 0) c
theorem off1 (c : Dev nD) (n : Fin 4) : k0_off1 c (BitVec.ofNat 32 (128 * n.val)) = ![512 * zc c + 128 * n.val, 0] := (by decide +kernel : ∀ (c : Dev nD) (n : Fin 4), k0_off1 c (BitVec.ofNat 32 (128 * n.val)) = ![512 * zc c + 128 * n.val, 0]) c n

theorem lsOn_U0 (c : Dev nD) : k0_cond1 c = 1#1 ↔ lsOn false c 0 := (by decide +kernel : ∀ c : Dev nD, k0_cond1 c = 1#1 ↔ lsOn false c 0) c
theorem lsOn_D0 (c : Dev nD) : k0_cond2 c = 1#1 ↔ lsOn true c 0 := (by decide +kernel : ∀ c : Dev nD, k0_cond2 c = 1#1 ↔ lsOn true c 0) c
theorem lsOn_U1 (c : Dev nD) : k0_cond9 c = 1#1 ↔ lsOn false c 1 := (by decide +kernel : ∀ c : Dev nD, k0_cond9 c = 1#1 ↔ lsOn false c 1) c
theorem lsOn_D1 (c : Dev nD) : k0_cond10 c = 1#1 ↔ lsOn true c 1 := (by decide +kernel : ∀ c : Dev nD, k0_cond10 c = 1#1 ↔ lsOn true c 1) c
theorem lsOn_U2 (c : Dev nD) : k0_cond13 c = 1#1 ↔ lsOn false c 2 := (by decide +kernel : ∀ c : Dev nD, k0_cond13 c = 1#1 ↔ lsOn false c 2) c
theorem lsOn_D2 (c : Dev nD) : k0_cond14 c = 1#1 ↔ lsOn true c 2 := (by decide +kernel : ∀ c : Dev nD, k0_cond14 c = 1#1 ↔ lsOn true c 2) c
theorem gets_U1 (c : Dev nD) : k0_cond7 c = 1#1 ↔ 1 < lb false c := (by decide +kernel : ∀ c : Dev nD, k0_cond7 c = 1#1 ↔ 1 < lb false c) c
theorem gets_D1 (c : Dev nD) : k0_cond8 c = 1#1 ↔ 1 < lb true c := (by decide +kernel : ∀ c : Dev nD, k0_cond8 c = 1#1 ↔ 1 < lb true c) c
theorem gets_U2 (c : Dev nD) : k0_cond11 c = 1#1 ↔ 2 < lb false c := (by decide +kernel : ∀ c : Dev nD, k0_cond11 c = 1#1 ↔ 2 < lb false c) c
theorem gets_D2 (c : Dev nD) : k0_cond12 c = 1#1 ↔ 2 < lb true c := (by decide +kernel : ∀ c : Dev nD, k0_cond12 c = 1#1 ↔ 2 < lb true c) c
theorem gets_U3 (c : Dev nD) : k0_cond15 c = 1#1 ↔ 3 < lb false c := (by decide +kernel : ∀ c : Dev nD, k0_cond15 c = 1#1 ↔ 3 < lb false c) c
theorem gets_D3 (c : Dev nD) : k0_cond16 c = 1#1 ↔ 3 < lb true c := (by decide +kernel : ∀ c : Dev nD, k0_cond16 c = 1#1 ↔ 3 < lb true c) c
theorem lrow_U0 (c : Dev nD) : lsOn false c 0 → k0_off2 c = ![512 * ln false c 0, 0] := (by decide +kernel : ∀ c : Dev nD, lsOn false c 0 → k0_off2 c = ![512 * ln false c 0, 0]) c
theorem lrow_D0 (c : Dev nD) : lsOn true c 0 → k0_off3 c = ![512 * ln true c 0, 0] := (by decide +kernel : ∀ c : Dev nD, lsOn true c 0 → k0_off3 c = ![512 * ln true c 0, 0]) c
theorem lrow_U1 (c : Dev nD) : lsOn false c 1 → k0_off11 c = ![512 * ln false c 1, 0] := (by decide +kernel : ∀ c : Dev nD, lsOn false c 1 → k0_off11 c = ![512 * ln false c 1, 0]) c
theorem lrow_D1 (c : Dev nD) : lsOn true c 1 → k0_off12 c = ![512 * ln true c 1, 0] := (by decide +kernel : ∀ c : Dev nD, lsOn true c 1 → k0_off12 c = ![512 * ln true c 1, 0]) c
theorem lrow_U2 (c : Dev nD) : lsOn false c 2 → k0_off18 c = ![512 * ln false c 2, 0] := (by decide +kernel : ∀ c : Dev nD, lsOn false c 2 → k0_off18 c = ![512 * ln false c 2, 0]) c
theorem lrow_D2 (c : Dev nD) : lsOn true c 2 → k0_off19 c = ![512 * ln true c 2, 0] := (by decide +kernel : ∀ c : Dev nD, lsOn true c 2 → k0_off19 c = ![512 * ln true c 2, 0]) c

/-! ## The casts -/

theorem pay1_tb (v : S128x8192.Idx → Elt F .f32) (x : S128x8192.Idx) : k0_pay1 v x = tb (v x) := by
  change truncf (F := F) .bf16 v bitsLt_bf16_f32 (Shape.reshapeEquiv _ x) = _
  rw [Shape.reshapeEquiv_self]
  rfl
theorem pay5_tb (v : S2048x256.Idx → Elt F .f32) (x : S2048x256.Idx) : k0_pay5 v x = tb (v x) := by
  change truncf (F := F) .bf16 v bitsLt_bf16_f32 (Shape.reshapeEquiv _ x) = _
  rw [Shape.reshapeEquiv_self]
  rfl
theorem pay67_tb (v : S2048x256.Idx → Elt F .f32) (x : S2048x256.Idx) : k0_pay7 (k0_pay6 v) x = tb (v x) := pay5_tb v x

end Cert.KernelIdeal.Gather
-- ==== Proof.Hops.lean ====
/-
  What a device does in a hop, by its stretches.
-/
module

public import proofs.«01_k».proof.Proof.Ring

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-- Half `s` of a landing in and passed on: the slot may be read, the send is under way. -/
def Ps (d : Bool) (c : Dev nD) (H s : ℕ) : sProp 𝕄 :=
  iprop(Nx d c (H + 1) s ∗ Hf m d c H s fullShare.right ∗ Fl d c H s (Hf m d c H s fullShare.left))

/-- The wait for half `s` of a landing, and the send that passes it on. -/
theorem pass {Q : α → sProp 𝕄} (d : Bool) (c : Dev nD) (H s : ℕ) (t : ℕ) {n : Dev nD} {p p' o : ℕ} (hH : H < 12) (h3 : H % 3 ≠ 0) (hs : s < 2) (ht : t = st H (si d s))
    (ho : o = 128 * s) (hp : p = H % 2) (hp' : p' = (H + 1) % 2) (hn : n = nbr d c)
    {sp sp' : Space} {sh sh' : Shape} {e e' : EltTy} {r : DmaSem sig} {srcw : Memref sig .tc sp' sh' e'} {dstw : Memref sig .tc sp sh e} {hsrcw : srcw.view.WordExact} {hdstw : dstw.view.WordExact}
    {h h'} {hsc : (slotM d p' o h').view.ref.isScScratch = false}
    {sS sem : DmaSem sig} {hsrc : (slotM d p o h).view.WordExact} {hdst : (slotM d p' o h').view.WordExact}
    {hsem : DmaTarget.Typed .vmem (.dma sem) (.remote (Dev.tc n : Thread nD τ) (slotM d p' o h') (.dma sS) hsc)}
    {k : PUnit → Prog (TpuEff nD τ sig (Elt F) Λ₀ .tc) α} (hR : SemLoc.dma r = psem (kx (st (H - 1) (si d s)))) (hN : dstw.view.dmaCredit = NR)
    (hS : SemLoc.dma sem = psem (kx (st H (si d s)))) (hss : sS = ssem d p s) :
    iprop(Ctx m K ks ∗ fuel c t ∗ Rc d c H s ∗ Sd d c H s)
      ⊢ iprop(((fuel c (t + 1) ∗ Ps m d c H s) -∗ WP c (k ⟨⟩) Q)
          -∗ WP c (.op (.waitDma2 r srcw dstw hsrcw hdstw) fun _ =>
              .op (.enqueueDma (slotM d p o h) (.remote (Dev.tc n : Thread nD τ) (slotM d p' o h') (.dma sS) hsc) (.dma sem) hsrc hdst hsem) k) Q) := by
  subst ht
  have hH1 : 1 ≤ H := by omega
  iintro ⟨#HC, Hf, HR, HS⟩ Hk
  iapply (recv m K ks d c H s (u := st H (si d s)) hH1 (by omega) hs (by unfold st; omega) hR hN) $$ [Hf HR]
  · isplitr; · iexact HC
    isplitl [Hf] <;> iassumption
  iintro ⟨Hf, Hh, HN⟩
  unfold Hf
  ihave Hh := (ringPts_share d c (rowsR (H % 2) (128 * s) 128) (SR m d c (H - 1)) fullShare).1 $$ Hh
  icases Hh with ⟨Hl, Hr⟩
  iapply (send m K ks d c H s hH h3 hs ho hp hp' hn (q := fullShare.left) hS hss) $$ [Hf Hl HS]
  · unfold Hf
    isplitr; · iexact HC
    isplitl [Hf]; · iexact Hf
    isplitl [Hl] <;> iassumption
  iintro ⟨Hf, HF⟩
  iapply Hk
  unfold Ps Hf
  isplitl [Hf]; · iexact Hf
  isplitl [HN]; · iexact HN
  isplitl [Hr] <;> iassumption

/-- A hop's credits, landings and sends, in a hop that passes on what landed. -/
theorem passes {Q : α → sProp 𝕄} (c : Dev nD) (H : ℕ) {p p' : ℕ} (hH : H < 12) (h3 : H % 3 ≠ 0) (hp : p = H % 2) (hp' : p' = (H + 1) % 2)
    {cf cb : Sem sig} (hcf : SemLoc.reg cf = psem (kc false)) (hcb : SemLoc.reg cb = psem (kc true))
    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    {n0 : Dev nD} {ha0 hb0} {hc0 : (slotF p' 0 hb0).view.ref.isScScratch = false} {u0 v0 : DmaSem sig} {xa0 : (slotF p 0 ha0).view.WordExact} {xb0 : (slotF p' 0 hb0).view.WordExact}
    {xt0 : DmaTarget.Typed .vmem (.dma v0) (.remote (Dev.tc n0 : Thread nD τ) (slotF p' 0 hb0) (.dma u0) hc0)}
    {sa1 sb1 : Space} {sha1 shb1 : Shape} {ea1 eb1 : EltTy}
    {r1 : DmaSem sig} {wa1 : Memref sig .tc sa1 sha1 ea1} {wb1 : Memref sig .tc sb1 shb1 eb1} {hwa1 : wa1.view.WordExact} {hwb1 : wb1.view.WordExact}
    {n1 : Dev nD} {ha1 hb1} {hc1 : (slotB p' 0 hb1).view.ref.isScScratch = false} {u1 v1 : DmaSem sig} {xa1 : (slotB p 0 ha1).view.WordExact} {xb1 : (slotB p' 0 hb1).view.WordExact}
    {xt1 : DmaTarget.Typed .vmem (.dma v1) (.remote (Dev.tc n1 : Thread nD τ) (slotB p' 0 hb1) (.dma u1) hc1)}
    {sa2 sb2 : Space} {sha2 shb2 : Shape} {ea2 eb2 : EltTy}
    {r2 : DmaSem sig} {wa2 : Memref sig .tc sa2 sha2 ea2} {wb2 : Memref sig .tc sb2 shb2 eb2} {hwa2 : wa2.view.WordExact} {hwb2 : wb2.view.WordExact}
    {n2 : Dev nD} {ha2 hb2} {hc2 : (slotF p' 128 hb2).view.ref.isScScratch = false} {u2 v2 : DmaSem sig} {xa2 : (slotF p 128 ha2).view.WordExact} {xb2 : (slotF p' 128 hb2).view.WordExact}
    {xt2 : DmaTarget.Typed .vmem (.dma v2) (.remote (Dev.tc n2 : Thread nD τ) (slotF p' 128 hb2) (.dma u2) hc2)}
    {sa3 sb3 : Space} {sha3 shb3 : Shape} {ea3 eb3 : EltTy}
    {r3 : DmaSem sig} {wa3 : Memref sig .tc sa3 sha3 ea3} {wb3 : Memref sig .tc sb3 shb3 eb3} {hwa3 : wa3.view.WordExact} {hwb3 : wb3.view.WordExact}
    {n3 : Dev nD} {ha3 hb3} {hc3 : (slotB p' 128 hb3).view.ref.isScScratch = false} {u3 v3 : DmaSem sig} {xa3 : (slotB p 128 ha3).view.WordExact} {xb3 : (slotB p' 128 hb3).view.WordExact}
    {xt3 : DmaTarget.Typed .vmem (.dma v3) (.remote (Dev.tc n3 : Thread nD τ) (slotB p' 128 hb3) (.dma u3) hc3)}
    (hn0 : n0 = nbr false c) (hR0 : SemLoc.dma r0 = psem (kx (st (H - 1) (si false 0)))) (hN0 : wb0.view.dmaCredit = NR) (hS0 : SemLoc.dma v0 = psem (kx (st H (si false 0)))) (hU0 : u0 = ssem false p 0)
    (hn1 : n1 = nbr true c) (hR1 : SemLoc.dma r1 = psem (kx (st (H - 1) (si true 0)))) (hN1 : wb1.view.dmaCredit = NR) (hS1 : SemLoc.dma v1 = psem (kx (st H (si true 0)))) (hU1 : u1 = ssem true p 0)
    (hn2 : n2 = nbr false c) (hR2 : SemLoc.dma r2 = psem (kx (st (H - 1) (si false 1)))) (hN2 : wb2.view.dmaCredit = NR) (hS2 : SemLoc.dma v2 = psem (kx (st H (si false 1)))) (hU2 : u2 = ssem false p 1)
    (hn3 : n3 = nbr true c) (hR3 : SemLoc.dma r3 = psem (kx (st (H - 1) (si true 1)))) (hN3 : wb3.view.dmaCredit = NR) (hS3 : SemLoc.dma v3 = psem (kx (st H (si true 1)))) (hU3 : u3 = ssem true p 1)
    {k : PUnit → Prog (TpuEff nD τ sig (Elt F) Λ₀ .tc) α} :
    iprop(Ctx m K ks ∗ fuel c (st H 2) ∗ Dr false c H ∗ Dr true c H)
      ⊢ iprop(((fuel c (st H 6) ∗ Rest false c H ∗ Rest true c H ∗ (Ps m false c H 0 ∗ Ps m true c H 0) ∗ (Ps m false c H 1 ∗ Ps m true c H 1)) -∗ WP c (k ⟨⟩) Q)
          -∗ WP c (.op (.semWait cf 1) fun _ => .op (.semWait cb 1) fun _ =>
            .op (.waitDma2 r0 wa0 wb0 hwa0 hwb0) fun _ =>
            .op (.enqueueDma (slotF p 0 ha0) (.remote (Dev.tc n0 : Thread nD τ) (slotF p' 0 hb0) (.dma u0) hc0) (.dma v0) xa0 xb0 xt0) fun _ =>
            .op (.waitDma2 r1 wa1 wb1 hwa1 hwb1) fun _ =>
            .op (.enqueueDma (slotB p 0 ha1) (.remote (Dev.tc n1 : Thread nD τ) (slotB p' 0 hb1) (.dma u1) hc1) (.dma v1) xa1 xb1 xt1) fun _ =>
            .op (.waitDma2 r2 wa2 wb2 hwa2 hwb2) fun _ =>
            .op (.enqueueDma (slotF p 128 ha2) (.remote (Dev.tc n2 : Thread nD τ) (slotF p' 128 hb2) (.dma u2) hc2) (.dma v2) xa2 xb2 xt2) fun _ =>
            .op (.waitDma2 r3 wa3 wb3 hwa3 hwb3) fun _ =>
            .op (.enqueueDma (slotB p 128 ha3) (.remote (Dev.tc n3 : Thread nD τ) (slotB p' 128 hb3) (.dma u3) hc3) (.dma v3) xa3 xb3 xt3) k) Q) := by
  have hH1 : 1 ≤ H := by omega
  iintro ⟨#HC, Hf, HF, HB⟩ Hk
  iapply (credit m K ks false c H (u := st H 2) hH1 hH (by unfold st; omega) hcf) $$ [Hf HF]
  · isplitr; · iexact HC
    isplitl [Hf] <;> iassumption
  iintro ⟨Hf, HFr, ⟨HR0, HR2⟩, HS0, HS2⟩
  iapply (credit m K ks true c H (u := st H 2) hH1 hH (by unfold st; omega) hcb) $$ [Hf HB]
  · isplitr; · iexact HC
    isplitl [Hf] <;> iassumption
  iintro ⟨Hf, HBr, ⟨HR1, HR3⟩, HS1, HS3⟩
  iapply (pass m K ks false c H 0 (st H 2) hH h3 (by decide) rfl rfl hp hp' hn0 hR0 hN0 hS0 hU0) $$ [Hf HR0 HS0]
  · isplitr; · iexact HC
    isplitl [Hf]; · iexact Hf
    isplitl [HR0] <;> iassumption
  iintro ⟨Hf, HP0⟩
  iapply (pass m K ks true c H 0 (st H 3) hH h3 (by decide) rfl rfl hp hp' hn1 hR1 hN1 hS1 hU1) $$ [Hf HR1 HS1]
  · isplitr; · iexact HC
    isplitl [Hf]; · iexact Hf
    isplitl [HR1] <;> iassumption
  iintro ⟨Hf, HP1⟩
  iapply (pass m K ks false c H 1 (st H 4) hH h3 (by decide) rfl rfl hp hp' hn2 hR2 hN2 hS2 hU2) $$ [Hf HR2 HS2]
  · isplitr; · iexact HC
    isplitl [Hf]; · iexact Hf
    isplitl [HR2] <;> iassumption
  iintro ⟨Hf, HP2⟩
  iapply (pass m K ks true c H 1 (st H 5) hH h3 (by decide) rfl rfl hp hp' hn3 hR3 hN3 hS3 hU3) $$ [Hf HR3 HS3]
  · isplitr; · iexact HC
    isplitl [Hf]; · iexact Hf
    isplitl [HR3] <;> iassumption
  iintro ⟨Hf, HP3⟩
  iapply Hk
  isplitl [Hf]; · iexact Hf
  isplitl [HFr]; · iexact HFr
  isplitl [HBr]; · iexact HBr
  isplitl [HP0 HP1]; · isplitl [HP0] <;> iassumption
  isplitl [HP2] <;> iassumption

end Cert.KernelIdeal.Gather
-- ==== Proof.Hop.lean ====
/-
  The second part of a hop: the products of what landed, their copies to the result, the waits for the sends and the credits.
-/
module

public import proofs.«01_k».proof.Proof.Hops
public import proofs.«01_k».proof.Proof.Out
public import proofs.«01_k».proof.Proof.Segs

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## The copies of results under way -/

/-- The windows of hop `H` free again, and the rows written from them before. -/
def Fd (c : Dev nD) (H : ℕ) : sProp 𝕄 :=
  iprop((outPts c (pR false c H) (RES m c) ∗ FrR false c (H % 2)) ∗ (outPts c (pR true c H) (RES m c) ∗ FrR true c (H % 2)) ∗ outPts c (pL c H) (RES m c) ∗ FrL c (H % 2))
/-- The three copies made two hops before hop `H`. -/
def Oh (c : Dev nD) (H : ℕ) : sProp 𝕄 := iprop(OR m false c H ∗ OR m true c H ∗ OL m c H)
/-- The rest of the result at hop `H`. -/
def Os (c : Dev nD) (H : ℕ) : sProp 𝕄 := iprop(Oh m c (H + 1) ∗ (bigSep (Finset.Ico (H + 2) 15) (Tp (F := F) c)) ∗ bigSep (Finset.range H) (Dn m c))

theorem outs0 (c : Dev nD) {H : ℕ} (h : H < 3) (h2 : H ≠ 2) : Oh m c H ⊢ Fd m c H := by
  unfold Oh Fd
  iintro ⟨H0, H1, H2⟩
  isplitl [H0]; · iapply (idleR m false c (by omega)) $$ H0
  isplitl [H1]; · iapply (idleR m true c (by omega)) $$ H1
  iapply (idleL m c (by omega)) $$ H2

theorem outsL {Q : α → sProp 𝕄} (c : Dev nD) (H : ℕ) {u : ℕ} (hH : H = 2) (hu4 : 4 ≤ u)
    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact} {k : PUnit → Prog (TpuEff nD τ sig (Elt F) Λ₀ .tc) α} (hs : r0 = osem (H % 2) 2) (hN : wb0.view.dmaCredit = NO true) :
    iprop(Ctx m K ks ∗ fuel c u ∗ Oh m c H) ⊢ iprop(((fuel c u ∗ Fd m c H) -∗ WP c (k ⟨⟩) Q) -∗ WP c (.op (.waitDma2 r0 wa0 wb0 hwa0 hwb0) k) Q) := by
  subst hH
  unfold Oh Fd
  iintro ⟨#HC, Hf, H0, H1, H2⟩ Hk
  iapply (waitL m K ks c 2 (u := u) (by decide) hu4 hs hN) $$ [Hf H2]
  · isplitr; · iexact HC
    isplitl [Hf] <;> iassumption
  iintro ⟨Hf, H2⟩
  iapply Hk
  isplitl [Hf]; · iexact Hf
  isplitl [H0]; · iapply (idleR m false c (by decide)) $$ H0
  isplitl [H1]; · iapply (idleR m true c (by decide)) $$ H1
  iexact H2

theorem outs2 {Q : α → sProp 𝕄} (c : Dev nD) (H : ℕ) {u : ℕ} (hH : 3 ≤ H ∧ H ≤ 14) (hL : ¬ (H % 3 = 2 ∧ H ≤ 11)) (hu4 : 4 ≤ u)
    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    {sa1 sb1 : Space} {sha1 shb1 : Shape} {ea1 eb1 : EltTy}
    {r1 : DmaSem sig} {wa1 : Memref sig .tc sa1 sha1 ea1} {wb1 : Memref sig .tc sb1 shb1 eb1} {hwa1 : wa1.view.WordExact} {hwb1 : wb1.view.WordExact} {k : PUnit → Prog (TpuEff nD τ sig (Elt F) Λ₀ .tc) α} (hs0 : r0 = osem (H % 2) (jD false)) (hN0 : wb0.view.dmaCredit = NO false) (hs1 : r1 = osem (H % 2) (jD true)) (hN1 : wb1.view.dmaCredit = NO false) :
    iprop(Ctx m K ks ∗ fuel c u ∗ Oh m c H) ⊢ iprop(((fuel c u ∗ Fd m c H) -∗ WP c (k ⟨⟩) Q) -∗ WP c (.op (.waitDma2 r0 wa0 wb0 hwa0 hwb0) fun _ => .op (.waitDma2 r1 wa1 wb1 hwa1 hwb1) k) Q) := by
  unfold Oh Fd
  iintro ⟨#HC, Hf, H0, H1, H2⟩ Hk
  iapply (waitR m K ks false c H (u := u) hH hu4 hs0 hN0) $$ [Hf H0]
  · isplitr; · iexact HC
    isplitl [Hf] <;> iassumption
  iintro ⟨Hf, H0⟩
  iapply (waitR m K ks true c H (u := u) hH hu4 hs1 hN1) $$ [Hf H1]
  · isplitr; · iexact HC
    isplitl [Hf] <;> iassumption
  iintro ⟨Hf, H1⟩
  iapply Hk
  isplitl [Hf]; · iexact Hf
  isplitl [H0]; · iexact H0
  isplitl [H1]; · iexact H1
  iapply (idleL m c hL) $$ H2

theorem outs3 {Q : α → sProp 𝕄} (c : Dev nD) (H : ℕ) {u : ℕ} (hH : 3 ≤ H ∧ H % 3 = 2 ∧ H ≤ 11) (hu4 : 4 ≤ u)
    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    {sa1 sb1 : Space} {sha1 shb1 : Shape} {ea1 eb1 : EltTy}
    {r1 : DmaSem sig} {wa1 : Memref sig .tc sa1 sha1 ea1} {wb1 : Memref sig .tc sb1 shb1 eb1} {hwa1 : wa1.view.WordExact} {hwb1 : wb1.view.WordExact}
    {sa2 sb2 : Space} {sha2 shb2 : Shape} {ea2 eb2 : EltTy}
    {r2 : DmaSem sig} {wa2 : Memref sig .tc sa2 sha2 ea2} {wb2 : Memref sig .tc sb2 shb2 eb2} {hwa2 : wa2.view.WordExact} {hwb2 : wb2.view.WordExact} {k : PUnit → Prog (TpuEff nD τ sig (Elt F) Λ₀ .tc) α} (hs0 : r0 = osem (H % 2) (jD false)) (hN0 : wb0.view.dmaCredit = NO false) (hs1 : r1 = osem (H % 2) (jD true)) (hN1 : wb1.view.dmaCredit = NO false)
    (hs2 : r2 = osem (H % 2) 2) (hN2 : wb2.view.dmaCredit = NO true) :
    iprop(Ctx m K ks ∗ fuel c u ∗ Oh m c H) ⊢ iprop(((fuel c u ∗ Fd m c H) -∗ WP c (k ⟨⟩) Q) -∗ WP c (.op (.waitDma2 r0 wa0 wb0 hwa0 hwb0) fun _ => .op (.waitDma2 r1 wa1 wb1 hwa1 hwb1) fun _ => .op (.waitDma2 r2 wa2 wb2 hwa2 hwb2) k) Q) := by
  unfold Oh Fd
  iintro ⟨#HC, Hf, H0, H1, H2⟩ Hk
  iapply (waitR m K ks false c H (u := u) (by omega) hu4 hs0 hN0) $$ [Hf H0]
  · isplitr; · iexact HC
    isplitl [Hf] <;> iassumption
  iintro ⟨Hf, H0⟩
  iapply (waitR m K ks true c H (u := u) (by omega) hu4 hs1 hN1) $$ [Hf H1]
  · isplitr; · iexact HC
    isplitl [Hf] <;> iassumption
  iintro ⟨Hf, H1⟩
  iapply (waitL m K ks c H (u := u) hH.2 hu4 hs2 hN2) $$ [Hf H2]
  · isplitr; · iexact HC
    isplitl [Hf] <;> iassumption
  iintro ⟨Hf, H2⟩
  iapply Hk
  isplitl [Hf]; · iexact Hf
  isplitl [H0]; · iexact H0
  isplitl [H1] <;> iassumption

/-- The rest of the result moves on with a hop. -/
theorem Os_next (c : Dev nD) {H : ℕ} (hH : H < 13) : iprop(Os m c H ∗ (outPts c (pR false c H) (RES m c) ∗ outPts c (pR true c H) (RES m c) ∗ outPts c (pL c H) (RES m c)))
    ⊢ iprop((exO (F := F) c (pR false c (H + 2)) ∗ exO c (pR true c (H + 2)) ∗ exO c (pL c (H + 2))) ∗ Oh m c (H + 1) ∗ (bigSep (Finset.Ico (H + 1 + 2) 15) (Tp (F := F) c)) ∗ bigSep (Finset.range (H + 1)) (Dn m c)) := by
  unfold Os
  rw [big_ico (by omega), big_range]
  unfold Tp Dn
  iintro ⟨⟨H1, ⟨Ht, Hts⟩, Hd⟩, Hn⟩
  isplitl [Ht]; · iexact Ht
  isplitl [H1]; · iexact H1
  isplitl [Hts]; · iexact Hts
  isplitl [Hn] <;> iassumption

/-! ## The products of a hop -/

/-- The two products of what landed, and their copies. -/
theorem prods {Q : α → sProp 𝕄} (c : Dev nD) (H : ℕ) {p : ℕ} (hH : 1 ≤ H) (hH' : H ≤ 11) (hp : p = H % 2)
    {o0 : ℕ} {hw0 h10 h20}
    {hl0 : (rMem false).view.LoadsAt (Rect.unit (s := S2x256x8192) ![p, 0, 0] S1x256x8192.size h10).toLoadRect} {hm0 : wMem.view.LoadsAt (Rect.unit (s := S8192x256) ![0, 0] S8192x256.size hw0).toLoadRect}
    {hn0 : bMem.view.LoadsAt (Rect.unit (s := S2x1024x256) ![p, o0, 0] S1x256x256.size h20).toLoadRect}
    {pay0 : (S1x256x8192.Idx → Elt F .bf16) → (S8192x256.Idx → Elt F .bf16) → (S1x256x256.Idx → Elt F .f32)} {hx0 : (bMem.access (Rect.unit (s := S2x1024x256) ![p, o0, 0] S1x256x256.size h20)).Stores Finset.univ} {hy0}
    {off0 : Fin 2 → ℕ} {hb0 hho0}
    {sem0 : DmaSem sig} {hsrc0 : (b256M p o0 hb0).view.WordExact} {hdst0 : (o256M off0 hho0).view.WordExact} {hsem0 : (DmaTarget.here (o256M off0 hho0) : DmaTarget nD τ sig .tc .hbm S256x256 .f32).Typed .vmem (.dma sem0)}

    {o1 : ℕ} {hw1 h11 h21}
    {hl1 : (rMem true).view.LoadsAt (Rect.unit (s := S2x256x8192) ![p, 0, 0] S1x256x8192.size h11).toLoadRect} {hm1 : wMem.view.LoadsAt (Rect.unit (s := S8192x256) ![0, 0] S8192x256.size hw1).toLoadRect}
    {hn1 : bMem.view.LoadsAt (Rect.unit (s := S2x1024x256) ![p, o1, 0] S1x256x256.size h21).toLoadRect}
    {pay1 : (S1x256x8192.Idx → Elt F .bf16) → (S8192x256.Idx → Elt F .bf16) → (S1x256x256.Idx → Elt F .f32)} {hx1 : (bMem.access (Rect.unit (s := S2x1024x256) ![p, o1, 0] S1x256x256.size h21)).Stores Finset.univ} {hy1}
    {off1 : Fin 2 → ℕ} {hb1 hho1}
    {sem1 : DmaSem sig} {hsrc1 : (b256M p o1 hb1).view.WordExact} {hdst1 : (o256M off1 hho1).view.WordExact} {hsem1 : (DmaTarget.here (o256M off1 hho1) : DmaTarget nD τ sig .tc .hbm S256x256 .f32).Typed .vmem (.dma sem1)}

    {k : PUnit → Prog (TpuEff nD τ sig (Elt F) Λ₀ .tc) α} {q : PosShare TreeShare}
    (ho0 : o0 = oD false) (hoff0 : off0 = ![512 * (orig false c (H - 1)).val + oD false, 0]) (hpay0 : ∀ a b, pay0 a b = k0_pay11 a b) (hse0 : sem0 = osem p (jD false))
    (ho1 : o1 = oD true) (hoff1 : off1 = ![512 * (orig true c (H - 1)).val + oD true, 0]) (hpay1 : ∀ a b, pay1 a b = k0_pay11 a b) (hse1 : sem1 = osem p (jD true)) :
    iprop((ringPts false c (rowsR (H % 2) 0 256) q (SR m false c (H - 1)) ∗ ringPts true c (rowsR (H % 2) 0 256) q (SR m true c (H - 1))) ∗ wbPts c Finset.univ (WB m c)
        ∗ (FrR false c (H % 2) ∗ FrR true c (H % 2)) ∗ exO c (pR false c (H + 2)) ∗ exO c (pR true c (H + 2)))
      ⊢ iprop((((ringPts false c (rowsR (H % 2) 0 256) q (SR m false c (H - 1)) ∗ ringPts true c (rowsR (H % 2) 0 256) q (SR m true c (H - 1))) ∗ wbPts c Finset.univ (WB m c)
            ∗ OR m false c (H + 2) ∗ OR m true c (H + 2)) -∗ WP c (k ⟨⟩) Q)
          -∗ WP c (.op (.load (rMem false) (Rect.unit (s := S2x256x8192) ![p, 0, 0] S1x256x8192.size h10).toLoadRect hl0) fun a =>
              .op (.load wMem (Rect.unit (s := S8192x256) ![0, 0] S8192x256.size hw0).toLoadRect hm0) fun b =>
              .op (.load bMem (Rect.unit (s := S2x1024x256) ![p, o0, 0] S1x256x256.size h20).toLoadRect hn0) fun _ =>
              .op (.store bMem (Rect.unit (s := S2x1024x256) ![p, o0, 0] S1x256x256.size h20) (pay0 a b) Finset.univ hx0 hy0) fun _ =>
              .op (.enqueueDma (b256M p o0 hb0) (.here (o256M off0 hho0)) (.dma sem0) hsrc0 hdst0 hsem0) fun _ =>
 .op (.load (rMem true) (Rect.unit (s := S2x256x8192) ![p, 0, 0] S1x256x8192.size h11).toLoadRect hl1) fun a =>
              .op (.load wMem (Rect.unit (s := S8192x256) ![0, 0] S8192x256.size hw1).toLoadRect hm1) fun b =>
              .op (.load bMem (Rect.unit (s := S2x1024x256) ![p, o1, 0] S1x256x256.size h21).toLoadRect hn1) fun _ =>
              .op (.store bMem (Rect.unit (s := S2x1024x256) ![p, o1, 0] S1x256x256.size h21) (pay1 a b) Finset.univ hx1 hy1) fun _ =>
              .op (.enqueueDma (b256M p o1 hb1) (.here (o256M off1 hho1)) (.dma sem1) hsrc1 hdst1 hsem1) k) Q) := by
  iintro ⟨⟨Hr0, Hr1⟩, Hw, ⟨Hf0, Hf1⟩, Ho0, Ho1⟩ Hk
  iapply (prodR m false c H hH hH' hp ho0 hoff0 hpay0 hse0) $$ [Hr0 Hw Hf0 Ho0]
  · isplitl [Hr0]; · iexact Hr0
    isplitl [Hw]; · iexact Hw
    isplitl [Hf0] <;> iassumption
  iintro ⟨Hr0, Hw, Ho0⟩
  iapply (prodR m true c H hH hH' hp ho1 hoff1 hpay1 hse1) $$ [Hr1 Hw Hf1 Ho1]
  · isplitl [Hr1]; · iexact Hr1
    isplitl [Hw]; · iexact Hw
    isplitl [Hf1] <;> iassumption
  iintro ⟨Hr1, Hw, Ho1⟩
  iapply Hk
  isplitl [Hr0 Hr1]; · isplitl [Hr0] <;> iassumption
  isplitl [Hw]; · iexact Hw
  isplitl [Ho0] <;> iassumption

/-! ## The second part of a hop -/

/-- Of a hop that passes on what landed. -/
theorem midEnd {Q : α → sProp 𝕄} (c : Dev nD) (H : ℕ) {p : ℕ} (hH : 1 ≤ H) (hH' : H < 11) (h3 : H % 3 ≠ 0) (hp : p = H % 2)
    {o0 : ℕ} {hw0 h10 h20}
    {hl0 : (rMem false).view.LoadsAt (Rect.unit (s := S2x256x8192) ![p, 0, 0] S1x256x8192.size h10).toLoadRect} {hm0 : wMem.view.LoadsAt (Rect.unit (s := S8192x256) ![0, 0] S8192x256.size hw0).toLoadRect}
    {hn0 : bMem.view.LoadsAt (Rect.unit (s := S2x1024x256) ![p, o0, 0] S1x256x256.size h20).toLoadRect}
    {pay0 : (S1x256x8192.Idx → Elt F .bf16) → (S8192x256.Idx → Elt F .bf16) → (S1x256x256.Idx → Elt F .f32)} {hx0 : (bMem.access (Rect.unit (s := S2x1024x256) ![p, o0, 0] S1x256x256.size h20)).Stores Finset.univ} {hy0}
    {off0 : Fin 2 → ℕ} {hb0 hho0}
    {sem0 : DmaSem sig} {hsrc0 : (b256M p o0 hb0).view.WordExact} {hdst0 : (o256M off0 hho0).view.WordExact} {hsem0 : (DmaTarget.here (o256M off0 hho0) : DmaTarget nD τ sig .tc .hbm S256x256 .f32).Typed .vmem (.dma sem0)}

    {o1 : ℕ} {hw1 h11 h21}
    {hl1 : (rMem true).view.LoadsAt (Rect.unit (s := S2x256x8192) ![p, 0, 0] S1x256x8192.size h11).toLoadRect} {hm1 : wMem.view.LoadsAt (Rect.unit (s := S8192x256) ![0, 0] S8192x256.size hw1).toLoadRect}
    {hn1 : bMem.view.LoadsAt (Rect.unit (s := S2x1024x256) ![p, o1, 0] S1x256x256.size h21).toLoadRect}
    {pay1 : (S1x256x8192.Idx → Elt F .bf16) → (S8192x256.Idx → Elt F .bf16) → (S1x256x256.Idx → Elt F .f32)} {hx1 : (bMem.access (Rect.unit (s := S2x1024x256) ![p, o1, 0] S1x256x256.size h21)).Stores Finset.univ} {hy1}
    {off1 : Fin 2 → ℕ} {hb1 hho1}
    {sem1 : DmaSem sig} {hsrc1 : (b256M p o1 hb1).view.WordExact} {hdst1 : (o256M off1 hho1).view.WordExact} {hsem1 : (DmaTarget.here (o256M off1 hho1) : DmaTarget nD τ sig .tc .hbm S256x256 .f32).Typed .vmem (.dma sem1)}

    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    {sa1 sb1 : Space} {sha1 shb1 : Shape} {ea1 eb1 : EltTy}
    {r1 : DmaSem sig} {wa1 : Memref sig .tc sa1 sha1 ea1} {wb1 : Memref sig .tc sb1 shb1 eb1} {hwa1 : wa1.view.WordExact} {hwb1 : wb1.view.WordExact}
    {sa2 sb2 : Space} {sha2 shb2 : Shape} {ea2 eb2 : EltTy}
    {r2 : DmaSem sig} {wa2 : Memref sig .tc sa2 sha2 ea2} {wb2 : Memref sig .tc sb2 shb2 eb2} {hwa2 : wa2.view.WordExact} {hwb2 : wb2.view.WordExact}
    {sa3 sb3 : Space} {sha3 shb3 : Shape} {ea3 eb3 : EltTy}
    {r3 : DmaSem sig} {wa3 : Memref sig .tc sa3 sha3 ea3} {wb3 : Memref sig .tc sb3 shb3 eb3} {hwa3 : wa3.view.WordExact} {hwb3 : wb3.view.WordExact}
    {nf nb : Dev nD} {cf cb : Sem sig} {k : PUnit → Prog (TpuEff nD τ sig (Elt F) Λ₀ .tc) α}
    (ho0 : o0 = oD false) (hoff0 : off0 = ![512 * (orig false c (H - 1)).val + oD false, 0]) (hpay0 : ∀ a b, pay0 a b = k0_pay11 a b) (hse0 : sem0 = osem p (jD false))
    (ho1 : o1 = oD true) (hoff1 : off1 = ![512 * (orig true c (H - 1)).val + oD true, 0]) (hpay1 : ∀ a b, pay1 a b = k0_pay11 a b) (hse1 : sem1 = osem p (jD true))
    (hs0 : r0 = ssem false (H % 2) 0) (hN0 : wb0.view.dmaCredit = NR) (hs1 : r1 = ssem true (H % 2) 0) (hN1 : wb1.view.dmaCredit = NR) (hs2 : r2 = ssem false (H % 2) 1) (hN2 : wb2.view.dmaCredit = NR) (hs3 : r3 = ssem true (H % 2) 1) (hN3 : wb3.view.dmaCredit = NR)
    (hnf : nf = prb false c) (hnb : nb = prb true c) (hcf : SemLoc.reg cf = psem (kx (st H (sc false)))) (hcb : SemLoc.reg cb = psem (kx (st H (sc true)))) :
    iprop(Ctx m K ks ∗ fuel c (st H 6) ∗ Rest false c H ∗ Rest true c H ∗ (Ps m false c H 0 ∗ Ps m true c H 0) ∗ (Ps m false c H 1 ∗ Ps m true c H 1)
        ∗ wbPts c Finset.univ (WB m c) ∗ Fd m c H ∗ Os m c H)
      ⊢ iprop(((fuel c (st (H + 1) 0) ∗ (Dr false c (H + 1) ∗ Dr true c (H + 1)) ∗ wbPts c Finset.univ (WB m c) ∗ Oh m c (H + 1) ∗ Os m c (H + 1)) -∗ WP c (k ⟨⟩) Q)
          -∗ WP c (.op (.load (rMem false) (Rect.unit (s := S2x256x8192) ![p, 0, 0] S1x256x8192.size h10).toLoadRect hl0) fun a =>
              .op (.load wMem (Rect.unit (s := S8192x256) ![0, 0] S8192x256.size hw0).toLoadRect hm0) fun b =>
              .op (.load bMem (Rect.unit (s := S2x1024x256) ![p, o0, 0] S1x256x256.size h20).toLoadRect hn0) fun _ =>
              .op (.store bMem (Rect.unit (s := S2x1024x256) ![p, o0, 0] S1x256x256.size h20) (pay0 a b) Finset.univ hx0 hy0) fun _ =>
              .op (.enqueueDma (b256M p o0 hb0) (.here (o256M off0 hho0)) (.dma sem0) hsrc0 hdst0 hsem0) fun _ =>
 .op (.load (rMem true) (Rect.unit (s := S2x256x8192) ![p, 0, 0] S1x256x8192.size h11).toLoadRect hl1) fun a =>
              .op (.load wMem (Rect.unit (s := S8192x256) ![0, 0] S8192x256.size hw1).toLoadRect hm1) fun b =>
              .op (.load bMem (Rect.unit (s := S2x1024x256) ![p, o1, 0] S1x256x256.size h21).toLoadRect hn1) fun _ =>
              .op (.store bMem (Rect.unit (s := S2x1024x256) ![p, o1, 0] S1x256x256.size h21) (pay1 a b) Finset.univ hx1 hy1) fun _ =>
              .op (.enqueueDma (b256M p o1 hb1) (.here (o256M off1 hho1)) (.dma sem1) hsrc1 hdst1 hsem1) fun _ =>
 .op (.waitDma2 r0 wa0 wb0 hwa0 hwb0) fun _ =>
            .op (.waitDma2 r1 wa1 wb1 hwa1 hwb1) fun _ =>
            .op (.waitDma2 r2 wa2 wb2 hwa2 hwb2) fun _ =>
            .op (.waitDma2 r3 wa3 wb3 hwa3 hwb3) fun _ => .op (.semSignal (Dev.tc nf : Thread nD τ) cf 1) fun _ => .op (.semSignal (Dev.tc nb : Thread nD τ) cb 1) k) Q) := by
  unfold Ps Fd
  iintro ⟨#HC, Hf, HRf, HRb, ⟨⟨Hn0, Hh0, Hl0⟩, Hn1, Hh1, Hl1⟩, ⟨⟨Hn2, Hh2, Hl2⟩, Hn3, Hh3, Hl3⟩, Hw, ⟨⟨Hd0, Hf0⟩, ⟨Hd1, Hf1⟩, Hd2, Hf2⟩, HO⟩ Hk
  ihave HO := (Os_next m c (H := H) (by omega)) $$ [HO Hd0 Hd1 Hd2]
  · isplitl [HO]; · iexact HO
    isplitl [Hd0]; · iexact Hd0
    isplitl [Hd1] <;> iassumption
  icases HO with ⟨⟨Ho0, Ho1, Ho2⟩, HO1, HT, HD⟩
  ihave HF := (Hf_join m false c H fullShare.right) $$ [Hh0 Hh2]
  · isplitl [Hh0] <;> iassumption
  ihave HB := (Hf_join m true c H fullShare.right) $$ [Hh1 Hh3]
  · isplitl [Hh1] <;> iassumption
  iapply (prods m c H hH (by omega) hp ho0 hoff0 hpay0 hse0 ho1 hoff1 hpay1 hse1) $$ [HF HB Hw Hf0 Hf1 Ho0 Ho1]
  · isplitl [HF HB]; · isplitl [HF] <;> iassumption
    isplitl [Hw]; · iexact Hw
    isplitl [Hf0 Hf1]; · isplitl [Hf0] <;> iassumption
    isplitl [Ho0] <;> iassumption
  iintro ⟨⟨HF, HB⟩, Hw, Ho0, Ho1⟩
  iapply (ends m K ks c H hH' (fun d s => Hf m d c H s fullShare.left) (fun d => ringPts d c (rowsR (H % 2) 0 256) fullShare.right (SR m d c (H - 1))) (fun _ => iprop(emp)) (whole_mid m c H)
    hs0 hN0 hs1 hN1 hs2 hN2 hs3 hN3 hnf hnb hcf hcb) $$ [Hf HRf HRb Hn0 Hn1 Hn2 Hn3 Hl0 Hl1 Hl2 Hl3 HF HB]
  · isplitr; · iexact HC
    isplitl [Hf]; · iexact Hf
    isplitl [HRf HRb]; · isplitl [HRf] <;> iassumption
    isplitl [Hn0 Hn1 Hn2 Hn3]
    · isplitl [Hn0 Hn2]
      · isplitl [Hn0] <;> iassumption
      · isplitl [Hn1] <;> iassumption
    isplitl [Hl0 Hl1 Hl2 Hl3]
    · isplitl [Hl0]; · iexact Hl0
      isplitl [Hl1]; · iexact Hl1
      isplitl [Hl2] <;> iassumption
    isplitl [HF] <;> iassumption
  iintro ⟨Hf, HDf, HDb, -, -⟩
  iapply Hk
  isplitl [Hf]; · iexact Hf
  isplitl [HDf HDb]; · isplitl [HDf] <;> iassumption
  isplitl [Hw]; · iexact Hw
  isplitl [HO1]; · iexact HO1
  unfold Os Oh
  isplitl [Ho0 Ho1 Hf2]
  · isplitl [Ho0]; · iexact Ho0
    isplitl [Ho1]; · iexact Ho1
    iapply (noL m c (e := H + 1 + 1) (by omega))
    rw [show (H + 1 + 1) % 2 = H % 2 by omega]
    iexact Hf2
  isplitl [HT] <;> iassumption

/-- The products and the waits for the sends of the last hop that sends. -/
theorem lastEnd {Q : α → sProp 𝕄} (c : Dev nD) (H : ℕ) {p : ℕ} (hH : H = 11) (hp : p = H % 2)
    {o0 : ℕ} {hw0 h10 h20}
    {hl0 : (rMem false).view.LoadsAt (Rect.unit (s := S2x256x8192) ![p, 0, 0] S1x256x8192.size h10).toLoadRect} {hm0 : wMem.view.LoadsAt (Rect.unit (s := S8192x256) ![0, 0] S8192x256.size hw0).toLoadRect}
    {hn0 : bMem.view.LoadsAt (Rect.unit (s := S2x1024x256) ![p, o0, 0] S1x256x256.size h20).toLoadRect}
    {pay0 : (S1x256x8192.Idx → Elt F .bf16) → (S8192x256.Idx → Elt F .bf16) → (S1x256x256.Idx → Elt F .f32)} {hx0 : (bMem.access (Rect.unit (s := S2x1024x256) ![p, o0, 0] S1x256x256.size h20)).Stores Finset.univ} {hy0}
    {off0 : Fin 2 → ℕ} {hb0 hho0}
    {sem0 : DmaSem sig} {hsrc0 : (b256M p o0 hb0).view.WordExact} {hdst0 : (o256M off0 hho0).view.WordExact} {hsem0 : (DmaTarget.here (o256M off0 hho0) : DmaTarget nD τ sig .tc .hbm S256x256 .f32).Typed .vmem (.dma sem0)}

    {o1 : ℕ} {hw1 h11 h21}
    {hl1 : (rMem true).view.LoadsAt (Rect.unit (s := S2x256x8192) ![p, 0, 0] S1x256x8192.size h11).toLoadRect} {hm1 : wMem.view.LoadsAt (Rect.unit (s := S8192x256) ![0, 0] S8192x256.size hw1).toLoadRect}
    {hn1 : bMem.view.LoadsAt (Rect.unit (s := S2x1024x256) ![p, o1, 0] S1x256x256.size h21).toLoadRect}
    {pay1 : (S1x256x8192.Idx → Elt F .bf16) → (S8192x256.Idx → Elt F .bf16) → (S1x256x256.Idx → Elt F .f32)} {hx1 : (bMem.access (Rect.unit (s := S2x1024x256) ![p, o1, 0] S1x256x256.size h21)).Stores Finset.univ} {hy1}
    {off1 : Fin 2 → ℕ} {hb1 hho1}
    {sem1 : DmaSem sig} {hsrc1 : (b256M p o1 hb1).view.WordExact} {hdst1 : (o256M off1 hho1).view.WordExact} {hsem1 : (DmaTarget.here (o256M off1 hho1) : DmaTarget nD τ sig .tc .hbm S256x256 .f32).Typed .vmem (.dma sem1)}

    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    {sa1 sb1 : Space} {sha1 shb1 : Shape} {ea1 eb1 : EltTy}
    {r1 : DmaSem sig} {wa1 : Memref sig .tc sa1 sha1 ea1} {wb1 : Memref sig .tc sb1 shb1 eb1} {hwa1 : wa1.view.WordExact} {hwb1 : wb1.view.WordExact}
    {sa2 sb2 : Space} {sha2 shb2 : Shape} {ea2 eb2 : EltTy}
    {r2 : DmaSem sig} {wa2 : Memref sig .tc sa2 sha2 ea2} {wb2 : Memref sig .tc sb2 shb2 eb2} {hwa2 : wa2.view.WordExact} {hwb2 : wb2.view.WordExact}
    {sa3 sb3 : Space} {sha3 shb3 : Shape} {ea3 eb3 : EltTy}
    {r3 : DmaSem sig} {wa3 : Memref sig .tc sa3 sha3 ea3} {wb3 : Memref sig .tc sb3 shb3 eb3} {hwa3 : wa3.view.WordExact} {hwb3 : wb3.view.WordExact}
    {k : PUnit → Prog (TpuEff nD τ sig (Elt F) Λ₀ .tc) α}
    (ho0 : o0 = oD false) (hoff0 : off0 = ![512 * (orig false c (H - 1)).val + oD false, 0]) (hpay0 : ∀ a b, pay0 a b = k0_pay11 a b) (hse0 : sem0 = osem p (jD false))
    (ho1 : o1 = oD true) (hoff1 : off1 = ![512 * (orig true c (H - 1)).val + oD true, 0]) (hpay1 : ∀ a b, pay1 a b = k0_pay11 a b) (hse1 : sem1 = osem p (jD true))
    (hs0 : r0 = ssem false (H % 2) 0) (hN0 : wb0.view.dmaCredit = NR) (hs1 : r1 = ssem true (H % 2) 0) (hN1 : wb1.view.dmaCredit = NR) (hs2 : r2 = ssem false (H % 2) 1) (hN2 : wb2.view.dmaCredit = NR) (hs3 : r3 = ssem true (H % 2) 1) (hN3 : wb3.view.dmaCredit = NR) :
    iprop(Ctx m K ks ∗ fuel c (st H 6) ∗ Rest false c H ∗ Rest true c H ∗ (Ps m false c H 0 ∗ Ps m true c H 0) ∗ (Ps m false c H 1 ∗ Ps m true c H 1)
        ∗ wbPts c Finset.univ (WB m c) ∗ Fd m c H ∗ Os m c H)
      ⊢ iprop(((fuel c (st H 6) ∗ Rest false c H ∗ Rest true c H ∗ ((Nx false c (H + 1) 0 ∗ Nx false c (H + 1) 1) ∗ Nx true c (H + 1) 0 ∗ Nx true c (H + 1) 1)
            ∗ (exR (F := F) false c (rowsR (H % 2) 0 256) ∗ exR (F := F) true c (rowsR (H % 2) 0 256))
            ∗ ((semVal ((c : Thread nD τ), .dma (ssem false (H % 2) 0)) 0 ∗ semVal ((c : Thread nD τ), .dma (ssem false (H % 2) 1)) 0) ∗ semVal ((c : Thread nD τ), .dma (ssem true (H % 2) 0)) 0 ∗ semVal ((c : Thread nD τ), .dma (ssem true (H % 2) 1)) 0)
            ∗ wbPts c Finset.univ (WB m c) ∗ Oh m c (H + 1) ∗ Os m c (H + 1)) -∗ WP c (k ⟨⟩) Q)
          -∗ WP c (.op (.load (rMem false) (Rect.unit (s := S2x256x8192) ![p, 0, 0] S1x256x8192.size h10).toLoadRect hl0) fun a =>
              .op (.load wMem (Rect.unit (s := S8192x256) ![0, 0] S8192x256.size hw0).toLoadRect hm0) fun b =>
              .op (.load bMem (Rect.unit (s := S2x1024x256) ![p, o0, 0] S1x256x256.size h20).toLoadRect hn0) fun _ =>
              .op (.store bMem (Rect.unit (s := S2x1024x256) ![p, o0, 0] S1x256x256.size h20) (pay0 a b) Finset.univ hx0 hy0) fun _ =>
              .op (.enqueueDma (b256M p o0 hb0) (.here (o256M off0 hho0)) (.dma sem0) hsrc0 hdst0 hsem0) fun _ =>
 .op (.load (rMem true) (Rect.unit (s := S2x256x8192) ![p, 0, 0] S1x256x8192.size h11).toLoadRect hl1) fun a =>
              .op (.load wMem (Rect.unit (s := S8192x256) ![0, 0] S8192x256.size hw1).toLoadRect hm1) fun b =>
              .op (.load bMem (Rect.unit (s := S2x1024x256) ![p, o1, 0] S1x256x256.size h21).toLoadRect hn1) fun _ =>
              .op (.store bMem (Rect.unit (s := S2x1024x256) ![p, o1, 0] S1x256x256.size h21) (pay1 a b) Finset.univ hx1 hy1) fun _ =>
              .op (.enqueueDma (b256M p o1 hb1) (.here (o256M off1 hho1)) (.dma sem1) hsrc1 hdst1 hsem1) fun _ =>
 .op (.waitDma2 r0 wa0 wb0 hwa0 hwb0) fun _ =>
            .op (.waitDma2 r1 wa1 wb1 hwa1 hwb1) fun _ =>
            .op (.waitDma2 r2 wa2 wb2 hwa2 hwb2) fun _ =>
            .op (.waitDma2 r3 wa3 wb3 hwa3 hwb3) k) Q) := by
  subst hH
  unfold Ps Fd
  iintro ⟨#HC, Hf, HRf, HRb, ⟨⟨Hn0, Hh0, Hl0⟩, Hn1, Hh1, Hl1⟩, ⟨⟨Hn2, Hh2, Hl2⟩, Hn3, Hh3, Hl3⟩, Hw, ⟨⟨Hd0, Hf0⟩, ⟨Hd1, Hf1⟩, Hd2, Hf2⟩, HO⟩ Hk
  ihave HO := (Os_next m c (H := 11) (by omega)) $$ [HO Hd0 Hd1 Hd2]
  · isplitl [HO]; · iexact HO
    isplitl [Hd0]; · iexact Hd0
    isplitl [Hd1] <;> iassumption
  icases HO with ⟨⟨Ho0, Ho1, Ho2⟩, HO1, HT, HD⟩
  ihave HF := (Hf_join m false c 11 fullShare.right) $$ [Hh0 Hh2]
  · isplitl [Hh0] <;> iassumption
  ihave HB := (Hf_join m true c 11 fullShare.right) $$ [Hh1 Hh3]
  · isplitl [Hh1] <;> iassumption
  iapply (prods m c 11 (by decide) (by decide) hp ho0 hoff0 hpay0 hse0 ho1 hoff1 hpay1 hse1) $$ [HF HB Hw Hf0 Hf1 Ho0 Ho1]
  · isplitl [HF HB]; · isplitl [HF] <;> iassumption
    isplitl [Hw]; · iexact Hw
    isplitl [Hf0 Hf1]; · isplitl [Hf0] <;> iassumption
    isplitl [Ho0] <;> iassumption
  iintro ⟨⟨HF, HB⟩, Hw, Ho0, Ho1⟩
  iapply (sents m K ks c 11 (u := st 11 6) (by decide) (fun d s => Hf m d c 11 s fullShare.left) hs0 hN0 hs1 hN1 hs2 hN2 hs3 hN3) $$ [Hf Hl0 Hl1 Hl2 Hl3]
  · isplitr; · iexact HC
    isplitl [Hf]; · iexact Hf
    isplitl [Hl0]; · iexact Hl0
    isplitl [Hl1]; · iexact Hl1
    isplitl [Hl2] <;> iassumption
  iintro ⟨Hf, ⟨HD0, HD1, HD2, HD3⟩, HV⟩
  ihave HF := (whole_mid m c 11 false) $$ [HF HD0 HD2]
  · isplitl [HF]; · iexact HF
    isplitl [HD0] <;> iassumption
  icases HF with ⟨HF, -⟩
  ihave HB := (whole_mid m c 11 true) $$ [HB HD1 HD3]
  · isplitl [HB]; · iexact HB
    isplitl [HD1] <;> iassumption
  icases HB with ⟨HB, -⟩
  iapply Hk
  isplitl [Hf]; · iexact Hf
  isplitl [HRf]; · iexact HRf
  isplitl [HRb]; · iexact HRb
  isplitl [Hn0 Hn1 Hn2 Hn3]
  · isplitl [Hn0 Hn2]
    · isplitl [Hn0] <;> iassumption
    · isplitl [Hn1] <;> iassumption
  isplitl [HF HB]; · isplitl [HF] <;> iassumption
  isplitl [HV]; · iexact HV
  isplitl [Hw]; · iexact Hw
  isplitl [HO1]; · iexact HO1
  unfold Os Oh
  isplitl [Ho0 Ho1 Hf2]
  · isplitl [Ho0]; · iexact Ho0
    isplitl [Ho1]; · iexact Ho1
    iapply (noL m c (e := 11 + 1 + 1) (by omega))
    iexact Hf2
  isplitl [HT] <;> iassumption

/-- Of a hop that starts a group. -/
theorem injEnd {Q : α → sProp 𝕄} (c : Dev nD) (H : ℕ) {p : ℕ} (hH : 1 ≤ H) (hH' : H ≤ 9) (h3 : H % 3 = 0) (hp : p = H % 2)
    {o0 : ℕ} {hw0 h10 h20}
    {hl0 : (rMem false).view.LoadsAt (Rect.unit (s := S2x256x8192) ![p, 0, 0] S1x256x8192.size h10).toLoadRect} {hm0 : wMem.view.LoadsAt (Rect.unit (s := S8192x256) ![0, 0] S8192x256.size hw0).toLoadRect}
    {hn0 : bMem.view.LoadsAt (Rect.unit (s := S2x1024x256) ![p, o0, 0] S1x256x256.size h20).toLoadRect}
    {pay0 : (S1x256x8192.Idx → Elt F .bf16) → (S8192x256.Idx → Elt F .bf16) → (S1x256x256.Idx → Elt F .f32)} {hx0 : (bMem.access (Rect.unit (s := S2x1024x256) ![p, o0, 0] S1x256x256.size h20)).Stores Finset.univ} {hy0}
    {off0 : Fin 2 → ℕ} {hb0 hho0}
    {sem0 : DmaSem sig} {hsrc0 : (b256M p o0 hb0).view.WordExact} {hdst0 : (o256M off0 hho0).view.WordExact} {hsem0 : (DmaTarget.here (o256M off0 hho0) : DmaTarget nD τ sig .tc .hbm S256x256 .f32).Typed .vmem (.dma sem0)}

    {o1 : ℕ} {hw1 h11 h21}
    {hl1 : (rMem true).view.LoadsAt (Rect.unit (s := S2x256x8192) ![p, 0, 0] S1x256x8192.size h11).toLoadRect} {hm1 : wMem.view.LoadsAt (Rect.unit (s := S8192x256) ![0, 0] S8192x256.size hw1).toLoadRect}
    {hn1 : bMem.view.LoadsAt (Rect.unit (s := S2x1024x256) ![p, o1, 0] S1x256x256.size h21).toLoadRect}
    {pay1 : (S1x256x8192.Idx → Elt F .bf16) → (S8192x256.Idx → Elt F .bf16) → (S1x256x256.Idx → Elt F .f32)} {hx1 : (bMem.access (Rect.unit (s := S2x1024x256) ![p, o1, 0] S1x256x256.size h21)).Stores Finset.univ} {hy1}
    {off1 : Fin 2 → ℕ} {hb1 hho1}
    {sem1 : DmaSem sig} {hsrc1 : (b256M p o1 hb1).view.WordExact} {hdst1 : (o256M off1 hho1).view.WordExact} {hsem1 : (DmaTarget.here (o256M off1 hho1) : DmaTarget nD τ sig .tc .hbm S256x256 .f32).Typed .vmem (.dma sem1)}

    {offC : Fin 2 → ℕ} {hwL h1L h2L}
    {hlL : cMem.view.LoadsAt (Rect.unit (s := S2048x8192) offC S512x8192.size h1L).toLoadRect} {hmL : wMem.view.LoadsAt (Rect.unit (s := S8192x256) ![0, 0] S8192x256.size hwL).toLoadRect}
    {hnL : bMem.view.LoadsAt (Rect.unit (s := S2x1024x256) ![p, 512, 0] S1x512x256.size h2L).toLoadRect}
    {payL : (S512x8192.Idx → Elt F .bf16) → (S8192x256.Idx → Elt F .bf16) → (S1x512x256.Idx → Elt F .f32)} {hxL : (bMem.access (Rect.unit (s := S2x1024x256) ![p, 512, 0] S1x512x256.size h2L)).Stores Finset.univ} {hyL}
    {offL : Fin 2 → ℕ} {hbL hhoL}
    {semL : DmaSem sig} {hsrcL : (b512M p 512 hbL).view.WordExact} {hdstL : (o512M offL hhoL).view.WordExact} {hsemL : (DmaTarget.here (o512M offL hhoL) : DmaTarget nD τ sig .tc .hbm S512x256 .f32).Typed .vmem (.dma semL)}
    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    {sa1 sb1 : Space} {sha1 shb1 : Shape} {ea1 eb1 : EltTy}
    {r1 : DmaSem sig} {wa1 : Memref sig .tc sa1 sha1 ea1} {wb1 : Memref sig .tc sb1 shb1 eb1} {hwa1 : wa1.view.WordExact} {hwb1 : wb1.view.WordExact}
    {sa2 sb2 : Space} {sha2 shb2 : Shape} {ea2 eb2 : EltTy}
    {r2 : DmaSem sig} {wa2 : Memref sig .tc sa2 sha2 ea2} {wb2 : Memref sig .tc sb2 shb2 eb2} {hwa2 : wa2.view.WordExact} {hwb2 : wb2.view.WordExact}
    {sa3 sb3 : Space} {sha3 shb3 : Shape} {ea3 eb3 : EltTy}
    {r3 : DmaSem sig} {wa3 : Memref sig .tc sa3 sha3 ea3} {wb3 : Memref sig .tc sb3 shb3 eb3} {hwa3 : wa3.view.WordExact} {hwb3 : wb3.view.WordExact}
    {nf nb : Dev nD} {cf cb : Sem sig} {k : PUnit → Prog (TpuEff nD τ sig (Elt F) Λ₀ .tc) α}
    (ho0 : o0 = oD false) (hoff0 : off0 = ![512 * (orig false c (H - 1)).val + oD false, 0]) (hpay0 : ∀ a b, pay0 a b = k0_pay11 a b) (hse0 : sem0 = osem p (jD false))
    (ho1 : o1 = oD true) (hoff1 : off1 = ![512 * (orig true c (H - 1)).val + oD true, 0]) (hpay1 : ∀ a b, pay1 a b = k0_pay11 a b) (hse1 : sem1 = osem p (jD true))
    (hoffC : offC = ![512 * zs (zc c) (H / 3), 0]) (hoffL : offL = ![512 * (mk (zs (zc c) (H / 3)) (qc c)).val, 0]) (hpayL : ∀ a b, payL a b = k0_pay10 a b) (hseL : semL = osem p 2)
    (hs0 : r0 = ssem false (H % 2) 0) (hN0 : wb0.view.dmaCredit = NR) (hs1 : r1 = ssem true (H % 2) 0) (hN1 : wb1.view.dmaCredit = NR) (hs2 : r2 = ssem false (H % 2) 1) (hN2 : wb2.view.dmaCredit = NR) (hs3 : r3 = ssem true (H % 2) 1) (hN3 : wb3.view.dmaCredit = NR)
    (hnf : nf = prb false c) (hnb : nb = prb true c) (hcf : SemLoc.reg cf = psem (kx (st H (sc false)))) (hcb : SemLoc.reg cb = psem (kx (st H (sc true)))) {q : PosShare TreeShare} :
    iprop(Ctx m K ks ∗ fuel c (st H 6) ∗ (Rest false c H ∗ Rest true c H) ∗ ((Nx false c (H + 1) 0 ∗ Nx false c (H + 1) 1) ∗ Nx true c (H + 1) 0 ∗ Nx true c (H + 1) 1)
        ∗ (Fl false c H 0 (Qt m false c H 0 q.left) ∗ Fl true c H 0 (Qt m true c H 0 q.left) ∗ Fl false c H 1 (Qt m false c H 1 q.left) ∗ Fl true c H 1 (Qt m true c H 1 q.left))
        ∗ (ringPts false c (rowsR (H % 2) 0 256) fullShare (SR m false c (H - 1)) ∗ ringPts true c (rowsR (H % 2) 0 256) fullShare (SR m true c (H - 1)))
        ∗ colPts c (blk (zs (zc c) (H / 3))) q.right (CB m c)
        ∗ wbPts c Finset.univ (WB m c) ∗ Fd m c H ∗ Os m c H)
      ⊢ iprop(((fuel c (st (H + 1) 0) ∗ (Dr false c (H + 1) ∗ Dr true c (H + 1)) ∗ colPts c (blk (zs (zc c) (H / 3))) q (CB m c) ∗ wbPts c Finset.univ (WB m c) ∗ Oh m c (H + 1) ∗ Os m c (H + 1)) -∗ WP c (k ⟨⟩) Q)
          -∗ WP c (.op (.load (rMem false) (Rect.unit (s := S2x256x8192) ![p, 0, 0] S1x256x8192.size h10).toLoadRect hl0) fun a =>
              .op (.load wMem (Rect.unit (s := S8192x256) ![0, 0] S8192x256.size hw0).toLoadRect hm0) fun b =>
              .op (.load bMem (Rect.unit (s := S2x1024x256) ![p, o0, 0] S1x256x256.size h20).toLoadRect hn0) fun _ =>
              .op (.store bMem (Rect.unit (s := S2x1024x256) ![p, o0, 0] S1x256x256.size h20) (pay0 a b) Finset.univ hx0 hy0) fun _ =>
              .op (.enqueueDma (b256M p o0 hb0) (.here (o256M off0 hho0)) (.dma sem0) hsrc0 hdst0 hsem0) fun _ =>
 .op (.load (rMem true) (Rect.unit (s := S2x256x8192) ![p, 0, 0] S1x256x8192.size h11).toLoadRect hl1) fun a =>
              .op (.load wMem (Rect.unit (s := S8192x256) ![0, 0] S8192x256.size hw1).toLoadRect hm1) fun b =>
              .op (.load bMem (Rect.unit (s := S2x1024x256) ![p, o1, 0] S1x256x256.size h21).toLoadRect hn1) fun _ =>
              .op (.store bMem (Rect.unit (s := S2x1024x256) ![p, o1, 0] S1x256x256.size h21) (pay1 a b) Finset.univ hx1 hy1) fun _ =>
              .op (.enqueueDma (b256M p o1 hb1) (.here (o256M off1 hho1)) (.dma sem1) hsrc1 hdst1 hsem1) fun _ =>
 .op (.load cMem (Rect.unit (s := S2048x8192) offC S512x8192.size h1L).toLoadRect hlL) fun a =>
              .op (.load wMem (Rect.unit (s := S8192x256) ![0, 0] S8192x256.size hwL).toLoadRect hmL) fun b =>
              .op (.load bMem (Rect.unit (s := S2x1024x256) ![p, 512, 0] S1x512x256.size h2L).toLoadRect hnL) fun _ =>
              .op (.store bMem (Rect.unit (s := S2x1024x256) ![p, 512, 0] S1x512x256.size h2L) (payL a b) Finset.univ hxL hyL) fun _ =>
              .op (.enqueueDma (b512M p 512 hbL) (.here (o512M offL hhoL)) (.dma semL) hsrcL hdstL hsemL) fun _ =>
 .op (.waitDma2 r0 wa0 wb0 hwa0 hwb0) fun _ =>
            .op (.waitDma2 r1 wa1 wb1 hwa1 hwb1) fun _ =>
            .op (.waitDma2 r2 wa2 wb2 hwa2 hwb2) fun _ =>
            .op (.waitDma2 r3 wa3 wb3 hwa3 hwb3) fun _ => .op (.semSignal (Dev.tc nf : Thread nD τ) cf 1) fun _ => .op (.semSignal (Dev.tc nb : Thread nD τ) cb 1) k) Q) := by
  unfold Fd
  iintro ⟨#HC, Hf, HR, HN, HFl, HFB, Hq, Hw, ⟨⟨Hd0, Hf0⟩, ⟨Hd1, Hf1⟩, Hd2, Hf2⟩, HO⟩ Hk
  ihave HO := (Os_next m c (H := H) (by omega)) $$ [HO Hd0 Hd1 Hd2]
  · isplitl [HO]; · iexact HO
    isplitl [Hd0]; · iexact Hd0
    isplitl [Hd1] <;> iassumption
  icases HO with ⟨⟨Ho0, Ho1, Ho2⟩, HO1, HT, HD⟩
  iapply (prods m c H hH (by omega) hp ho0 hoff0 hpay0 hse0 ho1 hoff1 hpay1 hse1) $$ [HFB Hw Hf0 Hf1 Ho0 Ho1]
  · isplitl [HFB]; · iexact HFB
    isplitl [Hw]; · iexact Hw
    isplitl [Hf0 Hf1]; · isplitl [Hf0] <;> iassumption
    isplitl [Ho0] <;> iassumption
  iintro ⟨⟨HF, HB⟩, Hw, Ho0, Ho1⟩
  iapply (prodL m c H h3 hH' hp hoffC hoffL hpayL hseL) $$ [Hq Hw Hf2 Ho2]
  · isplitl [Hq]; · iexact Hq
    isplitl [Hw]; · iexact Hw
    isplitl [Hf2] <;> iassumption
  iintro ⟨Hq, Hw, Ho2⟩
  iapply (ends m K ks c H (by omega) (fun d s => Qt m d c H s q.left) (fun d => ringPts d c (rowsR (H % 2) 0 256) fullShare (SR m d c (H - 1))) (fun d => iprop(Qt m d c H 0 q.left ∗ Qt m d c H 1 q.left)) (whole_inj m c H q.left)
    hs0 hN0 hs1 hN1 hs2 hN2 hs3 hN3 hnf hnb hcf hcb) $$ [Hf HR HN HFl HF HB]
  · isplitr; · iexact HC
    isplitl [Hf]; · iexact Hf
    isplitl [HR]; · iexact HR
    isplitl [HN]; · iexact HN
    isplitl [HFl]; · iexact HFl
    isplitl [HF] <;> iassumption
  iintro ⟨Hf, HDf, HDb, ⟨HQ0, HQ2⟩, HQ1, HQ3⟩
  ihave HQ := (Qt_split m c H q.left).2 $$ [HQ0 HQ1 HQ2 HQ3]
  · unfold Qts
    isplitl [HQ0 HQ1]; · isplitl [HQ0] <;> iassumption
    isplitl [HQ2] <;> iassumption
  iapply Hk
  isplitl [Hf]; · iexact Hf
  isplitl [HDf HDb]; · isplitl [HDf] <;> iassumption
  isplitl [HQ Hq]
  · iapply (colPts_share c _ _ q).2
    isplitl [HQ] <;> iassumption
  isplitl [Hw]; · iexact Hw
  isplitl [HO1]; · iexact HO1
  unfold Os Oh
  isplitl [Ho0 Ho1 Ho2]
  · isplitl [Ho0]; · iexact Ho0
    isplitl [Ho1] <;> iassumption
  isplitl [HT] <;> iassumption

end Cert.KernelIdeal.Gather
-- ==== Proof.Last.lean ====
/-
  The last hop, and the ends of the cells on which pieces land.
-/
module

public import proofs.«01_k».proof.Proof.Hop
public import proofs.«01_k».proof.Proof.Line
public import proofs.«01_k».proof.Proof.Stage

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## The last hop: each half taken as it lands -/

theorem rowsB_split (p o : ℕ) : rowsB p o 256 = rowsB p o 128 ∪ rowsB p (o + 128) 128 := by
  ext i; simp only [rowsB, Finset.mem_filter, Finset.mem_union, Finset.mem_univ, true_and]; omega
theorem rowsB_disj (p o : ℕ) : Disjoint (rowsB p o 128) (rowsB p (o + 128) 128) := by
  rw [Finset.disjoint_left]; intro i; simp only [rowsB, Finset.mem_filter, Finset.mem_univ, true_and]; omega
theorem obPts_split (c : Dev nD) (p o : ℕ) (X : S2x1024x256.Idx → Elt F .f32) :
    obPts c (rowsB p o 256) X ⊣⊢ iprop(obPts c (rowsB p o 128) X ∗ obPts c (rowsB p (o + 128) 128) X) := by
  rw [rowsB_split]
  exact pointsTo_union (rowsB_disj p o)
theorem exB_split (c : Dev nD) (p o : ℕ) : exB (F := F) c (rowsB p o 256) ⊢ iprop(exB c (rowsB p o 128) ∗ exB c (rowsB p (o + 128) 128)) := by
  unfold exB
  iintro ⟨%X, H⟩
  ihave H := (obPts_split c p o X).1 $$ H
  icases H with ⟨H0, H1⟩
  isplitl [H0]
  · iexists X; iexact H0
  · iexists X; iexact H1

/-- Half of the last landing, and its product. -/
theorem recvDot {Q : α → sProp 𝕄} (d : Bool) (c : Dev nD) (s : ℕ) {p o w : ℕ} (hs : s < 2)
    {sa0 sb0 : Space} {sha0 shb0 : Shape} {ea0 eb0 : EltTy}
    {r0 : DmaSem sig} {wa0 : Memref sig .tc sa0 sha0 ea0} {wb0 : Memref sig .tc sb0 shb0 eb0} {hwa0 : wa0.view.WordExact} {hwb0 : wb0.view.WordExact}
    {hw h1 h2}
    {hl : (rMem d).view.LoadsAt (Rect.unit (s := S2x256x8192) ![p, o, 0] S1x128x8192.size h1).toLoadRect} {hl2 : wMem.view.LoadsAt (Rect.unit (s := S8192x256) ![0, 0] S8192x256.size hw).toLoadRect}
    {hl3 : bMem.view.LoadsAt (Rect.unit (s := S2x1024x256) ![p, w, 0] S1x128x256.size h2).toLoadRect}
    {pay : (S1x128x8192.Idx → Elt F .bf16) → (S8192x256.Idx → Elt F .bf16) → (S1x128x256.Idx → Elt F .f32)} {hx : (bMem.access (Rect.unit (s := S2x1024x256) ![p, w, 0] S1x128x256.size h2)).Stores Finset.univ} {hm}
    {k : PUnit → Prog (TpuEff nD τ sig (Elt F) Λ₀ .tc) α} (hp : p = 0) (ho : o = 128 * s) (hwo : w = oD d + 128 * s)
    (hR : SemLoc.dma r0 = psem (kx (st 11 (si d s)))) (hN : wb0.view.dmaCredit = NR) (hpay : ∀ a b, pay a b = k0_pay39 a b) :
    iprop(Ctx m K ks ∗ fuel c 100 ∗ Rc d c 12 s ∗ wbPts c Finset.univ (WB m c) ∗ exB c (rowsB 0 (oD d + 128 * s) 128))
      ⊢ iprop(((fuel c 100 ∗ Hf m d c 12 s fullShare ∗ Nx d c 13 s ∗ wbPts c Finset.univ (WB m c) ∗ obPts c (rowsB 0 (oD d + 128 * s) 128) (P128 m c (orig d c 11))) -∗ WP c (k ⟨⟩) Q)
          -∗ WP c (.op (.waitDma2 r0 wa0 wb0 hwa0 hwb0) fun _ => .op (.load (rMem d) (Rect.unit (s := S2x256x8192) ![p, o, 0] S1x128x8192.size h1).toLoadRect hl) fun a =>
              .op (.load wMem (Rect.unit (s := S8192x256) ![0, 0] S8192x256.size hw).toLoadRect hl2) fun b =>
              .op (.load bMem (Rect.unit (s := S2x1024x256) ![p, w, 0] S1x128x256.size h2).toLoadRect hl3) fun _ =>
              .op (.store bMem (Rect.unit (s := S2x1024x256) ![p, w, 0] S1x128x256.size h2) (pay a b) Finset.univ hx hm) k) Q) := by
  iintro ⟨#HC, Hf, HR, Hw, Hb⟩ Hk
  iapply (recv m K ks d c 12 s (u := 100) (by decide) (by decide) hs (by decide) hR hN) $$ [Hf HR]
  · isplitr; · iexact HC
    isplitl [Hf] <;> iassumption
  iintro ⟨Hf, HH, HN⟩
  iapply (dot128 m d c 12 s hs (show p = 12 % 2 from hp) ho (show w = (if d then 256 else 0) + 128 * s by rw [hwo]) hpay (q := fullShare)) $$ [HH Hw Hb]
  · isplitl [HH]; · iexact HH
    isplitl [Hw]; · iexact Hw
    rw [hp, hwo]; iexact Hb
  iintro ⟨HH, Hw, Hb⟩
  iapply Hk
  isplitl [Hf]; · iexact Hf
  isplitl [HH]; · iexact HH
  isplitl [HN]; · iexact HN
  isplitl [Hw]; · iexact Hw
  rw [hp, hwo]; iexact Hb

/-- The copy of the two products of one direction. -/
theorem copy12 {Q : α → sProp 𝕄} (d : Bool) (c : Dev nD) {p o : ℕ} {off : Fin 2 → ℕ} {hb ho}
    {sem : DmaSem sig} {hsrc : (b256M p o hb).view.WordExact} {hdst : (o256M off ho).view.WordExact} {hsem : (DmaTarget.here (o256M off ho) : DmaTarget nD τ sig .tc .hbm S256x256 .f32).Typed .vmem (.dma sem)}
    {k : PUnit → Prog (TpuEff nD τ sig (Elt F) Λ₀ .tc) α} (hp : p = 0) (hoo : o = oD d) (hoff : off = ![512 * (orig d c 11).val + oD d, 0]) (hs : sem = osem p (jD d)) :
    iprop((obPts c (rowsB 0 (oD d + 128 * 0) 128) (P128 m c (orig d c 11)) ∗ obPts c (rowsB 0 (oD d + 128 * 1) 128) (P128 m c (orig d c 11))) ∗ exO c (pR d c 14) ∗ semVal ((c : Thread nD τ), .dma (osem 0 (jD d))) 0)
      ⊢ iprop((OR m d c 14 -∗ WP c (k ⟨⟩) Q)
          -∗ WP c (.op (.enqueueDma (b256M p o hb) (.here (o256M off ho)) (.dma sem) hsrc hdst hsem) k) Q) := by
  subst hp hoo
  have hpr : pR d c 14 = rowsW (512 * (orig d c 11).val + oD d) 256 := by
    unfold pR; rfl
  unfold OR
  rw [if_pos (by decide), hpr]
  iintro ⟨Hb, Ho, Hv⟩ Hk
  ihave Hb := (obPts_split c 0 (oD d) (P128 m c (orig d c 11))).2 $$ Hb
  iapply (copy256 m c (p := 0) (o := oD d) (lo := 512 * (orig d c 11).val + oD d) (j := jD d) hoff hs (P128 m c (orig d c 11)) (val128 m d c)) $$ [Hb Ho Hv]
  · isplitl [Hb]; · iexact Hb
    isplitl [Ho] <;> iassumption
  iintro HF
  iapply Hk
  iexact HF

/-! ## The first products -/

theorem noR (d : Bool) (c : Dev nD) {e : ℕ} (h : e < 3) : FrR (F := F) d c (e % 2) ⊢ OR m d c e := by
  unfold OR; rw [if_neg (by omega)]

/-- The signals that follow the waits for the first sends need only the free slots. -/
theorem whole_first (c : Dev nD) (q : PosShare TreeShare) (d : Bool) :
    iprop(exR (F := F) d c (rowsR 0 0 256) ∗ (Qt m d c 0 0 q ∗ Qt m d c 0 1 q)) ⊢ iprop(exR (F := F) d c (rowsR (0 % 2) 0 256) ∗ (Qt m d c 0 0 q ∗ Qt m d c 0 1 q)) := Entails.rfl

/-! ## The ends of the landing cells -/

theorem over_duties (c : Dev nD) (k : Fin 17) {R : ℕ} (h : ∀ t : Fin T, kx t.val = k → rnd t.val < R) (r : ℕ) (hr : R ≤ r) : (Rd (F := F) m).duties (cell c k) r = ∅ := by
  dsimp only [Rd]
  rw [Finset.filter_eq_empty_iff]
  intro t ht
  rintro ⟨-, h3, h4, h5⟩
  have h1 := h ⟨t, Finset.mem_range.mp ht⟩ (psem_inj h3)
  dsimp only at h1
  omega
theorem ring_over (c : Dev nD) (t : Fin 2) (d : Bool) (s : Fin 2) :
    iprop(Ctx m K ks ∗ posS c (st (12 + t.val) (si d s.val))) ⊢ iprop(|={Set.univ}=> semVal (cell c (kx (st (12 + t.val) (si d s.val)))) 0) := by
  unfold posS
  exact closeCell m K ks c (kx (st (12 + t.val) (si d s.val))) _ (over_duties m c _ ((by decide +kernel : ∀ (t : Fin 2) (d : Bool) (s : Fin 2) (u : Fin T), kx u.val = kx (st (12 + t.val) (si d s.val)) → rnd u.val < rnd (st (12 + t.val) (si d s.val))) t d s))
theorem credit_over (c : Dev nD) (d : Bool) : iprop(Ctx m K ks ∗ cpos d c 11) ⊢ iprop(|={Set.univ}=> semVal (cell c (kc d)) 0) := by
  unfold cpos
  rw [if_neg (by decide)]
  exact closeCell m K ks c (kc d) 1 (over_duties m c _ ((by decide +kernel : ∀ (d : Bool) (u : Fin T), kx u.val = kc d → rnd u.val < 1) d))

/-- Steps 6 and 7 of hop 11 are left out. -/
theorem fuel_last (c : Dev nD) : fuel (F := F) c (st 11 6) ⊢ fuel c 100 :=
  (fuel_skip c (t := 98) (by decide) ((by decide +kernel : ∀ c : Dev nD, amt 98 c = 0) c)).trans (fuel_skip c (t := 99) (by decide) ((by decide +kernel : ∀ c : Dev nD, amt 99 c = 0) c))

/-! ## The buffer of blocks, whole again -/

theorem Sh_fill (c : Dev nD) (q : PosShare TreeShare) : iprop(Sh m q c 0 ∗ (Bl m false c 1 q ∗ Bl m true c 1 q) ∗ (Bl m false c 2 q ∗ Bl m true c 2 q) ∗ (Bl m false c 3 q ∗ Bl m true c 3 q)) ⊢ colPts c Finset.univ q (CB m c) := by
  iintro ⟨H, H1, H2, H3⟩
  ihave H := (Sh_succ m c q (r := 0) (by decide)) $$ [H H1]
  · isplitl [H] <;> iassumption
  ihave H := (Sh_succ m c q (r := 1) (by decide)) $$ [H H2]
  · isplitl [H] <;> iassumption
  ihave H := (Sh_succ m c q (r := 2) (by decide)) $$ [H H3]
  · isplitl [H] <;> iassumption
  rw [← Sh_three m c]
  iexact H

end Cert.KernelIdeal.Gather
-- ==== Proof.Parts.lean ====
/-
  The states a device starts and ends in, and what passes between its hops.
-/
module

public import proofs.«01_k».proof.Proof.Words
public import proofs.«01_k».proof.Proof.Last

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## The state a device starts in -/

/-- What a device has of one direction of its line: for each group of hops the credit and the place of the arrival, and the
    semaphore of the send. -/
def LnS (d : Bool) (c : Dev nD) (r : ℕ) : sProp 𝕄 :=
  iprop((credS (F := F) c (st (3 * r) (li d)) ∗ posS (F := F) c (st (3 * r) (li d))) ∗ semVal ((c : Thread nD τ), .dma (lsem d r)) 0)
/-- What it has of one direction of its ring. -/
def RgS (d : Bool) (c : Dev nD) : sProp 𝕄 :=
  iprop(Rest (F := F) d c 0 ∗ (posS (F := F) c (st 1 (si d 0)) ∗ posS c (st 1 (si d 1)))
    ∗ (semVal ((c : Thread nD τ), .dma (ssem d 0 0)) 0 ∗ semVal ((c : Thread nD τ), .dma (ssem d 0 1)) 0) ∗ exR (F := F) d c (rowsR 0 0 256))
/-- A payment of the entry barrier that is made only to a neighbour that exists. -/
abbrev PayIf (t : ℕ) (c : Dev nD) : sProp 𝕄 := if amt t c = 1 then Pay m t (pi t c) else iprop(emp)

/-- All a device has before its first step. -/
def Start (c : Dev nD) : sProp 𝕄 :=
  iprop(fuel (F := F) c 0 ∗ (Pay m 0 (pi 0 c) ∗ Pay m 1 (pi 1 c) ∗ PayIf m 2 c ∗ PayIf m 3 c)
    ∗ ((credS (F := F) c 0 ∗ credS c 1 ∗ credS c 2 ∗ credS c 3) ∗ posS (F := F) c 0)
    ∗ (LnS (F := F) false c 0 ∗ LnS true c 0) ∗ (LnS (F := F) false c 1 ∗ LnS true c 1) ∗ (LnS (F := F) false c 2 ∗ LnS true c 2)
    ∗ (RgS (F := F) false c ∗ RgS true c)
    ∗ (StX m c ∗ StW m c ∗ semVal ((c : Thread nD τ), .dma 28) 0 ∗ colN m c 0 ∗ wbN m c 0)
    ∗ Oh m c 0 ∗ Os m c 0)

/-! ## The state it ends in -/

/-- The semaphores of one direction of the line, of one group of hops, at zero. -/
def LnZ (d : Bool) (c : Dev nD) (r : ℕ) : sProp 𝕄 :=
  iprop(semVal (Lvl := ℕ) (Name := ℕ) (U := UU) (Ix := ℕ) (Val := Elt F) (cell c (kx (st (3 * r) (li d)))) 0 ∗ semVal ((c : Thread nD τ), .dma (lsem d r)) 0)
/-- The semaphores of one direction of the ring at zero. -/
def RgZ (d : Bool) (c : Dev nD) : sProp 𝕄 :=
  iprop((semVal (Lvl := ℕ) (Name := ℕ) (U := UU) (Ix := ℕ) (Val := Elt F) (cell c (kx (st 12 (si d 0)))) 0 ∗ semVal (cell c (kx (st 12 (si d 1)))) 0)
    ∗ (semVal (cell c (kx (st 13 (si d 0)))) 0 ∗ semVal (cell c (kx (st 13 (si d 1)))) 0)
    ∗ (semVal ((c : Thread nD τ), .dma (ssem d 0 0)) 0 ∗ semVal ((c : Thread nD τ), .dma (ssem d 0 1)) 0)
    ∗ (semVal ((c : Thread nD τ), .dma (ssem d 1 0)) 0 ∗ semVal ((c : Thread nD τ), .dma (ssem d 1 1)) 0)
    ∗ semVal (cell c (kc d)) 0)
/-- The windows of the buffer of products of one parity, with the semaphores of their copies at zero. -/
def ObZ (c : Dev nD) (p : ℕ) : sProp 𝕄 := iprop(FrR (F := F) false c p ∗ FrR true c p ∗ FrL c p)
/-- The landing slots of one direction. -/
def RgB (d : Bool) (c : Dev nD) : sProp 𝕄 := iprop(exR (F := F) d c (rowsR 0 0 256) ∗ exR d c (rowsR 1 0 256))

/-- All a device has after its last step: its debt, then paid, the result, its arguments, its buffers, and its semaphores at zero. -/
def Done (c : Dev nD) : sProp 𝕄 :=
  iprop(fuel (F := F) c 100 ∗ outPts c Finset.univ (RES m c) ∗ (StX m c ∗ StW m c)
    ∗ (colPts c Finset.univ fullShare (CB m c) ∗ wbPts c Finset.univ (WB m c) ∗ (RgB (F := F) false c ∗ RgB true c) ∗ ObZ (F := F) c 0 ∗ ObZ c 1)
    ∗ ((LnZ (F := F) false c 0 ∗ LnZ true c 0) ∗ (LnZ (F := F) false c 1 ∗ LnZ true c 1) ∗ (LnZ (F := F) false c 2 ∗ LnZ true c 2))
    ∗ (RgZ (F := F) false c ∗ RgZ true c) ∗ semVal ((c : Thread nD τ), .dma 28) 0 ∗ semVal (cell c 0) 0)

/-! ## The first hop -/

theorem paySig {Q : α → sProp 𝕄} {c n : Dev nD} {t : ℕ} (ht : t < T) (hn : n = pi t c) (ha : amt t c = 1)
    {sem : Sem sig} {k : PUnit → Prog (TpuEff nD τ sig (Elt F) Λ₀ .tc) α}
    (hS : SemLoc.reg sem = psem (kx t)) (hr0 : rnd t = 0) :
    iprop(Ctx m K ks ∗ fuel c t ∗ Pay m t (pi t c))
      ⊢ iprop((fuel c (t + 1) -∗ WP c (k ⟨⟩) Q) -∗ WP c (.op (.semSignal (Dev.tc n : Thread nD τ) sem 1) k) Q) := by
  subst hn
  exact pay_signal m K ks ht rfl ha hS hr0

/-- The own block, shared out: to the line's two sends, to the ring's sends, and to the product. -/
theorem own_shares (c : Dev nD) : colN m c 4 ⊢ iprop((Bl m false c 0 fullShare.left.left ∗ Bl m true c 0 fullShare.left.right)
    ∗ Qts m c 0 fullShare.right.left ∗ colPts c (blk (zs (zc c) (0 / 3))) fullShare.right.right (CB m c)) := by
  iintro H
  ihave H := (colN_all m c) $$ H
  ihave H := (colPts_share c _ _ fullShare).1 $$ H
  icases H with ⟨HL, HR⟩
  ihave HL := (colPts_share c _ _ fullShare.left).1 $$ HL
  ihave HR := (colPts_share c _ _ fullShare.right).1 $$ HR
  icases HL with ⟨HL1, HL2⟩
  icases HR with ⟨HR1, HR2⟩
  rw [Bl_zero, Bl_zero]
  isplitl [HL1 HL2]
  · isplitl [HL1] <;> iassumption
  isplitl [HR1]
  · iapply (Qt_split m c 0 fullShare.right.left).1
    iexact HR1
  · iexact HR2

theorem own_back (c : Dev nD) : iprop((Qt m false c 0 0 fullShare.right.left ∗ Qt m false c 0 1 fullShare.right.left) ∗ (Qt m true c 0 0 fullShare.right.left ∗ Qt m true c 0 1 fullShare.right.left)
    ∗ colPts c (blk (zs (zc c) (0 / 3))) fullShare.right.right (CB m c)) ⊢ Sh m fullShare.right c 0 := by
  rw [Sh_zero]
  iintro ⟨⟨H1, H2⟩, ⟨H3, H4⟩, HR⟩
  iapply (colPts_share c _ _ fullShare.right).2
  isplitr [HR]
  · iapply (Qt_split m c 0 fullShare.right.left).2
    unfold Qts
    isplitl [H1 H3]
    · isplitl [H1] <;> iassumption
    · isplitl [H2] <;> iassumption
  · iexact HR

theorem first_sends (d : Bool) (c : Dev nD) :
    iprop(Ctx m K ks ∗ (semVal ((c : Thread nD τ), .dma (ssem d 0 0)) 0 ∗ semVal ((c : Thread nD τ), .dma (ssem d 0 1)) 0) ∗ exR (F := F) d (nbr d c) (rowsR 1 0 256))
      ⊢ iprop(Sd d c 0 0 ∗ Sd d c 0 1) := by
  have h0 : rnd (st 0 (si d 0)) = 0 := by cases d <;> rfl
  have h1 : rnd (st 0 (si d 1)) = 0 := by cases d <;> rfl
  unfold Sd
  rw [h0, h1]
  iintro ⟨#HC, ⟨H0, H1⟩, HE⟩
  ihave HE := (exR_split d (nbr d c) 1) $$ HE
  icases HE with ⟨HE0, HE1⟩
  ihave Hr0 := (Ctx_reached m K ks (nbr d c) (kx (st 0 (si d 0)))) $$ HC
  ihave Hr1 := (Ctx_reached m K ks (nbr d c) (kx (st 0 (si d 1)))) $$ HC
  isplitl [H0 HE0 Hr0]
  · isplitl [Hr0]; · iexact Hr0
    isplitl [H0] <;> iassumption
  · isplitl [Hr1]; · iexact Hr1
    isplitl [H1] <;> iassumption

theorem first_next (d : Bool) (c : Dev nD) :
    iprop(Ctx m K ks ∗ (posS (F := F) c (st 1 (si d 0)) ∗ posS c (st 1 (si d 1)))) ⊢ iprop(Nx d c 1 0 ∗ Nx d c 1 1) := by
  have h0 : rnd (st 1 (si d 0)) = 0 := by cases d <;> rfl
  have h1 : rnd (st 1 (si d 1)) = 0 := by cases d <;> rfl
  unfold Nx
  rw [h0, h1]
  iintro ⟨#HC, H0, H1⟩
  ihave Hr0 := (Ctx_reached m K ks c (kx (st 1 (si d 0)))) $$ HC
  ihave Hr1 := (Ctx_reached m K ks c (kx (st 1 (si d 1)))) $$ HC
  isplitl [H0 Hr0]
  · isplitl [H0] <;> iassumption
  · isplitl [H1] <;> iassumption

theorem first_out (c : Dev nD) : iprop(Oh m c 0 ∗ Os m c 0) ⊢ iprop((FrL (F := F) c (0 % 2) ∗ exO c (pL c (0 + 2))) ∗ (OL m c (0 + 2) -∗ (Oh m c 1 ∗ Os m c 1))) := by
  iintro ⟨HO, HOs⟩
  ihave HF := (outs0 m c (H := 0) (by decide) (by decide)) $$ HO
  unfold Fd
  icases HF with ⟨⟨H0, F0⟩, ⟨H1, F1⟩, H2, F2⟩
  ihave HN := (Os_next m c (H := 0) (by decide)) $$ [HOs H0 H1 H2]
  · isplitl [HOs]; · iexact HOs
    isplitl [H0]; · iexact H0
    isplitl [H1] <;> iassumption
  icases HN with ⟨⟨-, -, HL⟩, HO, HI, HD⟩
  isplitl [F2 HL]
  · isplitl [F2] <;> iassumption
  iintro HOL
  isplitl [HO]; · iexact HO
  unfold Os
  isplitr [HI HD]
  · unfold Oh
    isplitl [F0]
    · iapply (noR m false c (e := 2) (by decide)) $$ F0
    isplitl [F1]
    · iapply (noR m true c (e := 2) (by decide)) $$ F1
    · iexact HOL
  · isplitl [HI] <;> iassumption

/-! ## The hops that take a new block from the line -/

/-- The block the group's first hop passes on: half of the share to its sends, half to its product. -/
theorem take_block (c : Dev nD) {H r : ℕ} (hr : r < 4) (hH : H / 3 = r) : Sh m fullShare.right c r
    ⊢ iprop(Qts m c H fullShare.right.left ∗ colPts c (blk (zs (zc c) (H / 3))) fullShare.right.right (CB m c)
        ∗ (colPts c (blk (zs (zc c) (H / 3))) fullShare.right (CB m c) -∗ Sh m fullShare.right c r)) := by
  subst hH
  rw [Sh_take m c fullShare.right hr]
  iintro ⟨H1, H2⟩
  ihave H1 := (colPts_share c _ _ fullShare.right).1 $$ H1
  icases H1 with ⟨HL, HR⟩
  isplitl [HL]
  · iapply (Qt_split m c H fullShare.right.left).1
    iexact HL
  isplitl [HR]; · iexact HR
  iintro H1
  isplitl [H1] <;> iassumption

/-- What came over the line in a group of hops: a share of it to send on, a share to the blocks at hand. -/
theorem line_in (c : Dev nD) {r : ℕ} (hr : r < 3) : iprop(Bl m false c (r + 1) fullShare ∗ Bl m true c (r + 1) fullShare ∗ Sh m fullShare.right c r)
    ⊢ iprop(Bl m false c (r + 1) fullShare.left ∗ Bl m true c (r + 1) fullShare.left ∗ Sh m fullShare.right c (r + 1)) := by
  iintro ⟨H0, H1, HS⟩
  ihave H0 := (Bl_share m false c (r + 1) fullShare).1 $$ H0
  ihave H1 := (Bl_share m true c (r + 1) fullShare).1 $$ H1
  icases H0 with ⟨H0l, H0r⟩
  icases H1 with ⟨H1l, H1r⟩
  isplitl [H0l]; · iexact H0l
  isplitl [H1l]; · iexact H1l
  iapply (Sh_succ m c fullShare.right hr)
  isplitl [HS]; · iexact HS
  isplitl [H0r] <;> iassumption

/-! ## The last hop -/

theorem last_rest (d : Bool) (c : Dev nD) : Rest (F := F) d c 11 ⊢ iprop(cpos d c 11 ∗ (Rc d c 12 0 ∗ Rc d c 12 1)
    ∗ semVal ((c : Thread nD τ), .dma (ssem d 0 0)) 0 ∗ semVal ((c : Thread nD τ), .dma (ssem d 0 1)) 0) := by
  unfold Rest Rc
  iintro ⟨HC, -, HI, ⟨HP0, HP1⟩, -, -, -, HS⟩
  ihave HI := (Entails.of_eq (big_ico (a := 11) (b := 12) (by decide))) $$ HI
  icases HI with ⟨⟨HI0, HI1⟩, -⟩
  isplitl [HC]; · iexact HC
  isplitr [HS]
  · isplitl [HI0 HP0]
    · isplitl [HI0] <;> iassumption
    · isplitl [HI1] <;> iassumption
  · iexact HS

theorem last_out (c : Dev nD) : iprop(Fd m c 12 ∗ Os m c 12) ⊢ iprop(((exB (F := F) c (rowsB 0 (oD false + 128 * 0) 128) ∗ exB c (rowsB 0 (oD false + 128 * 1) 128))
      ∗ exB c (rowsB 0 (oD true + 128 * 0) 128) ∗ exB c (rowsB 0 (oD true + 128 * 1) 128))
    ∗ ((exO c (pR false c 14) ∗ semVal ((c : Thread nD τ), .dma (osem 0 (jD false))) 0) ∗ exO c (pR true c 14) ∗ semVal ((c : Thread nD τ), .dma (osem 0 (jD true))) 0)
    ∗ OL m c 14 ∗ Oh m c 13 ∗ bigSep (Finset.range 13) (Dn m c)) := by
  iintro ⟨HF, HOs⟩
  unfold Fd FrR
  icases HF with ⟨⟨H0, S0, E0⟩, ⟨H1, S1, E1⟩, H2, F2⟩
  ihave HN := (Os_next m c (H := 12) (by decide)) $$ [HOs H0 H1 H2]
  · isplitl [HOs]; · iexact HOs
    isplitl [H0]; · iexact H0
    isplitl [H1] <;> iassumption
  icases HN with ⟨⟨X0, X1, -⟩, HO, -, HD⟩
  ihave E0 := (exB_split c 0 (oD false)) $$ E0
  ihave E1 := (exB_split c 0 (oD true)) $$ E1
  isplitl [E0 E1]
  · isplitl [E0]; · iexact E0
    iexact E1
  isplitl [X0 X1 S0 S1]
  · isplitl [X0 S0]
    · isplitl [X0]; · iexact X0
      iexact S0
    · isplitl [X1]; · iexact X1
      iexact S1
  isplitl [F2]
  · iapply (noL m c (e := 14) (by decide)) $$ F2
  isplitl [HO] <;> iassumption

/-! ## The rows of the result, by the hop that writes them -/

/-- In which group of hops a device handles the blocks of the place `z'` of the lines. -/
def grp (z z' : ℕ) : ℕ := if zs z 0 = z' then 0 else if zs z 1 = z' then 1 else if zs z 2 = z' then 2 else 3
/-- Which copy writes the `b`-th 256 rows of the result: its hop, counted two on, and whether it is the forward (0), the backward (1) or the line's (2). -/
def slot (c : Dev nD) (b : ℕ) : ℕ × ℕ :=
  if b / 2 % 4 = qc c then (3 * grp (zc c) (b / 8) + 2, 2)
  else if b % 2 = 0 then (3 * grp (zc c) (b / 8) + (qc c + 3 - b / 2 % 4) % 4 + 3, 0)
  else (3 * grp (zc c) (b / 8) + (b / 2 % 4 + 3 - qc c) % 4 + 3, 1)

theorem slot_R : ∀ c : Dev nD, ∀ e : Fin 15, ∀ d : Bool, ∀ b : Fin 32, ((3 ≤ e.val ∧ e.val ≤ 14) ∧ b.val = 2 * (orig d c (e.val - 3)).val + (if d then 1 else 0)) ↔ slot c b.val = (e.val, if d then 1 else 0) := by
  decide +kernel
theorem slot_L : ∀ c : Dev nD, ∀ e : Fin 15, ∀ b : Fin 32, ((e.val % 3 = 2 ∧ e.val ≤ 11) ∧ b.val / 2 = (mk (zs (zc c) (e.val / 3)) (qc c)).val) ↔ slot c b.val = (e.val, 2) := by
  decide +kernel
theorem slot_lt : ∀ c : Dev nD, ∀ b : Fin 32, (slot c b.val).1 < 15 ∧ (slot c b.val).2 < 3 := by decide +kernel

theorem row_lt (i : S8192x256.Idx) : (i 0).val / 256 < 32 := by
  have h : (i 0).val < 8192 := (i 0).isLt
  omega

theorem mem_pR (d : Bool) (c : Dev nD) {e : ℕ} (he : e < 15) (i : S8192x256.Idx) : i ∈ pR d c e ↔ slot c ((i 0).val / 256) = (e, if d then 1 else 0) := by
  rw [← slot_R c ⟨e, he⟩ d ⟨(i 0).val / 256, row_lt i⟩]
  unfold pR oD
  split
  · rename_i h
    simp only [rowsW, Finset.mem_filter, Finset.mem_univ, true_and, h, and_self]
    cases d
    · simp only [Bool.false_eq_true, if_false]; omega
    · simp only [if_true]; omega
  · rename_i h
    simp only [Finset.notMem_empty, h, false_and]
theorem mem_pL (c : Dev nD) {e : ℕ} (he : e < 15) (i : S8192x256.Idx) : i ∈ pL c e ↔ slot c ((i 0).val / 256) = (e, 2) := by
  rw [← slot_L c ⟨e, he⟩ ⟨(i 0).val / 256, row_lt i⟩]
  unfold pL
  split
  · rename_i h
    simp only [rowsW, Finset.mem_filter, Finset.mem_univ, true_and, h, and_self]
    omega
  · rename_i h
    simp only [Finset.notMem_empty, h, false_and]

/-- The rows that one hop writes. -/
def pQ (c : Dev nD) (e : ℕ) : Finset S8192x256.Idx := Finset.univ.filter fun i => (slot c ((i 0).val / 256)).1 = e

theorem pQ_eq (c : Dev nD) {e : ℕ} (he : e < 15) : pQ c e = pR false c e ∪ (pR true c e ∪ pL c e) := by
  ext i
  have h3 := (slot_lt c ⟨(i 0).val / 256, row_lt i⟩).2
  dsimp only at h3
  rw [Finset.mem_union, Finset.mem_union, mem_pR false c he, mem_pR true c he, mem_pL c he, pQ, Finset.mem_filter, Prod.ext_iff, Prod.ext_iff, Prod.ext_iff]
  simp only [Finset.mem_univ, true_and, Bool.false_eq_true, if_false, if_true]
  omega

theorem pQ_split (c : Dev nD) {e : ℕ} (he : e < 15) (X : S8192x256.Idx → Elt F .f32) :
    outPts c (pQ c e) X ⊣⊢ iprop(outPts c (pR false c e) X ∗ outPts c (pR true c e) X ∗ outPts c (pL c e) X) := by
  have h2 : Disjoint (pR true c e) (pL c e) := by
    rw [Finset.disjoint_left]; intro i h h'
    rw [mem_pR true c he] at h; rw [mem_pL c he, h] at h'
    exact absurd (congrArg Prod.snd h') (show (1 : ℕ) ≠ 2 by decide)
  have h1 : Disjoint (pR false c e) (pR true c e ∪ pL c e) := by
    rw [Finset.disjoint_left]; intro i h h'
    rw [mem_pR false c he] at h; rw [Finset.mem_union, mem_pR true c he, mem_pL c he, h] at h'
    rcases h' with h' | h'
    · exact absurd (congrArg Prod.snd h') (show (0 : ℕ) ≠ 1 by decide)
    · exact absurd (congrArg Prod.snd h') (show (0 : ℕ) ≠ 2 by decide)
  rw [pQ_eq c he]
  unfold outPts
  exact (pointsTo_union h1).trans ⟨sep_mono_right (pointsTo_union h2).1, sep_mono_right (pointsTo_union h2).2⟩

theorem out_all (c : Dev nD) (X : S8192x256.Idx → Elt F .f32) : (outPts c Finset.univ X : sProp 𝕄) = bigSep (Finset.range 15) fun e => outPts c (pQ c e) X := by
  have h : (_ : sProp 𝕄) = _ := pointsTo_biUnion (ℓ := (c : Thread nD τ).loc main_v1) (q := fullShare) (f := X) (Finset.range 15) (pQ c) (by
    intro a _ b _ hab
    rw [Finset.disjoint_left]
    intro i h1 h2
    rw [pQ, Finset.mem_filter] at h1 h2
    exact hab (h1.2.symm.trans h2.2))
  unfold outPts
  rw [← h]
  refine congrArg (fun I => ((((c : Thread nD τ).loc main_v1) ↦[I]{fullShare} X) : sProp 𝕄)) ?_
  ext i
  simp only [Finset.mem_biUnion, Finset.mem_univ, true_iff]
  exact ⟨_, Finset.mem_range.mpr (slot_lt c ⟨(i 0).val / 256, row_lt i⟩).1, Finset.mem_filter.mpr ⟨Finset.mem_univ _, rfl⟩⟩

/-- All pieces written: the whole result. -/
theorem out_whole (c : Dev nD) : (bigSep (Finset.range 15) (Dn m c)) ⊢ outPts c Finset.univ (RES m c) := by
  rw [out_all c (RES m c)]
  exact bigSep_mono fun e he => (pQ_split c (Finset.mem_range.mp he) (RES m c)).2

theorem last_whole (c : Dev nD) : iprop(bigSep (Finset.range 13) (Dn m c) ∗ Fd m c 13 ∗ Fd m c 14) ⊢ iprop(outPts c Finset.univ (RES m c) ∗ ObZ (F := F) c 0 ∗ ObZ c 1) := by
  unfold Fd ObZ
  iintro ⟨HD, ⟨⟨H0, F0⟩, ⟨H1, F1⟩, H2, F2⟩, ⟨G0, E0⟩, ⟨G1, E1⟩, G2, E2⟩
  isplitl [HD H0 H1 H2 G0 G1 G2]
  · iapply (out_whole m c)
    rw [big_range (n := 14), big_range (n := 13)]
    unfold Dn
    isplitl [G0 G1 G2]
    · isplitl [G0]; · iexact G0
      isplitl [G1] <;> iassumption
    isplitl [H0 H1 H2]
    · isplitl [H0]; · iexact H0
      isplitl [H1] <;> iassumption
    · iexact HD
  isplitl [E0 E1 E2]
  · isplitl [E0]; · iexact E0
    isplitl [E1] <;> iassumption
  · isplitl [F0]; · iexact F0
    isplitl [F1] <;> iassumption

/-- The result's array as the pieces still to be written. -/
theorem out_pieces (c : Dev nD) : exO (F := F) c Finset.univ ⊢ bigSep (Finset.Ico 2 15) (Tp c) := by
  unfold exO
  iintro ⟨%X, H⟩
  ihave H := (Entails.of_eq (out_all c X)) $$ H
  iapply (show (bigSep (Finset.Ico 2 15) fun e => outPts c (pQ c e) X) ⊢ bigSep (Finset.Ico 2 15) (Tp (F := F) c) from
    bigSep_mono fun e he => (pQ_split c (show e < 15 from (Finset.mem_Ico.mp he).2) X).1.trans (by
      unfold Tp exO
      iintro ⟨H0, H1, H2⟩
      isplitl [H0]
      · iexists X; iexact H0
      isplitl [H1]
      · iexists X; iexact H1
      · iexists X; iexact H2))
  iapply (show (bigSep (Finset.range 15) fun e => outPts c (pQ c e) X) ⊢ bigSep (Finset.Ico 2 15) fun e => outPts (F := F) c (pQ c e) X from
    bigSep_subset fun x hx => Finset.mem_range.mpr (Finset.mem_Ico.mp hx).2) $$ H

end Cert.KernelIdeal.Gather
-- ==== Proof.Creds.lean ====
/-
  What the devices owe one another at the start, as each device's credits.
-/
module

public import proofs.«01_k».proof.Proof.Parts

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## What a device is owed at the start -/

/-- The credits of one direction of the line, -/
def CrL (d : Bool) (c : Dev nD) : sProp 𝕄 := iprop(credS (F := F) c (st (3 * 0) (li d)) ∗ credS c (st (3 * 1) (li d)) ∗ credS c (st (3 * 2) (li d)))
/-- and of one direction of the ring. -/
def CrR (d : Bool) (c : Dev nD) : sProp 𝕄 :=
  iprop((bigSep (Finset.Ico 0 11) fun h => credS (F := F) c (st h (sc d)))
    ∗ bigSep (Finset.Ico 0 12) fun h => iprop(credS (F := F) c (st h (si d 0)) ∗ credS c (st h (si d 1))))

theorem cred_split (s : Finset ℕ) (f : ℕ → CellTallies nD τ sig ℕ) : (cred (∑ t ∈ s, f t) : sProp 𝕄) ⊢ bigSep s fun t => cred (f t) := by
  induction s using Finset.induction_on with
  | empty => rw [bigSep_empty]; iintro -; iempintro
  | insert a s ha ih =>
    rw [Finset.sum_insert ha, bigSep_insert ha]
    exact (cred_add _ _).1.trans (sep_mono_right ih)

theorem cell_eq {c c' : Dev nD} {k k' : Fin 17} : Iff (cell c k = cell c' k') (c = c' ∧ k = k') := by
  refine ⟨fun h => ⟨Fin.ext (congrArg (fun g : GSem nD τ sig => g.1.1.val) h), psem_inj (congrArg Prod.snd h)⟩, fun ⟨h1, h2⟩ => by rw [h1, h2]⟩

/-- What all devices owe one semaphore of a device, by the steps that pay it. -/
theorem owed_cell (c : Dev nD) (k : Fin 17) (u : ℕ) :
    (∑ d : Dev nD, OT d 0 (cell c k) u) = ∑ t ∈ (Finset.range T).filter (fun t => kx t = k), tallyAt (cell c k) (ix t) (amtI t c) (cell c k) u := by
  have h1 : ∀ d : Dev nD, OT d 0 (cell c k) u = ∑ s ∈ Finset.range T, if cell c k = cell (pi s d) (kx s) ∧ u = ix s then amt s d else 0 := by
    intro d
    unfold OT
    rw [Finset.sum_apply, Finsupp.finset_sum_apply, ← Finset.range_eq_Ico]
    exact Finset.sum_congr rfl fun s _ => tallyAt_apply _ _ _ _ _
  rw [Finset.sum_congr rfl fun d _ => h1 d, Finset.sum_comm, Finset.sum_filter]
  refine Finset.sum_congr rfl fun s _ => ?_
  have h2 : ∀ d : Dev nD, (if cell c k = cell (pi s d) (kx s) ∧ u = ix s then amt s d else 0)
      = (fun e : Dev nD => if c = e then (if k = kx s ∧ u = ix s then amt s ((pi s).symm e) else 0) else 0) (pi s d) := by
    intro d
    dsimp only
    rw [Equiv.symm_apply_apply]
    by_cases h : c = pi s d
    · rw [if_pos h]
      by_cases h' : k = kx s ∧ u = ix s
      · rw [if_pos h', if_pos ⟨cell_eq.mpr ⟨h, h'.1⟩, h'.2⟩]
      · rw [if_neg h', if_neg fun hh => h' ⟨(cell_eq.mp hh.1).2, hh.2⟩]
    · rw [if_neg h, if_neg fun hh => h (cell_eq.mp hh.1).1]
  rw [Finset.sum_congr rfl fun d _ => h2 d]
  refine (Equiv.sum_comp (pi s) fun e : Dev nD => if c = e then (if k = kx s ∧ u = ix s then amt s ((pi s).symm e) else 0) else 0).trans ?_
  rw [Finset.sum_ite_eq, if_pos (Finset.mem_univ _)]
  by_cases h : kx s = k
  · rw [if_pos h, tallyAt_apply]
    by_cases h' : u = ix s
    · rw [if_pos ⟨h.symm, h'⟩, if_pos ⟨rfl, h'⟩]
    · rw [if_neg fun hh => h' hh.2, if_neg fun hh => h' hh.2]
  · rw [if_neg h, if_neg fun hh => h hh.1.symm]

theorem launch_cell (c : Dev nD) (k : Fin 17) :
    tallyOn (cell c k) (launchCredit (Pipeline.owing fun c => OT c 0) 0 (cell c k))
      = ∑ t ∈ (Finset.range T).filter (fun t => kx t = k), (tallyAt (cell c k) (ix t) (amtI t c) : CellTallies nD τ sig ℕ) := by
  funext g
  rw [Finset.sum_apply]
  by_cases h : g = cell c k
  · subst h
    rw [tallyOn_self]
    refine Finsupp.ext fun u => ?_
    rw [Pipeline.launchCredit_owing, owed_cell, Finsupp.finset_sum_apply]
  · rw [tallyOn_ne h, Finset.sum_congr rfl fun t _ => tallyAt_ne_cell h _ _, Finset.sum_const_zero]

/-- A device is handed the credit of every step that pays it. -/
theorem creds_all (c : Dev nD) : (Pipeline.launchCred (fun c => OT c 0) c : sProp 𝕄) ⊢ bigSep (Finset.range T) (credS c) := by
  have hu : (Finset.univ : Finset (Fin 17)).biUnion (fun k => (Finset.range T).filter fun t => kx t = k) = Finset.range T := by
    ext t; simp
  rw [← hu, bigSep_biUnion_eq _ _ _ (fun j _ j' _ hne => Finset.disjoint_filter.mpr fun i _ hi hi' => hne (hi.symm.trans hi'))]
  unfold Pipeline.launchCred
  refine (bigSep_subset (Finset.subset_univ ((Finset.univ : Finset (Fin 17)).map ⟨psem, psem_inj⟩))).trans ?_
  rw [bigSep_map]
  refine bigSep_mono fun k _ => ?_
  show cred (tallyOn (cell c k) (launchCredit (Pipeline.owing fun c => OT c 0) 0 (cell c k))) ⊢ _
  rw [launch_cell]
  refine (cred_split _ _).trans (Entails.of_eq (bigSep_congr fun t ht => ?_))
  unfold credS
  rw [(Finset.mem_filter.mp ht).2]

theorem big_subset {I : Type} [DecidableEq I] {s t : Finset I} (h : t ⊆ s) (Φ : I → sProp 𝕄) : (bigSep s Φ : sProp 𝕄) ⊢ bigSep t Φ := bigSep_subset h

def stE (h : ℕ) : ℕ ↪ ℕ := ⟨st h, fun a b hab => by unfold st at hab; omega⟩
theorem stE_eq (h i : ℕ) : stE h i = 4 + 8 * h + i := rfl

theorem by_hops (Φ : ℕ → sProp 𝕄) : bigSep (Finset.range T) Φ ⊢ iprop((Φ 0 ∗ Φ 1 ∗ Φ 2 ∗ Φ 3)
    ∗ bigSep (Finset.range 12) fun h => iprop(Φ (st h 0) ∗ Φ (st h 1) ∗ Φ (st h 2) ∗ Φ (st h 3) ∗ Φ (st h 4) ∗ Φ (st h 5) ∗ Φ (st h 6) ∗ Φ (st h 7))) := by
  have e : (Finset.range 12).biUnion (fun h => (Finset.range 8).map (stE h)) = Finset.Ico 4 T := by
    have hT : T = 100 := rfl
    ext t
    simp only [Finset.mem_biUnion, Finset.mem_map, Finset.mem_range, Finset.mem_Ico, stE_eq]
    refine ⟨fun ⟨h, hh, i, hi, e⟩ => by omega, fun ht => ⟨(t - 4) / 8, by omega, (t - 4) % 8, by omega, by omega⟩⟩
  have hd : ∀ h ∈ Finset.range 12, ∀ h' ∈ Finset.range 12, h ≠ h' →
      Disjoint ((Finset.range 8).map (stE h)) ((Finset.range 8).map (stE h')) := by
    intro h _ h' _ hne
    refine Finset.disjoint_left.mpr fun t h1 h2 => hne ?_
    simp only [Finset.mem_map, Finset.mem_range, stE_eq] at h1 h2
    obtain ⟨i, hi, ei⟩ := h1
    obtain ⟨j, hj, ej⟩ := h2
    omega
  rw [Finset.range_eq_Ico, big_ico (show 0 < T by decide), big_ico (show 0 + 1 < T by decide), big_ico (show 0 + 1 + 1 < T by decide), big_ico (show 0 + 1 + 1 + 1 < T by decide)]
  rw [show 0 + 1 + 1 + 1 + 1 = 4 from rfl, ← e, bigSep_biUnion_eq _ _ _ hd]
  iintro ⟨H0, H1, H2, H3, H⟩
  isplitl [H0 H1 H2 H3]
  · isplitl [H0]; · iexact H0
    isplitl [H1]; · iexact H1
    isplitl [H2] <;> iassumption
  iapply (show (bigSep (Finset.range 12) fun h => bigSep ((Finset.range 8).map (stE h)) Φ) ⊢ bigSep (Finset.range 12) fun h => iprop(Φ (st h 0) ∗ Φ (st h 1) ∗ Φ (st h 2) ∗ Φ (st h 3) ∗ Φ (st h 4) ∗ Φ (st h 5) ∗ Φ (st h 6) ∗ Φ (st h 7)) from
    bigSep_mono fun h _ => by
      rw [bigSep_map, bigSep_eq_bigSepL_of_eq [0, 1, 2, 3, 4, 5, 6, 7] (by decide) (by decide)]
      exact (Entails.rfl : (_ : sProp 𝕄) ⊢ _)) $$ H

theorem three_of (Φ : ℕ → sProp 𝕄) : bigSep (Finset.range 12) Φ ⊢ iprop(Φ (3 * 0) ∗ Φ (3 * 1) ∗ Φ (3 * 2)) := by
  refine (big_subset (show ({0, 3, 6} : Finset ℕ) ⊆ Finset.range 12 by decide) Φ).trans ?_
  rw [bigSep_eq_bigSepL_of_eq [0, 3, 6] (by decide) (by decide)]
  exact (Entails.rfl : (_ : sProp 𝕄) ⊢ _)

theorem creds (c : Dev nD) : (Pipeline.launchCred (fun c => OT c 0) c : sProp 𝕄)
    ⊢ iprop((credS c 0 ∗ credS c 1 ∗ credS c 2 ∗ credS c 3) ∗ (CrL false c ∗ CrL true c) ∗ CrR false c ∗ CrR true c) := by
  refine ((creds_all c).trans (by_hops _)).trans ?_
  simp only [bigSep_sep']
  unfold CrL CrR
  simp only [bigSep_sep']
  rw [← Finset.range_eq_Ico, ← Finset.range_eq_Ico]
  iintro ⟨H, H0, H1, H2, H3, H4, H5, H6, H7⟩
  isplitl [H]; · iexact H
  isplitl [H0 H1]
  · isplitl [H0]
    · iapply (three_of fun h => credS (F := F) c (st h 0)) $$ H0
    · iapply (three_of fun h => credS (F := F) c (st h 1)) $$ H1
  isplitl [H2 H4 H6]
  · isplitl [H6]
    · iapply (big_subset (show Finset.range 11 ⊆ Finset.range 12 by decide) fun h => credS (F := F) c (st h 6)) $$ H6
    isplitl [H2]; · iexact H2
    iexact H4
  · isplitl [H7]
    · iapply (big_subset (show Finset.range 11 ⊆ Finset.range 12 by decide) fun h => credS (F := F) c (st h 7)) $$ H7
    isplitl [H3]; · iexact H3
    iexact H5

end Cert.KernelIdeal.Gather
-- ==== Proof.Marks.lean ====
/-
  The ghost state the run begins with, shared out to the devices.
-/
module

public import proofs.«01_k».proof.Proof.Creds

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## The semaphores -/

/-- The semaphores of the kernel's own: the transfers', and the two the credits use. -/
abbrev ownS (k : Fin 37) : SemLoc sig := if h : k.val < 35 then .dma ⟨k.val, h⟩ else if k.val = 35 then .reg 0 else .reg 1

theorem ownSemFacts : Pipeline.OwnSemFacts cfg0.spec ownS := by decide

/-- A semaphore at zero. -/
abbrev sv (c : Dev nD) (sm : SemLoc sig) : sProp 𝕄 := semVal (Lvl := ℕ) (Name := ℕ) (U := UU) (Ix := ℕ) (Val := Elt F) ((c : Thread nD τ), sm) 0

/-- The semaphores no other device pays. -/
def Sm (c : Dev nD) : sProp 𝕄 :=
  iprop((sv (F := F) c (.dma (lsem false 0)) ∗ sv c (.dma (lsem false 1)) ∗ sv c (.dma (lsem false 2)))
    ∗ (sv c (.dma (lsem true 0)) ∗ sv c (.dma (lsem true 1)) ∗ sv c (.dma (lsem true 2)))
    ∗ ((sv c (.dma (ssem false 0 0)) ∗ sv c (.dma (ssem false 0 1))) ∗ sv c (.dma (ssem false 1 0)) ∗ sv c (.dma (ssem false 1 1)))
    ∗ ((sv c (.dma (ssem true 0 0)) ∗ sv c (.dma (ssem true 0 1))) ∗ sv c (.dma (ssem true 1 0)) ∗ sv c (.dma (ssem true 1 1)))
    ∗ sv c (.dma 28) ∗ (sv c (.dma (osem 0 0)) ∗ sv c (.dma (osem 0 1)) ∗ sv c (.dma (osem 0 2)))
    ∗ sv c (.dma (osem 1 0)) ∗ sv c (.dma (osem 1 1)) ∗ sv c (.dma (osem 1 2)))

theorem ownSems0_eq (c : Dev nD) : (Pipeline.ownSems0 (Ix := ℕ) (Name := ℕ) (U := UU) (Lvl := ℕ) (Val := Elt F) (τ := τ) ownS c : sProp 𝕄)
    = iprop(sv (F := F) c (.dma 0) ∗ sv c (.dma 1) ∗ sv c (.dma 2) ∗ sv c (.dma 3) ∗ sv c (.dma 4) ∗ sv c (.dma 5) ∗ sv c (.dma 6) ∗ sv c (.dma 7) ∗ sv c (.dma 8) ∗ sv c (.dma 9) ∗ sv c (.dma 10) ∗ sv c (.dma 11) ∗ sv c (.dma 12) ∗ sv c (.dma 13) ∗ sv c (.dma 14) ∗ sv c (.dma 15) ∗ sv c (.dma 16) ∗ sv c (.dma 17) ∗ sv c (.dma 18) ∗ sv c (.dma 19) ∗ sv c (.dma 20) ∗ sv c (.dma 21) ∗ sv c (.dma 22) ∗ sv c (.dma 23) ∗ sv c (.dma 24) ∗ sv c (.dma 25) ∗ sv c (.dma 26) ∗ sv c (.dma 27) ∗ sv c (.dma 28) ∗ sv c (.dma 29) ∗ sv c (.dma 30) ∗ sv c (.dma 31) ∗ sv c (.dma 32) ∗ sv c (.dma 33) ∗ sv c (.dma 34) ∗ sv c (.reg 0) ∗ sv c (.reg 1)) := by
  rw [Pipeline.ownSems0_eq_of_list c ownS [0, 1, 2, 3, 4, 5, 6, 7, 8, 9, 10, 11, 12, 13, 14, 15, 16, 17, 18, 19, 20, 21, 22, 23, 24, 25, 26, 27, 28, 29, 30, 31, 32, 33, 34, 35, 36] (by decide) (by decide)]; rfl
theorem unscopedSems0_eq (c : Dev nD) : (unscopedSems0 c : sProp 𝕄) = sv c (.reg barrier0) := by
  unfold unscopedSems0; rw [bigSep_eq_bigSepL_of_eq [SemLoc.reg barrier0] (by decide) (by decide)]; rfl
theorem cells_eq (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem sems_split (c : Dev nD) :
    iprop(Pipeline.ownSems0 (Ix := ℕ) (Name := ℕ) (U := UU) (Lvl := ℕ) (Val := Elt F) (τ := τ) ownS c ∗ unscopedSems0 c)
      ⊢ iprop((bigSep Finset.univ fun k : Fin 17 => sv (F := F) c (psem k)) ∗ Sm c) := by
  rw [ownSems0_eq, unscopedSems0_eq, cells_eq]
  unfold Sm
  iintro ⟨⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31, Hd32, Hd33, Hd34, Hr0, Hr1⟩, Hb⟩
  isplitl [Hb Hd3 Hd4 Hd5 Hd9 Hd10 Hd11 Hd16 Hd17 Hd18 Hd19 Hd24 Hd25 Hd26 Hd27 Hr0 Hr1]
  · isplitl [Hb]; · iexact Hb
    isplitl [Hd3]; · iexact Hd3
    isplitl [Hd4]; · iexact Hd4
    isplitl [Hd5]; · iexact Hd5
    isplitl [Hd9]; · iexact Hd9
    isplitl [Hd10]; · iexact Hd10
    isplitl [Hd11]; · iexact Hd11
    isplitl [Hd16]; · iexact Hd16
    isplitl [Hd17]; · iexact Hd17
    isplitl [Hd18]; · iexact Hd18
    isplitl [Hd19]; · iexact Hd19
    isplitl [Hd24]; · iexact Hd24
    isplitl [Hd25]; · iexact Hd25
    isplitl [Hd26]; · iexact Hd26
    isplitl [Hd27]; · iexact Hd27
    isplitl [Hr0]; · iexact Hr0
    iexact Hr1
  isplitl [Hd0 Hd1 Hd2]
  · isplitl [Hd0]; · iexact Hd0
    isplitl [Hd1]; · iexact Hd1
    iexact Hd2
  isplitl [Hd6 Hd7 Hd8]
  · isplitl [Hd6]; · iexact Hd6
    isplitl [Hd7]; · iexact Hd7
    iexact Hd8
  isplitl [Hd12 Hd13 Hd14 Hd15]
  · isplitl [Hd12 Hd13]
    · isplitl [Hd12]; · iexact Hd12
      iexact Hd13
    isplitl [Hd14]; · iexact Hd14
    iexact Hd15
  isplitl [Hd20 Hd21 Hd22 Hd23]
  · isplitl [Hd20 Hd21]
    · isplitl [Hd20]; · iexact Hd20
      iexact Hd21
    isplitl [Hd22]; · iexact Hd22
    iexact Hd23
  isplitl [Hd28]; · iexact Hd28
  isplitl [Hd29 Hd30 Hd31]
  · isplitl [Hd29]; · iexact Hd29
    isplitl [Hd30]; · iexact Hd30
    iexact Hd31
  isplitl [Hd32]; · iexact Hd32
  isplitl [Hd33]; · iexact Hd33
  iexact Hd34

theorem sems_join (c : Dev nD) :
    iprop((bigSep Finset.univ fun k : Fin 17 => sv (F := F) c (psem k)) ∗ Sm c)
      ⊢ iprop(unscopedSems0 c ∗ Pipeline.ownSems0 (Ix := ℕ) (Name := ℕ) (U := UU) (Lvl := ℕ) (Val := Elt F) (τ := τ) ownS c) := by
  rw [ownSems0_eq, unscopedSems0_eq, cells_eq]
  unfold Sm
  iintro ⟨⟨Hb, Hd3, Hd4, Hd5, Hd9, Hd10, Hd11, Hd16, Hd17, Hd18, Hd19, Hd24, Hd25, Hd26, Hd27, Hr0, Hr1⟩, ⟨⟨Hd0, Hd1, Hd2⟩, ⟨Hd6, Hd7, Hd8⟩, ⟨⟨Hd12, Hd13⟩, ⟨Hd14, Hd15⟩⟩, ⟨⟨Hd20, Hd21⟩, ⟨Hd22, Hd23⟩⟩, Hd28, ⟨Hd29, Hd30, Hd31⟩, ⟨Hd32, Hd33, Hd34⟩⟩⟩
  isplitl [Hb]; · iexact Hb
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  isplitl [Hd15]; · iexact Hd15
  isplitl [Hd16]; · iexact Hd16
  isplitl [Hd17]; · iexact Hd17
  isplitl [Hd18]; · iexact Hd18
  isplitl [Hd19]; · iexact Hd19
  isplitl [Hd20]; · iexact Hd20
  isplitl [Hd21]; · iexact Hd21
  isplitl [Hd22]; · iexact Hd22
  isplitl [Hd23]; · iexact Hd23
  isplitl [Hd24]; · iexact Hd24
  isplitl [Hd25]; · iexact Hd25
  isplitl [Hd26]; · iexact Hd26
  isplitl [Hd27]; · iexact Hd27
  isplitl [Hd28]; · iexact Hd28
  isplitl [Hd29]; · iexact Hd29
  isplitl [Hd30]; · iexact Hd30
  isplitl [Hd31]; · iexact Hd31
  isplitl [Hd32]; · iexact Hd32
  isplitl [Hd33]; · iexact Hd33
  isplitl [Hd34]; · iexact Hd34
  isplitl [Hr0]; · iexact Hr0
  iexact Hr1

/-! ## The ghost state -/

abbrev kcell (x : Dev nD × Fin 17) : GSem nD τ sig := cell x.1 x.2
theorem kcell_inj : Function.Injective kcell := fun x y h => Prod.ext (cell_eq.mp h).1 (cell_eq.mp h).2
abbrev ktok (x : Dev nD × Fin 100) : GSem nD τ sig × ℕ × ℕ := (cell x.1 (kx x.2.val), rnd x.2.val, x.2.val)
theorem ktok_inj : Function.Injective ktok := fun x y h =>
  Prod.ext (cell_eq.mp (congrArg (fun z : GSem nD τ sig × ℕ × ℕ => z.1) h)).1 (Fin.ext (congrArg (fun z : GSem nD τ sig × ℕ × ℕ => z.2.2) h))
def theCells : Finset (GSem nD τ sig) := Finset.univ.map ⟨kcell, kcell_inj⟩
def theToks : Finset (GSem nD τ sig × ℕ × ℕ) := Finset.univ.map ⟨ktok, ktok_inj⟩

/-- The ghost element of the launch. -/
def u₀ : UU :=
  (initOf (Pipeline.cells cfgs cellOf_inj) (Pipeline.launchToks cfgs cellOf_inj), (initOf theCells theToks, (Release.initSlots keys 1, 1)))

/-- The rights to pay a device's semaphores, as they are made. -/
def toks (c : Dev nD) : sProp 𝕄 := bigSep Finset.univ fun t : Fin 100 => dutyTok (ER (F := F)) (cell c (kx t.val)) (rnd t.val) t.val
/-- The counts of a device's slots, and the rights to refill its neighbours'. -/
def readers (c : Dev nD) : sProp 𝕄 :=
  iprop((bigSep (Finset.Ico 1 12) fun j => Release.readerAt (ES (F := F)) ((c, false, j) : Key) 0) ∗ bigSep (Finset.Ico 1 12) fun j => Release.readerAt (ES (F := F)) ((c, true, j) : Key) 0)
def writers (c : Dev nD) : sProp 𝕄 :=
  iprop((bigSep (Finset.Ico 1 12) fun j => Release.writeTok (ES (F := F)) ((nbr false c, false, j) : Key) 1) ∗ bigSep (Finset.Ico 1 12) fun j => Release.writeTok (ES (F := F)) ((nbr true c, true, j) : Key) 1)
/-- That the slots are given back under some names. -/
def slots : sProp 𝕄 := iprop(∃ ks : Key → ℕ, bigSep keys fun k => Release.slotInv (ES (F := F)) (ks k) k (Sl k))
instance slots_persistent : BI.Persistent (slots (F := F)) := by unfold slots; infer_instance

/-- What the launch element gives a device. -/
def G (c : Dev nD) : sProp 𝕄 :=
  iprop((bigSep Finset.univ fun k : Fin 17 => roundState (ER (F := F)) (Rd m) (cell c k) 0)
    ∗ (bigSep Finset.univ fun k : Fin 17 => iprop(atPos (ER (F := F)) (cell c k) 0 ∅ 0 ∗ reached (ER (F := F)) (cell c k) 0))
    ∗ toks c ∗ slots ∗ readers c ∗ writers c)

theorem own_pair {A B : Type} [URA A] [URA B] (E : Emb (A × B) (MT nD τ sig ℕ (Elt F) ℕ UU ℕ)) (a : A) (b : B) :
    BI.own (E (a, b)) ⊢ (iprop(BI.own (((Emb.inl : Emb A (A × B)).trans E) a) ∗ BI.own (((Emb.inr : Emb B (A × B)).trans E) b)) : sProp 𝕄) :=
  BI.own_op_elim (E.op_of_mem (Prod.mk_mem_op (URA.mem_op_one a) (URA.mem_one_op b)))

theorem bool_eq (Φ : Bool → sProp 𝕄) : bigSep Finset.univ Φ = iprop(Φ false ∗ Φ true) := bigSep_univ_eq_bigSepL [false, true] (by decide) (by decide) Φ

theorem big_product {α β : Type} [DecidableEq α] [DecidableEq β] (s : Finset α) (t : Finset β) (Φ : α × β → sProp 𝕄) :
    bigSep (s ×ˢ t) Φ = bigSep s fun a => bigSep t fun b => Φ (a, b) := by
  have e : s ×ˢ t = s.biUnion fun a => t.map ⟨fun b => (a, b), fun x y h => (Prod.mk.inj h).2⟩ := by
    ext ⟨a, b⟩
    simp only [Finset.mem_product, Finset.mem_biUnion, Finset.mem_map]
    refine ⟨fun ⟨h1, h2⟩ => ⟨a, h1, b, h2, rfl⟩, fun ⟨_, h1, _, h2, e⟩ => ?_⟩
    obtain ⟨e1, e2⟩ := Prod.mk.inj e
    exact ⟨e1 ▸ h1, e2 ▸ h2⟩
  rw [e, bigSep_biUnion_eq _ _ _ fun a _ a' _ hne => Finset.disjoint_left.mpr fun x h1 h2 => by
    obtain ⟨b, -, e1⟩ := Finset.mem_map.mp h1
    obtain ⟨b', -, e2⟩ := Finset.mem_map.mp h2
    exact hne ((congrArg Prod.fst e1).trans (congrArg Prod.fst e2).symm)]
  exact bigSep_congr fun a _ => by rw [bigSep_map]; rfl

theorem keys_eq (Φ : Key → sProp 𝕄) : bigSep keys Φ = bigSep Finset.univ fun c : Dev nD =>
    iprop((bigSep (Finset.Ico 1 12) fun j => Φ (c, false, j)) ∗ bigSep (Finset.Ico 1 12) fun j => Φ (c, true, j)) := by
  unfold keys
  rw [big_product]
  refine bigSep_congr fun c _ => ?_
  rw [big_product, bool_eq]

theorem keys1_eq (Φ : Key × ℕ → sProp 𝕄) : bigSep (keys ×ˢ Finset.range 1) Φ = bigSep keys fun k => Φ (k, 0) := by
  rw [big_product]
  refine bigSep_congr fun c _ => ?_
  rw [Finset.range_one, bigSep_singleton]

theorem writers_around (Φ : Key → sProp 𝕄) : bigSep keys Φ = bigSep Finset.univ fun c : Dev nD =>
    iprop((bigSep (Finset.Ico 1 12) fun j => Φ (nbr false c, false, j)) ∗ bigSep (Finset.Ico 1 12) fun j => Φ (nbr true c, true, j)) := by
  rw [keys_eq, bigSep_sep', bigSep_sep', bigSep_univ_equiv rightP (fun c : Dev nD => bigSep (Finset.Ico 1 12) fun j => Φ (c, false, j)),
    bigSep_univ_equiv leftP (fun c : Dev nD => bigSep (Finset.Ico 1 12) fun j => Φ (c, true, j))]
  rfl

theorem fund_cells : BI.own (ER (F := F) (initOf theCells theToks)) ⊢ (|==> bigSep Finset.univ fun c : Dev nD =>
      iprop((bigSep Finset.univ fun k : Fin 17 => roundState (ER (F := F)) (Rd m) (cell c k) 0)
        ∗ (bigSep Finset.univ fun k : Fin 17 => iprop(atPos (ER (F := F)) (cell c k) 0 ∅ 0 ∗ reached (ER (F := F)) (cell c k) 0)) ∗ toks c) : sProp 𝕄) := by
  have hX (Φ : GSem nD τ sig → sProp 𝕄) : bigSep theCells Φ = bigSep Finset.univ fun c : Dev nD => bigSep Finset.univ fun k : Fin 17 => Φ (cell c k) := by
    unfold theCells; rw [bigSep_map, bigSep_univ_prod]; rfl
  have hT : bigSep theToks (fun x => (dutyTok (ER (F := F)) x.1 x.2.1 x.2.2 : sProp 𝕄)) = bigSep Finset.univ fun c : Dev nD => toks c := by
    unfold theToks; rw [bigSep_map, bigSep_univ_prod]; rfl
  iintro HX
  imod (Rounds.fund (ER (F := F)) (Rd m) theCells theToks) $$ HX with ⟨Hst, Hr, Hat, Htok⟩
  imodintro
  ihave Hst := (Entails.of_eq (hX fun g => roundState (ER (F := F)) (Rd m) g 0)) $$ Hst
  ihave Hat := (Entails.of_eq (hX fun g => atPos (ER (F := F)) g 0 ∅ 0)) $$ Hat
  ihave Hr := (Entails.of_eq (hX fun g => reached (ER (F := F)) g 0)) $$ Hr
  ihave Htok := (Entails.of_eq hT) $$ Htok
  simp only [bigSep_sep']
  isplitl [Hst]; · iexact Hst
  isplitl [Hat Hr]
  · isplitl [Hat] <;> iassumption
  iexact Htok

theorem fund_slots : BI.own (ES (F := F) (Release.initSlots keys 1)) ⊢ (|={Set.univ}=> iprop(slots (F := F)
      ∗ (bigSep Finset.univ fun c : Dev nD => readers (F := F) c) ∗ bigSep Finset.univ fun c : Dev nD => writers (F := F) c) : sProp 𝕄) := by
  iintro H
  imod (Release.slots_init (Es := Set.univ) (ES (F := F)) keys 1 (Sl (F := F))) $$ H with ⟨%ks, -, HI, HR, HW⟩
  imodintro
  ihave HR := (Entails.of_eq (keys_eq fun k => Release.readerAt (ES (F := F)) k 0)) $$ HR
  ihave HW := (Entails.of_eq (keys1_eq fun x => Release.writeTok (ES (F := F)) x.1 (x.2 + 1))) $$ HW
  ihave HW := (Entails.of_eq (writers_around fun k => Release.writeTok (ES (F := F)) k (0 + 1))) $$ HW
  isplitl [HI]
  · unfold slots; iexists ks; iexact HI
  isplitl [HR]
  · iexact HR
  · iexact HW

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The launch element, shared out. -/
theorem fund_all : (ownU (u₀) : sProp 𝕄)
    ⊢ |={Set.univ}=> iprop(BI.own (EP (F := F) (initOf (Pipeline.cells cfgs cellOf_inj) (Pipeline.launchToks cfgs cellOf_inj))) ∗ bigSep Finset.univ (G (F := F) m)) := by
  unfold u₀
  iintro Hu
  ihave H := (ownU_pair _ _) $$ Hu
  icases H with ⟨HP, HX⟩
  ihave H := (own_pair (F := F) EX _ _) $$ HX
  icases H with ⟨HX, HY⟩
  ihave H := (own_pair (F := F) ((Emb.inr : Emb _ UX).trans EX) _ _) $$ HY
  icases H with ⟨HY, -⟩
  imod (fund_cells m) $$ HX with HG
  imod (fund_slots (F := F)) $$ HY with ⟨#HS, HR, HW⟩
  imodintro
  isplitl [HP]; · iexact HP
  iapply (with_persistent (R := slots (F := F)) (Φ := fun c => iprop(((bigSep Finset.univ fun k : Fin 17 => roundState (ER (F := F)) (Rd m) (cell c k) 0)
        ∗ (bigSep Finset.univ fun k : Fin 17 => iprop(atPos (ER (F := F)) (cell c k) 0 ∅ 0 ∗ reached (ER (F := F)) (cell c k) 0)) ∗ toks (F := F) c) ∗ readers (F := F) c ∗ writers (F := F) c)) (Ψ := G (F := F) m) fun c _ => by
    unfold G
    iintro ⟨HS, ⟨H1, H2, H3⟩, H4⟩
    isplitl [H1]; · iexact H1
    isplitl [H2]; · iexact H2
    isplitl [H3]; · iexact H3
    isplitl [HS]; · iexact HS
    iexact H4)
  isplitr; · iexact HS
  simp only [bigSep_sep']
  isplitl [HG]; · iexact HG
  isplitl [HR] <;> iassumption

/-! ## The global step -/

/-- What a device has once the invariants stand. -/
def G' (c : Dev nD) : sProp 𝕄 :=
  iprop(∃ (K : Dev nD × Fin 17 → ℕ) (ks : Key → ℕ), ((bigSep Finset.univ fun x : Dev nD × Fin 17 => cellInv (ER (F := F)) (Rd m) (K x) (cell x.1 x.2))
      ∗ (bigSep Finset.univ fun x : Dev nD × Fin 17 => reached (ER (F := F)) (cell x.1 x.2) 0)
      ∗ bigSep keys fun k => Release.slotInv (ES (F := F)) (ks k) k (Sl k))
    ∗ (bigSep Finset.univ fun k : Fin 17 => atPos (ER (F := F)) (cell c k) 0 ∅ 0) ∗ bigSep (Finset.Ico 0 T) (tokS (F := F) c)
    ∗ (slots (F := F) ∗ readers c ∗ writers c) ∗ Sm c)

theorem core_alloc (c : Dev nD) :
    iprop(Pipeline.ownSems0 (Ix := ℕ) (Name := ℕ) (U := UU) (Lvl := ℕ) (Val := Elt F) (τ := τ) ownS c ∗ unscopedSems0 c ∗ G m c)
      ⊢ |={Set.univ}=> iprop((bigSep Finset.univ fun k : Fin 17 => iprop(∃ κ : ℕ, cellInv (ER (F := F)) (Rd m) κ (cell c k)))
          ∗ (bigSep Finset.univ fun k : Fin 17 => reached (ER (F := F)) (cell c k) 0)
          ∗ (bigSep Finset.univ fun k : Fin 17 => atPos (ER (F := F)) (cell c k) 0 ∅ 0) ∗ toks c ∗ (slots ∗ readers c ∗ writers c) ∗ Sm c) := by
  unfold G
  rw [bigSep_sep']
  iintro ⟨Hos, Hus, Hst, ⟨Hat, Hr⟩, Htok, Hsl⟩
  ihave Hv := (sems_split (F := F) c) $$ [Hos Hus]
  · isplitl [Hos] <;> iassumption
  icases Hv with ⟨Hv, Hm⟩
  imod (show iprop((bigSep Finset.univ fun k : Fin 17 => sv (F := F) c (psem k)) ∗ bigSep Finset.univ fun k : Fin 17 => roundState (ER (F := F)) (Rd m) (cell c k) 0)
      ⊢ (|={Set.univ}=> bigSep Finset.univ fun k : Fin 17 => iprop(∃ κ : ℕ, cellInv (ER (F := F)) (Rd m) κ (cell c k)) : sProp 𝕄) from by
        rw [← bigSep_sep']
        exact (bigSep_mono fun k _ => (Rounds.body_intro (ER (F := F)) (Rd m) (cell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  isplitl [Hsl]; · iexact Hsl
  iexact Hm

theorem steps_eq (Φ : ℕ → sProp 𝕄) : (bigSep Finset.univ fun t : Fin 100 => Φ t.val) = bigSep (Finset.Ico 0 T) Φ := by
  have e : Finset.Ico 0 T = (Finset.univ : Finset (Fin 100)).map ⟨fun t => t.val, Fin.val_injective⟩ := by
    have hT : T = 100 := rfl
    ext t
    simp only [Finset.mem_Ico, Finset.mem_map, Finset.mem_univ, true_and, Function.Embedding.coeFn_mk]
    exact ⟨fun h => ⟨⟨t, by omega⟩, rfl⟩, fun ⟨x, hx⟩ => by have := x.isLt; omega⟩
  rw [e, bigSep_map]; rfl

/-- The rights to pay go to the payers. -/
theorem toks_around : (bigSep Finset.univ fun c : Dev nD => (toks c : sProp 𝕄)) = bigSep Finset.univ fun c : Dev nD => bigSep (Finset.Ico 0 T) (tokS (F := F) c) := by
  unfold toks
  rw [Pipeline.bigSep_univ_comm,
    bigSep_congr (s := Finset.univ) (fun (t : Fin 100) _ => bigSep_univ_equiv (pi t.val) fun c : Dev nD => (dutyTok (ER (F := F)) (cell c (kx t.val)) (rnd t.val) t.val : sProp 𝕄)),
    Pipeline.bigSep_univ_comm]
  exact bigSep_congr fun c _ => steps_eq (tokS (F := F) c)

theorem regroup : (bigSep Finset.univ fun c : Dev nD => iprop((bigSep Finset.univ fun k : Fin 17 => iprop(∃ κ : ℕ, cellInv (ER (F := F)) (Rd m) κ (cell c k)))
          ∗ (bigSep Finset.univ fun k : Fin 17 => reached (ER (F := F)) (cell c k) 0)
          ∗ (bigSep Finset.univ fun k : Fin 17 => atPos (ER (F := F)) (cell c k) 0 ∅ 0) ∗ toks c ∗ (slots ∗ readers c ∗ writers c) ∗ Sm c) : sProp 𝕄)
    ⊢ bigSep Finset.univ (G' m) := by
  rw [bigSep_sep', bigSep_sep', ← bigSep_univ_prod (fun x : Dev nD × Fin 17 => iprop(∃ κ : ℕ, cellInv (ER (F := F)) (Rd m) κ (cell x.1 x.2))),
    ← bigSep_univ_prod (fun x : Dev nD × Fin 17 => (reached (ER (F := F)) (cell x.1 x.2) 0 : sProp 𝕄)), bigSep_sep', bigSep_sep', toks_around]
  iintro ⟨HI, #HR, Hat, Htok, Hrest⟩
  ihave HK := (BI.bigSep_exists_pi Finset.univ (fun (x : Dev nD × Fin 17) (κ : ℕ) => (cellInv (ER (F := F)) (Rd m) κ (cell x.1 x.2) : sProp 𝕄))) $$ HI
  icases HK with ⟨%K, #HI⟩
  iapply (with_persistent (R := iprop((bigSep Finset.univ fun x : Dev nD × Fin 17 => cellInv (ER (F := F)) (Rd m) (K x) (cell x.1 x.2)) ∗ bigSep Finset.univ fun x : Dev nD × Fin 17 => reached (ER (F := F)) (cell x.1 x.2) 0))
    (Φ := fun c => iprop((bigSep Finset.univ fun k : Fin 17 => atPos (ER (F := F)) (cell c k) 0 ∅ 0) ∗ bigSep (Finset.Ico 0 T) (tokS (F := F) c) ∗ (slots (F := F) ∗ readers c ∗ writers c) ∗ Sm c))
    (Ψ := G' (F := F) m) fun c _ => by
    unfold G'
    iintro ⟨⟨HI, HR⟩, Hat, Htok, ⟨#HS, Hsl⟩, Hm⟩
    ihave HS' := (show slots (F := F) ⊢ iprop(∃ ks : Key → ℕ, bigSep keys fun k => Release.slotInv (ES (F := F)) (ks k) k (Sl k)) from Entails.rfl) $$ HS
    icases HS' with ⟨%ks, HS'⟩
    iexists K
    iexists ks
    isplitl [HI HR HS']
    · isplitl [HI]; · iexact HI
      isplitl [HR] <;> iassumption
    isplitl [Hat]; · iexact Hat
    isplitl [Htok]; · iexact Htok
    isplitl [Hsl]
    · isplitr; · iexact HS
      iexact Hsl
    iexact Hm)
  isplitr
  · isplitl; · iexact HI
    iexact HR
  simp only [bigSep_sep']
  isplitl [Hat]; · iexact Hat
  isplitl [Htok]; · iexact Htok
  iexact Hrest

theorem glob : (bigSep Finset.univ fun c => iprop(Pipeline.ownSems0 (Ix := ℕ) (Name := ℕ) (U := UU) (Lvl := ℕ) (Val := Elt F) (τ := τ) ownS c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Gather
-- ==== Proof.Bufs.lean ====
/-
  The buffers and semaphores a device is handed, cut to its first state.
-/
module

public import proofs.«01_k».proof.Proof.Marks

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

/-! ## The buffers, cut and put together -/

theorem col_cut (c : Dev nD) (X : S2048x8192.Idx → Elt F .bf16) (q : PosShare TreeShare) : colPts c Finset.univ q X = bigSep (Finset.range 4) fun z => colPts (F := F) c (blk z) q X := by
  have h : (_ : sProp 𝕄) = _ := pointsTo_biUnion (ℓ := (c : Thread nD τ).loc cc0_scratch0) (q := q) (f := X) (Finset.range 4) (fun z => blk z)
    (fun a _ b _ hab => Finset.disjoint_left.mpr fun i h1 h2 => hab (by
      have e1 := (Finset.mem_filter.mp h1).2
      have e2 := (Finset.mem_filter.mp h2).2
      omega))
  unfold colPts
  rw [← h]
  refine congrArg (fun I => ((((c : Thread nD τ).loc cc0_scratch0) ↦[I]{q} X) : sProp 𝕄)) ?_
  ext i
  simp only [Finset.mem_univ, Finset.mem_biUnion, Finset.mem_range, true_iff]
  have := (i 0).isLt
  refine ⟨(i 0).val / 512, ?_, Finset.mem_filter.mpr ⟨Finset.mem_univ _, ?_, ?_⟩⟩
  · have h' : (i 0).val < 2048 := this
    omega
  · omega
  · omega

theorem col_four (c : Dev nD) : exC (F := F) c Finset.univ ⊢ iprop(exC c (blk 0) ∗ exC c (blk 1) ∗ exC c (blk 2) ∗ exC c (blk 3)) := by
  unfold exC
  iintro ⟨%X, H⟩
  ihave H := (Entails.of_eq ((col_cut c X fullShare).trans (bigSep_eq_bigSepL_of_eq (S := Finset.range 4) [0, 1, 2, 3] (by decide) (by decide) (fun z => colPts (F := F) c (blk z) fullShare X)))) $$ H
  ihave H := (show (bigSepL [0, 1, 2, 3] fun z => colPts (F := F) c (blk z) fullShare X) ⊢ iprop(colPts c (blk 0) fullShare X ∗ colPts c (blk 1) fullShare X ∗ colPts c (blk 2) fullShare X ∗ colPts c (blk 3) fullShare X) from Entails.rfl) $$ H
  icases H with ⟨H0, H1, H2, H3⟩
  isplitl [H0]; · iexists X; iexact H0
  isplitl [H1]; · iexists X; iexact H1
  isplitl [H2]; · iexists X; iexact H2
  iexists X; iexact H3

theorem exC_at (c : Dev nD) {a b : ℕ} (h : a = b) : exC (F := F) c (blk a) ⊢ exC c (blk b) := by subst h; exact Entails.rfl

/-- The own block, the blocks above it, and those below. -/
theorem col_place (c : Dev nD) : ∀ z < 4, exC (F := F) c Finset.univ ⊢ iprop(exC c (blk z)
    ∗ (bigSep (Finset.range (3 - z)) fun r => exC c (blk (z + 1 + r))) ∗ bigSep (Finset.range z) fun r => exC c (blk (z - 1 - r))) := by
  intro z hz
  refine (col_four c).trans ?_
  have hz : z = 0 ∨ z = 1 ∨ z = 2 ∨ z = 3 := by omega
  rcases hz with rfl | rfl | rfl | rfl
  · rw [show 3 - 0 = 0 + 1 + 1 + 1 from rfl]
    simp only [big_range, Finset.range_zero, bigSep_empty]
    iintro ⟨H0, H1, H2, H3⟩
    isplitl [H0]; · iexact H0
    isplitl
    · isplitl [H3]; · iapply (exC_at c rfl) $$ H3
      isplitl [H2]; · iapply (exC_at c rfl) $$ H2
      isplitl; · iapply (exC_at c rfl) $$ H1
      iempintro
    · iempintro
  · rw [show 3 - 1 = 0 + 1 + 1 from rfl, show Finset.range 1 = Finset.range (0 + 1) from rfl]
    simp only [big_range, Finset.range_zero, bigSep_empty]
    iintro ⟨H0, H1, H2, H3⟩
    isplitl [H1]; · iexact H1
    isplitl [H2 H3]
    · isplitl [H3]; · iapply (exC_at c rfl) $$ H3
      isplitl; · iapply (exC_at c rfl) $$ H2
      iempintro
    · isplitl; · iapply (exC_at c rfl) $$ H0
      iempintro
  · rw [show 3 - 2 = 0 + 1 from rfl, show Finset.range 2 = Finset.range (0 + 1 + 1) from rfl]
    simp only [big_range, Finset.range_zero, bigSep_empty]
    iintro ⟨H0, H1, H2, H3⟩
    isplitl [H2]; · iexact H2
    isplitl [H3]
    · isplitl; · iapply (exC_at c rfl) $$ H3
      iempintro
    · isplitl [H0]; · iapply (exC_at c rfl) $$ H0
      isplitl; · iapply (exC_at c rfl) $$ H1
      iempintro
  · rw [show 3 - 3 = 0 from rfl, show Finset.range 3 = Finset.range (0 + 1 + 1 + 1) from rfl]
    simp only [big_range, Finset.range_zero, bigSep_empty]
    iintro ⟨H0, H1, H2, H3⟩
    isplitl [H3]; · iexact H3
    isplitr; · iempintro
    isplitl [H0]; · iapply (exC_at c rfl) $$ H0
    isplitl [H1]; · iapply (exC_at c rfl) $$ H1
    isplitl; · iapply (exC_at c rfl) $$ H2
    iempintro

theorem up_facts : ∀ c : Dev nD, (zc c < 3 → zc (upD c) = zc c + 1) ∧ (0 < zc c → zc (downD c) = zc c - 1) ∧ zc c < 4 ∧ downD (upD c) = c ∧ upD (downD c) = c
    ∧ leftD (rightD c) = c ∧ rightD (leftD c) = c := by decide

theorem pay2_eq (c : Dev nD) : (bigSep (Finset.range (3 - zc c)) fun r => exC (F := F) c (blk (zc c + 1 + r))) ⊢ PayIf m 2 c := by
  obtain ⟨hu, -, h4, hd, -⟩ := up_facts c
  have ha : amt 2 c = if zc c < 3 then 1 else 0 := rfl
  unfold PayIf
  by_cases h : zc c < 3
  · rw [ha, if_pos h, if_pos rfl]
    show _ ⊢ bigSep (Finset.range (4 - zc (upD c))) fun r => exC (F := F) (downD (upD c)) (blk (zc (upD c) + r))
    rw [hd, hu h, show 4 - (zc c + 1) = 3 - zc c by omega]
  · rw [ha, if_neg h, if_neg (by decide)]
    iintro -
    iempintro

theorem pay3_eq (c : Dev nD) : (bigSep (Finset.range (zc c)) fun r => exC (F := F) c (blk (zc c - 1 - r))) ⊢ PayIf m 3 c := by
  obtain ⟨-, hu, h4, -, hd, -⟩ := up_facts c
  have ha : amt 3 c = if 0 < zc c then 1 else 0 := rfl
  unfold PayIf
  by_cases h : 0 < zc c
  · rw [ha, if_pos h, if_pos rfl]
    show _ ⊢ bigSep (Finset.range (zc (downD c) + 1)) fun r => exC (F := F) (upD (downD c)) (blk (zc (downD c) - r))
    rw [hd, hu h, show zc c - 1 + 1 = zc c by omega]
  · rw [ha, if_neg h, if_neg (by decide)]
    iintro -
    iempintro

theorem col_start (c : Dev nD) : exC (F := F) c Finset.univ ⊢ iprop(colN m c 0 ∗ PayIf m 2 c ∗ PayIf m 3 c) := by
  refine (col_place c (zc c) (up_facts c).2.2.1).trans ?_
  iintro ⟨H, H2, H3⟩
  isplitl [H]
  · unfold exC colN
    icases H with ⟨%X, H⟩
    iexists X
    isplitr; · ipureintro; intro i hi hlt; have := (Finset.mem_filter.mp hi).2; omega
    iexact H
  isplitl [H2]
  · iapply (pay2_eq m c) $$ H2
  · iapply (pay3_eq m c) $$ H3

theorem rowsR_univ : (Finset.univ : Finset S2x256x8192.Idx) = rowsR 0 0 256 ∪ rowsR 1 0 256 := by
  ext i
  have h0 : (i 0).val < 2 := (i 0).isLt
  have h1 : (i 1).val < 256 := (i 1).isLt
  simp only [Finset.mem_univ, Finset.mem_union, rowsR, Finset.mem_filter, _root_.true_and, true_iff]
  omega
theorem rowsR_slots : Disjoint (rowsR 0 0 256) (rowsR 1 0 256) := Finset.disjoint_left.mpr fun i h1 h2 => by
  have e1 := (Finset.mem_filter.mp h1).2
  have e2 := (Finset.mem_filter.mp h2).2
  omega

theorem ring_cut (d : Bool) (c : Dev nD) : exR (F := F) d c Finset.univ ⊢ iprop(exR d c (rowsR 0 0 256) ∗ exR d c (rowsR 1 0 256)) := by
  unfold exR
  iintro ⟨%X, H⟩
  ihave H := (show ringPts d c Finset.univ fullShare X ⊢ iprop(ringPts (F := F) d c (rowsR 0 0 256) fullShare X ∗ ringPts d c (rowsR 1 0 256) fullShare X) from by
    rw [rowsR_univ]
    cases d
    · exact (pointsTo_union rowsR_slots).1
    · exact (pointsTo_union rowsR_slots).1) $$ H
  icases H with ⟨H0, H1⟩
  isplitl [H0]
  · iexists X; iexact H0
  · iexists X; iexact H1

theorem ring_join (d : Bool) (c : Dev nD) : RgB (F := F) d c ⊢ exR d c Finset.univ := by
  unfold RgB exR
  iintro ⟨⟨%X, HX⟩, %Y, HY⟩
  iexists ((rowsR 1 0 256).piecewise Y X)
  rw [rowsR_univ]
  iapply (show iprop(ringPts (F := F) d c (rowsR 0 0 256) fullShare X ∗ ringPts d c (rowsR 1 0 256) fullShare Y) ⊢ ringPts d c (rowsR 0 0 256 ∪ rowsR 1 0 256) fullShare ((rowsR 1 0 256).piecewise Y X) from by
    cases d
    · exact pointsTo_join rowsR_slots
    · exact pointsTo_join rowsR_slots)
  isplitl [HX] <;> iassumption

theorem exB_cut (c : Dev nD) {I J : Finset S2x1024x256.Idx} (h : Disjoint I J) : exB (F := F) c (I ∪ J) ⊢ iprop(exB c I ∗ exB c J) := by
  unfold exB obPts
  iintro ⟨%X, H⟩
  ihave H := (pointsTo_union h).1 $$ H
  icases H with ⟨H0, H1⟩
  isplitl [H0]
  · iexists X; iexact H0
  · iexists X; iexact H1
theorem exB_glue (c : Dev nD) {I J : Finset S2x1024x256.Idx} (h : Disjoint I J) : iprop(exB (F := F) c I ∗ exB c J) ⊢ exB c (I ∪ J) := by
  unfold exB obPts
  iintro ⟨⟨%X, HX⟩, %Y, HY⟩
  iexists (J.piecewise Y X)
  iapply (pointsTo_join h)
  isplitl [HX] <;> iassumption

/-- Slot `p` of the buffer of products. -/
def obHalf (p : ℕ) : Finset S2x1024x256.Idx := (rowsB p 0 256 ∪ rowsB p 256 256) ∪ rowsB p 512 512
theorem obHalf_univ : (Finset.univ : Finset S2x1024x256.Idx) = obHalf 0 ∪ obHalf 1 := by
  ext i
  have h0 : (i 0).val < 2 := (i 0).isLt
  have h1 : (i 1).val < 1024 := (i 1).isLt
  simp only [Finset.mem_univ, obHalf, Finset.mem_union, rowsB, Finset.mem_filter, _root_.true_and, true_iff]
  omega
theorem obHalf_disj : Disjoint (obHalf 0) (obHalf 1) := Finset.disjoint_left.mpr fun i h1 h2 => by
  simp only [obHalf, Finset.mem_union, rowsB, Finset.mem_filter, Finset.mem_univ, _root_.true_and] at h1 h2
  omega
theorem obHalf_d1 (p : ℕ) : Disjoint (rowsB p 0 256 ∪ rowsB p 256 256) (rowsB p 512 512) := Finset.disjoint_left.mpr fun i h1 h2 => by
  simp only [Finset.mem_union, rowsB, Finset.mem_filter, Finset.mem_univ, _root_.true_and] at h1 h2
  omega
theorem obHalf_d2 (p : ℕ) : Disjoint (rowsB p 0 256) (rowsB p 256 256) := Finset.disjoint_left.mpr fun i h1 h2 => by
  simp only [rowsB, Finset.mem_filter, Finset.mem_univ, _root_.true_and] at h1 h2
  omega

/-- The three windows of a slot. -/
def Wn (c : Dev nD) (p : ℕ) : sProp 𝕄 := iprop(exB (F := F) c (rowsB p 0 256) ∗ exB c (rowsB p 256 256) ∗ exB c (rowsB p 512 512))

theorem slot_cut (c : Dev nD) (p : ℕ) : exB (F := F) c (obHalf p) ⊢ Wn c p := by
  unfold obHalf Wn
  iintro H
  ihave H := (exB_cut c (obHalf_d1 p)) $$ H
  icases H with ⟨H, H2⟩
  ihave H := (exB_cut c (obHalf_d2 p)) $$ H
  icases H with ⟨H0, H1⟩
  isplitl [H0]; · iexact H0
  isplitl [H1] <;> iassumption
theorem slot_glue (c : Dev nD) (p : ℕ) : Wn (F := F) c p ⊢ exB c (obHalf p) := by
  unfold obHalf Wn
  iintro ⟨H0, H1, H2⟩
  iapply (exB_glue c (obHalf_d1 p))
  isplitr [H2]
  · iapply (exB_glue c (obHalf_d2 p))
    isplitl [H0] <;> iassumption
  · iexact H2
theorem ob_cut (c : Dev nD) : exB (F := F) c Finset.univ ⊢ iprop(Wn c 0 ∗ Wn c 1) := by
  rw [obHalf_univ]
  refine (exB_cut c obHalf_disj).trans ?_
  iintro ⟨H0, H1⟩
  isplitl [H0]
  · iapply (slot_cut c 0) $$ H0
  · iapply (slot_cut c 1) $$ H1
theorem ob_glue (c : Dev nD) : iprop(Wn (F := F) c 0 ∗ Wn c 1) ⊢ exB c Finset.univ := by
  rw [obHalf_univ]
  iintro ⟨H0, H1⟩
  iapply (exB_glue c obHalf_disj)
  isplitl [H0]
  · iapply (slot_glue c 0) $$ H0
  · iapply (slot_glue c 1) $$ H1

/-! ## The first state -/

theorem oh_start (c : Dev nD) (p e : ℕ) (he : e < 2) (hp : p = e % 2) :
    iprop((sv (F := F) c (.dma (osem p 0)) ∗ sv c (.dma (osem p 1)) ∗ sv c (.dma (osem p 2))) ∗ Wn (F := F) c p) ⊢ Oh m c e := by
  subst hp
  unfold Wn Oh
  iintro ⟨⟨H0, H1, H2⟩, HA, HB, HC⟩
  isplitl [H0 HA]
  · iapply (noR m false c (by omega))
    unfold FrR
    isplitl [H0]; · iexact H0
    iexact HA
  isplitl [H1 HB]
  · iapply (noR m true c (by omega))
    unfold FrR
    isplitl [H1]; · iexact H1
    iexact HB
  · iapply (noL m c (by omega))
    unfold FrL
    isplitl [H2]; · iexact H2
    iexact HC

theorem ob_end (c : Dev nD) (p : ℕ) : ObZ (F := F) c p ⊢ iprop((sv (F := F) c (.dma (osem p 0)) ∗ sv c (.dma (osem p 1)) ∗ sv c (.dma (osem p 2))) ∗ Wn (F := F) c p) := by
  unfold ObZ FrR FrL Wn
  iintro ⟨⟨H0, HA⟩, ⟨H1, HB⟩, H2, HC⟩
  isplitl [H0 H1 H2]
  · isplitl [H0]; · iexact H0
    isplitl [H1]; · iexact H1
    iexact H2
  isplitl [HA]; · iexact HA
  isplitl [HB]; · iexact HB
  iexact HC

theorem posS_of (c : Dev nD) {t : ℕ} {k : Fin 17} (hk : kx t = k) (hr : rnd t = 0) : atPos (ER (F := F)) (cell c k) 0 ∅ 0 ⊢ posS c t := by
  unfold posS; rw [hk, hr]
theorem sv_of (c : Dev nD) {t : ℕ} {k : Fin 17} (hk : kx t = k) : semVal (Lvl := ℕ) (Name := ℕ) (U := UU) (Ix := ℕ) (Val := Elt F) (cell c (kx t)) 0 ⊢ sv c (psem k) := by
  rw [hk]
theorem cpos_zero (d : Bool) (c : Dev nD) {k : Fin 17} (hk : kc d = k) : atPos (ER (F := F)) (cell c k) 0 ∅ 0 ⊢ cpos d c 0 := by
  subst hk
  rw [cpos_lt (by decide)]
  iintro H
  iexists ∅
  isplitr; · ipureintro; exact ⟨Finset.empty_subset _, Nat.zero_le _⟩
  isplitl; · iexact H
  rw [bigSep_empty]; iempintro

/-- The places of a device's semaphores at the start, of one direction of the line and of one of the ring. -/
def PsL (d : Bool) (c : Dev nD) : sProp 𝕄 := iprop(posS (F := F) c (st (3 * 0) (li d)) ∗ posS c (st (3 * 1) (li d)) ∗ posS c (st (3 * 2) (li d)))
def PsR (d : Bool) (c : Dev nD) : sProp 𝕄 :=
  iprop(cpos (F := F) d c 0 ∗ (posS c (st 0 (si d 0)) ∗ posS c (st 0 (si d 1))) ∗ (posS c (st 1 (si d 0)) ∗ posS c (st 1 (si d 1))))

theorem places (c : Dev nD) : (bigSep Finset.univ fun k : Fin 17 => atPos (ER (F := F)) (cell c k) 0 ∅ 0)
    ⊢ iprop(posS (F := F) c 0 ∗ (PsL false c ∗ PsL true c) ∗ PsR false c ∗ PsR true c) := by
  rw [cells_eq]
  unfold PsL PsR
  iintro ⟨H0, H1, H2, H3, H4, H5, H6, H7, H8, H9, H10, H11, H12, H13, H14, H15, H16⟩
  isplitl [H0]; · iapply (posS_of c (by decide) (by decide)) $$ H0
  isplitl [H1 H2 H3 H4 H5 H6]
  · isplitl [H1 H2 H3]
    · isplitl [H1]; · iapply (posS_of c (k := 1) (by decide) (by decide)) $$ H1
      isplitl [H2]; · iapply (posS_of c (k := 2) (by decide) (by decide)) $$ H2
      iapply (posS_of c (k := 3) (by decide) (by decide)) $$ H3
    · isplitl [H4]; · iapply (posS_of c (k := 4) (by decide) (by decide)) $$ H4
      isplitl [H5]; · iapply (posS_of c (k := 5) (by decide) (by decide)) $$ H5
      iapply (posS_of c (k := 6) (by decide) (by decide)) $$ H6
  isplitl [H7 H8 H9 H10 H15]
  · isplitl [H15]; · iapply (cpos_zero false c (k := 15) (by decide)) $$ H15
    isplitl [H9 H10]
    · isplitl [H9]; · iapply (posS_of c (k := 9) (by decide) (by decide)) $$ H9
      iapply (posS_of c (k := 10) (by decide) (by decide)) $$ H10
    · isplitl [H7]; · iapply (posS_of c (k := 7) (by decide) (by decide)) $$ H7
      iapply (posS_of c (k := 8) (by decide) (by decide)) $$ H8
  · isplitl [H16]; · iapply (cpos_zero true c (k := 16) (by decide)) $$ H16
    isplitl [H13 H14]
    · isplitl [H13]; · iapply (posS_of c (k := 13) (by decide) (by decide)) $$ H13
      iapply (posS_of c (k := 14) (by decide) (by decide)) $$ H14
    · isplitl [H11]; · iapply (posS_of c (k := 11) (by decide) (by decide)) $$ H11
      iapply (posS_of c (k := 12) (by decide) (by decide)) $$ H12

theorem line_start (d : Bool) (c : Dev nD) : iprop(CrL (F := F) d c ∗ PsL d c ∗ (sv (F := F) c (.dma (lsem d 0)) ∗ sv c (.dma (lsem d 1)) ∗ sv c (.dma (lsem d 2))))
    ⊢ iprop(LnS d c 0 ∗ LnS d c 1 ∗ LnS d c 2) := by
  unfold CrL PsL LnS
  iintro ⟨⟨C0, C1, C2⟩, ⟨P0, P1, P2⟩, S0, S1, S2⟩
  isplitl [C0 P0 S0]
  · isplitr [S0]
    · isplitl [C0] <;> iassumption
    · iexact S0
  isplitl [C1 P1 S1]
  · isplitr [S1]
    · isplitl [C1] <;> iassumption
    · iexact S1
  · isplitr [S2]
    · isplitl [C2] <;> iassumption
    · iexact S2

theorem ring_start (d : Bool) (c : Dev nD) : iprop(CrR (F := F) d c ∗ PsR d c
      ∗ (bigSep (Finset.Ico 1 12) fun j => Release.readerAt (ES (F := F)) ((c, d, j) : Key) 0)
      ∗ (bigSep (Finset.Ico 1 12) fun j => Release.writeTok (ES (F := F)) ((nbr d c, d, j) : Key) 1)
      ∗ ((sv (F := F) c (.dma (ssem d 0 0)) ∗ sv c (.dma (ssem d 0 1))) ∗ sv c (.dma (ssem d 1 0)) ∗ sv c (.dma (ssem d 1 1)))
      ∗ exR (F := F) d c (rowsR 0 0 256)) ⊢ RgS d c := by
  unfold CrR PsR RgS Rest
  iintro ⟨⟨HC, HC'⟩, ⟨HP, HQ, HQ'⟩, HR, HW, ⟨HS, HS0, HS1⟩, HE⟩
  isplitr [HQ' HS HE]
  · isplitl [HP]; · iexact HP
    isplitl [HC]; · iexact HC
    isplitl [HC']; · iexact HC'
    isplitl [HQ]; · iexact HQ
    isplitl [HR]; · iexact HR
    isplitl [HW]; · iexact HW
    isplitr [HS0 HS1]
    · rw [Finset.range_zero, bigSep_empty]; iempintro
    isplitl [HS0]; · iexact HS0
    iexact HS1
  isplitl [HQ']; · iexact HQ'
  isplitl [HS] <;> iassumption

end Cert.KernelIdeal.Gather
-- ==== Proof.Body.lean ====
/-
  One device's run of the kernel, a rule for each of its steps in the program's order.
-/
module

public import proofs.«01_k».proof.Proof.Parts

@[expose] public section

set_option maxRecDepth 4000

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

theorem last_blocks (c : Dev nD) : iprop((Bl m false c 0 fullShare.left.left ∗ Bl m true c 0 fullShare.left.right) ∗ (Bl m false c 1 fullShare.left ∗ Bl m true c 1 fullShare.left)
    ∗ (Bl m false c 2 fullShare.left ∗ Bl m true c 2 fullShare.left) ∗ (Bl m false c 3 fullShare.left ∗ Bl m true c 3 fullShare.left) ∗ Sh m fullShare.right c 3)
      ⊢ colPts c Finset.univ fullShare (CB m c) := by
  rw [Bl_zero, Bl_zero]
  iintro ⟨H0, H1, H2, H3, HS⟩
  iapply (colPts_share c _ _ fullShare).2
  isplitr [HS]
  · iapply (Sh_fill m c fullShare.left)
    isplitl [H0]
    · rw [Sh_zero]
      iapply (colPts_share c _ _ fullShare.left).2
      iexact H0
    isplitl [H1]; · iexact H1
    isplitl [H2] <;> iassumption
  · rw [← Sh_three m c]
    iexact HS

theorem last_slot (d : Bool) (c : Dev nD) : iprop(Hf m d c 12 0 fullShare ∗ Hf m d c 12 1 fullShare) ⊢ exR (F := F) d c (rowsR 0 0 256) := by
  iintro H
  ihave H := (Hf_join m d c 12 fullShare) $$ H
  unfold exR
  iexists (SR m d c 11)
  iexact H

theorem wp_done (c : Dev nD) (Q : PUnit → sProp 𝕄) : Q ⟨⟩ ⊢ WP c (.ret PUnit.unit) Q := by
  unfold WP
  rw [wp_ret]
  exact fupd_intro

set_option maxHeartbeats 8000000 in
/-- One device's run, from the state it starts in to the state it ends in. -/
theorem body_run (c : Dev nD) (t) (Q : PUnit → sProp 𝕄) :
    iprop(Ctx m K ks ∗ Start m c) ⊢ iprop((Done m c -∗ Q ⟨⟩) -∗ WP c (bodyAt0 (F := F) t) Q) := by
  iintro ⟨#HC, HS⟩ Hk
  unfold Start LnS RgS
  icases HS with ⟨Hf, ⟨HP0, HP1, HP2, HP3⟩, ⟨Hcr, Hpb⟩, ⟨⟨Hc00, Hl00⟩, Hc01, Hl01⟩, ⟨⟨Hc10, Hl10⟩, Hc11, Hl11⟩, ⟨⟨Hc20, Hl20⟩, Hc21, Hl21⟩, ⟨⟨HR0, Hn0, Hv0, He0⟩, HR1, Hn1, Hv1, He1⟩, ⟨HX, HW, Hsg, Hcol, Hwb⟩, HO, HOs⟩
  unfold bodyAt0
  simp only [cc0_body_eq_skeleton]
  unfold cc0_body_skel
  simp only [k0_part91_eq_skeleton]
  unfold k0_part91_skel
  simp only [k0_part1_eq_skeleton]
  unfold k0_part1_skel
  simp only [semSignalWord, semWaitWord, Prog.lift, Prog.bind_op, Prog.bind_ret, Prog.pure_eq_ret, wp_deviceId, Prog.bind_assoc]
  simp only [k0_part2_eq_skeleton, k0_part3_eq_skeleton, k0_part4_eq_skeleton]
  unfold k0_part2_skel k0_part3_skel k0_part4_skel
  simp only [semSignalWord, semWaitWord, Prog.lift, Prog.bind_op, Prog.bind_ret, Prog.pure_eq_ret, wp_deviceId, Prog.bind_assoc]
  try simp only [opt_join, Prog.bind_assoc, Prog.bind_ret]
  iapply (paySig m K ks (t := 0) (by decide) (by exact dev_L c _) (by decide +revert +kernel) (by rfl) (by rfl)) $$ [Hf HP0]
  · isplitr; · iexact HC
    isplitl [Hf]; · iexact Hf
    iexact HP0
  iintro Hf
  iapply (paySig m K ks (t := 1) (by decide) (by exact dev_R c _) (by decide +revert +kernel) (by rfl) (by rfl)) $$ [Hf HP1]
  · isplitr; · iexact HC
    isplitl [Hf]; · iexact Hf
    iexact HP1
  iintro Hf
  iapply (barSignal m K ks c 2 (.inl rfl) (by exact (cond_U c).trans (amt2 c).symm) (fun h => amt2' c fun h' => h ((cond_U c).mpr h')) (fun h => by exact dev_U c ((cond_U c).mp (by exact h)) _) (by rfl) (by rfl)) $$ [Hf HP2]
  · isplitr; · iexact HC
    isplitl [Hf]; · iexact Hf
    iexact HP2
  iintro Hf
  iapply (barSignal m K ks c 3 (.inr rfl) (by exact (cond_D c).trans (amt3 c).symm) (fun h => amt3' c fun h' => h ((cond_D c).mpr h')) (fun h => by exact dev_D c ((cond_D c).mp (by exact h)) _) (by rfl) (by rfl)) $$ [Hf HP3]
  · isplitr; · iexact HC
    isplitl [Hf]; · iexact Hf
    iexact HP3
  iintro Hf
  iapply (barWaits m K ks c (by decide +revert +kernel) (by decide +revert +kernel) (by rfl) (by rfl) (by rfl) (by rfl)) $$ [Hf Hcr Hpb]
  · isplitr; · iexact HC
    isplitl [Hf]; · iexact Hf
    isplitl [Hcr]; · iexact Hcr
    iexact Hpb
  iintro ⟨Hf, ⟨Hs0, Hs1, Ht0, Ht1⟩, Hz⟩
  iapply (stageX m K ks c 0 (u := st 0 0) (by decide) (by rfl) (by exact off1 c 0) (by decide) (by rfl) (fun v x => by exact pay1_tb v x)) $$ [Hf HX Hsg Hcol]
  · isplitr; · iexact HC
    isplitl [Hf]; · iexact Hf
    isplitl [HX]; · iexact HX
    isplitl [Hsg]; · iexact Hsg
    iexact Hcol
  iintro ⟨Hf, HX, Hsg, Hcol⟩
  iapply (stageX m K ks c 1 (u := st 0 0) (by decide) (by rfl) (by exact off1 c 1) (by decide) (by rfl) (fun v x => by exact pay1_tb v x)) $$ [Hf HX Hsg Hcol]
  · isplitr; · iexact HC
    isplitl [Hf]; · iexact Hf
    isplitl [HX]; · iexact HX
    isplitl [Hsg]; · iexact Hsg
    iexact Hcol
  iintro ⟨Hf, HX, Hsg, Hcol⟩
  iapply (stageX m K ks c 2 (u := st 0 0) (by decide) (by rfl) (by exact off1 c 2) (by decide) (by rfl) (fun v x => by exact pay1_tb v x)) $$ [Hf HX Hsg Hcol]
  · isplitr; · iexact HC
    isplitl [Hf]; · iexact Hf
    isplitl [HX]; · iexact HX
    isplitl [Hsg]; · iexact Hsg
    iexact Hcol
  iintro ⟨Hf, HX, Hsg, Hcol⟩
  iapply (stageX m K ks c 3 (u := st 0 0) (by decide) (by rfl) (by exact off1 c 3) (by decide) (by rfl) (fun v x => by exact pay1_tb v x)) $$ [Hf HX Hsg Hcol]
  · isplitr; · iexact HC
    isplitl [Hf]; · iexact Hf
    isplitl [HX]; · iexact HX
    isplitl [Hsg]; · iexact Hsg
    iexact Hcol
  iintro ⟨Hf, HX, Hsg, Hcol⟩
  ihave Hcol := (own_shares m c) $$ Hcol
  icases Hcol with ⟨⟨HB0, HB1⟩, Hq, Hbb⟩
  iapply (lineSend m K ks false c 0 (by decide) (by exact lsOn_U0 c) (fun h => by exact dev_U c ((lsOn_U0 c).mp (by exact h)).1 _) (by exact lrow_U0 c) (by rfl) (by rfl) (q := fullShare.left.left)) $$ [Hf Hl00 HB0 Ht0]
  · isplitr; · iexact HC
    isplitl [Hf]; · iexact Hf
    isplitl [Hl00]; · iexact Hl00
    isplitl [HB0]; · iexact HB0
    iexact Ht0
  iintro ⟨Hf, HL00, Ht0⟩
  iapply (lineSend m K ks true c 0 (by decide) (by exact lsOn_D0 c) (fun h => by exact dev_D c ((lsOn_D0 c).mp (by exact h)).1 _) (by exact lrow_D0 c) (by rfl) (by rfl) (q := fullShare.left.right)) $$ [Hf Hl01 HB1 Ht1]
  · isplitr; · iexact HC
    isplitl [Hf]; · iexact Hf
    isplitl [Hl01]; · iexact Hl01
    isplitl [HB1]; · iexact HB1
    iexact Ht1
  iintro ⟨Hf, HL01, Ht1⟩
  simp only [k0_part5_eq_skeleton, k0_part6_eq_skeleton, k0_part7_eq_skeleton, k0_part8_eq_skeleton, k0_part9_eq_skeleton]
  unfold k0_part5_skel k0_part6_skel k0_part7_skel k0_part8_skel k0_part9_skel
  simp only [semSignalWord, semWaitWord, Prog.lift, Prog.bind_op, Prog.bind_ret, Prog.pure_eq_ret, wp_deviceId, Prog.bind_assoc]
  try simp only [opt_join, Prog.bind_assoc, Prog.bind_ret]
  ihave HSd0 := (first_sends m K ks false c) $$ [Hv0 Hs0]
  · isplitr; · iexact HC
    isplitl [Hv0]; · iexact Hv0
    iexact Hs0
  ihave HN0 := (first_next m K ks false c) $$ [Hn0]
  · isplitr; · iexact HC
    iexact Hn0
  ihave HSd1 := (first_sends m K ks true c) $$ [Hv1 Hs1]
  · isplitr; · iexact HC
    isplitl [Hv1]; · iexact Hv1
    iexact Hs1
  ihave HN1 := (first_next m K ks true c) $$ [Hn1]
  · isplitr; · iexact HC
    iexact Hn1
  iapply (inj4 m K ks c 0 (by decide) rfl rfl (by exact dev_R c _) (by decide +revert +kernel) (by rfl) (by rfl) (by exact dev_L c _) (by decide +revert +kernel) (by rfl) (by rfl) (by exact dev_R c _) (by decide +revert +kernel) (by rfl) (by rfl) (by exact dev_L c _) (by decide +revert +kernel) (by rfl) (by rfl) (q := fullShare.right.left)) $$ [Hf Hq HSd0 HSd1]
  · isplitr; · iexact HC
    isplitl [Hf]; · iexact Hf
    isplitl [Hq]; · iexact Hq
    isplitl [HSd0]; · iexact HSd0
    iexact HSd1
  iintro ⟨Hf, HFl⟩
  iapply (stageW m K ks c 0 (u := st 0 6) (by decide) (by rfl) (by decide) (by rfl) (fun v x => by exact pay5_tb v x)) $$ [Hf HW Hsg Hwb]
  · isplitr; · iexact HC
    isplitl [Hf]; · iexact Hf
    isplitl [HW]; · iexact HW
    isplitl [Hsg]; · iexact Hsg
    iexact Hwb
  iintro ⟨Hf, HW, Hsg, Hwb⟩
  iapply (stageW m K ks c 1 (u := st 0 6) (by decide) (by rfl) (by decide) (by rfl) (fun v x => by exact pay67_tb v x)) $$ [Hf HW Hsg Hwb]
  · isplitr; · iexact HC
    isplitl [Hf]; · iexact Hf
    isplitl [HW]; · iexact HW
    isplitl [Hsg]; · iexact Hsg
    iexact Hwb
  iintro ⟨Hf, HW, Hsg, Hwb⟩
  iapply (stageW m K ks c 2 (u := st 0 6) (by decide) (by rfl) (by decide) (by rfl) (fun v x => by exact pay5_tb v x)) $$ [Hf HW Hsg Hwb]
  · isplitr; · iexact HC
    isplitl [Hf]; · iexact Hf
    isplitl [HW]; · iexact HW
    isplitl [Hsg]; · iexact Hsg
    iexact Hwb
  iintro ⟨Hf, HW, Hsg, Hwb⟩
  iapply (stageW m K ks c 3 (u := st 0 6) (by decide) (by rfl) (by decide) (by rfl) (fun v x => by exact pay5_tb v x)) $$ [Hf HW Hsg Hwb]
  · isplitr; · iexact HC
    isplitl [Hf]; · iexact Hf
    isplitl [HW]; · iexact HW
    isplitl [Hsg]; · iexact Hsg
    iexact Hwb
  iintro ⟨Hf, HW, Hsg, Hwb⟩
  ihave Hwb := (wbN_all m c) $$ Hwb
  ihave HF := (first_out m c) $$ [HO HOs]
  · isplitl [HO]; · iexact HO
    iexact HOs
  icases HF with ⟨⟨HFL, HxL⟩, HF⟩
  iapply (prodL m c 0 (by decide) (by decide) rfl (by decide +revert +kernel) (by decide +revert +kernel) (fun _ _ => rfl) (by rfl) (q := fullShare.right.right)) $$ [Hbb Hwb HFL HxL]
  · isplitl [Hbb]; · iexact Hbb
    isplitl [Hwb]; · iexact Hwb
    isplitl [HFL]; · iexact HFL
    iexact HxL
  iintro ⟨Hbb, Hwb, HOL⟩
  ihave HO := HF $$ HOL
  icases HO with ⟨HO, HOs⟩
  iapply (ends m K ks c 0 (by decide) (fun d s => Qt m d c 0 s fullShare.right.left) (fun d => exR (F := F) d c (rowsR 0 0 256)) (fun d => iprop(Qt m d c 0 0 fullShare.right.left ∗ Qt m d c 0 1 fullShare.right.left)) (whole_first m c fullShare.right.left) (by rfl) (by rfl) (by rfl) (by rfl) (by rfl) (by rfl) (by rfl) (by rfl) (by exact dev_L c _) (by exact dev_R c _) (by rfl) (by rfl)) $$ [Hf HR0 HR1 HN0 HN1 HFl He0 He1]
  · isplitr; · iexact HC
    isplitl [Hf]; · iexact Hf
    isplitl [HR0 HR1]
    · isplitl [HR0]; · iexact HR0
      iexact HR1
    isplitl [HN0 HN1]
    · isplitl [HN0]; · iexact HN0
      iexact HN1
    isplitl [HFl]; · iexact HFl
    isplitl [He0]; · iexact He0
    iexact He1
  iintro ⟨Hf, HD0, HD1, Hq0, Hq1⟩
  ihave HSh := (own_back m c) $$ [Hq0 Hq1 Hbb]
  · isplitl [Hq0]; · iexact Hq0
    isplitl [Hq1]; · iexact Hq1
    iexact Hbb
  simp only [k0_part10_eq_skeleton, k0_part11_eq_skeleton, k0_part12_eq_skeleton, k0_part13_eq_skeleton, k0_part14_eq_skeleton, k0_part15_eq_skeleton]
  unfold k0_part10_skel k0_part11_skel k0_part12_skel k0_part13_skel k0_part14_skel k0_part15_skel
  simp only [semSignalWord, semWaitWord, Prog.lift, Prog.bind_op, Prog.bind_ret, Prog.pure_eq_ret, wp_deviceId, Prog.bind_assoc]
  try simp only [opt_join, Prog.bind_assoc, Prog.bind_ret]
  ihave Hf := (skip2 c (H := 1) (by decide) (by decide)) $$ Hf
  iapply (passes m K ks c 1 (by decide) (by decide) rfl rfl (by rfl) (by rfl) (by exact dev_R c _) (by rfl) (by rfl) (by rfl) (by rfl) (by exact dev_L c _) (by rfl) (by rfl) (by rfl) (by rfl) (by exact dev_R c _) (by rfl) (by rfl) (by rfl) (by rfl) (by exact dev_L c _) (by rfl) (by rfl) (by rfl) (by rfl)) $$ [Hf HD0 HD1]
  · isplitr; · iexact HC
    isplitl [Hf]; · iexact Hf
    isplitl [HD0]; · iexact HD0
    iexact HD1
  iintro ⟨Hf, HR0, HR1, HP0, HP1⟩
  ihave HFd := (outs0 m c (H := 1) (by decide) (by decide)) $$ HO
  iapply (midEnd m K ks c 1 (by decide) (by decide) (by decide) rfl (by rfl) (by decide +revert +kernel) (fun _ _ => rfl) (by rfl) (by rfl) (by decide +revert +kernel) (fun _ _ => rfl) (by rfl) (by rfl) (by rfl) (by rfl) (by rfl) (by rfl) (by rfl) (by rfl) (by rfl) (by exact dev_L c _) (by exact dev_R c _) (by rfl) (by rfl)) $$ [Hf HR0 HR1 HP0 HP1 Hwb HFd HOs]
  · isplitr; · iexact HC
    isplitl [Hf]; · iexact Hf
    isplitl [HR0]; · iexact HR0
    isplitl [HR1]; · iexact HR1
    isplitl [HP0]; · iexact HP0
    isplitl [HP1]; · iexact HP1
    isplitl [Hwb]; · iexact Hwb
    isplitl [HFd]; · iexact HFd
    iexact HOs
  iintro ⟨Hf, ⟨HD0, HD1⟩, Hwb, HO, HOs⟩
  simp only [k0_part16_eq_skeleton, k0_part17_eq_skeleton, k0_part18_eq_skeleton, k0_part19_eq_skeleton, k0_part20_eq_skeleton, k0_part21_eq_skeleton]
  unfold k0_part16_skel k0_part17_skel k0_part18_skel k0_part19_skel k0_part20_skel k0_part21_skel
  simp only [semSignalWord, semWaitWord, Prog.lift, Prog.bind_op, Prog.bind_ret, Prog.pure_eq_ret, wp_deviceId, Prog.bind_assoc]
  try simp only [opt_join, Prog.bind_assoc, Prog.bind_ret]
  ihave Hf := (skip2 c (H := 2) (by decide) (by decide)) $$ Hf
  iapply (passes m K ks c 2 (by decide) (by decide) rfl rfl (by rfl) (by rfl) (by exact dev_R c _) (by rfl) (by rfl) (by rfl) (by rfl) (by exact dev_L c _) (by rfl) (by rfl) (by rfl) (by rfl) (by exact dev_R c _) (by rfl) (by rfl) (by rfl) (by rfl) (by exact dev_L c _) (by rfl) (by rfl) (by rfl) (by rfl)) $$ [Hf HD0 HD1]
  · isplitr; · iexact HC
    isplitl [Hf]; · iexact Hf
    isplitl [HD0]; · iexact HD0
    iexact HD1
  iintro ⟨Hf, HR0, HR1, HP0, HP1⟩
  iapply (outsL m K ks c 2 (u := st 2 6) rfl (by decide) (by rfl) (by rfl)) $$ [Hf HO]
  · isplitr; · iexact HC
    isplitl [Hf]; · iexact Hf
    iexact HO
  iintro ⟨Hf, HFd⟩
  iapply (midEnd m K ks c 2 (by decide) (by decide) (by decide) rfl (by rfl) (by decide +revert +kernel) (fun _ _ => rfl) (by rfl) (by rfl) (by decide +revert +kernel) (fun _ _ => rfl) (by rfl) (by rfl) (by rfl) (by rfl) (by rfl) (by rfl) (by rfl) (by rfl) (by rfl) (by exact dev_L c _) (by exact dev_R c _) (by rfl) (by rfl)) $$ [Hf HR0 HR1 HP0 HP1 Hwb HFd HOs]
  · isplitr; · iexact HC
    isplitl [Hf]; · iexact Hf
    isplitl [HR0]; · iexact HR0
    isplitl [HR1]; · iexact HR1
    isplitl [HP0]; · iexact HP0
    isplitl [HP1]; · iexact HP1
    isplitl [Hwb]; · iexact Hwb
    isplitl [HFd]; · iexact HFd
    iexact HOs
  iintro ⟨Hf, ⟨HD0, HD1⟩, Hwb, HO, HOs⟩
  simp only [k0_part22_eq_skeleton, k0_part23_eq_skeleton, k0_part24_eq_skeleton, k0_part25_eq_skeleton, k0_part26_eq_skeleton, k0_part27_eq_skeleton, k0_part28_eq_skeleton, k0_part29_eq_skeleton]
  unfold k0_part22_skel k0_part23_skel k0_part24_skel k0_part25_skel k0_part26_skel k0_part27_skel k0_part28_skel k0_part29_skel
  simp only [semSignalWord, semWaitWord, Prog.lift, Prog.bind_op, Prog.bind_ret, Prog.pure_eq_ret, wp_deviceId, Prog.bind_assoc]
  try simp only [opt_join, Prog.bind_assoc, Prog.bind_ret]
  iapply (lineWait m K ks false c 0 (u := st 3 0) (by decide) (by decide) (by exact gets_U1 c) (by rfl) (by exact fun _ => rfl)) $$ [Hf Hc00]
  · isplitr; · iexact HC
    isplitl [Hf]; · iexact Hf
    iexact Hc00
  iintro ⟨Hf, HB0, Hy00⟩
  iapply (lineWait m K ks true c 0 (u := st 3 0) (by decide) (by decide) (by exact gets_D1 c) (by rfl) (by exact fun _ => rfl)) $$ [Hf Hc01]
  · isplitr; · iexact HC
    isplitl [Hf]; · iexact Hf
    iexact Hc01
  iintro ⟨Hf, HB1, Hy01⟩
  ihave HB := (line_in m c (r := 0) (by decide)) $$ [HB0 HB1 HSh]
  · isplitl [HB0]; · iexact HB0
    isplitl [HB1]; · iexact HB1
    iexact HSh
  icases HB with ⟨HB0, HB1, HSh⟩
  iapply (lineSend m K ks false c 1 (by decide) (by exact lsOn_U1 c) (fun h => by exact dev_U c ((lsOn_U1 c).mp (by exact h)).1 _) (by exact lrow_U1 c) (by rfl) (by rfl) (q := fullShare.left)) $$ [Hf Hl10 HB0 Ht0]
  · isplitr; · iexact HC
    isplitl [Hf]; · iexact Hf
    isplitl [Hl10]; · iexact Hl10
    isplitl [HB0]; · iexact HB0
    iexact Ht0
  iintro ⟨Hf, HL10, Ht0⟩
  iapply (lineSend m K ks true c 1 (by decide) (by exact lsOn_D1 c) (fun h => by exact dev_D c ((lsOn_D1 c).mp (by exact h)).1 _) (by exact lrow_D1 c) (by rfl) (by rfl) (q := fullShare.left)) $$ [Hf Hl11 HB1 Ht1]
  · isplitr; · iexact HC
    isplitl [Hf]; · iexact Hf
    isplitl [Hl11]; · iexact Hl11
    isplitl [HB1]; · iexact HB1
    iexact Ht1
  iintro ⟨Hf, HL11, Ht1⟩
  iapply (credit m K ks false c 3 (u := st 3 2) (by decide) (by decide) (by decide) (by rfl)) $$ [Hf HD0]
  · isplitr; · iexact HC
    isplitl [Hf]; · iexact Hf
    iexact HD0
  iintro ⟨Hf, HR0, HRc0, HSd0⟩
  iapply (credit m K ks true c 3 (u := st 3 2) (by decide) (by decide) (by decide) (by rfl)) $$ [Hf HD1]
  · isplitr; · iexact HC
    isplitl [Hf]; · iexact Hf
    iexact HD1
  iintro ⟨Hf, HR1, HRc1, HSd1⟩
  ihave HSh := (take_block m c (H := 3) (r := 1) (by decide) (by decide)) $$ HSh
  icases HSh with ⟨Hq, Hbb, HSh⟩
  iapply (inj4 m K ks c 3 (by decide) rfl rfl (by exact dev_R c _) (by decide +revert +kernel) (by rfl) (by rfl) (by exact dev_L c _) (by decide +revert +kernel) (by rfl) (by rfl) (by exact dev_R c _) (by decide +revert +kernel) (by rfl) (by rfl) (by exact dev_L c _) (by decide +revert +kernel) (by rfl) (by rfl) (q := fullShare.right.left)) $$ [Hf Hq HSd0 HSd1]
  · isplitr; · iexact HC
    isplitl [Hf]; · iexact Hf
    isplitl [Hq]; · iexact Hq
    isplitl [HSd0]; · iexact HSd0
    iexact HSd1
  iintro ⟨Hf, HFl⟩
  iapply (recvs m K ks c 3 (u := st 3 6) (by decide) (by decide) (by decide) (by rfl) (by rfl) (by rfl) (by rfl) (by rfl) (by rfl) (by rfl) (by rfl)) $$ [Hf HRc0 HRc1]
  · isplitr; · iexact HC
    isplitl [Hf]; · iexact Hf
    isplitl [HRc0]; · iexact HRc0
    iexact HRc1
  iintro ⟨Hf, HRg, HN⟩
  iapply (outs2 m K ks c 3 (u := st 3 6) (by decide) (by decide) (by decide) (by rfl) (by rfl) (by rfl) (by rfl)) $$ [Hf HO]
  · isplitr; · iexact HC
    isplitl [Hf]; · iexact Hf
    iexact HO
  iintro ⟨Hf, HFd⟩
  iapply (injEnd m K ks c 3 (by decide) (by decide) rfl rfl (by rfl) (by decide +revert +kernel) (fun _ _ => rfl) (by rfl) (by rfl) (by decide +revert +kernel) (fun _ _ => rfl) (by rfl) (by decide +revert +kernel) (by decide +revert +kernel) (fun _ _ => rfl) (by rfl) (by rfl) (by rfl) (by rfl) (by rfl) (by rfl) (by rfl) (by rfl) (by rfl) (by exact dev_L c _) (by exact dev_R c _) (by rfl) (by rfl) (q := fullShare.right)) $$ [Hf HR0 HR1 HN HFl HRg Hbb Hwb HFd HOs]
  · isplitr; · iexact HC
    isplitl [Hf]; · iexact Hf
    isplitl [HR0 HR1]
    · isplitl [HR0]; · iexact HR0
      iexact HR1
    isplitl [HN]; · iexact HN
    isplitl [HFl]; · iexact HFl
    isplitl [HRg]; · iexact HRg
    isplitl [Hbb]; · iexact Hbb
    isplitl [Hwb]; · iexact Hwb
    isplitl [HFd]; · iexact HFd
    iexact HOs
  iintro ⟨Hf, ⟨HD0, HD1⟩, Hbb, Hwb, HO, HOs⟩
  ihave HSh := HSh $$ Hbb
  simp only [k0_part30_eq_skeleton, k0_part31_eq_skeleton, k0_part32_eq_skeleton, k0_part33_eq_skeleton, k0_part34_eq_skeleton, k0_part35_eq_skeleton, k0_part36_eq_skeleton]
  unfold k0_part30_skel k0_part31_skel k0_part32_skel k0_part33_skel k0_part34_skel k0_part35_skel k0_part36_skel
  simp only [semSignalWord, semWaitWord, Prog.lift, Prog.bind_op, Prog.bind_ret, Prog.pure_eq_ret, wp_deviceId, Prog.bind_assoc]
  try simp only [opt_join, Prog.bind_assoc, Prog.bind_ret]
  ihave Hf := (skip2 c (H := 4) (by decide) (by decide)) $$ Hf
  iapply (passes m K ks c 4 (by decide) (by decide) rfl rfl (by rfl) (by rfl) (by exact dev_R c _) (by rfl) (by rfl) (by rfl) (by rfl) (by exact dev_L c _) (by rfl) (by rfl) (by rfl) (by rfl) (by exact dev_R c _) (by rfl) (by rfl) (by rfl) (by rfl) (by exact dev_L c _) (by rfl) (by rfl) (by rfl) (by rfl)) $$ [Hf HD0 HD1]
  · isplitr; · iexact HC
    isplitl [Hf]; · iexact Hf
    isplitl [HD0]; · iexact HD0
    iexact HD1
  iintro ⟨Hf, HR0, HR1, HP0, HP1⟩
  iapply (outs2 m K ks c 4 (u := st 4 6) (by decide) (by decide) (by decide) (by rfl) (by rfl) (by rfl) (by rfl)) $$ [Hf HO]
  · isplitr; · iexact HC
    isplitl [Hf]; · iexact Hf
    iexact HO
  iintro ⟨Hf, HFd⟩
  iapply (midEnd m K ks c 4 (by decide) (by decide) (by decide) rfl (by rfl) (by decide +revert +kernel) (fun _ _ => rfl) (by rfl) (by rfl) (by decide +revert +kernel) (fun _ _ => rfl) (by rfl) (by rfl) (by rfl) (by rfl) (by rfl) (by rfl) (by rfl) (by rfl) (by rfl) (by exact dev_L c _) (by exact dev_R c _) (by rfl) (by rfl)) $$ [Hf HR0 HR1 HP0 HP1 Hwb HFd HOs]
  · isplitr; · iexact HC
    isplitl [Hf]; · iexact Hf
    isplitl [HR0]; · iexact HR0
    isplitl [HR1]; · iexact HR1
    isplitl [HP0]; · iexact HP0
    isplitl [HP1]; · iexact HP1
    isplitl [Hwb]; · iexact Hwb
    isplitl [HFd]; · iexact HFd
    iexact HOs
  iintro ⟨Hf, ⟨HD0, HD1⟩, Hwb, HO, HOs⟩
  simp only [k0_part37_eq_skeleton, k0_part38_eq_skeleton, k0_part39_eq_skeleton, k0_part40_eq_skeleton, k0_part41_eq_skeleton, k0_part42_eq_skeleton, k0_part43_eq_skeleton]
  unfold k0_part37_skel k0_part38_skel k0_part39_skel k0_part40_skel k0_part41_skel k0_part42_skel k0_part43_skel
  simp only [semSignalWord, semWaitWord, Prog.lift, Prog.bind_op, Prog.bind_ret, Prog.pure_eq_ret, wp_deviceId, Prog.bind_assoc]
  try simp only [opt_join, Prog.bind_assoc, Prog.bind_ret]
  ihave Hf := (skip2 c (H := 5) (by decide) (by decide)) $$ Hf
  iapply (passes m K ks c 5 (by decide) (by decide) rfl rfl (by rfl) (by rfl) (by exact dev_R c _) (by rfl) (by rfl) (by rfl) (by rfl) (by exact dev_L c _) (by rfl) (by rfl) (by rfl) (by rfl) (by exact dev_R c _) (by rfl) (by rfl) (by rfl) (by rfl) (by exact dev_L c _) (by rfl) (by rfl) (by rfl) (by rfl)) $$ [Hf HD0 HD1]
  · isplitr; · iexact HC
    isplitl [Hf]; · iexact Hf
    isplitl [HD0]; · iexact HD0
    iexact HD1
  iintro ⟨Hf, HR0, HR1, HP0, HP1⟩
  iapply (outs3 m K ks c 5 (u := st 5 6) (by decide) (by decide) (by rfl) (by rfl) (by rfl) (by rfl) (by rfl) (by rfl)) $$ [Hf HO]
  · isplitr; · iexact HC
    isplitl [Hf]; · iexact Hf
    iexact HO
  iintro ⟨Hf, HFd⟩
  iapply (midEnd m K ks c 5 (by decide) (by decide) (by decide) rfl (by rfl) (by decide +revert +kernel) (fun _ _ => rfl) (by rfl) (by rfl) (by decide +revert +kernel) (fun _ _ => rfl) (by rfl) (by rfl) (by rfl) (by rfl) (by rfl) (by rfl) (by rfl) (by rfl) (by rfl) (by exact dev_L c _) (by exact dev_R c _) (by rfl) (by rfl)) $$ [Hf HR0 HR1 HP0 HP1 Hwb HFd HOs]
  · isplitr; · iexact HC
    isplitl [Hf]; · iexact Hf
    isplitl [HR0]; · iexact HR0
    isplitl [HR1]; · iexact HR1
    isplitl [HP0]; · iexact HP0
    isplitl [HP1]; · iexact HP1
    isplitl [Hwb]; · iexact Hwb
    isplitl [HFd]; · iexact HFd
    iexact HOs
  iintro ⟨Hf, ⟨HD0, HD1⟩, Hwb, HO, HOs⟩
  simp only [k0_part44_eq_skeleton, k0_part45_eq_skeleton, k0_part46_eq_skeleton, k0_part47_eq_skeleton, k0_part48_eq_skeleton, k0_part49_eq_skeleton, k0_part50_eq_skeleton, k0_part51_eq_skeleton]
  unfold k0_part44_skel k0_part45_skel k0_part46_skel k0_part47_skel k0_part48_skel k0_part49_skel k0_part50_skel k0_part51_skel
  simp only [semSignalWord, semWaitWord, Prog.lift, Prog.bind_op, Prog.bind_ret, Prog.pure_eq_ret, wp_deviceId, Prog.bind_assoc]
  try simp only [opt_join, Prog.bind_assoc, Prog.bind_ret]
  iapply (lineWait m K ks false c 1 (u := st 6 0) (by decide) (by decide) (by exact gets_U2 c) (by rfl) (by exact fun _ => rfl)) $$ [Hf Hc10]
  · isplitr; · iexact HC
    isplitl [Hf]; · iexact Hf
    iexact Hc10
  iintro ⟨Hf, HB0, Hy10⟩
  iapply (lineWait m K ks true c 1 (u := st 6 0) (by decide) (by decide) (by exact gets_D2 c) (by rfl) (by exact fun _ => rfl)) $$ [Hf Hc11]
  · isplitr; · iexact HC
    isplitl [Hf]; · iexact Hf
    iexact Hc11
  iintro ⟨Hf, HB1, Hy11⟩
  ihave HB := (line_in m c (r := 1) (by decide)) $$ [HB0 HB1 HSh]
  · isplitl [HB0]; · iexact HB0
    isplitl [HB1]; · iexact HB1
    iexact HSh
  icases HB with ⟨HB0, HB1, HSh⟩
  iapply (lineSend m K ks false c 2 (by decide) (by exact lsOn_U2 c) (fun h => by exact dev_U c ((lsOn_U2 c).mp (by exact h)).1 _) (by exact lrow_U2 c) (by rfl) (by rfl) (q := fullShare.left)) $$ [Hf Hl20 HB0 Ht0]
  · isplitr; · iexact HC
    isplitl [Hf]; · iexact Hf
    isplitl [Hl20]; · iexact Hl20
    isplitl [HB0]; · iexact HB0
    iexact Ht0
  iintro ⟨Hf, HL20, Ht0⟩
  iapply (lineSend m K ks true c 2 (by decide) (by exact lsOn_D2 c) (fun h => by exact dev_D c ((lsOn_D2 c).mp (by exact h)).1 _) (by exact lrow_D2 c) (by rfl) (by rfl) (q := fullShare.left)) $$ [Hf Hl21 HB1 Ht1]
  · isplitr; · iexact HC
    isplitl [Hf]; · iexact Hf
    isplitl [Hl21]; · iexact Hl21
    isplitl [HB1]; · iexact HB1
    iexact Ht1
  iintro ⟨Hf, HL21, Ht1⟩
  iapply (credit m K ks false c 6 (u := st 6 2) (by decide) (by decide) (by decide) (by rfl)) $$ [Hf HD0]
  · isplitr; · iexact HC
    isplitl [Hf]; · iexact Hf
    iexact HD0
  iintro ⟨Hf, HR0, HRc0, HSd0⟩
  iapply (credit m K ks true c 6 (u := st 6 2) (by decide) (by decide) (by decide) (by rfl)) $$ [Hf HD1]
  · isplitr; · iexact HC
    isplitl [Hf]; · iexact Hf
    iexact HD1
  iintro ⟨Hf, HR1, HRc1, HSd1⟩
  ihave HSh := (take_block m c (H := 6) (r := 2) (by decide) (by decide)) $$ HSh
  icases HSh with ⟨Hq, Hbb, HSh⟩
  iapply (inj4 m K ks c 6 (by decide) rfl rfl (by exact dev_R c _) (by decide +revert +kernel) (by rfl) (by rfl) (by exact dev_L c _) (by decide +revert +kernel) (by rfl) (by rfl) (by exact dev_R c _) (by decide +revert +kernel) (by rfl) (by rfl) (by exact dev_L c _) (by decide +revert +kernel) (by rfl) (by rfl) (q := fullShare.right.left)) $$ [Hf Hq HSd0 HSd1]
  · isplitr; · iexact HC
    isplitl [Hf]; · iexact Hf
    isplitl [Hq]; · iexact Hq
    isplitl [HSd0]; · iexact HSd0
    iexact HSd1
  iintro ⟨Hf, HFl⟩
  iapply (recvs m K ks c 6 (u := st 6 6) (by decide) (by decide) (by decide) (by rfl) (by rfl) (by rfl) (by rfl) (by rfl) (by rfl) (by rfl) (by rfl)) $$ [Hf HRc0 HRc1]
  · isplitr; · iexact HC
    isplitl [Hf]; · iexact Hf
    isplitl [HRc0]; · iexact HRc0
    iexact HRc1
  iintro ⟨Hf, HRg, HN⟩
  iapply (outs2 m K ks c 6 (u := st 6 6) (by decide) (by decide) (by decide) (by rfl) (by rfl) (by rfl) (by rfl)) $$ [Hf HO]
  · isplitr; · iexact HC
    isplitl [Hf]; · iexact Hf
    iexact HO
  iintro ⟨Hf, HFd⟩
  iapply (injEnd m K ks c 6 (by decide) (by decide) rfl rfl (by rfl) (by decide +revert +kernel) (fun _ _ => rfl) (by rfl) (by rfl) (by decide +revert +kernel) (fun _ _ => rfl) (by rfl) (by decide +revert +kernel) (by decide +revert +kernel) (fun _ _ => rfl) (by rfl) (by rfl) (by rfl) (by rfl) (by rfl) (by rfl) (by rfl) (by rfl) (by rfl) (by exact dev_L c _) (by exact dev_R c _) (by rfl) (by rfl) (q := fullShare.right)) $$ [Hf HR0 HR1 HN HFl HRg Hbb Hwb HFd HOs]
  · isplitr; · iexact HC
    isplitl [Hf]; · iexact Hf
    isplitl [HR0 HR1]
    · isplitl [HR0]; · iexact HR0
      iexact HR1
    isplitl [HN]; · iexact HN
    isplitl [HFl]; · iexact HFl
    isplitl [HRg]; · iexact HRg
    isplitl [Hbb]; · iexact Hbb
    isplitl [Hwb]; · iexact Hwb
    isplitl [HFd]; · iexact HFd
    iexact HOs
  iintro ⟨Hf, ⟨HD0, HD1⟩, Hbb, Hwb, HO, HOs⟩
  ihave HSh := HSh $$ Hbb
  simp only [k0_part52_eq_skeleton, k0_part53_eq_skeleton, k0_part54_eq_skeleton, k0_part55_eq_skeleton, k0_part56_eq_skeleton, k0_part57_eq_skeleton]
  unfold k0_part52_skel k0_part53_skel k0_part54_skel k0_part55_skel k0_part56_skel k0_part57_skel
  simp only [semSignalWord, semWaitWord, Prog.lift, Prog.bind_op, Prog.bind_ret, Prog.pure_eq_ret, wp_deviceId, Prog.bind_assoc]
  try simp only [opt_join, Prog.bind_assoc, Prog.bind_ret]
  ihave Hf := (skip2 c (H := 7) (by decide) (by decide)) $$ Hf
  iapply (passes m K ks c 7 (by decide) (by decide) rfl rfl (by rfl) (by rfl) (by exact dev_R c _) (by rfl) (by rfl) (by rfl) (by rfl) (by exact dev_L c _) (by rfl) (by rfl) (by rfl) (by rfl) (by exact dev_R c _) (by rfl) (by rfl) (by rfl) (by rfl) (by exact dev_L c _) (by rfl) (by rfl) (by rfl) (by rfl)) $$ [Hf HD0 HD1]
  · isplitr; · iexact HC
    isplitl [Hf]; · iexact Hf
    isplitl [HD0]; · iexact HD0
    iexact HD1
  iintro ⟨Hf, HR0, HR1, HP0, HP1⟩
  iapply (outs2 m K ks c 7 (u := st 7 6) (by decide) (by decide) (by decide) (by rfl) (by rfl) (by rfl) (by rfl)) $$ [Hf HO]
  · isplitr; · iexact HC
    isplitl [Hf]; · iexact Hf
    iexact HO
  iintro ⟨Hf, HFd⟩
  iapply (midEnd m K ks c 7 (by decide) (by decide) (by decide) rfl (by rfl) (by decide +revert +kernel) (fun _ _ => rfl) (by rfl) (by rfl) (by decide +revert +kernel) (fun _ _ => rfl) (by rfl) (by rfl) (by rfl) (by rfl) (by rfl) (by rfl) (by rfl) (by rfl) (by rfl) (by exact dev_L c _) (by exact dev_R c _) (by rfl) (by rfl)) $$ [Hf HR0 HR1 HP0 HP1 Hwb HFd HOs]
  · isplitr; · iexact HC
    isplitl [Hf]; · iexact Hf
    isplitl [HR0]; · iexact HR0
    isplitl [HR1]; · iexact HR1
    isplitl [HP0]; · iexact HP0
    isplitl [HP1]; · iexact HP1
    isplitl [Hwb]; · iexact Hwb
    isplitl [HFd]; · iexact HFd
    iexact HOs
  iintro ⟨Hf, ⟨HD0, HD1⟩, Hwb, HO, HOs⟩
  simp only [k0_part58_eq_skeleton, k0_part59_eq_skeleton, k0_part60_eq_skeleton, k0_part61_eq_skeleton, k0_part62_eq_skeleton, k0_part63_eq_skeleton, k0_part64_eq_skeleton]
  unfold k0_part58_skel k0_part59_skel k0_part60_skel k0_part61_skel k0_part62_skel k0_part63_skel k0_part64_skel
  simp only [semSignalWord, semWaitWord, Prog.lift, Prog.bind_op, Prog.bind_ret, Prog.pure_eq_ret, wp_deviceId, Prog.bind_assoc]
  try simp only [opt_join, Prog.bind_assoc, Prog.bind_ret]
  ihave Hf := (skip2 c (H := 8) (by decide) (by decide)) $$ Hf
  iapply (passes m K ks c 8 (by decide) (by decide) rfl rfl (by rfl) (by rfl) (by exact dev_R c _) (by rfl) (by rfl) (by rfl) (by rfl) (by exact dev_L c _) (by rfl) (by rfl) (by rfl) (by rfl) (by exact dev_R c _) (by rfl) (by rfl) (by rfl) (by rfl) (by exact dev_L c _) (by rfl) (by rfl) (by rfl) (by rfl)) $$ [Hf HD0 HD1]
  · isplitr; · iexact HC
    isplitl [Hf]; · iexact Hf
    isplitl [HD0]; · iexact HD0
    iexact HD1
  iintro ⟨Hf, HR0, HR1, HP0, HP1⟩
  iapply (outs3 m K ks c 8 (u := st 8 6) (by decide) (by decide) (by rfl) (by rfl) (by rfl) (by rfl) (by rfl) (by rfl)) $$ [Hf HO]
  · isplitr; · iexact HC
    isplitl [Hf]; · iexact Hf
    iexact HO
  iintro ⟨Hf, HFd⟩
  iapply (midEnd m K ks c 8 (by decide) (by decide) (by decide) rfl (by rfl) (by decide +revert +kernel) (fun _ _ => rfl) (by rfl) (by rfl) (by decide +revert +kernel) (fun _ _ => rfl) (by rfl) (by rfl) (by rfl) (by rfl) (by rfl) (by rfl) (by rfl) (by rfl) (by rfl) (by exact dev_L c _) (by exact dev_R c _) (by rfl) (by rfl)) $$ [Hf HR0 HR1 HP0 HP1 Hwb HFd HOs]
  · isplitr; · iexact HC
    isplitl [Hf]; · iexact Hf
    isplitl [HR0]; · iexact HR0
    isplitl [HR1]; · iexact HR1
    isplitl [HP0]; · iexact HP0
    isplitl [HP1]; · iexact HP1
    isplitl [Hwb]; · iexact Hwb
    isplitl [HFd]; · iexact HFd
    iexact HOs
  iintro ⟨Hf, ⟨HD0, HD1⟩, Hwb, HO, HOs⟩
  simp only [k0_part65_eq_skeleton, k0_part66_eq_skeleton, k0_part67_eq_skeleton, k0_part68_eq_skeleton, k0_part69_eq_skeleton, k0_part70_eq_skeleton, k0_part71_eq_skeleton, k0_part72_eq_skeleton]
  unfold k0_part65_skel k0_part66_skel k0_part67_skel k0_part68_skel k0_part69_skel k0_part70_skel k0_part71_skel k0_part72_skel
  simp only [semSignalWord, semWaitWord, Prog.lift, Prog.bind_op, Prog.bind_ret, Prog.pure_eq_ret, wp_deviceId, Prog.bind_assoc]
  try simp only [opt_join, Prog.bind_assoc, Prog.bind_ret]
  iapply (lineWait m K ks false c 2 (u := st 9 0) (by decide) (by decide) (by exact gets_U3 c) (by rfl) (by exact fun _ => rfl)) $$ [Hf Hc20]
  · isplitr; · iexact HC
    isplitl [Hf]; · iexact Hf
    iexact Hc20
  iintro ⟨Hf, HB0, Hy20⟩
  iapply (lineWait m K ks true c 2 (u := st 9 0) (by decide) (by decide) (by exact gets_D3 c) (by rfl) (by exact fun _ => rfl)) $$ [Hf Hc21]
  · isplitr; · iexact HC
    isplitl [Hf]; · iexact Hf
    iexact Hc21
  iintro ⟨Hf, HB1, Hy21⟩
  ihave HB := (line_in m c (r := 2) (by decide)) $$ [HB0 HB1 HSh]
  · isplitl [HB0]; · iexact HB0
    isplitl [HB1]; · iexact HB1
    iexact HSh
  icases HB with ⟨HB0, HB1, HSh⟩
  ihave Hf := (skip2 c (H := 9) (by decide) (by decide)) $$ Hf
  iapply (credit m K ks false c 9 (u := st 9 2) (by decide) (by decide) (by decide) (by rfl)) $$ [Hf HD0]
  · isplitr; · iexact HC
    isplitl [Hf]; · iexact Hf
    iexact HD0
  iintro ⟨Hf, HR0, HRc0, HSd0⟩
  iapply (credit m K ks true c 9 (u := st 9 2) (by decide) (by decide) (by decide) (by rfl)) $$ [Hf HD1]
  · isplitr; · iexact HC
    isplitl [Hf]; · iexact Hf
    iexact HD1
  iintro ⟨Hf, HR1, HRc1, HSd1⟩
  ihave HSh := (take_block m c (H := 9) (r := 3) (by decide) (by decide)) $$ HSh
  icases HSh with ⟨Hq, Hbb, HSh⟩
  iapply (inj4 m K ks c 9 (by decide) rfl rfl (by exact dev_R c _) (by decide +revert +kernel) (by rfl) (by rfl) (by exact dev_L c _) (by decide +revert +kernel) (by rfl) (by rfl) (by exact dev_R c _) (by decide +revert +kernel) (by rfl) (by rfl) (by exact dev_L c _) (by decide +revert +kernel) (by rfl) (by rfl) (q := fullShare.right.left)) $$ [Hf Hq HSd0 HSd1]
  · isplitr; · iexact HC
    isplitl [Hf]; · iexact Hf
    isplitl [Hq]; · iexact Hq
    isplitl [HSd0]; · iexact HSd0
    iexact HSd1
  iintro ⟨Hf, HFl⟩
  iapply (recvs m K ks c 9 (u := st 9 6) (by decide) (by decide) (by decide) (by rfl) (by rfl) (by rfl) (by rfl) (by rfl) (by rfl) (by rfl) (by rfl)) $$ [Hf HRc0 HRc1]
  · isplitr; · iexact HC
    isplitl [Hf]; · iexact Hf
    isplitl [HRc0]; · iexact HRc0
    iexact HRc1
  iintro ⟨Hf, HRg, HN⟩
  iapply (outs2 m K ks c 9 (u := st 9 6) (by decide) (by decide) (by decide) (by rfl) (by rfl) (by rfl) (by rfl)) $$ [Hf HO]
  · isplitr; · iexact HC
    isplitl [Hf]; · iexact Hf
    iexact HO
  iintro ⟨Hf, HFd⟩
  iapply (injEnd m K ks c 9 (by decide) (by decide) rfl rfl (by rfl) (by decide +revert +kernel) (fun _ _ => rfl) (by rfl) (by rfl) (by decide +revert +kernel) (fun _ _ => rfl) (by rfl) (by decide +revert +kernel) (by decide +revert +kernel) (fun _ _ => rfl) (by rfl) (by rfl) (by rfl) (by rfl) (by rfl) (by rfl) (by rfl) (by rfl) (by rfl) (by exact dev_L c _) (by exact dev_R c _) (by rfl) (by rfl) (q := fullShare.right)) $$ [Hf HR0 HR1 HN HFl HRg Hbb Hwb HFd HOs]
  · isplitr; · iexact HC
    isplitl [Hf]; · iexact Hf
    isplitl [HR0 HR1]
    · isplitl [HR0]; · iexact HR0
      iexact HR1
    isplitl [HN]; · iexact HN
    isplitl [HFl]; · iexact HFl
    isplitl [HRg]; · iexact HRg
    isplitl [Hbb]; · iexact Hbb
    isplitl [Hwb]; · iexact Hwb
    isplitl [HFd]; · iexact HFd
    iexact HOs
  iintro ⟨Hf, ⟨HD0, HD1⟩, Hbb, Hwb, HO, HOs⟩
  ihave HSh := HSh $$ Hbb
  simp only [k0_part73_eq_skeleton, k0_part74_eq_skeleton, k0_part75_eq_skeleton, k0_part76_eq_skeleton, k0_part77_eq_skeleton, k0_part78_eq_skeleton, k0_part79_eq_skeleton]
  unfold k0_part73_skel k0_part74_skel k0_part75_skel k0_part76_skel k0_part77_skel k0_part78_skel k0_part79_skel
  simp only [semSignalWord, semWaitWord, Prog.lift, Prog.bind_op, Prog.bind_ret, Prog.pure_eq_ret, wp_deviceId, Prog.bind_assoc]
  try simp only [opt_join, Prog.bind_assoc, Prog.bind_ret]
  ihave Hf := (skip2 c (H := 10) (by decide) (by decide)) $$ Hf
  iapply (passes m K ks c 10 (by decide) (by decide) rfl rfl (by rfl) (by rfl) (by exact dev_R c _) (by rfl) (by rfl) (by rfl) (by rfl) (by exact dev_L c _) (by rfl) (by rfl) (by rfl) (by rfl) (by exact dev_R c _) (by rfl) (by rfl) (by rfl) (by rfl) (by exact dev_L c _) (by rfl) (by rfl) (by rfl) (by rfl)) $$ [Hf HD0 HD1]
  · isplitr; · iexact HC
    isplitl [Hf]; · iexact Hf
    isplitl [HD0]; · iexact HD0
    iexact HD1
  iintro ⟨Hf, HR0, HR1, HP0, HP1⟩
  iapply (outs2 m K ks c 10 (u := st 10 6) (by decide) (by decide) (by decide) (by rfl) (by rfl) (by rfl) (by rfl)) $$ [Hf HO]
  · isplitr; · iexact HC
    isplitl [Hf]; · iexact Hf
    iexact HO
  iintro ⟨Hf, HFd⟩
  iapply (midEnd m K ks c 10 (by decide) (by decide) (by decide) rfl (by rfl) (by decide +revert +kernel) (fun _ _ => rfl) (by rfl) (by rfl) (by decide +revert +kernel) (fun _ _ => rfl) (by rfl) (by rfl) (by rfl) (by rfl) (by rfl) (by rfl) (by rfl) (by rfl) (by rfl) (by exact dev_L c _) (by exact dev_R c _) (by rfl) (by rfl)) $$ [Hf HR0 HR1 HP0 HP1 Hwb HFd HOs]
  · isplitr; · iexact HC
    isplitl [Hf]; · iexact Hf
    isplitl [HR0]; · iexact HR0
    isplitl [HR1]; · iexact HR1
    isplitl [HP0]; · iexact HP0
    isplitl [HP1]; · iexact HP1
    isplitl [Hwb]; · iexact Hwb
    isplitl [HFd]; · iexact HFd
    iexact HOs
  iintro ⟨Hf, ⟨HD0, HD1⟩, Hwb, HO, HOs⟩
  simp only [k0_part80_eq_skeleton, k0_part81_eq_skeleton, k0_part82_eq_skeleton, k0_part83_eq_skeleton, k0_part84_eq_skeleton, k0_part85_eq_skeleton]
  unfold k0_part80_skel k0_part81_skel k0_part82_skel k0_part83_skel k0_part84_skel k0_part85_skel
  simp only [semSignalWord, semWaitWord, Prog.lift, Prog.bind_op, Prog.bind_ret, Prog.pure_eq_ret, wp_deviceId, Prog.bind_assoc]
  try simp only [opt_join, Prog.bind_assoc, Prog.bind_ret]
  ihave Hf := (skip2 c (H := 11) (by decide) (by decide)) $$ Hf
  iapply (passes m K ks c 11 (by decide) (by decide) rfl rfl (by rfl) (by rfl) (by exact dev_R c _) (by rfl) (by rfl) (by rfl) (by rfl) (by exact dev_L c _) (by rfl) (by rfl) (by rfl) (by rfl) (by exact dev_R c _) (by rfl) (by rfl) (by rfl) (by rfl) (by exact dev_L c _) (by rfl) (by rfl) (by rfl) (by rfl)) $$ [Hf HD0 HD1]
  · isplitr; · iexact HC
    isplitl [Hf]; · iexact Hf
    isplitl [HD0]; · iexact HD0
    iexact HD1
  iintro ⟨Hf, HR0, HR1, HP0, HP1⟩
  iapply (outs3 m K ks c 11 (u := st 11 6) (by decide) (by decide) (by rfl) (by rfl) (by rfl) (by rfl) (by rfl) (by rfl)) $$ [Hf HO]
  · isplitr; · iexact HC
    isplitl [Hf]; · iexact Hf
    iexact HO
  iintro ⟨Hf, HFd⟩
  iapply (lastEnd m K ks c 11 rfl rfl (by rfl) (by decide +revert +kernel) (fun _ _ => rfl) (by rfl) (by rfl) (by decide +revert +kernel) (fun _ _ => rfl) (by rfl) (by rfl) (by rfl) (by rfl) (by rfl) (by rfl) (by rfl) (by rfl) (by rfl) ) $$ [Hf HR0 HR1 HP0 HP1 Hwb HFd HOs]
  · isplitr; · iexact HC
    isplitl [Hf]; · iexact Hf
    isplitl [HR0]; · iexact HR0
    isplitl [HR1]; · iexact HR1
    isplitl [HP0]; · iexact HP0
    isplitl [HP1]; · iexact HP1
    isplitl [Hwb]; · iexact Hwb
    isplitl [HFd]; · iexact HFd
    iexact HOs
  iintro ⟨Hf, HR0, HR1, ⟨⟨HA00, HA01⟩, HA10, HA11⟩, ⟨He0, He1⟩, ⟨Hw0, Hw1⟩, Hwb, HO, HOs⟩
  simp only [k0_part86_eq_skeleton, k0_part87_eq_skeleton, k0_part88_eq_skeleton, k0_part89_eq_skeleton, k0_part90_eq_skeleton]
  unfold k0_part86_skel k0_part87_skel k0_part88_skel k0_part89_skel k0_part90_skel
  simp only [semSignalWord, semWaitWord, Prog.lift, Prog.bind_op, Prog.bind_ret, Prog.pure_eq_ret, wp_deviceId, Prog.bind_assoc]
  try simp only [opt_join, Prog.bind_assoc, Prog.bind_ret]
  ihave Hf := (fuel_last c) $$ Hf
  ihave HR0 := (last_rest false c) $$ HR0
  icases HR0 with ⟨Hcp0, ⟨HRc00, HRc01⟩, Hv0⟩
  ihave HR1 := (last_rest true c) $$ HR1
  icases HR1 with ⟨Hcp1, ⟨HRc10, HRc11⟩, Hv1⟩
  iapply (outs2 m K ks c 12 (u := 100) (by decide) (by decide) (by decide) (by rfl) (by rfl) (by rfl) (by rfl)) $$ [Hf HO]
  · isplitr; · iexact HC
    isplitl [Hf]; · iexact Hf
    iexact HO
  iintro ⟨Hf, HFd⟩
  ihave HF := (last_out m c) $$ [HFd HOs]
  · isplitl [HFd]; · iexact HFd
    iexact HOs
  icases HF with ⟨⟨⟨Hb00, Hb01⟩, Hb10, Hb11⟩, ⟨⟨Hx0, Ho0⟩, Hx1, Ho1⟩, HOL, HO, HDn⟩
  iapply (recvDot m K ks false c 0 (by decide) rfl rfl rfl (by rfl) (by rfl) (by exact fun _ _ => rfl)) $$ [Hf HRc00 Hwb Hb00]
  · isplitr; · iexact HC
    isplitl [Hf]; · iexact Hf
    isplitl [HRc00]; · iexact HRc00
    isplitl [Hwb]; · iexact Hwb
    iexact Hb00
  iintro ⟨Hf, HH00, HZ00, Hwb, Hb00⟩
  iapply (recvDot m K ks true c 0 (by decide) rfl rfl rfl (by rfl) (by rfl) (by exact fun _ _ => rfl)) $$ [Hf HRc10 Hwb Hb10]
  · isplitr; · iexact HC
    isplitl [Hf]; · iexact Hf
    isplitl [HRc10]; · iexact HRc10
    isplitl [Hwb]; · iexact Hwb
    iexact Hb10
  iintro ⟨Hf, HH10, HZ10, Hwb, Hb10⟩
  iapply (recvDot m K ks false c 1 (by decide) rfl rfl rfl (by rfl) (by rfl) (by exact fun _ _ => rfl)) $$ [Hf HRc01 Hwb Hb01]
  · isplitr; · iexact HC
    isplitl [Hf]; · iexact Hf
    isplitl [HRc01]; · iexact HRc01
    isplitl [Hwb]; · iexact Hwb
    iexact Hb01
  iintro ⟨Hf, HH01, HZ01, Hwb, Hb01⟩
  iapply (recvDot m K ks true c 1 (by decide) rfl rfl rfl (by rfl) (by rfl) (by exact fun _ _ => rfl)) $$ [Hf HRc11 Hwb Hb11]
  · isplitr; · iexact HC
    isplitl [Hf]; · iexact Hf
    isplitl [HRc11]; · iexact HRc11
    isplitl [Hwb]; · iexact Hwb
    iexact Hb11
  iintro ⟨Hf, HH11, HZ11, Hwb, Hb11⟩
  iapply (copy12 m false c rfl rfl (by decide +revert +kernel) (by rfl)) $$ [Hb00 Hb01 Hx0 Ho0]
  · isplitl [Hb00 Hb01]
    · isplitl [Hb00]; · iexact Hb00
      iexact Hb01
    isplitl [Hx0]; · iexact Hx0
    iexact Ho0
  iintro Hx0
  iapply (copy12 m true c rfl rfl (by decide +revert +kernel) (by rfl)) $$ [Hb10 Hb11 Hx1 Ho1]
  · isplitl [Hb10 Hb11]
    · isplitl [Hb10]; · iexact Hb10
      iexact Hb11
    isplitl [Hx1]; · iexact Hx1
    iexact Ho1
  iintro Hx1
  iapply (lineSent m K ks false c 0 (u := 100) (by decide) (by exact lsOn_U0 c) (by rfl) (by exact fun _ => rfl) (q := fullShare.left.left)) $$ [Hf HL00]
  · isplitr; · iexact HC
    isplitl [Hf]; · iexact Hf
    iexact HL00
  iintro ⟨Hf, HL00, Hl00⟩
  iapply (lineSent m K ks true c 0 (u := 100) (by decide) (by exact lsOn_D0 c) (by rfl) (by exact fun _ => rfl) (q := fullShare.left.right)) $$ [Hf HL01]
  · isplitr; · iexact HC
    isplitl [Hf]; · iexact Hf
    iexact HL01
  iintro ⟨Hf, HL01, Hl01⟩
  iapply (lineSent m K ks false c 1 (u := 100) (by decide) (by exact lsOn_U1 c) (by rfl) (by exact fun _ => rfl) (q := fullShare.left)) $$ [Hf HL10]
  · isplitr; · iexact HC
    isplitl [Hf]; · iexact Hf
    iexact HL10
  iintro ⟨Hf, HL10, Hl10⟩
  iapply (lineSent m K ks true c 1 (u := 100) (by decide) (by exact lsOn_D1 c) (by rfl) (by exact fun _ => rfl) (q := fullShare.left)) $$ [Hf HL11]
  · isplitr; · iexact HC
    isplitl [Hf]; · iexact Hf
    iexact HL11
  iintro ⟨Hf, HL11, Hl11⟩
  iapply (lineSent m K ks false c 2 (u := 100) (by decide) (by exact lsOn_U2 c) (by rfl) (by exact fun _ => rfl) (q := fullShare.left)) $$ [Hf HL20]
  · isplitr; · iexact HC
    isplitl [Hf]; · iexact Hf
    iexact HL20
  iintro ⟨Hf, HL20, Hl20⟩
  iapply (lineSent m K ks true c 2 (u := 100) (by decide) (by exact lsOn_D2 c) (by rfl) (by exact fun _ => rfl) (q := fullShare.left)) $$ [Hf HL21]
  · isplitr; · iexact HC
    isplitl [Hf]; · iexact Hf
    iexact HL21
  iintro ⟨Hf, HL21, Hl21⟩
  unfold Nx
  icases HA00 with ⟨HA00, -⟩
  icases HZ00 with ⟨HZ00, -⟩
  imod (ring_over m K ks c 0 false 0) $$ [HA00] with HA00
  · isplitr; · iexact HC
    iexact HA00
  imod (ring_over m K ks c 1 false 0) $$ [HZ00] with HZ00
  · isplitr; · iexact HC
    iexact HZ00
  icases HA01 with ⟨HA01, -⟩
  icases HZ01 with ⟨HZ01, -⟩
  imod (ring_over m K ks c 0 false 1) $$ [HA01] with HA01
  · isplitr; · iexact HC
    iexact HA01
  imod (ring_over m K ks c 1 false 1) $$ [HZ01] with HZ01
  · isplitr; · iexact HC
    iexact HZ01
  imod (credit_over m K ks c false) $$ [Hcp0] with Hcp0
  · isplitr; · iexact HC
    iexact Hcp0
  icases HA10 with ⟨HA10, -⟩
  icases HZ10 with ⟨HZ10, -⟩
  imod (ring_over m K ks c 0 true 0) $$ [HA10] with HA10
  · isplitr; · iexact HC
    iexact HA10
  imod (ring_over m K ks c 1 true 0) $$ [HZ10] with HZ10
  · isplitr; · iexact HC
    iexact HZ10
  icases HA11 with ⟨HA11, -⟩
  icases HZ11 with ⟨HZ11, -⟩
  imod (ring_over m K ks c 0 true 1) $$ [HA11] with HA11
  · isplitr; · iexact HC
    iexact HA11
  imod (ring_over m K ks c 1 true 1) $$ [HZ11] with HZ11
  · isplitr; · iexact HC
    iexact HZ11
  imod (credit_over m K ks c true) $$ [Hcp1] with Hcp1
  · isplitr; · iexact HC
    iexact Hcp1
  ihave HO2 := ((by unfold Oh; exact Entails.rfl : iprop(OR m false c 14 ∗ OR m true c 14 ∗ OL m c 14) ⊢ Oh m c 14)) $$ [Hx0 Hx1 HOL]
  · isplitl [Hx0]; · iexact Hx0
    isplitl [Hx1]; · iexact Hx1
    iexact HOL
  iapply (outs2 m K ks c 14 (u := 100) (by decide) (by decide) (by decide) (by rfl) (by rfl) (by rfl) (by rfl)) $$ [Hf HO2]
  · isplitr; · iexact HC
    isplitl [Hf]; · iexact Hf
    iexact HO2
  iintro ⟨Hf, HF2⟩
  iapply (outs2 m K ks c 13 (u := 100) (by decide) (by decide) (by decide) (by rfl) (by rfl) (by rfl) (by rfl)) $$ [Hf HO]
  · isplitr; · iexact HC
    isplitl [Hf]; · iexact Hf
    iexact HO
  iintro ⟨Hf, HF1⟩
  ihave HOut := (last_whole m c) $$ [HDn HF1 HF2]
  · isplitl [HDn]; · iexact HDn
    isplitl [HF1]; · iexact HF1
    iexact HF2
  icases HOut with ⟨HOut, HOb0, HOb1⟩
  ihave HB := (last_blocks m c) $$ [HL00 HL01 HL10 HL11 HL20 HL21 HB0 HB1 HSh]
  · isplitl [HL00 HL01]
    · isplitl [HL00]; · iexact HL00
      iexact HL01
    isplitl [HL10 HL11]
    · isplitl [HL10]; · iexact HL10
      iexact HL11
    isplitl [HL20 HL21]
    · isplitl [HL20]; · iexact HL20
      iexact HL21
    isplitl [HB0 HB1]
    · isplitl [HB0]; · iexact HB0
      iexact HB1
    iexact HSh
  ihave HH0 := (last_slot m false c) $$ [HH00 HH01]
  · isplitl [HH00]; · iexact HH00
    iexact HH01
  ihave HH1 := (last_slot m true c) $$ [HH10 HH11]
  · isplitl [HH10]; · iexact HH10
    iexact HH11
  iapply (wp_done c Q)
  iapply Hk
  unfold Done LnZ RgZ RgB
  isplitl [Hf]; · iexact Hf
  isplitl [HOut]; · iexact HOut
  isplitl [HX HW]
  · isplitl [HX]; · iexact HX
    iexact HW
  isplitl [HB Hwb HH0 He0 HH1 He1 HOb0 HOb1]
  · isplitl [HB]; · iexact HB
    isplitl [Hwb]; · iexact Hwb
    isplitl [HH0 He0 HH1 He1]
    · isplitl [HH0 He0]
      · isplitl [HH0]; · iexact HH0
        iexact He0
      isplitl [HH1]; · iexact HH1
      iexact He1
    isplitl [HOb0]; · iexact HOb0
    iexact HOb1
  isplitl [Hy00 Hl00 Hy01 Hl01 Hy10 Hl10 Hy11 Hl11 Hy20 Hl20 Hy21 Hl21]
  · isplitl [Hy00 Hl00 Hy01 Hl01]
    · isplitl [Hy00 Hl00]
      · isplitl [Hy00]; · iexact Hy00
        iexact Hl00
      isplitl [Hy01]; · iexact Hy01
      iexact Hl01
    isplitl [Hy10 Hl10 Hy11 Hl11]
    · isplitl [Hy10 Hl10]
      · isplitl [Hy10]; · iexact Hy10
        iexact Hl10
      isplitl [Hy11]; · iexact Hy11
      iexact Hl11
    isplitl [Hy20 Hl20]
    · isplitl [Hy20]; · iexact Hy20
      iexact Hl20
    isplitl [Hy21]; · iexact Hy21
    iexact Hl21
  isplitl [HA00 HA01 HZ00 HZ01 Hv0 Hw0 Hcp0 HA10 HA11 HZ10 HZ11 Hv1 Hw1 Hcp1]
  · isplitl [HA00 HA01 HZ00 HZ01 Hv0 Hw0 Hcp0]
    · isplitl [HA00 HA01]
      · isplitl [HA00]; · iexact HA00
        iexact HA01
      isplitl [HZ00 HZ01]
      · isplitl [HZ00]; · iexact HZ00
        iexact HZ01
      isplitl [Hv0]; · iexact Hv0
      isplitl [Hw0]; · iexact Hw0
      iexact Hcp0
    isplitl [HA10 HA11]
    · isplitl [HA10]; · iexact HA10
      iexact HA11
    isplitl [HZ10 HZ11]
    · isplitl [HZ10]; · iexact HZ10
      iexact HZ11
    isplitl [Hv1]; · iexact Hv1
    isplitl [Hw1]; · iexact Hw1
    iexact Hcp1
  isplitl [Hsg]; · iexact Hsg
  iexact Hz

end Cert.KernelIdeal.Gather
-- ==== Proof.Launch.lean ====
/-
  The launch: every device's first state from what it is handed, and the run of the whole program.
-/
module

public import proofs.«01_k».proof.Proof.Bufs
public import proofs.«01_k».proof.Proof.Body
public import Idealize.ShloMosaic.Lib.Pipeline.CollectiveSegs

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)
variable (K : Dev nD × Fin 17 → ℕ) (ks : Key → ℕ)

variable {α : Type}

open Idealize.ShloMosaic.Pipeline

variable (ρ : Dev nD → PrngReg)

/-- The state a run begins in: the memory, every semaphore at zero, and the generators. -/
def s₀ : MemSt nD τ sig (Elt F) := ⟨m, fun _ => 0, ρ⟩

/-! ## The first and the last state, without the debt -/

/-- All a device has before its first step, but its debt. -/
def StartR (c : Dev nD) : sProp 𝕄 :=
  iprop((Pay m 0 (pi 0 c) ∗ Pay m 1 (pi 1 c) ∗ PayIf m 2 c ∗ PayIf m 3 c)
    ∗ ((credS (F := F) c 0 ∗ credS c 1 ∗ credS c 2 ∗ credS c 3) ∗ posS (F := F) c 0)
    ∗ (LnS (F := F) false c 0 ∗ LnS true c 0) ∗ (LnS (F := F) false c 1 ∗ LnS true c 1) ∗ (LnS (F := F) false c 2 ∗ LnS true c 2)
    ∗ (RgS (F := F) false c ∗ RgS true c)
    ∗ (StX m c ∗ StW m c ∗ semVal ((c : Thread nD τ), .dma 28) 0 ∗ colN m c 0 ∗ wbN m c 0)
    ∗ Oh m c 0 ∗ Os m c 0)
/-- All a device has after its last step, but its debt. -/
def DoneR (c : Dev nD) : sProp 𝕄 :=
  iprop(outPts c Finset.univ (RES m c) ∗ (StX m c ∗ StW m c)
    ∗ (colPts c Finset.univ fullShare (CB m c) ∗ wbPts c Finset.univ (WB m c) ∗ (RgB (F := F) false c ∗ RgB true c) ∗ ObZ (F := F) c 0 ∗ ObZ c 1)
    ∗ ((LnZ (F := F) false c 0 ∗ LnZ true c 0) ∗ (LnZ (F := F) false c 1 ∗ LnZ true c 1) ∗ (LnZ (F := F) false c 2 ∗ LnZ true c 2))
    ∗ (RgZ (F := F) false c ∗ RgZ true c) ∗ semVal ((c : Thread nD τ), .dma 28) 0 ∗ semVal (cell c 0) 0)
theorem start_of (c : Dev nD) : iprop(fuel (F := F) c 0 ∗ StartR m c) ⊢ Start m c := Entails.of_eq rfl
theorem done_of (c : Dev nD) : Done m c ⊢ iprop(fuel (F := F) c 100 ∗ DoneR m c) := Entails.of_eq rfl

theorem wb_start (c : Dev nD) (f : S8192x256.Idx → Elt F .bf16) : wbPts c Finset.univ f ⊢ wbN m c 0 := by
  unfold wbN
  iintro H
  iexists f
  isplitr; · ipureintro; intro i hi; omega
  iexact H

theorem os_start (c : Dev nD) (f : S8192x256.Idx → Elt F .f32) :
    iprop(outPts c Finset.univ f ∗ Oh m c 1) ⊢ Os m c 0 := by
  unfold Os
  iintro ⟨HO, HH⟩
  isplitl [HH]; · iexact HH
  isplitl
  · iapply (out_pieces (F := F) c)
    unfold exO; iexists f; iexact HO
  · rw [Finset.range_zero, bigSep_empty]; iempintro

/-- The arrays and scratch buffers a device is handed. -/
def Mem₀ (c : Dev nD) : sProp 𝕄 :=
  iprop((((c : Thread nD τ).loc main_arg0) ↦[Finset.univ]{fullShare} m ((c : Thread nD τ).loc main_arg0))
    ∗ (((c : Thread nD τ).loc main_arg1) ↦[Finset.univ]{fullShare} m ((c : Thread nD τ).loc main_arg1))
    ∗ outPts c Finset.univ (m ((c : Thread nD τ).loc main_v1))
    ∗ exC c Finset.univ ∗ exR false c Finset.univ ∗ exR true c Finset.univ ∗ (∃ f, wbPts c Finset.univ f)
    ∗ (∃ fd, ((c : Thread nD τ).loc cc0_scratch4) ↦[Finset.univ]{fullShare} fd) ∗ (∃ fd, ((c : Thread nD τ).loc cc0_scratch5) ↦[Finset.univ]{fullShare} fd)
    ∗ exB c Finset.univ)

theorem pay0_of (c : Dev nD) : exR (F := F) false c (rowsR 1 0 256) ⊢ Pay m 0 (pi 0 c) := by
  show _ ⊢ exR (F := F) false (rightD (leftD c)) (rowsR 1 0 256)
  rw [(up_facts c).2.2.2.2.2.2]
theorem pay1_of (c : Dev nD) : exR (F := F) true c (rowsR 1 0 256) ⊢ Pay m 1 (pi 1 c) := by
  show _ ⊢ exR (F := F) true (leftD (rightD c)) (rowsR 1 0 256)
  rw [(up_facts c).2.2.2.2.2.1]

/-- A device's first state, from its memory, its semaphores, its places and its credit. -/
theorem start_all (c : Dev nD) :
    iprop(Mem₀ m c ∗ Sm c ∗ ((credS (F := F) c 0 ∗ credS c 1 ∗ credS c 2 ∗ credS c 3) ∗ (CrL false c ∗ CrL true c) ∗ CrR false c ∗ CrR true c)
      ∗ (bigSep Finset.univ fun k : Fin 17 => atPos (ER (F := F)) (cell c k) 0 ∅ 0) ∗ readers c ∗ writers c) ⊢ StartR m c := by
  unfold Mem₀ Sm readers writers
  iintro ⟨⟨HX, HW, HO, HC, HRf, HRt, ⟨%fw, Hwb⟩, Hx, Hw, HB⟩, ⟨Slf, Slt, Srf, Srt, S28, So0, So1⟩, ⟨Hcr, ⟨Clf, Clt⟩, Crf, Crt⟩, Hat, ⟨Rdf, Rdt⟩, Wrf, Wrt⟩
  ihave Hat := (places (F := F) c) $$ Hat
  icases Hat with ⟨P0, ⟨Plf, Plt⟩, Prf, Prt⟩
  ihave HC := (col_start m c) $$ HC
  icases HC with ⟨Hcol, Hp2, Hp3⟩
  ihave HRf := (ring_cut (F := F) false c) $$ HRf
  icases HRf with ⟨HRf0, HRf1⟩
  ihave HRt := (ring_cut (F := F) true c) $$ HRt
  icases HRt with ⟨HRt0, HRt1⟩
  ihave HB := (ob_cut (F := F) c) $$ HB
  icases HB with ⟨HB0, HB1⟩
  ihave HLf := (line_start (F := F) false c) $$ [Clf Plf Slf]
  · isplitl [Clf]; · iexact Clf
    isplitl [Plf] <;> iassumption
  icases HLf with ⟨Lf0, Lf1, Lf2⟩
  ihave HLt := (line_start (F := F) true c) $$ [Clt Plt Slt]
  · isplitl [Clt]; · iexact Clt
    isplitl [Plt] <;> iassumption
  icases HLt with ⟨Lt0, Lt1, Lt2⟩
  unfold StartR
  isplitl [HRf1 HRt1 Hp2 Hp3]
  · isplitl [HRf1]; · iapply (pay0_of m c) $$ HRf1
    isplitl [HRt1]; · iapply (pay1_of m c) $$ HRt1
    isplitl [Hp2] <;> iassumption
  isplitl [Hcr P0]
  · isplitl [Hcr] <;> iassumption
  isplitl [Lf0 Lt0]
  · isplitl [Lf0] <;> iassumption
  isplitl [Lf1 Lt1]
  · isplitl [Lf1] <;> iassumption
  isplitl [Lf2 Lt2]
  · isplitl [Lf2] <;> iassumption
  isplitl [Crf Prf Rdf Wrf Srf HRf0 Crt Prt Rdt Wrt Srt HRt0]
  · isplitl [Crf Prf Rdf Wrf Srf HRf0]
    · iapply (ring_start (F := F) false c)
      isplitl [Crf]; · iexact Crf
      isplitl [Prf]; · iexact Prf
      isplitl [Rdf]; · iexact Rdf
      isplitl [Wrf]; · iexact Wrf
      isplitl [Srf] <;> iassumption
    · iapply (ring_start (F := F) true c)
      isplitl [Crt]; · iexact Crt
      isplitl [Prt]; · iexact Prt
      isplitl [Rdt]; · iexact Rdt
      isplitl [Wrt]; · iexact Wrt
      isplitl [Srt] <;> iassumption
  isplitl [HX HW Hx Hw S28 Hcol Hwb]
  · unfold StX StW
    isplitl [HX Hx]
    · isplitl [HX] <;> iassumption
    isplitl [HW Hw]
    · isplitl [HW] <;> iassumption
    isplitl [S28]; · iexact S28
    isplitl [Hcol]; · iexact Hcol
    iapply (wb_start m c fw) $$ Hwb
  isplitl [So0 HB0]
  · iapply (oh_start m c 0 0 (by decide) (by decide))
    isplitl [So0] <;> iassumption
  · iapply (os_start m c (m ((c : Thread nD τ).loc main_v1)))
    isplitl [HO]; · iexact HO
    iapply (oh_start m c 1 1 (by decide) (by decide))
    isplitl [So1] <;> iassumption

/-- What a device ends with: the result and its arguments, its buffers, and its semaphores at zero. -/
theorem done_all (c : Dev nD) :
    DoneR m c ⊢ iprop((((((c : Thread nD τ).loc main_arg0) ↦[Finset.univ]{fullShare} m ((c : Thread nD τ).loc main_arg0))
        ∗ (((c : Thread nD τ).loc main_arg1) ↦[Finset.univ]{fullShare} m ((c : Thread nD τ).loc main_arg1)) ∗ outPts c Finset.univ (RES m c)))
      ∗ ((bigSep Finset.univ fun k : Fin 17 => sv c (psem k)) ∗ Sm c)
      ∗ exC c Finset.univ ∗ exR false c Finset.univ ∗ exR true c Finset.univ ∗ (∃ f, wbPts c Finset.univ f)
      ∗ (∃ fd, ((c : Thread nD τ).loc cc0_scratch4) ↦[Finset.univ]{fullShare} fd) ∗ (∃ fd, ((c : Thread nD τ).loc cc0_scratch5) ↦[Finset.univ]{fullShare} fd)
      ∗ exB c Finset.univ) := by
  unfold DoneR StX StW LnZ RgZ Sm
  rw [cells_eq]
  iintro ⟨HO, ⟨⟨HX, Hx⟩, HW, Hw⟩, ⟨HC, Hwb, ⟨HRf, HRt⟩, HB0, HB1⟩, ⟨⟨⟨A0, B0⟩, A0', B0'⟩, ⟨⟨A1, B1⟩, A1', B1'⟩, ⟨A2, B2⟩, A2', B2'⟩,
    ⟨⟨⟨C0, C1⟩, ⟨C2, C3⟩, D0, D1, C4⟩, ⟨C0', C1'⟩, ⟨C2', C3'⟩, D0', D1', C4'⟩, S28, S0⟩
  ihave HB0 := (ob_end (F := F) c 0) $$ HB0
  icases HB0 with ⟨So0, HB0⟩
  ihave HB1 := (ob_end (F := F) c 1) $$ HB1
  icases HB1 with ⟨So1, HB1⟩
  isplitl [HX HW HO]
  · isplitl [HX]; · iexact HX
    isplitl [HW] <;> iassumption
  isplitl [A0 B0 A0' B0' A1 B1 A1' B1' A2 B2 A2' B2' C0 C1 C2 C3 D0 D1 C4 C0' C1' C2' C3' D0' D1' C4' S28 S0 So0 So1]
  · isplitl [S0 A0 A1 A2 A0' A1' A2' C0 C1 C2 C3 C0' C1' C2' C3' C4 C4']
    · isplitl [S0]; · iexact S0
      isplitl [A0]; · iapply (sv_of (F := F) c (k := 1) (by decide)) $$ A0
      isplitl [A1]; · iapply (sv_of (F := F) c (k := 2) (by decide)) $$ A1
      isplitl [A2]; · iapply (sv_of (F := F) c (k := 3) (by decide)) $$ A2
      isplitl [A0']; · iapply (sv_of (F := F) c (k := 4) (by decide)) $$ A0'
      isplitl [A1']; · iapply (sv_of (F := F) c (k := 5) (by decide)) $$ A1'
      isplitl [A2']; · iapply (sv_of (F := F) c (k := 6) (by decide)) $$ A2'
      isplitl [C2]; · iapply (sv_of (F := F) c (k := 7) (by decide)) $$ C2
      isplitl [C3]; · iapply (sv_of (F := F) c (k := 8) (by decide)) $$ C3
      isplitl [C0]; · iapply (sv_of (F := F) c (k := 9) (by decide)) $$ C0
      isplitl [C1]; · iapply (sv_of (F := F) c (k := 10) (by decide)) $$ C1
      isplitl [C2']; · iapply (sv_of (F := F) c (k := 11) (by decide)) $$ C2'
      isplitl [C3']; · iapply (sv_of (F := F) c (k := 12) (by decide)) $$ C3'
      isplitl [C0']; · iapply (sv_of (F := F) c (k := 13) (by decide)) $$ C0'
      isplitl [C1']; · iapply (sv_of (F := F) c (k := 14) (by decide)) $$ C1'
      isplitl [C4]; · iapply (show sv (F := F) c (psem (kc false)) ⊢ sv c (psem 15) from Entails.of_eq (by rw [show kc false = (15 : Fin 17) by decide])) $$ C4
      iapply (show sv (F := F) c (psem (kc true)) ⊢ sv c (psem 16) from Entails.of_eq (by rw [show kc true = (16 : Fin 17) by decide])) $$ C4'
    isplitl [B0 B1 B2]
    · isplitl [B0]; · iexact B0
      isplitl [B1] <;> iassumption
    isplitl [B0' B1' B2']
    · isplitl [B0']; · iexact B0'
      isplitl [B1'] <;> iassumption
    isplitl [D0 D1]
    · isplitl [D0] <;> iassumption
    isplitl [D0' D1']
    · isplitl [D0'] <;> iassumption
    isplitl [S28]; · iexact S28
    isplitl [So0] <;> iassumption
  isplitl [HC]; · unfold exC; iexists (CB m c); iexact HC
  isplitl [HRf]; · iapply (ring_join (F := F) false c) $$ HRf
  isplitl [HRt]; · iapply (ring_join (F := F) true c) $$ HRt
  isplitl [Hwb]; · iexists (WB m c); iexact Hwb
  isplitl [Hx]; · iexact Hx
  isplitl [Hw]; · iexact Hw
  iapply (ob_glue (F := F) c)
  isplitl [HB0] <;> iassumption

/-! ## The launch -/

/-- What a device starts from, once the invariants stand. -/
def X₀ (c : Dev nD) : sProp 𝕄 :=
  iprop(G' m c ∗ ((credS (F := F) c 0 ∗ credS c 1 ∗ credS c 2 ∗ credS c 3) ∗ (CrL false c ∗ CrL true c) ∗ CrR false c ∗ CrR true c) ∗ levAts L lv
    ∗ (((c : Thread nD τ).loc main_arg0) ↦[Finset.univ]{fullShare} m ((c : Thread nD τ).loc main_arg0))
    ∗ (((c : Thread nD τ).loc main_arg1) ↦[Finset.univ]{fullShare} m ((c : Thread nD τ).loc main_arg1))
    ∗ outPts c Finset.univ (m ((c : Thread nD τ).loc main_v1)))
/-- The state before the one step of the launch. -/
def Φ₀ (c : Dev nD) : sProp 𝕄 := iprop(∃ (K : Dev nD × Fin 17 → ℕ) (ks : Key → ℕ), Ctx m K ks ∗ bigSep (Finset.Ico 0 T) (tokS (F := F) c) ∗ StartR m c)
/-- The part of the last state that outlives the launch. -/
def Y₀ (c : Dev nD) : sProp 𝕄 :=
  iprop(((((c : Thread nD τ).loc main_arg0) ↦[Finset.univ]{fullShare} m ((c : Thread nD τ).loc main_arg0))
    ∗ (((c : Thread nD τ).loc main_arg1) ↦[Finset.univ]{fullShare} m ((c : Thread nD τ).loc main_arg1)) ∗ outPts c Finset.univ (RES m c)) ∗ unscopedSems0 c)

def dats (_ : Fin 1) (c : Dev nD) : Dat τ (Elt F) ℕ ℕ UU ℕ cfg0 c where
  A w := (s₀ m ρ).mem ((cfg0.win w).arr.view.loc (c : Thread nD τ))
  after w _ := w.elim0
  Φ t := match t with | ⟨0, _⟩ => Φ₀ m c | ⟨_ + 1, _⟩ => DoneR m c
  q _ := fullShare
  owed t := match t with | ⟨0, _⟩ => OT c 0 | ⟨_ + 1, _⟩ => 0

theorem no_windows (Φ : Fin cfg0.W → sProp 𝕄) : bigSep Finset.univ Φ = iprop(emp) := by
  rw [show (Finset.univ : Finset (Fin cfg0.W)) = ∅ from Finset.univ_eq_empty_iff.mpr ⟨fun w => w.elim0⟩, bigSep_empty]
  rfl

set_option maxRecDepth 4000 in
theorem body_obligation (c : Dev nD) : BodyObligationLoose (dats m ρ 0 c) (defs₀ (F := F)) 𝒱₀ 0 Set.univ := fun t => by
  rw [fin_N0 t]
  rw [no_windows, no_windows]
  unfold Dat.owesAt Pipeline.owesWithin
  show iprop(Φ₀ m c ∗ (∃ W, _ ∗ owes (Dev.tc c) (OT c 0) W) ∗ emp) ⊢ wp frame (wpE (defs₀ (F := F)) 𝒱₀ c none) Set.univ (bodyAt0 t0_0)
    (fun _ => iprop(DoneR m c ∗ (∃ W, _ ∗ owes (Dev.tc c) 0 W) ∗ emp))
  unfold Φ₀
  iintro ⟨⟨%K, %ks, HC, Ht, HS⟩, ⟨%W, -, Ho⟩, -⟩
  iapply (body_run m K ks c t0_0 _) $$ [HC Ht HS Ho]
  · isplitl [HC]; · iexact HC
    iapply (start_of m c)
    isplitl [Ho Ht]
    · unfold fuel
      isplitl [Ho]
      · iexists W; iexact Ho
      · iexact Ht
    · iexact HS
  · iintro HD
    ihave HD := (done_of m c) $$ HD
    unfold fuel
    icases HD with ⟨⟨⟨%W', Ho⟩, -⟩, HD⟩
    isplitl [HD]; · iexact HD
    isplitl
    · iexists W'
      isplitr; · ipureintro; exact fun _ _ => Or.inl trivial
      rw [show OT c 100 = 0 from OT_last c]
      iexact Ho
    · iempintro

theorem share_eq (c : Dev nD) (w : Fin cfg0.W) : (dats m ρ 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred (fun c => OT c 0) c ∗ prngReg c (ρ c) ∗ G' m c)
      ⊢ |={Set.univ}=> iprop(X₀ m c ∗ emp) := by
  rw [unscopedRestP_none, unscopedRest0_eq]
  iintro ⟨⟨H0, H1, H2⟩, Hlev, Hcr, -, HG⟩
  ihave Hc := (creds (F := F) c) $$ Hcr
  imodintro
  unfold X₀ outPts
  isplitl
  · isplitl [HG]; · iexact HG
    isplitl [Hc]; · iexact Hc
    isplitl [Hlev]; · iexact Hlev
    isplitl [H0]; · iexact H0
    isplitl [H1]; · iexact H1
    iexact H2
  · iempintro

theorem phi0_intro (c : Dev nD) :
    iprop(X₀ m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold X₀ Φ₀ G'
  iintro ⟨⟨⟨%K, %ks, HI, Hat, Htok, ⟨-, Hrd, Hwr⟩, Hm⟩, Hcr, Hlev, H0, H1, H2⟩, -, ⟨%f0, Hs0⟩, ⟨%f1, Hs1⟩, ⟨%f2, Hs2⟩, ⟨%f3, Hs3⟩, ⟨%f4, Hs4⟩, ⟨%f5, Hs5⟩, %f6, Hs6⟩
  iexists K
  iexists ks
  isplitl [HI Hlev]
  · unfold Ctx
    icases HI with ⟨H1, H2, H3⟩
    isplitl [H1]; · iexact H1
    isplitl [H2]; · iexact H2
    isplitl [H3] <;> iassumption
  isplitl [Htok]; · iexact Htok
  iapply (start_all m c)
  isplitl [H0 H1 H2 Hs0 Hs1 Hs2 Hs3 Hs4 Hs5 Hs6]
  · unfold Mem₀ exC exR exB colPts ringPts wbPts obPts
    isplitl [H0]; · iexact H0
    isplitl [H1]; · iexact H1
    isplitl [H2]; · iexact H2
    isplitl [Hs0]; · iexists f0; iexact Hs0
    isplitl [Hs1]; · iexists f1; iexact Hs1
    isplitl [Hs2]; · iexists f2; iexact Hs2
    isplitl [Hs3]; · iexists f3; iexact Hs3
    isplitl [Hs4]; · iexists f4; iexact Hs4
    isplitl [Hs5]; · iexists f5; iexact Hs5
    iexists f6; iexact Hs6
  isplitl [Hm]; · iexact Hm
  isplitl [Hcr]; · iexact Hcr
  isplitl [Hat]; · iexact Hat
  isplitl [Hrd] <;> iassumption

theorem phi1_exit (c : Dev nD) :
    (dats m ρ 0 c).Φ (Fin.last cfg0.N) ⊢ iprop(Y₀ m c ∗ Pipeline.ownSems0 ownS c ∗ Pipeline.scopedRest cfg0.spec c) := by
  rw [show (dats m ρ 0 c).Φ (Fin.last cfg0.N) = DoneR m c from rfl, scopedRest0_eq]
  unfold Y₀
  iintro H
  ihave H := (done_all m c) $$ H
  unfold exC exR exB colPts ringPts wbPts obPts
  icases H with ⟨HA, HS, ⟨%f0, Hs0⟩, ⟨%f1, Hs1⟩, ⟨%f2, Hs2⟩, ⟨%f3, Hs3⟩, ⟨%f4, Hs4⟩, ⟨%f5, Hs5⟩, %f6, Hs6⟩
  ihave HS := (sems_join (F := F) c) $$ HS
  icases HS with ⟨HU, HS⟩
  isplitl [HA HU]
  · isplitl [HA] <;> iassumption
  isplitl [HS]; · iexact HS
  isplitl [Hs0]; · iexists f0; iexact Hs0
  isplitl [Hs1]; · iexists f1; iexact Hs1
  isplitl [Hs2]; · iexists f2; iexact Hs2
  isplitl [Hs3]; · iexists f3; iexact Hs3
  isplitl [Hs4]; · iexists f4; iexact Hs4
  isplitl [Hs5]; · iexists f5; iexact Hs5
  iexists f6; iexact Hs6

theorem waits (c : Dev nD) : (levAts L lv : sProp 𝕄) ⊢ Pipeline.cellsWaits cfgs (dats m ρ) 0 0 c :=
  Pipeline.cellsWaits_intro cfgs (dats m ρ) 0 0 c fun w s t => w.elim0

/-- What the end of the launch says of a device's memory. -/
def QY₀ (c : Dev nD) (s : MemSt nD τ sig (Elt F)) : Prop :=
  (s.mem ((c : Thread nD τ).loc main_v1) = RES m c ∧ s.mem ((c : Thread nD τ).loc main_arg0) = m ((c : Thread nD τ).loc main_arg0)
      ∧ s.mem ((c : Thread nD τ).loc main_arg1) = m ((c : Thread nD τ).loc main_arg1))
    ∧ ∀ sm : SemLoc sig, sm.isScoped .tc = false → s.sem ((c.tc : Thread nD τ), sm) = 0

theorem read_end (c : Dev nD) (s' : Phys nD τ sig (Elt F)) : iprop(Y₀ m c ∗ emp ∗ SI s') ⊢ |={Set.univ}=> iprop(⌜QY₀ m c s'.mem⌝ ∗ SI s') := by
  unfold Y₀ outPts
  iintro ⟨⟨⟨H0, H1, H2⟩, HU⟩, -, HSI⟩
  icombine HSI H0 gives %h0
  icombine HSI H1 gives %h1
  icombine HSI H2 gives %h2
  imod (Pipeline.unscopedSems0_read (X := unscopedSems0 c) (c := c) fupd_intro s') $$ [HU HSI] with ⟨%hs, HSI⟩
  · isplitl [HU] <;> iassumption
  imodintro
  isplitr
  · ipureintro
    exact ⟨⟨Buf.eq_of_forall_mem_univ h2, Buf.eq_of_forall_mem_univ h0, Buf.eq_of_forall_mem_univ h1⟩, hs⟩
  · iexact HSI

set_option maxRecDepth 8000 in
/-- On sixteen devices, for any float values, from any memory with every semaphore at zero: every weakly fair run of @main ends, and each
    ends with every device's result array at the computed contents, its arguments unchanged and every semaphore at zero. -/
theorem run_main : θ_run defs (onTc (τ := τ) (main (F := F))) (s₀ m ρ)
    (fun r => (∀ c : Dev nD, r.2.mem ((c : Thread nD τ).loc main_v1) = RES m c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_eq m ρ)
    (hdistinct := winFacts0.arr_inj)
    (O₀ := fun c => OT c 0) (howed₀ := fun _ => rfl) (howedN := fun _ => rfl)
    (L := L) (lv := lv) (hL := L_of_ne) (hwaits := waits m ρ)
    (G := G m) (G' := G' m) (u₀ := u₀) (hu₀ := fund_all m)
    (hglob := glob m)
    (hA := fun _ _ => rfl) (hpf := fun _ k => k.elim0)
    (X := X₀ m) (Y := Y₀ m) (Z := fun _ => iprop(emp))
    (hX := start_intro m ρ) (hin := phi0_intro m ρ) (hout := phi1_exit m ρ)
    (QY := QY₀ m) (hY := read_end m)
    (hQ := fun _ h hs => ⟨fun c => (h c).2.2.1, sem_eq_zero hs fun c => (h c).2.2.2⟩)

end Cert.KernelIdeal.Gather
-- ==== Proof.Value.lean ====
/-
  The kernel's result over the reals: device `c` holds the whole of `x` times its own columns of `w`, which is its block
  of the reference's result.
-/
module

public import proofs.«01_k».proof.Proof.Sched
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.KernelIdeal.Gather

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-! ## The three products, read at an element -/

theorem zero_acc {s : Shape} (j : s.Idx) (a : EReal) : constant (F := Ideal) s .f32 0x00000000#32 j + a = a := by
  show Ideal.ofBits .f32 0x00000000#32 + a = a
  rw [Ideal.ofBits_zero_f32, zero_add]

theorem pay10_at (A : Vec Ideal S512x8192 .bf16) (B : Vec Ideal S8192x256 .bf16) (a : Fin 512) (b : Fin 256) (j : S1x512x256.Idx)
    (hj : (fun k : Fin 2 => j k.succ) = ix2 a b) : k0_pay10 A B j = ∑ k : Fin 8192, A (ix2 a k) * B (ix2 k b) := by
  unfold k0_pay10
  refine (shapeCast_addUnit_apply ![512, 256] _ _ j).trans ?_
  refine (congrArg _ hj).trans ?_
  refine (Ideal.matmul_plain_apply (M := 512) (K := 8192) (N := 256) none A B _ a b).trans ?_
  exact zero_acc _ _

theorem pay11_at (A : Vec Ideal S1x256x8192 .bf16) (B : Vec Ideal S8192x256 .bf16) (a : Fin 256) (b : Fin 256) (j : S1x256x256.Idx)
    (hj : (fun k : Fin 2 => j k.succ) = ix2 a b) :
    k0_pay11 A B j = ∑ k : Fin 8192, A (Fin.cons ⟨0, Nat.one_pos⟩ (ix2 a k)) * B (ix2 k b) := by
  unfold k0_pay11
  refine (shapeCast_addUnit_apply ![256, 256] _ _ j).trans ?_
  refine (congrArg _ hj).trans ?_
  refine (Ideal.matmul_plain_apply (M := 256) (K := 8192) (N := 256) none _ B _ a b).trans ?_
  refine (zero_acc _ _).trans ?_
  exact Finset.sum_congr rfl fun k _ => congrArg (· * _) (shapeCast_dropUnit_apply ![256, 8192] A _ (ix2 a k))

theorem pay39_at (A : Vec Ideal S1x128x8192 .bf16) (B : Vec Ideal S8192x256 .bf16) (a : Fin 128) (b : Fin 256) (j : S1x128x256.Idx)
    (hj : (fun k : Fin 2 => j k.succ) = ix2 a b) :
    k0_pay39 A B j = ∑ k : Fin 8192, A (Fin.cons ⟨0, Nat.one_pos⟩ (ix2 a k)) * B (ix2 k b) := by
  unfold k0_pay39
  refine (shapeCast_addUnit_apply ![128, 256] _ _ j).trans ?_
  refine (congrArg _ hj).trans ?_
  refine (Ideal.matmul_plain_apply (M := 128) (K := 8192) (N := 256) none _ B _ a b).trans ?_
  refine (zero_acc _ _).trans ?_
  exact Finset.sum_congr rfl fun k _ => congrArg (· * _) (shapeCast_dropUnit_apply ![128, 8192] A _ (ix2 a k))

/-- One element of the product: row `a` of device `p`'s rows of `x` times column `b` of device `c`'s columns of `w`. -/
def row (c p : Dev nD) (a : ℕ) (b : Fin 256) : EReal := ∑ k : Fin 8192, XB m p a k.val * WB m c (ix2 k b)

theorem D512_at (c p : Dev nD) (a : ℕ) (ha : a < 512) (b : Fin 256) : D512 m c p (j512 a b.val) = row m c p a b :=
  pay10_at _ _ ⟨a, ha⟩ b _ (by
    funext k; apply Fin.ext
    match k with
    | ⟨0, _⟩ => exact Nat.mod_eq_of_lt ha
    | ⟨1, _⟩ => exact Nat.mod_eq_of_lt b.isLt)
theorem D256_at (c p : Dev nD) (o a : ℕ) (ha : a < 256) (b : Fin 256) : D256 m c p o (j256 a b.val) = row m c p (o + a) b :=
  pay11_at _ _ ⟨a, ha⟩ b _ (by
    funext k; apply Fin.ext
    match k with
    | ⟨0, _⟩ => exact Nat.mod_eq_of_lt ha
    | ⟨1, _⟩ => exact Nat.mod_eq_of_lt b.isLt)
theorem D128_at (c p : Dev nD) (o a : ℕ) (ha : a < 128) (b : Fin 256) : D128 m c p o (j128 a b.val) = row m c p (o + a) b :=
  pay39_at _ _ ⟨a, ha⟩ b _ (by
    funext k; apply Fin.ext
    match k with
    | ⟨0, _⟩ => exact Nat.mod_eq_of_lt ha
    | ⟨1, _⟩ => exact Nat.mod_eq_of_lt b.isLt)

/-- Whichever way the kernel takes the product, each element of its result is that of the plain product. -/
theorem RES_at (c : Dev nD) (i : S8192x256.Idx) (p : Dev nD) (hp : p.val = (i 0).val / 512) (b : Fin 256) (hb : b.val = (i 1).val) :
    RES m c i = row m c p ((i 0).val % 512) b := by
  have h0 : (i 0).val < 8192 := (i 0).isLt
  have hmk : mk ((i 0).val / 2048) ((i 0).val / 512 % 4) = p := Fin.ext (by
    show (4 * ((i 0).val / 2048) + (i 0).val / 512 % 4 % 4) % 16 = p.val
    omega)
  unfold RES
  rw [← hb]
  dsimp only
  rw [hmk]
  split
  · exact D512_at m c p _ (Nat.mod_lt _ (by decide)) b
  · split
    · refine (D128_at m c p _ _ (Nat.mod_lt _ (by decide)) b).trans (congrArg (fun a => row m c p a b) ?_)
      omega
    · refine (D256_at m c p _ _ (Nat.mod_lt _ (by decide)) b).trans (congrArg (fun a => row m c p a b) ?_)
      omega

/-! ## The reference's product, by blocks -/

/-- Device `c`'s block of the reference's product of `x` and `w` is the kernel's result on `c`, when each device holds
    its block of rows of `x` and its block of columns of `w`. -/
theorem block_RES (X : (⟨2, ![8192, 8192]⟩ : Shape).Idx → EReal) (W : (⟨2, ![8192, 4096]⟩ : Shape).Idx → EReal)
    (hX : ∀ c : Dev nD, m ((c : Thread nD τ).loc main_arg0) = Layout.block ⟨2, ![512, 8192]⟩ ⟨2, ![8192, 8192]⟩ 0 16 c X)
    (hW : ∀ c : Dev nD, m ((c : Thread nD τ).loc main_arg1) = Layout.block ⟨2, ![8192, 256]⟩ ⟨2, ![8192, 4096]⟩ 1 16 c W) (c : Dev nD) :
    RES m c = Layout.block ⟨2, ![8192, 256]⟩ ⟨2, ![8192, 4096]⟩ 1 16 c
      (Host.dotGeneral (F := Ideal) (φ₁ := .f32) (φ₂ := .f32) (DotDims.plain 8192 8192 4096) none X W) := by
  funext i
  have h0 : (i 0).val < 8192 := (i 0).isLt
  have h1 : (i 1).val < 256 := (i 1).isLt
  have hc : c.val < 16 := c.isLt
  refine (RES_at m c i ⟨(i 0).val / 512, by show _ < 16; omega⟩ rfl ⟨(i 1).val, h1⟩ rfl).trans ?_
  refine Eq.trans ?_ ((congrArg (Host.dotGeneral (F := Ideal) (φ₁ := .f32) (φ₂ := .f32) (DotDims.plain 8192 8192 4096) none X W)
    (show _ = ix2 (⟨(i 0).val, h0⟩ : Fin 8192) (⟨c.val * 256 + (i 1).val, by omega⟩ : Fin 4096) from by
      funext k; apply Fin.ext
      match k with
      | ⟨0, _⟩ => rfl
      | ⟨1, _⟩ => rfl)).trans (StackMember.dotGeneral_plain_apply none X W _ _)).symm
  unfold row
  refine Finset.sum_congr rfl fun k _ => congrArg₂ (· * ·) ?_ ?_
  · show m (((⟨(i 0).val / 512, _⟩ : Dev nD) : Thread nD τ).loc main_arg0) (i2 ((i 0).val % 512) k.val) = _
    rw [hX, Layout.block_apply]
    refine congrArg X ?_
    funext a; apply Fin.ext
    match a with
    | ⟨0, _⟩ =>
      show (i 0).val / 512 * 512 + (i 0).val % 512 % 512 = (i 0).val
      omega
    | ⟨1, _⟩ =>
      show k.val % 8192 = k.val
      exact Nat.mod_eq_of_lt k.isLt
  · show m ((c : Thread nD τ).loc main_arg1) (ix2 k (⟨(i 1).val, h1⟩ : Fin 256)) = _
    rw [hW, Layout.block_apply]
    refine congrArg W ?_
    funext a; apply Fin.ext
    match a with
    | ⟨0, _⟩ => rfl
    | ⟨1, _⟩ => rfl

end Cert.KernelIdeal.Gather

end
-- ==== Proof.lean ====
/-
  The certificate's claims: the kernel and the reference run, end with their arguments unchanged and every counter at
  zero, and over the reals the kernel's results are the blocks of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- On any floats the kernel runs, its arguments unchanged and every counter back at zero. -/
theorem quiet {F : FTy → Type} [FloatOps F] (m : (ℓ : Loc KernelIdeal.nD KernelIdeal.τ KernelIdeal.sig) → Buf (Elt F) ℓ)
    (g : Dev KernelIdeal.nD → PrngReg) :
    θ_run (KernelIdeal.defs (F := F)) (onTc (τ := KernelIdeal.τ) (KernelIdeal.main (F := F))) ⟨m, fun _ => 0, g⟩
      (fun r => (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
        ∧ r.2.sem = fun _ => 0) :=
  (θ_run _ _ _).mono (fun _ h => ⟨fun c => (h.1 c).2, h.2⟩) (KernelIdeal.Gather.run_main m g)

set_option maxRecDepth 100000 in
set_option maxHeartbeats 0 in
/-- The program as printed: the two printed texts are the same term, so what holds of one on any floats holds of the
    other on machine floats. -/
theorem kernel : quiescent_Kernel (hKernel := Kernel.Gen.facts) := fun m g _ => quiet (F := Bits) m g

/-- The program read over the reals. -/
theorem kernelIdeal : quiescent_KernelIdeal (hKernelIdeal := KernelIdeal.Gen.facts) := fun m g _ => quiet (F := Ideal) m g

/-- The reference has no counters, and its run leaves its arguments. -/
theorem referenceIdeal : quiescent_ReferenceIdeal (hReferenceIdeal := ReferenceIdeal.Gen.facts) := fun m g _ =>
  (θ_run _ _ _).mono (fun r h => ⟨fun c => (h c).2, sem_eq_zero_of_no_sems (by decide) r.2⟩) (ReferenceIdeal.Value.run m g)

/-- Each device ends holding its block of columns of the product of the whole arrays. -/
theorem algebraic :
    algebraic_KernelIdeal_ReferenceIdeal (hKernelIdeal := KernelIdeal.Gen.facts) (hReferenceIdeal := ReferenceIdeal.Gen.facts) :=
  fun m g m' g' _ hm =>
    ⟨_, (θ_run _ _ _).mono (fun _ h c => ⟨(h.1 c).1.trans
        (KernelIdeal.Gather.block_RES m _ _ (fun d => (hm d).1) (fun d => (hm d).2) c), (h.1 c).2⟩) (KernelIdeal.Gather.run_main m g),
      (θ_run _ _ _).mono (fun _ h => h 0) (ReferenceIdeal.Value.run m' g')⟩

theorem claim : Cert.Claim := ⟨Cert.Kernel.Gen.facts, Cert.KernelIdeal.Gen.facts, Cert.ReferenceIdeal.Gen.facts, kernel, kernelIdeal,
  referenceIdeal, trivial, algebraic⟩

end Cert.Proof

end
